-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInRefIdeal (m : (ℓ : Loc Cert.AttnInRefIdeal.nD Cert.AttnInRefIdeal.τ Cert.AttnInRefIdeal.sig) → Buf (Elt Ideal) ℓ) : Prop :=
  True

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInRefIdeal (m : (ℓ : Loc Cert.LruInRefIdeal.nD Cert.LruInRefIdeal.τ Cert.LruInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_AttnInDx (m : (ℓ : Loc Cert.AttnInDx.nD Cert.AttnInDx.τ Cert.AttnInDx.sig) → Buf (Elt Bits) ℓ) : Prop :=
  True

def Pre_AttnInDxIdeal (m : (ℓ : Loc Cert.AttnInDxIdeal.nD Cert.AttnInDxIdeal.τ Cert.AttnInDxIdeal.sig) → Buf (Elt Ideal) ℓ) : Prop :=
  True

def Pre_AttnInDxRefIdeal (m : (ℓ : Loc Cert.AttnInDxRefIdeal.nD Cert.AttnInDxRefIdeal.τ Cert.AttnInDxRefIdeal.sig) → Buf (Elt Ideal) ℓ) : Prop :=
  True

def Pre_AttnInDw (m : (ℓ : Loc Cert.AttnInDw.nD Cert.AttnInDw.τ Cert.AttnInDw.sig) → Buf (Elt Bits) ℓ) : Prop :=
  True

def Pre_AttnInDwIdeal (m : (ℓ : Loc Cert.AttnInDwIdeal.nD Cert.AttnInDwIdeal.τ Cert.AttnInDwIdeal.sig) → Buf (Elt Ideal) ℓ) : Prop :=
  True

def Pre_AttnInDwRefIdeal (m : (ℓ : Loc Cert.AttnInDwRefIdeal.nD Cert.AttnInDwRefIdeal.τ Cert.AttnInDwRefIdeal.sig) → Buf (Elt Ideal) ℓ) : Prop :=
  True

def Pre_LruInDx (m : (ℓ : Loc Cert.LruInDx.nD Cert.LruInDx.τ Cert.LruInDx.sig) → Buf (Elt Bits) ℓ) : Prop :=
  True

def Pre_LruInDxIdeal (m : (ℓ : Loc Cert.LruInDxIdeal.nD Cert.LruInDxIdeal.τ Cert.LruInDxIdeal.sig) → Buf (Elt Ideal) ℓ) : Prop :=
  True

def Pre_LruInDxRefIdeal (m : (ℓ : Loc Cert.LruInDxRefIdeal.nD Cert.LruInDxRefIdeal.τ Cert.LruInDxRefIdeal.sig) → Buf (Elt Ideal) ℓ) : Prop :=
  True

def Pre_LruInDw (m : (ℓ : Loc Cert.LruInDw.nD Cert.LruInDw.τ Cert.LruInDw.sig) → Buf (Elt Bits) ℓ) : Prop :=
  True

def Pre_LruInDwIdeal (m : (ℓ : Loc Cert.LruInDwIdeal.nD Cert.LruInDwIdeal.τ Cert.LruInDwIdeal.sig) → Buf (Elt Ideal) ℓ) : Prop :=
  True

def Pre_LruInDwRefIdeal (m : (ℓ : Loc Cert.LruInDwRefIdeal.nD Cert.LruInDwRefIdeal.τ Cert.LruInDwRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamLruIn (m : (ℓ : Loc Cert.AdamLruIn.nD Cert.AdamLruIn.τ Cert.AdamLruIn.sig) → Buf (Elt Bits) ℓ) : Prop :=
  True

def Pre_AdamLruInIdeal (m : (ℓ : Loc Cert.AdamLruInIdeal.nD Cert.AdamLruInIdeal.τ Cert.AdamLruInIdeal.sig) → Buf (Elt Ideal) ℓ) : Prop :=
  True

def Pre_AdamLruInRefIdeal (m : (ℓ : Loc Cert.AdamLruInRefIdeal.nD Cert.AdamLruInRefIdeal.τ Cert.AdamLruInRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_PreFwd (m : (ℓ : Loc Cert.PreFwd.nD Cert.PreFwd.τ Cert.PreFwd.sig) → Buf (Elt Bits) ℓ) : Prop :=
  True

def Pre_PreFwdIdeal (m : (ℓ : Loc Cert.PreFwdIdeal.nD Cert.PreFwdIdeal.τ Cert.PreFwdIdeal.sig) → Buf (Elt Ideal) ℓ) : Prop :=
  True

def Pre_PreFwdRefIdeal (m : (ℓ : Loc Cert.PreFwdRefIdeal.nD Cert.PreFwdRefIdeal.τ Cert.PreFwdRefIdeal.sig) → Buf (Elt Ideal) ℓ) : Prop :=
  True

def Pre_PostFwd (m : (ℓ : Loc Cert.PostFwd.nD Cert.PostFwd.τ Cert.PostFwd.sig) → Buf (Elt Bits) ℓ) : Prop :=
  True

def Pre_PostFwdIdeal (m : (ℓ : Loc Cert.PostFwdIdeal.nD Cert.PostFwdIdeal.τ Cert.PostFwdIdeal.sig) → Buf (Elt Ideal) ℓ) : Prop :=
  True

def Pre_PostFwdRefIdeal (m : (ℓ : Loc Cert.PostFwdRefIdeal.nD Cert.PostFwdRefIdeal.τ Cert.PostFwdRefIdeal.sig) → Buf (Elt Ideal) ℓ) : Prop :=
  True

def Pre_PostLoss (m : (ℓ : Loc Cert.PostLoss.nD Cert.PostLoss.τ Cert.PostLoss.sig) → Buf (Elt Bits) ℓ) : Prop :=
  True

def Pre_PostLossIdeal (m : (ℓ : Loc Cert.PostLossIdeal.nD Cert.PostLossIdeal.τ Cert.PostLossIdeal.sig) → Buf (Elt Ideal) ℓ) : Prop :=
  True

def Pre_PostLossRefIdeal (m : (ℓ : Loc Cert.PostLossRefIdeal.nD Cert.PostLossRefIdeal.τ Cert.PostLossRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdRefIdeal (m : (ℓ : Loc Cert.PostBwdRefIdeal.nD Cert.PostBwdRefIdeal.τ Cert.PostBwdRefIdeal.sig) → Buf (Elt Ideal) ℓ) : Prop :=
  True

def Pre_PrePostBwd (m : (ℓ : Loc Cert.PrePostBwd.nD Cert.PrePostBwd.τ Cert.PrePostBwd.sig) → Buf (Elt Bits) ℓ) : Prop :=
  True

def Pre_PrePostBwdIdeal (m : (ℓ : Loc Cert.PrePostBwdIdeal.nD Cert.PrePostBwdIdeal.τ Cert.PrePostBwdIdeal.sig) → Buf (Elt Ideal) ℓ) : Prop :=
  True

def Pre_PrePostBwdRefIdeal (m : (ℓ : Loc Cert.PrePostBwdRefIdeal.nD Cert.PrePostBwdRefIdeal.τ Cert.PrePostBwdRefIdeal.sig) → Buf (Elt Ideal) ℓ) : Prop :=
  True

def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreBwdRefIdeal (m : (ℓ : Loc Cert.PreBwdRefIdeal.nD Cert.PreBwdRefIdeal.τ Cert.PreBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_AttnInDx [hAttnInDx : Cert.AttnInDx.Facts] : Prop :=
  ∀ (m : (ℓ : Loc Cert.AttnInDx.nD Cert.AttnInDx.τ Cert.AttnInDx.sig) → Buf (Elt Bits) ℓ) (g : Dev Cert.AttnInDx.nD → PrngReg), Pre_AttnInDx m →
    θ_run (Cert.AttnInDx.defs (F := Bits)) (onTc (τ := Cert.AttnInDx.τ) (Cert.AttnInDx.main (F := Bits))) ⟨m, fun _ => 0, g⟩ (fun r => (∀ c : Dev Cert.AttnInDx.nD,
      r.2.mem ((c.tc : Thread Cert.AttnInDx.nD Cert.AttnInDx.τ).loc Cert.AttnInDx.main_arg0) = m ((c.tc : Thread Cert.AttnInDx.nD Cert.AttnInDx.τ).loc Cert.AttnInDx.main_arg0)
      ∧ r.2.mem ((c.tc : Thread Cert.AttnInDx.nD Cert.AttnInDx.τ).loc Cert.AttnInDx.main_arg1) = m ((c.tc : Thread Cert.AttnInDx.nD Cert.AttnInDx.τ).loc Cert.AttnInDx.main_arg1))
      ∧ r.2.sem = fun _ => 0)

def quiescent_AttnInDxIdeal [hAttnInDxIdeal : Cert.AttnInDxIdeal.Facts] : Prop :=
  ∀ (m : (ℓ : Loc Cert.AttnInDxIdeal.nD Cert.AttnInDxIdeal.τ Cert.AttnInDxIdeal.sig) → Buf (Elt Ideal) ℓ) (g : Dev Cert.AttnInDxIdeal.nD → PrngReg), Pre_AttnInDxIdeal m →
    θ_run (Cert.AttnInDxIdeal.defs (F := Ideal)) (onTc (τ := Cert.AttnInDxIdeal.τ) (Cert.AttnInDxIdeal.main (F := Ideal))) ⟨m, fun _ => 0, g⟩ (fun r => (∀ c : Dev Cert.AttnInDxIdeal.nD,
      r.2.mem ((c.tc : Thread Cert.AttnInDxIdeal.nD Cert.AttnInDxIdeal.τ).loc Cert.AttnInDxIdeal.main_arg0) = m ((c.tc : Thread Cert.AttnInDxIdeal.nD Cert.AttnInDxIdeal.τ).loc Cert.AttnInDxIdeal.main_arg0)
      ∧ r.2.mem ((c.tc : Thread Cert.AttnInDxIdeal.nD Cert.AttnInDxIdeal.τ).loc Cert.AttnInDxIdeal.main_arg1) = m ((c.tc : Thread Cert.AttnInDxIdeal.nD Cert.AttnInDxIdeal.τ).loc Cert.AttnInDxIdeal.main_arg1))
      ∧ r.2.sem = fun _ => 0)

def quiescent_AttnInDxRefIdeal [hAttnInDxRefIdeal : Cert.AttnInDxRefIdeal.Facts] : Prop :=
  ∀ (m : (ℓ : Loc Cert.AttnInDxRefIdeal.nD Cert.AttnInDxRefIdeal.τ Cert.AttnInDxRefIdeal.sig) → Buf (Elt Ideal) ℓ) (g : Dev Cert.AttnInDxRefIdeal.nD → PrngReg), Pre_AttnInDxRefIdeal m →
    θ_run (Cert.AttnInDxRefIdeal.defs (F := Ideal)) (onTc (τ := Cert.AttnInDxRefIdeal.τ) (Cert.AttnInDxRefIdeal.main (F := Ideal))) ⟨m, fun _ => 0, g⟩ (fun r => (∀ c : Dev Cert.AttnInDxRefIdeal.nD,
      r.2.mem ((c.tc : Thread Cert.AttnInDxRefIdeal.nD Cert.AttnInDxRefIdeal.τ).loc Cert.AttnInDxRefIdeal.main_arg0) = m ((c.tc : Thread Cert.AttnInDxRefIdeal.nD Cert.AttnInDxRefIdeal.τ).loc Cert.AttnInDxRefIdeal.main_arg0)
      ∧ r.2.mem ((c.tc : Thread Cert.AttnInDxRefIdeal.nD Cert.AttnInDxRefIdeal.τ).loc Cert.AttnInDxRefIdeal.main_arg1) = m ((c.tc : Thread Cert.AttnInDxRefIdeal.nD Cert.AttnInDxRefIdeal.τ).loc Cert.AttnInDxRefIdeal.main_arg1))
      ∧ r.2.sem = fun _ => 0)

def quiescent_AttnInDw [hAttnInDw : Cert.AttnInDw.Facts] : Prop :=
  ∀ (m : (ℓ : Loc Cert.AttnInDw.nD Cert.AttnInDw.τ Cert.AttnInDw.sig) → Buf (Elt Bits) ℓ) (g : Dev Cert.AttnInDw.nD → PrngReg), Pre_AttnInDw m →
    θ_run (Cert.AttnInDw.defs (F := Bits)) (onTc (τ := Cert.AttnInDw.τ) (Cert.AttnInDw.main (F := Bits))) ⟨m, fun _ => 0, g⟩ (fun r => (∀ c : Dev Cert.AttnInDw.nD,
      r.2.mem ((c.tc : Thread Cert.AttnInDw.nD Cert.AttnInDw.τ).loc Cert.AttnInDw.main_arg0) = m ((c.tc : Thread Cert.AttnInDw.nD Cert.AttnInDw.τ).loc Cert.AttnInDw.main_arg0)
      ∧ r.2.mem ((c.tc : Thread Cert.AttnInDw.nD Cert.AttnInDw.τ).loc Cert.AttnInDw.main_arg1) = m ((c.tc : Thread Cert.AttnInDw.nD Cert.AttnInDw.τ).loc Cert.AttnInDw.main_arg1))
      ∧ r.2.sem = fun _ => 0)

def quiescent_AttnInDwIdeal [hAttnInDwIdeal : Cert.AttnInDwIdeal.Facts] : Prop :=
  ∀ (m : (ℓ : Loc Cert.AttnInDwIdeal.nD Cert.AttnInDwIdeal.τ Cert.AttnInDwIdeal.sig) → Buf (Elt Ideal) ℓ) (g : Dev Cert.AttnInDwIdeal.nD → PrngReg), Pre_AttnInDwIdeal m →
    θ_run (Cert.AttnInDwIdeal.defs (F := Ideal)) (onTc (τ := Cert.AttnInDwIdeal.τ) (Cert.AttnInDwIdeal.main (F := Ideal))) ⟨m, fun _ => 0, g⟩ (fun r => (∀ c : Dev Cert.AttnInDwIdeal.nD,
      r.2.mem ((c.tc : Thread Cert.AttnInDwIdeal.nD Cert.AttnInDwIdeal.τ).loc Cert.AttnInDwIdeal.main_arg0) = m ((c.tc : Thread Cert.AttnInDwIdeal.nD Cert.AttnInDwIdeal.τ).loc Cert.AttnInDwIdeal.main_arg0)
      ∧ r.2.mem ((c.tc : Thread Cert.AttnInDwIdeal.nD Cert.AttnInDwIdeal.τ).loc Cert.AttnInDwIdeal.main_arg1) = m ((c.tc : Thread Cert.AttnInDwIdeal.nD Cert.AttnInDwIdeal.τ).loc Cert.AttnInDwIdeal.main_arg1))
      ∧ r.2.sem = fun _ => 0)

def quiescent_AttnInDwRefIdeal [hAttnInDwRefIdeal : Cert.AttnInDwRefIdeal.Facts] : Prop :=
  ∀ (m : (ℓ : Loc Cert.AttnInDwRefIdeal.nD Cert.AttnInDwRefIdeal.τ Cert.AttnInDwRefIdeal.sig) → Buf (Elt Ideal) ℓ) (g : Dev Cert.AttnInDwRefIdeal.nD → PrngReg), Pre_AttnInDwRefIdeal m →
    θ_run (Cert.AttnInDwRefIdeal.defs (F := Ideal)) (onTc (τ := Cert.AttnInDwRefIdeal.τ) (Cert.AttnInDwRefIdeal.main (F := Ideal))) ⟨m, fun _ => 0, g⟩ (fun r => (∀ c : Dev Cert.AttnInDwRefIdeal.nD,
      r.2.mem ((c.tc : Thread Cert.AttnInDwRefIdeal.nD Cert.AttnInDwRefIdeal.τ).loc Cert.AttnInDwRefIdeal.main_arg0) = m ((c.tc : Thread Cert.AttnInDwRefIdeal.nD Cert.AttnInDwRefIdeal.τ).loc Cert.AttnInDwRefIdeal.main_arg0)
      ∧ r.2.mem ((c.tc : Thread Cert.AttnInDwRefIdeal.nD Cert.AttnInDwRefIdeal.τ).loc Cert.AttnInDwRefIdeal.main_arg1) = m ((c.tc : Thread Cert.AttnInDwRefIdeal.nD Cert.AttnInDwRefIdeal.τ).loc Cert.AttnInDwRefIdeal.main_arg1))
      ∧ r.2.sem = fun _ => 0)

def quiescent_LruInDx [hLruInDx : Cert.LruInDx.Facts] : Prop :=
  ∀ (m : (ℓ : Loc Cert.LruInDx.nD Cert.LruInDx.τ Cert.LruInDx.sig) → Buf (Elt Bits) ℓ) (g : Dev Cert.LruInDx.nD → PrngReg), Pre_LruInDx m →
    θ_run (Cert.LruInDx.defs (F := Bits)) (onTc (τ := Cert.LruInDx.τ) (Cert.LruInDx.main (F := Bits))) ⟨m, fun _ => 0, g⟩ (fun r => (∀ c : Dev Cert.LruInDx.nD,
      r.2.mem ((c.tc : Thread Cert.LruInDx.nD Cert.LruInDx.τ).loc Cert.LruInDx.main_arg0) = m ((c.tc : Thread Cert.LruInDx.nD Cert.LruInDx.τ).loc Cert.LruInDx.main_arg0)
      ∧ r.2.mem ((c.tc : Thread Cert.LruInDx.nD Cert.LruInDx.τ).loc Cert.LruInDx.main_arg1) = m ((c.tc : Thread Cert.LruInDx.nD Cert.LruInDx.τ).loc Cert.LruInDx.main_arg1))
      ∧ r.2.sem = fun _ => 0)

def quiescent_LruInDxIdeal [hLruInDxIdeal : Cert.LruInDxIdeal.Facts] : Prop :=
  ∀ (m : (ℓ : Loc Cert.LruInDxIdeal.nD Cert.LruInDxIdeal.τ Cert.LruInDxIdeal.sig) → Buf (Elt Ideal) ℓ) (g : Dev Cert.LruInDxIdeal.nD → PrngReg), Pre_LruInDxIdeal m →
    θ_run (Cert.LruInDxIdeal.defs (F := Ideal)) (onTc (τ := Cert.LruInDxIdeal.τ) (Cert.LruInDxIdeal.main (F := Ideal))) ⟨m, fun _ => 0, g⟩ (fun r => (∀ c : Dev Cert.LruInDxIdeal.nD,
      r.2.mem ((c.tc : Thread Cert.LruInDxIdeal.nD Cert.LruInDxIdeal.τ).loc Cert.LruInDxIdeal.main_arg0) = m ((c.tc : Thread Cert.LruInDxIdeal.nD Cert.LruInDxIdeal.τ).loc Cert.LruInDxIdeal.main_arg0)
      ∧ r.2.mem ((c.tc : Thread Cert.LruInDxIdeal.nD Cert.LruInDxIdeal.τ).loc Cert.LruInDxIdeal.main_arg1) = m ((c.tc : Thread Cert.LruInDxIdeal.nD Cert.LruInDxIdeal.τ).loc Cert.LruInDxIdeal.main_arg1))
      ∧ r.2.sem = fun _ => 0)

def quiescent_LruInDxRefIdeal [hLruInDxRefIdeal : Cert.LruInDxRefIdeal.Facts] : Prop :=
  ∀ (m : (ℓ : Loc Cert.LruInDxRefIdeal.nD Cert.LruInDxRefIdeal.τ Cert.LruInDxRefIdeal.sig) → Buf (Elt Ideal) ℓ) (g : Dev Cert.LruInDxRefIdeal.nD → PrngReg), Pre_LruInDxRefIdeal m →
    θ_run (Cert.LruInDxRefIdeal.defs (F := Ideal)) (onTc (τ := Cert.LruInDxRefIdeal.τ) (Cert.LruInDxRefIdeal.main (F := Ideal))) ⟨m, fun _ => 0, g⟩ (fun r => (∀ c : Dev Cert.LruInDxRefIdeal.nD,
      r.2.mem ((c.tc : Thread Cert.LruInDxRefIdeal.nD Cert.LruInDxRefIdeal.τ).loc Cert.LruInDxRefIdeal.main_arg0) = m ((c.tc : Thread Cert.LruInDxRefIdeal.nD Cert.LruInDxRefIdeal.τ).loc Cert.LruInDxRefIdeal.main_arg0)
      ∧ r.2.mem ((c.tc : Thread Cert.LruInDxRefIdeal.nD Cert.LruInDxRefIdeal.τ).loc Cert.LruInDxRefIdeal.main_arg1) = m ((c.tc : Thread Cert.LruInDxRefIdeal.nD Cert.LruInDxRefIdeal.τ).loc Cert.LruInDxRefIdeal.main_arg1))
      ∧ r.2.sem = fun _ => 0)

def quiescent_LruInDw [hLruInDw : Cert.LruInDw.Facts] : Prop :=
  ∀ (m : (ℓ : Loc Cert.LruInDw.nD Cert.LruInDw.τ Cert.LruInDw.sig) → Buf (Elt Bits) ℓ) (g : Dev Cert.LruInDw.nD → PrngReg), Pre_LruInDw m →
    θ_run (Cert.LruInDw.defs (F := Bits)) (onTc (τ := Cert.LruInDw.τ) (Cert.LruInDw.main (F := Bits))) ⟨m, fun _ => 0, g⟩ (fun r => (∀ c : Dev Cert.LruInDw.nD,
      r.2.mem ((c.tc : Thread Cert.LruInDw.nD Cert.LruInDw.τ).loc Cert.LruInDw.main_arg0) = m ((c.tc : Thread Cert.LruInDw.nD Cert.LruInDw.τ).loc Cert.LruInDw.main_arg0)
      ∧ r.2.mem ((c.tc : Thread Cert.LruInDw.nD Cert.LruInDw.τ).loc Cert.LruInDw.main_arg1) = m ((c.tc : Thread Cert.LruInDw.nD Cert.LruInDw.τ).loc Cert.LruInDw.main_arg1))
      ∧ r.2.sem = fun _ => 0)

def quiescent_LruInDwIdeal [hLruInDwIdeal : Cert.LruInDwIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg), Pre_LruInDwIdeal m →
    θ_run (Cert.LruInDwIdeal.defs (F := Ideal)) (onTc (τ := Cert.LruInDwIdeal.τ) (Cert.LruInDwIdeal.main (F := Ideal))) ⟨m, fun _ => 0, g⟩ (fun r => (∀ c : Dev Cert.LruInDwIdeal.nD,
      r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
      ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1))
      ∧ r.2.sem = fun _ => 0)

def quiescent_LruInDwRefIdeal [hLruInDwRefIdeal : Cert.LruInDwRefIdeal.Facts] : Prop :=
  ∀ (m : (ℓ : Loc Cert.LruInDwRefIdeal.nD Cert.LruInDwRefIdeal.τ Cert.LruInDwRefIdeal.sig) → Buf (Elt Ideal) ℓ) (g : Dev Cert.LruInDwRefIdeal.nD → PrngReg), Pre_LruInDwRefIdeal m →
    θ_run (Cert.LruInDwRefIdeal.defs (F := Ideal)) (onTc (τ := Cert.LruInDwRefIdeal.τ) (Cert.LruInDwRefIdeal.main (F := Ideal))) ⟨m, fun _ => 0, g⟩ (fun r => (∀ c : Dev Cert.LruInDwRefIdeal.nD,
      r.2.mem ((c.tc : Thread Cert.LruInDwRefIdeal.nD Cert.LruInDwRefIdeal.τ).loc Cert.LruInDwRefIdeal.main_arg0) = m ((c.tc : Thread Cert.LruInDwRefIdeal.nD Cert.LruInDwRefIdeal.τ).loc Cert.LruInDwRefIdeal.main_arg0)
      ∧ r.2.mem ((c.tc : Thread Cert.LruInDwRefIdeal.nD Cert.LruInDwRefIdeal.τ).loc Cert.LruInDwRefIdeal.main_arg1) = m ((c.tc : Thread Cert.LruInDwRefIdeal.nD Cert.LruInDwRefIdeal.τ).loc Cert.LruInDwRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamLruIn [hAdamLruIn : Cert.AdamLruIn.Facts] : Prop :=
  ∀ (m : (ℓ : Loc Cert.AdamLruIn.nD Cert.AdamLruIn.τ Cert.AdamLruIn.sig) → Buf (Elt Bits) ℓ) (g : Dev Cert.AdamLruIn.nD → PrngReg), Pre_AdamLruIn m →
    θ_run (Cert.AdamLruIn.defs (F := Bits)) (onTc (τ := Cert.AdamLruIn.τ) (Cert.AdamLruIn.main (F := Bits))) ⟨m, fun _ => 0, g⟩ (fun r => (∀ c : Dev Cert.AdamLruIn.nD,
      r.2.mem ((c.tc : Thread Cert.AdamLruIn.nD Cert.AdamLruIn.τ).loc Cert.AdamLruIn.main_arg0) = m ((c.tc : Thread Cert.AdamLruIn.nD Cert.AdamLruIn.τ).loc Cert.AdamLruIn.main_arg0)
      ∧ r.2.mem ((c.tc : Thread Cert.AdamLruIn.nD Cert.AdamLruIn.τ).loc Cert.AdamLruIn.main_arg1) = m ((c.tc : Thread Cert.AdamLruIn.nD Cert.AdamLruIn.τ).loc Cert.AdamLruIn.main_arg1)
      ∧ r.2.mem ((c.tc : Thread Cert.AdamLruIn.nD Cert.AdamLruIn.τ).loc Cert.AdamLruIn.main_arg2) = m ((c.tc : Thread Cert.AdamLruIn.nD Cert.AdamLruIn.τ).loc Cert.AdamLruIn.main_arg2)
      ∧ r.2.mem ((c.tc : Thread Cert.AdamLruIn.nD Cert.AdamLruIn.τ).loc Cert.AdamLruIn.main_arg3) = m ((c.tc : Thread Cert.AdamLruIn.nD Cert.AdamLruIn.τ).loc Cert.AdamLruIn.main_arg3)
      ∧ r.2.mem ((c.tc : Thread Cert.AdamLruIn.nD Cert.AdamLruIn.τ).loc Cert.AdamLruIn.main_arg4) = m ((c.tc : Thread Cert.AdamLruIn.nD Cert.AdamLruIn.τ).loc Cert.AdamLruIn.main_arg4))
      ∧ r.2.sem = fun _ => 0)

def quiescent_AdamLruInIdeal [hAdamLruInIdeal : Cert.AdamLruInIdeal.Facts] : Prop :=
  ∀ (m : (ℓ : Loc Cert.AdamLruInIdeal.nD Cert.AdamLruInIdeal.τ Cert.AdamLruInIdeal.sig) → Buf (Elt Ideal) ℓ) (g : Dev Cert.AdamLruInIdeal.nD → PrngReg), Pre_AdamLruInIdeal m →
    θ_run (Cert.AdamLruInIdeal.defs (F := Ideal)) (onTc (τ := Cert.AdamLruInIdeal.τ) (Cert.AdamLruInIdeal.main (F := Ideal))) ⟨m, fun _ => 0, g⟩ (fun r => (∀ c : Dev Cert.AdamLruInIdeal.nD,
      r.2.mem ((c.tc : Thread Cert.AdamLruInIdeal.nD Cert.AdamLruInIdeal.τ).loc Cert.AdamLruInIdeal.main_arg0) = m ((c.tc : Thread Cert.AdamLruInIdeal.nD Cert.AdamLruInIdeal.τ).loc Cert.AdamLruInIdeal.main_arg0)
      ∧ r.2.mem ((c.tc : Thread Cert.AdamLruInIdeal.nD Cert.AdamLruInIdeal.τ).loc Cert.AdamLruInIdeal.main_arg1) = m ((c.tc : Thread Cert.AdamLruInIdeal.nD Cert.AdamLruInIdeal.τ).loc Cert.AdamLruInIdeal.main_arg1)
      ∧ r.2.mem ((c.tc : Thread Cert.AdamLruInIdeal.nD Cert.AdamLruInIdeal.τ).loc Cert.AdamLruInIdeal.main_arg2) = m ((c.tc : Thread Cert.AdamLruInIdeal.nD Cert.AdamLruInIdeal.τ).loc Cert.AdamLruInIdeal.main_arg2)
      ∧ r.2.mem ((c.tc : Thread Cert.AdamLruInIdeal.nD Cert.AdamLruInIdeal.τ).loc Cert.AdamLruInIdeal.main_arg3) = m ((c.tc : Thread Cert.AdamLruInIdeal.nD Cert.AdamLruInIdeal.τ).loc Cert.AdamLruInIdeal.main_arg3)
      ∧ r.2.mem ((c.tc : Thread Cert.AdamLruInIdeal.nD Cert.AdamLruInIdeal.τ).loc Cert.AdamLruInIdeal.main_arg4) = m ((c.tc : Thread Cert.AdamLruInIdeal.nD Cert.AdamLruInIdeal.τ).loc Cert.AdamLruInIdeal.main_arg4))
      ∧ r.2.sem = fun _ => 0)

def quiescent_AdamLruInRefIdeal [hAdamLruInRefIdeal : Cert.AdamLruInRefIdeal.Facts] : Prop :=
  ∀ (m : (ℓ : Loc Cert.AdamLruInRefIdeal.nD Cert.AdamLruInRefIdeal.τ Cert.AdamLruInRefIdeal.sig) → Buf (Elt Ideal) ℓ) (g : Dev Cert.AdamLruInRefIdeal.nD → PrngReg), Pre_AdamLruInRefIdeal m →
    θ_run (Cert.AdamLruInRefIdeal.defs (F := Ideal)) (onTc (τ := Cert.AdamLruInRefIdeal.τ) (Cert.AdamLruInRefIdeal.main (F := Ideal))) ⟨m, fun _ => 0, g⟩ (fun r => (∀ c : Dev Cert.AdamLruInRefIdeal.nD,
      r.2.mem ((c.tc : Thread Cert.AdamLruInRefIdeal.nD Cert.AdamLruInRefIdeal.τ).loc Cert.AdamLruInRefIdeal.main_arg0) = m ((c.tc : Thread Cert.AdamLruInRefIdeal.nD Cert.AdamLruInRefIdeal.τ).loc Cert.AdamLruInRefIdeal.main_arg0)
      ∧ r.2.mem ((c.tc : Thread Cert.AdamLruInRefIdeal.nD Cert.AdamLruInRefIdeal.τ).loc Cert.AdamLruInRefIdeal.main_arg1) = m ((c.tc : Thread Cert.AdamLruInRefIdeal.nD Cert.AdamLruInRefIdeal.τ).loc Cert.AdamLruInRefIdeal.main_arg1)
      ∧ r.2.mem ((c.tc : Thread Cert.AdamLruInRefIdeal.nD Cert.AdamLruInRefIdeal.τ).loc Cert.AdamLruInRefIdeal.main_arg2) = m ((c.tc : Thread Cert.AdamLruInRefIdeal.nD Cert.AdamLruInRefIdeal.τ).loc Cert.AdamLruInRefIdeal.main_arg2)
      ∧ r.2.mem ((c.tc : Thread Cert.AdamLruInRefIdeal.nD Cert.AdamLruInRefIdeal.τ).loc Cert.AdamLruInRefIdeal.main_arg3) = m ((c.tc : Thread Cert.AdamLruInRefIdeal.nD Cert.AdamLruInRefIdeal.τ).loc Cert.AdamLruInRefIdeal.main_arg3)
      ∧ r.2.mem ((c.tc : Thread Cert.AdamLruInRefIdeal.nD Cert.AdamLruInRefIdeal.τ).loc Cert.AdamLruInRefIdeal.main_arg4) = m ((c.tc : Thread Cert.AdamLruInRefIdeal.nD Cert.AdamLruInRefIdeal.τ).loc Cert.AdamLruInRefIdeal.main_arg4))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3)
      ∧ r.2.mem ((c.tc : Thread Cert.AdamGate.nD Cert.AdamGate.τ).loc Cert.AdamGate.main_arg4) = m ((c.tc : Thread Cert.AdamGate.nD Cert.AdamGate.τ).loc Cert.AdamGate.main_arg4))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
      ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3)
      ∧ r.2.mem ((c.tc : Thread Cert.AdamGateRefIdeal.nD Cert.AdamGateRefIdeal.τ).loc Cert.AdamGateRefIdeal.main_arg4) = m ((c.tc : Thread Cert.AdamGateRefIdeal.nD Cert.AdamGateRefIdeal.τ).loc Cert.AdamGateRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_PreFwd [hPreFwd : Cert.PreFwd.Facts] : Prop :=
  ∀ (m : (ℓ : Loc Cert.PreFwd.nD Cert.PreFwd.τ Cert.PreFwd.sig) → Buf (Elt Bits) ℓ) (g : Dev Cert.PreFwd.nD → PrngReg), Pre_PreFwd m →
    θ_run (Cert.PreFwd.defs (F := Bits)) (onTc (τ := Cert.PreFwd.τ) (Cert.PreFwd.main (F := Bits))) ⟨m, fun _ => 0, g⟩ (fun r => (∀ c : Dev Cert.PreFwd.nD,
      r.2.mem ((c.tc : Thread Cert.PreFwd.nD Cert.PreFwd.τ).loc Cert.PreFwd.main_arg0) = m ((c.tc : Thread Cert.PreFwd.nD Cert.PreFwd.τ).loc Cert.PreFwd.main_arg0)
      ∧ r.2.mem ((c.tc : Thread Cert.PreFwd.nD Cert.PreFwd.τ).loc Cert.PreFwd.main_arg1) = m ((c.tc : Thread Cert.PreFwd.nD Cert.PreFwd.τ).loc Cert.PreFwd.main_arg1))
      ∧ r.2.sem = fun _ => 0)

def quiescent_PreFwdIdeal [hPreFwdIdeal : Cert.PreFwdIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg), Pre_PreFwdIdeal m →
    θ_run (Cert.PreFwdIdeal.defs (F := Ideal)) (onTc (τ := Cert.PreFwdIdeal.τ) (Cert.PreFwdIdeal.main (F := Ideal))) ⟨m, fun _ => 0, g⟩ (fun r => (∀ c : Dev Cert.PreFwdIdeal.nD,
      r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
      ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1))
      ∧ r.2.sem = fun _ => 0)

def quiescent_PreFwdRefIdeal [hPreFwdRefIdeal : Cert.PreFwdRefIdeal.Facts] : Prop :=
  ∀ (m : (ℓ : Loc Cert.PreFwdRefIdeal.nD Cert.PreFwdRefIdeal.τ Cert.PreFwdRefIdeal.sig) → Buf (Elt Ideal) ℓ) (g : Dev Cert.PreFwdRefIdeal.nD → PrngReg), Pre_PreFwdRefIdeal m →
    θ_run (Cert.PreFwdRefIdeal.defs (F := Ideal)) (onTc (τ := Cert.PreFwdRefIdeal.τ) (Cert.PreFwdRefIdeal.main (F := Ideal))) ⟨m, fun _ => 0, g⟩ (fun r => (∀ c : Dev Cert.PreFwdRefIdeal.nD,
      r.2.mem ((c.tc : Thread Cert.PreFwdRefIdeal.nD Cert.PreFwdRefIdeal.τ).loc Cert.PreFwdRefIdeal.main_arg0) = m ((c.tc : Thread Cert.PreFwdRefIdeal.nD Cert.PreFwdRefIdeal.τ).loc Cert.PreFwdRefIdeal.main_arg0)
      ∧ r.2.mem ((c.tc : Thread Cert.PreFwdRefIdeal.nD Cert.PreFwdRefIdeal.τ).loc Cert.PreFwdRefIdeal.main_arg1) = m ((c.tc : Thread Cert.PreFwdRefIdeal.nD Cert.PreFwdRefIdeal.τ).loc Cert.PreFwdRefIdeal.main_arg1))
      ∧ r.2.sem = fun _ => 0)

def quiescent_PostFwd [hPostFwd : Cert.PostFwd.Facts] : Prop :=
  ∀ (m : (ℓ : Loc Cert.PostFwd.nD Cert.PostFwd.τ Cert.PostFwd.sig) → Buf (Elt Bits) ℓ) (g : Dev Cert.PostFwd.nD → PrngReg), Pre_PostFwd m →
    θ_run (Cert.PostFwd.defs (F := Bits)) (onTc (τ := Cert.PostFwd.τ) (Cert.PostFwd.main (F := Bits))) ⟨m, fun _ => 0, g⟩ (fun r => (∀ c : Dev Cert.PostFwd.nD,
      r.2.mem ((c.tc : Thread Cert.PostFwd.nD Cert.PostFwd.τ).loc Cert.PostFwd.main_arg0) = m ((c.tc : Thread Cert.PostFwd.nD Cert.PostFwd.τ).loc Cert.PostFwd.main_arg0)
      ∧ r.2.mem ((c.tc : Thread Cert.PostFwd.nD Cert.PostFwd.τ).loc Cert.PostFwd.main_arg1) = m ((c.tc : Thread Cert.PostFwd.nD Cert.PostFwd.τ).loc Cert.PostFwd.main_arg1)
      ∧ r.2.mem ((c.tc : Thread Cert.PostFwd.nD Cert.PostFwd.τ).loc Cert.PostFwd.main_arg2) = m ((c.tc : Thread Cert.PostFwd.nD Cert.PostFwd.τ).loc Cert.PostFwd.main_arg2)
      ∧ r.2.mem ((c.tc : Thread Cert.PostFwd.nD Cert.PostFwd.τ).loc Cert.PostFwd.main_arg3) = m ((c.tc : Thread Cert.PostFwd.nD Cert.PostFwd.τ).loc Cert.PostFwd.main_arg3))
      ∧ r.2.sem = fun _ => 0)

def quiescent_PostFwdIdeal [hPostFwdIdeal : Cert.PostFwdIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg), Pre_PostFwdIdeal m →
    θ_run (Cert.PostFwdIdeal.defs (F := Ideal)) (onTc (τ := Cert.PostFwdIdeal.τ) (Cert.PostFwdIdeal.main (F := Ideal))) ⟨m, fun _ => 0, g⟩ (fun r => (∀ c : Dev Cert.PostFwdIdeal.nD,
      r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
      ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
      ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
      ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3))
      ∧ r.2.sem = fun _ => 0)

def quiescent_PostFwdRefIdeal [hPostFwdRefIdeal : Cert.PostFwdRefIdeal.Facts] : Prop :=
  ∀ (m : (ℓ : Loc Cert.PostFwdRefIdeal.nD Cert.PostFwdRefIdeal.τ Cert.PostFwdRefIdeal.sig) → Buf (Elt Ideal) ℓ) (g : Dev Cert.PostFwdRefIdeal.nD → PrngReg), Pre_PostFwdRefIdeal m →
    θ_run (Cert.PostFwdRefIdeal.defs (F := Ideal)) (onTc (τ := Cert.PostFwdRefIdeal.τ) (Cert.PostFwdRefIdeal.main (F := Ideal))) ⟨m, fun _ => 0, g⟩ (fun r => (∀ c : Dev Cert.PostFwdRefIdeal.nD,
      r.2.mem ((c.tc : Thread Cert.PostFwdRefIdeal.nD Cert.PostFwdRefIdeal.τ).loc Cert.PostFwdRefIdeal.main_arg0) = m ((c.tc : Thread Cert.PostFwdRefIdeal.nD Cert.PostFwdRefIdeal.τ).loc Cert.PostFwdRefIdeal.main_arg0)
      ∧ r.2.mem ((c.tc : Thread Cert.PostFwdRefIdeal.nD Cert.PostFwdRefIdeal.τ).loc Cert.PostFwdRefIdeal.main_arg1) = m ((c.tc : Thread Cert.PostFwdRefIdeal.nD Cert.PostFwdRefIdeal.τ).loc Cert.PostFwdRefIdeal.main_arg1)
      ∧ r.2.mem ((c.tc : Thread Cert.PostFwdRefIdeal.nD Cert.PostFwdRefIdeal.τ).loc Cert.PostFwdRefIdeal.main_arg2) = m ((c.tc : Thread Cert.PostFwdRefIdeal.nD Cert.PostFwdRefIdeal.τ).loc Cert.PostFwdRefIdeal.main_arg2)
      ∧ r.2.mem ((c.tc : Thread Cert.PostFwdRefIdeal.nD Cert.PostFwdRefIdeal.τ).loc Cert.PostFwdRefIdeal.main_arg3) = m ((c.tc : Thread Cert.PostFwdRefIdeal.nD Cert.PostFwdRefIdeal.τ).loc Cert.PostFwdRefIdeal.main_arg3))
      ∧ r.2.sem = fun _ => 0)

def quiescent_PostLoss [hPostLoss : Cert.PostLoss.Facts] : Prop :=
  ∀ (m : (ℓ : Loc Cert.PostLoss.nD Cert.PostLoss.τ Cert.PostLoss.sig) → Buf (Elt Bits) ℓ) (g : Dev Cert.PostLoss.nD → PrngReg), Pre_PostLoss m →
    θ_run (Cert.PostLoss.defs (F := Bits)) (onTc (τ := Cert.PostLoss.τ) (Cert.PostLoss.main (F := Bits))) ⟨m, fun _ => 0, g⟩ (fun r => (∀ c : Dev Cert.PostLoss.nD,
      r.2.mem ((c.tc : Thread Cert.PostLoss.nD Cert.PostLoss.τ).loc Cert.PostLoss.main_arg0) = m ((c.tc : Thread Cert.PostLoss.nD Cert.PostLoss.τ).loc Cert.PostLoss.main_arg0)
      ∧ r.2.mem ((c.tc : Thread Cert.PostLoss.nD Cert.PostLoss.τ).loc Cert.PostLoss.main_arg1) = m ((c.tc : Thread Cert.PostLoss.nD Cert.PostLoss.τ).loc Cert.PostLoss.main_arg1)
      ∧ r.2.mem ((c.tc : Thread Cert.PostLoss.nD Cert.PostLoss.τ).loc Cert.PostLoss.main_arg2) = m ((c.tc : Thread Cert.PostLoss.nD Cert.PostLoss.τ).loc Cert.PostLoss.main_arg2)
      ∧ r.2.mem ((c.tc : Thread Cert.PostLoss.nD Cert.PostLoss.τ).loc Cert.PostLoss.main_arg3) = m ((c.tc : Thread Cert.PostLoss.nD Cert.PostLoss.τ).loc Cert.PostLoss.main_arg3))
      ∧ r.2.sem = fun _ => 0)

def quiescent_PostLossIdeal [hPostLossIdeal : Cert.PostLossIdeal.Facts] : Prop :=
  ∀ (m : (ℓ : Loc Cert.PostLossIdeal.nD Cert.PostLossIdeal.τ Cert.PostLossIdeal.sig) → Buf (Elt Ideal) ℓ) (g : Dev Cert.PostLossIdeal.nD → PrngReg), Pre_PostLossIdeal m →
    θ_run (Cert.PostLossIdeal.defs (F := Ideal)) (onTc (τ := Cert.PostLossIdeal.τ) (Cert.PostLossIdeal.main (F := Ideal))) ⟨m, fun _ => 0, g⟩ (fun r => (∀ c : Dev Cert.PostLossIdeal.nD,
      r.2.mem ((c.tc : Thread Cert.PostLossIdeal.nD Cert.PostLossIdeal.τ).loc Cert.PostLossIdeal.main_arg0) = m ((c.tc : Thread Cert.PostLossIdeal.nD Cert.PostLossIdeal.τ).loc Cert.PostLossIdeal.main_arg0)
      ∧ r.2.mem ((c.tc : Thread Cert.PostLossIdeal.nD Cert.PostLossIdeal.τ).loc Cert.PostLossIdeal.main_arg1) = m ((c.tc : Thread Cert.PostLossIdeal.nD Cert.PostLossIdeal.τ).loc Cert.PostLossIdeal.main_arg1)
      ∧ r.2.mem ((c.tc : Thread Cert.PostLossIdeal.nD Cert.PostLossIdeal.τ).loc Cert.PostLossIdeal.main_arg2) = m ((c.tc : Thread Cert.PostLossIdeal.nD Cert.PostLossIdeal.τ).loc Cert.PostLossIdeal.main_arg2)
      ∧ r.2.mem ((c.tc : Thread Cert.PostLossIdeal.nD Cert.PostLossIdeal.τ).loc Cert.PostLossIdeal.main_arg3) = m ((c.tc : Thread Cert.PostLossIdeal.nD Cert.PostLossIdeal.τ).loc Cert.PostLossIdeal.main_arg3))
      ∧ r.2.sem = fun _ => 0)

def quiescent_PostLossRefIdeal [hPostLossRefIdeal : Cert.PostLossRefIdeal.Facts] : Prop :=
  ∀ (m : (ℓ : Loc Cert.PostLossRefIdeal.nD Cert.PostLossRefIdeal.τ Cert.PostLossRefIdeal.sig) → Buf (Elt Ideal) ℓ) (g : Dev Cert.PostLossRefIdeal.nD → PrngReg), Pre_PostLossRefIdeal m →
    θ_run (Cert.PostLossRefIdeal.defs (F := Ideal)) (onTc (τ := Cert.PostLossRefIdeal.τ) (Cert.PostLossRefIdeal.main (F := Ideal))) ⟨m, fun _ => 0, g⟩ (fun r => (∀ c : Dev Cert.PostLossRefIdeal.nD,
      r.2.mem ((c.tc : Thread Cert.PostLossRefIdeal.nD Cert.PostLossRefIdeal.τ).loc Cert.PostLossRefIdeal.main_arg0) = m ((c.tc : Thread Cert.PostLossRefIdeal.nD Cert.PostLossRefIdeal.τ).loc Cert.PostLossRefIdeal.main_arg0)
      ∧ r.2.mem ((c.tc : Thread Cert.PostLossRefIdeal.nD Cert.PostLossRefIdeal.τ).loc Cert.PostLossRefIdeal.main_arg1) = m ((c.tc : Thread Cert.PostLossRefIdeal.nD Cert.PostLossRefIdeal.τ).loc Cert.PostLossRefIdeal.main_arg1)
      ∧ r.2.mem ((c.tc : Thread Cert.PostLossRefIdeal.nD Cert.PostLossRefIdeal.τ).loc Cert.PostLossRefIdeal.main_arg2) = m ((c.tc : Thread Cert.PostLossRefIdeal.nD Cert.PostLossRefIdeal.τ).loc Cert.PostLossRefIdeal.main_arg2)
      ∧ r.2.mem ((c.tc : Thread Cert.PostLossRefIdeal.nD Cert.PostLossRefIdeal.τ).loc Cert.PostLossRefIdeal.main_arg3) = m ((c.tc : Thread Cert.PostLossRefIdeal.nD Cert.PostLossRefIdeal.τ).loc Cert.PostLossRefIdeal.main_arg3))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2))
      ∧ r.2.sem = fun _ => 0)

def quiescent_PrePostBwd [hPrePostBwd : Cert.PrePostBwd.Facts] : Prop :=
  ∀ (m : (ℓ : Loc Cert.PrePostBwd.nD Cert.PrePostBwd.τ Cert.PrePostBwd.sig) → Buf (Elt Bits) ℓ) (g : Dev Cert.PrePostBwd.nD → PrngReg), Pre_PrePostBwd m →
    θ_run (Cert.PrePostBwd.defs (F := Bits)) (onTc (τ := Cert.PrePostBwd.τ) (Cert.PrePostBwd.main (F := Bits))) ⟨m, fun _ => 0, g⟩ (fun r => (∀ c : Dev Cert.PrePostBwd.nD,
      r.2.mem ((c.tc : Thread Cert.PrePostBwd.nD Cert.PrePostBwd.τ).loc Cert.PrePostBwd.main_arg0) = m ((c.tc : Thread Cert.PrePostBwd.nD Cert.PrePostBwd.τ).loc Cert.PrePostBwd.main_arg0)
      ∧ r.2.mem ((c.tc : Thread Cert.PrePostBwd.nD Cert.PrePostBwd.τ).loc Cert.PrePostBwd.main_arg1) = m ((c.tc : Thread Cert.PrePostBwd.nD Cert.PrePostBwd.τ).loc Cert.PrePostBwd.main_arg1)
      ∧ r.2.mem ((c.tc : Thread Cert.PrePostBwd.nD Cert.PrePostBwd.τ).loc Cert.PrePostBwd.main_arg2) = m ((c.tc : Thread Cert.PrePostBwd.nD Cert.PrePostBwd.τ).loc Cert.PrePostBwd.main_arg2)
      ∧ r.2.mem ((c.tc : Thread Cert.PrePostBwd.nD Cert.PrePostBwd.τ).loc Cert.PrePostBwd.main_arg3) = m ((c.tc : Thread Cert.PrePostBwd.nD Cert.PrePostBwd.τ).loc Cert.PrePostBwd.main_arg3)
      ∧ r.2.mem ((c.tc : Thread Cert.PrePostBwd.nD Cert.PrePostBwd.τ).loc Cert.PrePostBwd.main_arg4) = m ((c.tc : Thread Cert.PrePostBwd.nD Cert.PrePostBwd.τ).loc Cert.PrePostBwd.main_arg4)
      ∧ r.2.mem ((c.tc : Thread Cert.PrePostBwd.nD Cert.PrePostBwd.τ).loc Cert.PrePostBwd.main_arg5) = m ((c.tc : Thread Cert.PrePostBwd.nD Cert.PrePostBwd.τ).loc Cert.PrePostBwd.main_arg5))
      ∧ r.2.sem = fun _ => 0)

def quiescent_PrePostBwdIdeal [hPrePostBwdIdeal : Cert.PrePostBwdIdeal.Facts] : Prop :=
  ∀ (m : (ℓ : Loc Cert.PrePostBwdIdeal.nD Cert.PrePostBwdIdeal.τ Cert.PrePostBwdIdeal.sig) → Buf (Elt Ideal) ℓ) (g : Dev Cert.PrePostBwdIdeal.nD → PrngReg), Pre_PrePostBwdIdeal m →
    θ_run (Cert.PrePostBwdIdeal.defs (F := Ideal)) (onTc (τ := Cert.PrePostBwdIdeal.τ) (Cert.PrePostBwdIdeal.main (F := Ideal))) ⟨m, fun _ => 0, g⟩ (fun r => (∀ c : Dev Cert.PrePostBwdIdeal.nD,
      r.2.mem ((c.tc : Thread Cert.PrePostBwdIdeal.nD Cert.PrePostBwdIdeal.τ).loc Cert.PrePostBwdIdeal.main_arg0) = m ((c.tc : Thread Cert.PrePostBwdIdeal.nD Cert.PrePostBwdIdeal.τ).loc Cert.PrePostBwdIdeal.main_arg0)
      ∧ r.2.mem ((c.tc : Thread Cert.PrePostBwdIdeal.nD Cert.PrePostBwdIdeal.τ).loc Cert.PrePostBwdIdeal.main_arg1) = m ((c.tc : Thread Cert.PrePostBwdIdeal.nD Cert.PrePostBwdIdeal.τ).loc Cert.PrePostBwdIdeal.main_arg1)
      ∧ r.2.mem ((c.tc : Thread Cert.PrePostBwdIdeal.nD Cert.PrePostBwdIdeal.τ).loc Cert.PrePostBwdIdeal.main_arg2) = m ((c.tc : Thread Cert.PrePostBwdIdeal.nD Cert.PrePostBwdIdeal.τ).loc Cert.PrePostBwdIdeal.main_arg2)
      ∧ r.2.mem ((c.tc : Thread Cert.PrePostBwdIdeal.nD Cert.PrePostBwdIdeal.τ).loc Cert.PrePostBwdIdeal.main_arg3) = m ((c.tc : Thread Cert.PrePostBwdIdeal.nD Cert.PrePostBwdIdeal.τ).loc Cert.PrePostBwdIdeal.main_arg3)
      ∧ r.2.mem ((c.tc : Thread Cert.PrePostBwdIdeal.nD Cert.PrePostBwdIdeal.τ).loc Cert.PrePostBwdIdeal.main_arg4) = m ((c.tc : Thread Cert.PrePostBwdIdeal.nD Cert.PrePostBwdIdeal.τ).loc Cert.PrePostBwdIdeal.main_arg4)
      ∧ r.2.mem ((c.tc : Thread Cert.PrePostBwdIdeal.nD Cert.PrePostBwdIdeal.τ).loc Cert.PrePostBwdIdeal.main_arg5) = m ((c.tc : Thread Cert.PrePostBwdIdeal.nD Cert.PrePostBwdIdeal.τ).loc Cert.PrePostBwdIdeal.main_arg5))
      ∧ r.2.sem = fun _ => 0)

def quiescent_PrePostBwdRefIdeal [hPrePostBwdRefIdeal : Cert.PrePostBwdRefIdeal.Facts] : Prop :=
  ∀ (m : (ℓ : Loc Cert.PrePostBwdRefIdeal.nD Cert.PrePostBwdRefIdeal.τ Cert.PrePostBwdRefIdeal.sig) → Buf (Elt Ideal) ℓ) (g : Dev Cert.PrePostBwdRefIdeal.nD → PrngReg), Pre_PrePostBwdRefIdeal m →
    θ_run (Cert.PrePostBwdRefIdeal.defs (F := Ideal)) (onTc (τ := Cert.PrePostBwdRefIdeal.τ) (Cert.PrePostBwdRefIdeal.main (F := Ideal))) ⟨m, fun _ => 0, g⟩ (fun r => (∀ c : Dev Cert.PrePostBwdRefIdeal.nD,
      r.2.mem ((c.tc : Thread Cert.PrePostBwdRefIdeal.nD Cert.PrePostBwdRefIdeal.τ).loc Cert.PrePostBwdRefIdeal.main_arg0) = m ((c.tc : Thread Cert.PrePostBwdRefIdeal.nD Cert.PrePostBwdRefIdeal.τ).loc Cert.PrePostBwdRefIdeal.main_arg0)
      ∧ r.2.mem ((c.tc : Thread Cert.PrePostBwdRefIdeal.nD Cert.PrePostBwdRefIdeal.τ).loc Cert.PrePostBwdRefIdeal.main_arg1) = m ((c.tc : Thread Cert.PrePostBwdRefIdeal.nD Cert.PrePostBwdRefIdeal.τ).loc Cert.PrePostBwdRefIdeal.main_arg1)
      ∧ r.2.mem ((c.tc : Thread Cert.PrePostBwdRefIdeal.nD Cert.PrePostBwdRefIdeal.τ).loc Cert.PrePostBwdRefIdeal.main_arg2) = m ((c.tc : Thread Cert.PrePostBwdRefIdeal.nD Cert.PrePostBwdRefIdeal.τ).loc Cert.PrePostBwdRefIdeal.main_arg2)
      ∧ r.2.mem ((c.tc : Thread Cert.PrePostBwdRefIdeal.nD Cert.PrePostBwdRefIdeal.τ).loc Cert.PrePostBwdRefIdeal.main_arg3) = m ((c.tc : Thread Cert.PrePostBwdRefIdeal.nD Cert.PrePostBwdRefIdeal.τ).loc Cert.PrePostBwdRefIdeal.main_arg3)
      ∧ r.2.mem ((c.tc : Thread Cert.PrePostBwdRefIdeal.nD Cert.PrePostBwdRefIdeal.τ).loc Cert.PrePostBwdRefIdeal.main_arg4) = m ((c.tc : Thread Cert.PrePostBwdRefIdeal.nD Cert.PrePostBwdRefIdeal.τ).loc Cert.PrePostBwdRefIdeal.main_arg4)
      ∧ r.2.mem ((c.tc : Thread Cert.PrePostBwdRefIdeal.nD Cert.PrePostBwdRefIdeal.τ).loc Cert.PrePostBwdRefIdeal.main_arg5) = m ((c.tc : Thread Cert.PrePostBwdRefIdeal.nD Cert.PrePostBwdRefIdeal.τ).loc Cert.PrePostBwdRefIdeal.main_arg5))
      ∧ r.2.sem = fun _ => 0)

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2)
      ∧ r.2.mem ((c.tc : Thread Cert.PreBwd.nD Cert.PreBwd.τ).loc Cert.PreBwd.main_arg3) = m ((c.tc : Thread Cert.PreBwd.nD Cert.PreBwd.τ).loc Cert.PreBwd.main_arg3))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3))
      ∧ r.2.sem = fun _ => 0)

def quiescent_PreBwdRefIdeal [hPreBwdRefIdeal : Cert.PreBwdRefIdeal.Facts] : Prop :=
  ∀ (m : (ℓ : Loc Cert.PreBwdRefIdeal.nD Cert.PreBwdRefIdeal.τ Cert.PreBwdRefIdeal.sig) → Buf (Elt Ideal) ℓ) (g : Dev Cert.PreBwdRefIdeal.nD → PrngReg), Pre_PreBwdRefIdeal m →
    θ_run (Cert.PreBwdRefIdeal.defs (F := Ideal)) (onTc (τ := Cert.PreBwdRefIdeal.τ) (Cert.PreBwdRefIdeal.main (F := Ideal))) ⟨m, fun _ => 0, g⟩ (fun r => (∀ c : Dev Cert.PreBwdRefIdeal.nD,
      r.2.mem ((c.tc : Thread Cert.PreBwdRefIdeal.nD Cert.PreBwdRefIdeal.τ).loc Cert.PreBwdRefIdeal.main_arg0) = m ((c.tc : Thread Cert.PreBwdRefIdeal.nD Cert.PreBwdRefIdeal.τ).loc Cert.PreBwdRefIdeal.main_arg0)
      ∧ r.2.mem ((c.tc : Thread Cert.PreBwdRefIdeal.nD Cert.PreBwdRefIdeal.τ).loc Cert.PreBwdRefIdeal.main_arg1) = m ((c.tc : Thread Cert.PreBwdRefIdeal.nD Cert.PreBwdRefIdeal.τ).loc Cert.PreBwdRefIdeal.main_arg1)
      ∧ r.2.mem ((c.tc : Thread Cert.PreBwdRefIdeal.nD Cert.PreBwdRefIdeal.τ).loc Cert.PreBwdRefIdeal.main_arg2) = m ((c.tc : Thread Cert.PreBwdRefIdeal.nD Cert.PreBwdRefIdeal.τ).loc Cert.PreBwdRefIdeal.main_arg2)
      ∧ r.2.mem ((c.tc : Thread Cert.PreBwdRefIdeal.nD Cert.PreBwdRefIdeal.τ).loc Cert.PreBwdRefIdeal.main_arg3) = m ((c.tc : Thread Cert.PreBwdRefIdeal.nD Cert.PreBwdRefIdeal.τ).loc Cert.PreBwdRefIdeal.main_arg3))
      ∧ r.2.sem = fun _ => 0)

def preserves_Kernel_KernelIdeal : Prop :=
  True

def preserves_AttnIn_AttnInIdeal : Prop :=
  True

def algebraic_AttnInIdeal_AttnInRefIdeal [hAttnInIdeal : Cert.AttnInIdeal.Facts] [hAttnInRefIdeal : Cert.AttnInRefIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)) →
    ∃ (v0 : (c : Dev Cert.AttnInIdeal.nD) → Buf (Elt Ideal) ((c.tc : Thread Cert.AttnInIdeal.nD Cert.AttnInIdeal.τ).loc Cert.AttnInIdeal.main_v0)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v0) = v0 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v3) = v0 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1))

def preserves_LruIn_LruInIdeal : Prop :=
  True

def algebraic_LruInIdeal_LruInRefIdeal [hLruInIdeal : Cert.LruInIdeal.Facts] [hLruInRefIdeal : Cert.LruInRefIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)) →
    ∃ (v0 : (c : Dev Cert.LruInIdeal.nD) → Buf (Elt Ideal) ((c.tc : Thread Cert.LruInIdeal.nD Cert.LruInIdeal.τ).loc Cert.LruInIdeal.main_v0)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v0) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v3) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v0)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v0) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v5) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v0)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v0) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v6) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_AttnInDx_AttnInDxIdeal : Prop :=
  True

def algebraic_AttnInDxIdeal_AttnInDxRefIdeal [hAttnInDxIdeal : Cert.AttnInDxIdeal.Facts] [hAttnInDxRefIdeal : Cert.AttnInDxRefIdeal.Facts] : Prop :=
  ∀ (m : (ℓ : Loc Cert.AttnInDxIdeal.nD Cert.AttnInDxIdeal.τ Cert.AttnInDxIdeal.sig) → Buf (Elt Ideal) ℓ) (g : Dev Cert.AttnInDxIdeal.nD → PrngReg)
    (m' : (ℓ : Loc Cert.AttnInDxRefIdeal.nD Cert.AttnInDxRefIdeal.τ Cert.AttnInDxRefIdeal.sig) → Buf (Elt Ideal) ℓ) (g' : Dev Cert.AttnInDxRefIdeal.nD → PrngReg), Pre_AttnInDxIdeal m →
    (∀ c : Dev Cert.AttnInDxIdeal.nD,
      m' ((c.tc : Thread Cert.AttnInDxRefIdeal.nD Cert.AttnInDxRefIdeal.τ).loc Cert.AttnInDxRefIdeal.main_arg0) = m ((c.tc : Thread Cert.AttnInDxIdeal.nD Cert.AttnInDxIdeal.τ).loc Cert.AttnInDxIdeal.main_arg0)
      ∧ m' ((c.tc : Thread Cert.AttnInDxRefIdeal.nD Cert.AttnInDxRefIdeal.τ).loc Cert.AttnInDxRefIdeal.main_arg1) = m ((c.tc : Thread Cert.AttnInDxIdeal.nD Cert.AttnInDxIdeal.τ).loc Cert.AttnInDxIdeal.main_arg1)) →
    ∃ (v0 : (c : Dev Cert.AttnInDxIdeal.nD) → Buf (Elt Ideal) ((c.tc : Thread Cert.AttnInDxIdeal.nD Cert.AttnInDxIdeal.τ).loc Cert.AttnInDxIdeal.main_v0)),
      θ_run (Cert.AttnInDxIdeal.defs (F := Ideal)) (onTc (τ := Cert.AttnInDxIdeal.τ) (Cert.AttnInDxIdeal.main (F := Ideal))) ⟨m, fun _ => 0, g⟩ (fun r => ∀ c : Dev Cert.AttnInDxIdeal.nD,
          r.2.mem ((c.tc : Thread Cert.AttnInDxIdeal.nD Cert.AttnInDxIdeal.τ).loc Cert.AttnInDxIdeal.main_v0) = v0 c
          ∧ r.2.mem ((c.tc : Thread Cert.AttnInDxIdeal.nD Cert.AttnInDxIdeal.τ).loc Cert.AttnInDxIdeal.main_arg0) = m ((c.tc : Thread Cert.AttnInDxIdeal.nD Cert.AttnInDxIdeal.τ).loc Cert.AttnInDxIdeal.main_arg0)
          ∧ r.2.mem ((c.tc : Thread Cert.AttnInDxIdeal.nD Cert.AttnInDxIdeal.τ).loc Cert.AttnInDxIdeal.main_arg1) = m ((c.tc : Thread Cert.AttnInDxIdeal.nD Cert.AttnInDxIdeal.τ).loc Cert.AttnInDxIdeal.main_arg1))
      ∧ θ_run (Cert.AttnInDxRefIdeal.defs (F := Ideal)) (onTc (τ := Cert.AttnInDxRefIdeal.τ) (Cert.AttnInDxRefIdeal.main (F := Ideal))) ⟨m', fun _ => 0, g'⟩ (fun r => ∀ c : Dev Cert.AttnInDxRefIdeal.nD,
          r.2.mem ((c.tc : Thread Cert.AttnInDxRefIdeal.nD Cert.AttnInDxRefIdeal.τ).loc Cert.AttnInDxRefIdeal.main_v4) = v0 c
          ∧ r.2.mem ((c.tc : Thread Cert.AttnInDxRefIdeal.nD Cert.AttnInDxRefIdeal.τ).loc Cert.AttnInDxRefIdeal.main_arg0) = m' ((c.tc : Thread Cert.AttnInDxRefIdeal.nD Cert.AttnInDxRefIdeal.τ).loc Cert.AttnInDxRefIdeal.main_arg0)
          ∧ r.2.mem ((c.tc : Thread Cert.AttnInDxRefIdeal.nD Cert.AttnInDxRefIdeal.τ).loc Cert.AttnInDxRefIdeal.main_arg1) = m' ((c.tc : Thread Cert.AttnInDxRefIdeal.nD Cert.AttnInDxRefIdeal.τ).loc Cert.AttnInDxRefIdeal.main_arg1))

def preserves_AttnInDw_AttnInDwIdeal : Prop :=
  True

def algebraic_AttnInDwIdeal_AttnInDwRefIdeal [hAttnInDwIdeal : Cert.AttnInDwIdeal.Facts] [hAttnInDwRefIdeal : Cert.AttnInDwRefIdeal.Facts] : Prop :=
  ∀ (m : (ℓ : Loc Cert.AttnInDwIdeal.nD Cert.AttnInDwIdeal.τ Cert.AttnInDwIdeal.sig) → Buf (Elt Ideal) ℓ) (g : Dev Cert.AttnInDwIdeal.nD → PrngReg)
    (m' : (ℓ : Loc Cert.AttnInDwRefIdeal.nD Cert.AttnInDwRefIdeal.τ Cert.AttnInDwRefIdeal.sig) → Buf (Elt Ideal) ℓ) (g' : Dev Cert.AttnInDwRefIdeal.nD → PrngReg), Pre_AttnInDwIdeal m →
    (∀ c : Dev Cert.AttnInDwIdeal.nD,
      m' ((c.tc : Thread Cert.AttnInDwRefIdeal.nD Cert.AttnInDwRefIdeal.τ).loc Cert.AttnInDwRefIdeal.main_arg0) = m ((c.tc : Thread Cert.AttnInDwIdeal.nD Cert.AttnInDwIdeal.τ).loc Cert.AttnInDwIdeal.main_arg0)
      ∧ m' ((c.tc : Thread Cert.AttnInDwRefIdeal.nD Cert.AttnInDwRefIdeal.τ).loc Cert.AttnInDwRefIdeal.main_arg1) = m ((c.tc : Thread Cert.AttnInDwIdeal.nD Cert.AttnInDwIdeal.τ).loc Cert.AttnInDwIdeal.main_arg1)) →
    ∃ (v0 : (c : Dev Cert.AttnInDwIdeal.nD) → Buf (Elt Ideal) ((c.tc : Thread Cert.AttnInDwIdeal.nD Cert.AttnInDwIdeal.τ).loc Cert.AttnInDwIdeal.main_v0)),
      θ_run (Cert.AttnInDwIdeal.defs (F := Ideal)) (onTc (τ := Cert.AttnInDwIdeal.τ) (Cert.AttnInDwIdeal.main (F := Ideal))) ⟨m, fun _ => 0, g⟩ (fun r => ∀ c : Dev Cert.AttnInDwIdeal.nD,
          r.2.mem ((c.tc : Thread Cert.AttnInDwIdeal.nD Cert.AttnInDwIdeal.τ).loc Cert.AttnInDwIdeal.main_v0) = v0 c
          ∧ r.2.mem ((c.tc : Thread Cert.AttnInDwIdeal.nD Cert.AttnInDwIdeal.τ).loc Cert.AttnInDwIdeal.main_arg0) = m ((c.tc : Thread Cert.AttnInDwIdeal.nD Cert.AttnInDwIdeal.τ).loc Cert.AttnInDwIdeal.main_arg0)
          ∧ r.2.mem ((c.tc : Thread Cert.AttnInDwIdeal.nD Cert.AttnInDwIdeal.τ).loc Cert.AttnInDwIdeal.main_arg1) = m ((c.tc : Thread Cert.AttnInDwIdeal.nD Cert.AttnInDwIdeal.τ).loc Cert.AttnInDwIdeal.main_arg1))
      ∧ θ_run (Cert.AttnInDwRefIdeal.defs (F := Ideal)) (onTc (τ := Cert.AttnInDwRefIdeal.τ) (Cert.AttnInDwRefIdeal.main (F := Ideal))) ⟨m', fun _ => 0, g'⟩ (fun r => ∀ c : Dev Cert.AttnInDwRefIdeal.nD,
          r.2.mem ((c.tc : Thread Cert.AttnInDwRefIdeal.nD Cert.AttnInDwRefIdeal.τ).loc Cert.AttnInDwRefIdeal.main_v6) = v0 c
          ∧ r.2.mem ((c.tc : Thread Cert.AttnInDwRefIdeal.nD Cert.AttnInDwRefIdeal.τ).loc Cert.AttnInDwRefIdeal.main_arg0) = m' ((c.tc : Thread Cert.AttnInDwRefIdeal.nD Cert.AttnInDwRefIdeal.τ).loc Cert.AttnInDwRefIdeal.main_arg0)
          ∧ r.2.mem ((c.tc : Thread Cert.AttnInDwRefIdeal.nD Cert.AttnInDwRefIdeal.τ).loc Cert.AttnInDwRefIdeal.main_arg1) = m' ((c.tc : Thread Cert.AttnInDwRefIdeal.nD Cert.AttnInDwRefIdeal.τ).loc Cert.AttnInDwRefIdeal.main_arg1))

def preserves_LruInDx_LruInDxIdeal : Prop :=
  True

def algebraic_LruInDxIdeal_LruInDxRefIdeal [hLruInDxIdeal : Cert.LruInDxIdeal.Facts] [hLruInDxRefIdeal : Cert.LruInDxRefIdeal.Facts] : Prop :=
  ∀ (m : (ℓ : Loc Cert.LruInDxIdeal.nD Cert.LruInDxIdeal.τ Cert.LruInDxIdeal.sig) → Buf (Elt Ideal) ℓ) (g : Dev Cert.LruInDxIdeal.nD → PrngReg)
    (m' : (ℓ : Loc Cert.LruInDxRefIdeal.nD Cert.LruInDxRefIdeal.τ Cert.LruInDxRefIdeal.sig) → Buf (Elt Ideal) ℓ) (g' : Dev Cert.LruInDxRefIdeal.nD → PrngReg), Pre_LruInDxIdeal m →
    (∀ c : Dev Cert.LruInDxIdeal.nD,
      m' ((c.tc : Thread Cert.LruInDxRefIdeal.nD Cert.LruInDxRefIdeal.τ).loc Cert.LruInDxRefIdeal.main_arg0) = m ((c.tc : Thread Cert.LruInDxIdeal.nD Cert.LruInDxIdeal.τ).loc Cert.LruInDxIdeal.main_arg0)
      ∧ m' ((c.tc : Thread Cert.LruInDxRefIdeal.nD Cert.LruInDxRefIdeal.τ).loc Cert.LruInDxRefIdeal.main_arg1) = m ((c.tc : Thread Cert.LruInDxIdeal.nD Cert.LruInDxIdeal.τ).loc Cert.LruInDxIdeal.main_arg1)) →
    ∃ (v0 : (c : Dev Cert.LruInDxIdeal.nD) → Buf (Elt Ideal) ((c.tc : Thread Cert.LruInDxIdeal.nD Cert.LruInDxIdeal.τ).loc Cert.LruInDxIdeal.main_v0)),
      θ_run (Cert.LruInDxIdeal.defs (F := Ideal)) (onTc (τ := Cert.LruInDxIdeal.τ) (Cert.LruInDxIdeal.main (F := Ideal))) ⟨m, fun _ => 0, g⟩ (fun r => ∀ c : Dev Cert.LruInDxIdeal.nD,
          r.2.mem ((c.tc : Thread Cert.LruInDxIdeal.nD Cert.LruInDxIdeal.τ).loc Cert.LruInDxIdeal.main_v0) = v0 c
          ∧ r.2.mem ((c.tc : Thread Cert.LruInDxIdeal.nD Cert.LruInDxIdeal.τ).loc Cert.LruInDxIdeal.main_arg0) = m ((c.tc : Thread Cert.LruInDxIdeal.nD Cert.LruInDxIdeal.τ).loc Cert.LruInDxIdeal.main_arg0)
          ∧ r.2.mem ((c.tc : Thread Cert.LruInDxIdeal.nD Cert.LruInDxIdeal.τ).loc Cert.LruInDxIdeal.main_arg1) = m ((c.tc : Thread Cert.LruInDxIdeal.nD Cert.LruInDxIdeal.τ).loc Cert.LruInDxIdeal.main_arg1))
      ∧ θ_run (Cert.LruInDxRefIdeal.defs (F := Ideal)) (onTc (τ := Cert.LruInDxRefIdeal.τ) (Cert.LruInDxRefIdeal.main (F := Ideal))) ⟨m', fun _ => 0, g'⟩ (fun r => ∀ c : Dev Cert.LruInDxRefIdeal.nD,
          r.2.mem ((c.tc : Thread Cert.LruInDxRefIdeal.nD Cert.LruInDxRefIdeal.τ).loc Cert.LruInDxRefIdeal.main_v4) = v0 c
          ∧ r.2.mem ((c.tc : Thread Cert.LruInDxRefIdeal.nD Cert.LruInDxRefIdeal.τ).loc Cert.LruInDxRefIdeal.main_arg0) = m' ((c.tc : Thread Cert.LruInDxRefIdeal.nD Cert.LruInDxRefIdeal.τ).loc Cert.LruInDxRefIdeal.main_arg0)
          ∧ r.2.mem ((c.tc : Thread Cert.LruInDxRefIdeal.nD Cert.LruInDxRefIdeal.τ).loc Cert.LruInDxRefIdeal.main_arg1) = m' ((c.tc : Thread Cert.LruInDxRefIdeal.nD Cert.LruInDxRefIdeal.τ).loc Cert.LruInDxRefIdeal.main_arg1))

def preserves_LruInDw_LruInDwIdeal : Prop :=
  True

def algebraic_LruInDwIdeal_LruInDwRefIdeal [hLruInDwIdeal : Cert.LruInDwIdeal.Facts] [hLruInDwRefIdeal : Cert.LruInDwRefIdeal.Facts] : Prop :=
  ∀ (m : (ℓ : Loc Cert.LruInDwIdeal.nD Cert.LruInDwIdeal.τ Cert.LruInDwIdeal.sig) → Buf (Elt Ideal) ℓ) (g : Dev Cert.LruInDwIdeal.nD → PrngReg)
    (m' : (ℓ : Loc Cert.LruInDwRefIdeal.nD Cert.LruInDwRefIdeal.τ Cert.LruInDwRefIdeal.sig) → Buf (Elt Ideal) ℓ) (g' : Dev Cert.LruInDwRefIdeal.nD → PrngReg), Pre_LruInDwIdeal m →
    (∀ c : Dev Cert.LruInDwIdeal.nD,
      m' ((c.tc : Thread Cert.LruInDwRefIdeal.nD Cert.LruInDwRefIdeal.τ).loc Cert.LruInDwRefIdeal.main_arg0) = m ((c.tc : Thread Cert.LruInDwIdeal.nD Cert.LruInDwIdeal.τ).loc Cert.LruInDwIdeal.main_arg0)
      ∧ m' ((c.tc : Thread Cert.LruInDwRefIdeal.nD Cert.LruInDwRefIdeal.τ).loc Cert.LruInDwRefIdeal.main_arg1) = m ((c.tc : Thread Cert.LruInDwIdeal.nD Cert.LruInDwIdeal.τ).loc Cert.LruInDwIdeal.main_arg1)) →
    ∃ (v0 : (c : Dev Cert.LruInDwIdeal.nD) → Buf (Elt Ideal) ((c.tc : Thread Cert.LruInDwIdeal.nD Cert.LruInDwIdeal.τ).loc Cert.LruInDwIdeal.main_v0)),
      θ_run (Cert.LruInDwIdeal.defs (F := Ideal)) (onTc (τ := Cert.LruInDwIdeal.τ) (Cert.LruInDwIdeal.main (F := Ideal))) ⟨m, fun _ => 0, g⟩ (fun r => ∀ c : Dev Cert.LruInDwIdeal.nD,
          r.2.mem ((c.tc : Thread Cert.LruInDwIdeal.nD Cert.LruInDwIdeal.τ).loc Cert.LruInDwIdeal.main_v0) = v0 c
          ∧ r.2.mem ((c.tc : Thread Cert.LruInDwIdeal.nD Cert.LruInDwIdeal.τ).loc Cert.LruInDwIdeal.main_arg0) = m ((c.tc : Thread Cert.LruInDwIdeal.nD Cert.LruInDwIdeal.τ).loc Cert.LruInDwIdeal.main_arg0)
          ∧ r.2.mem ((c.tc : Thread Cert.LruInDwIdeal.nD Cert.LruInDwIdeal.τ).loc Cert.LruInDwIdeal.main_arg1) = m ((c.tc : Thread Cert.LruInDwIdeal.nD Cert.LruInDwIdeal.τ).loc Cert.LruInDwIdeal.main_arg1))
      ∧ θ_run (Cert.LruInDwRefIdeal.defs (F := Ideal)) (onTc (τ := Cert.LruInDwRefIdeal.τ) (Cert.LruInDwRefIdeal.main (F := Ideal))) ⟨m', fun _ => 0, g'⟩ (fun r => ∀ c : Dev Cert.LruInDwRefIdeal.nD,
          r.2.mem ((c.tc : Thread Cert.LruInDwRefIdeal.nD Cert.LruInDwRefIdeal.τ).loc Cert.LruInDwRefIdeal.main_v8) = v0 c
          ∧ r.2.mem ((c.tc : Thread Cert.LruInDwRefIdeal.nD Cert.LruInDwRefIdeal.τ).loc Cert.LruInDwRefIdeal.main_arg0) = m' ((c.tc : Thread Cert.LruInDwRefIdeal.nD Cert.LruInDwRefIdeal.τ).loc Cert.LruInDwRefIdeal.main_arg0)
          ∧ r.2.mem ((c.tc : Thread Cert.LruInDwRefIdeal.nD Cert.LruInDwRefIdeal.τ).loc Cert.LruInDwRefIdeal.main_arg1) = m' ((c.tc : Thread Cert.LruInDwRefIdeal.nD Cert.LruInDwRefIdeal.τ).loc Cert.LruInDwRefIdeal.main_arg1))

def preserves_AdamIn_AdamInIdeal : Prop :=
  IdealRules.named_const.Statement Cert.AdamInIdeal.κ "c1" .f32 0x3FC48605#32 (((5463681 / 8388608)⁻¹ : ℝ) : EReal)
  ∧ IdealRules.named_const.Statement Cert.AdamInIdeal.κ "c2" .f32 0x42C8E6D3#32 (((2672307 / 268435456)⁻¹ : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  IdealRules.named_const.Statement Cert.AdamOutIdeal.κ "c1" .f32 0x3FC48605#32 (((5463681 / 8388608)⁻¹ : ℝ) : EReal)
  ∧ IdealRules.named_const.Statement Cert.AdamOutIdeal.κ "c2" .f32 0x42C8E6D3#32 (((2672307 / 268435456)⁻¹ : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamLruIn_AdamLruInIdeal : Prop :=
  IdealRules.named_const.Statement Cert.AdamLruInIdeal.κ "c1" .f32 0x3FC48605#32 (((5463681 / 8388608)⁻¹ : ℝ) : EReal)
  ∧ IdealRules.named_const.Statement Cert.AdamLruInIdeal.κ "c2" .f32 0x42C8E6D3#32 (((2672307 / 268435456)⁻¹ : ℝ) : EReal)

def algebraic_AdamLruInIdeal_AdamLruInRefIdeal [hAdamLruInIdeal : Cert.AdamLruInIdeal.Facts] [hAdamLruInRefIdeal : Cert.AdamLruInRefIdeal.Facts] : Prop :=
  ∀ (m : (ℓ : Loc Cert.AdamLruInIdeal.nD Cert.AdamLruInIdeal.τ Cert.AdamLruInIdeal.sig) → Buf (Elt Ideal) ℓ) (g : Dev Cert.AdamLruInIdeal.nD → PrngReg)
    (m' : (ℓ : Loc Cert.AdamLruInRefIdeal.nD Cert.AdamLruInRefIdeal.τ Cert.AdamLruInRefIdeal.sig) → Buf (Elt Ideal) ℓ) (g' : Dev Cert.AdamLruInRefIdeal.nD → PrngReg), Pre_AdamLruInIdeal m →
    (∀ c : Dev Cert.AdamLruInIdeal.nD,
      m' ((c.tc : Thread Cert.AdamLruInRefIdeal.nD Cert.AdamLruInRefIdeal.τ).loc Cert.AdamLruInRefIdeal.main_arg0) = m ((c.tc : Thread Cert.AdamLruInIdeal.nD Cert.AdamLruInIdeal.τ).loc Cert.AdamLruInIdeal.main_arg0)
      ∧ m' ((c.tc : Thread Cert.AdamLruInRefIdeal.nD Cert.AdamLruInRefIdeal.τ).loc Cert.AdamLruInRefIdeal.main_arg1) = m ((c.tc : Thread Cert.AdamLruInIdeal.nD Cert.AdamLruInIdeal.τ).loc Cert.AdamLruInIdeal.main_arg1)
      ∧ m' ((c.tc : Thread Cert.AdamLruInRefIdeal.nD Cert.AdamLruInRefIdeal.τ).loc Cert.AdamLruInRefIdeal.main_arg2) = m ((c.tc : Thread Cert.AdamLruInIdeal.nD Cert.AdamLruInIdeal.τ).loc Cert.AdamLruInIdeal.main_arg2)
      ∧ m' ((c.tc : Thread Cert.AdamLruInRefIdeal.nD Cert.AdamLruInRefIdeal.τ).loc Cert.AdamLruInRefIdeal.main_arg3) = m ((c.tc : Thread Cert.AdamLruInIdeal.nD Cert.AdamLruInIdeal.τ).loc Cert.AdamLruInIdeal.main_arg3)
      ∧ m' ((c.tc : Thread Cert.AdamLruInRefIdeal.nD Cert.AdamLruInRefIdeal.τ).loc Cert.AdamLruInRefIdeal.main_arg4) = m ((c.tc : Thread Cert.AdamLruInIdeal.nD Cert.AdamLruInIdeal.τ).loc Cert.AdamLruInIdeal.main_arg4)) →
    ∃ (v0 : (c : Dev Cert.AdamLruInIdeal.nD) → Buf (Elt Ideal) ((c.tc : Thread Cert.AdamLruInIdeal.nD Cert.AdamLruInIdeal.τ).loc Cert.AdamLruInIdeal.main_v0_0)) (v1 : (c : Dev Cert.AdamLruInIdeal.nD) → Buf (Elt Ideal) ((c.tc : Thread Cert.AdamLruInIdeal.nD Cert.AdamLruInIdeal.τ).loc Cert.AdamLruInIdeal.main_v0_1)) (v2 : (c : Dev Cert.AdamLruInIdeal.nD) → Buf (Elt Ideal) ((c.tc : Thread Cert.AdamLruInIdeal.nD Cert.AdamLruInIdeal.τ).loc Cert.AdamLruInIdeal.main_v0_2)) (v3 : (c : Dev Cert.AdamLruInIdeal.nD) → Buf (Elt Ideal) ((c.tc : Thread Cert.AdamLruInIdeal.nD Cert.AdamLruInIdeal.τ).loc Cert.AdamLruInIdeal.main_v0_3)),
      θ_run (Cert.AdamLruInIdeal.defs (F := Ideal)) (onTc (τ := Cert.AdamLruInIdeal.τ) (Cert.AdamLruInIdeal.main (F := Ideal))) ⟨m, fun _ => 0, g⟩ (fun r => ∀ c : Dev Cert.AdamLruInIdeal.nD,
          r.2.mem ((c.tc : Thread Cert.AdamLruInIdeal.nD Cert.AdamLruInIdeal.τ).loc Cert.AdamLruInIdeal.main_v0_0) = v0 c
          ∧ r.2.mem ((c.tc : Thread Cert.AdamLruInIdeal.nD Cert.AdamLruInIdeal.τ).loc Cert.AdamLruInIdeal.main_v0_1) = v1 c
          ∧ r.2.mem ((c.tc : Thread Cert.AdamLruInIdeal.nD Cert.AdamLruInIdeal.τ).loc Cert.AdamLruInIdeal.main_v0_2) = v2 c
          ∧ r.2.mem ((c.tc : Thread Cert.AdamLruInIdeal.nD Cert.AdamLruInIdeal.τ).loc Cert.AdamLruInIdeal.main_v0_3) = v3 c
          ∧ r.2.mem ((c.tc : Thread Cert.AdamLruInIdeal.nD Cert.AdamLruInIdeal.τ).loc Cert.AdamLruInIdeal.main_arg0) = m ((c.tc : Thread Cert.AdamLruInIdeal.nD Cert.AdamLruInIdeal.τ).loc Cert.AdamLruInIdeal.main_arg0)
          ∧ r.2.mem ((c.tc : Thread Cert.AdamLruInIdeal.nD Cert.AdamLruInIdeal.τ).loc Cert.AdamLruInIdeal.main_arg1) = m ((c.tc : Thread Cert.AdamLruInIdeal.nD Cert.AdamLruInIdeal.τ).loc Cert.AdamLruInIdeal.main_arg1)
          ∧ r.2.mem ((c.tc : Thread Cert.AdamLruInIdeal.nD Cert.AdamLruInIdeal.τ).loc Cert.AdamLruInIdeal.main_arg2) = m ((c.tc : Thread Cert.AdamLruInIdeal.nD Cert.AdamLruInIdeal.τ).loc Cert.AdamLruInIdeal.main_arg2)
          ∧ r.2.mem ((c.tc : Thread Cert.AdamLruInIdeal.nD Cert.AdamLruInIdeal.τ).loc Cert.AdamLruInIdeal.main_arg3) = m ((c.tc : Thread Cert.AdamLruInIdeal.nD Cert.AdamLruInIdeal.τ).loc Cert.AdamLruInIdeal.main_arg3)
          ∧ r.2.mem ((c.tc : Thread Cert.AdamLruInIdeal.nD Cert.AdamLruInIdeal.τ).loc Cert.AdamLruInIdeal.main_arg4) = m ((c.tc : Thread Cert.AdamLruInIdeal.nD Cert.AdamLruInIdeal.τ).loc Cert.AdamLruInIdeal.main_arg4))
      ∧ θ_run (Cert.AdamLruInRefIdeal.defs (F := Ideal)) (onTc (τ := Cert.AdamLruInRefIdeal.τ) (Cert.AdamLruInRefIdeal.main (F := Ideal))) ⟨m', fun _ => 0, g'⟩ (fun r => ∀ c : Dev Cert.AdamLruInRefIdeal.nD,
          r.2.mem ((c.tc : Thread Cert.AdamLruInRefIdeal.nD Cert.AdamLruInRefIdeal.τ).loc Cert.AdamLruInRefIdeal.main_v6) = v0 c
          ∧ r.2.mem ((c.tc : Thread Cert.AdamLruInRefIdeal.nD Cert.AdamLruInRefIdeal.τ).loc Cert.AdamLruInRefIdeal.main_v30) = v1 c
          ∧ r.2.mem ((c.tc : Thread Cert.AdamLruInRefIdeal.nD Cert.AdamLruInRefIdeal.τ).loc Cert.AdamLruInRefIdeal.main_v11) = v2 c
          ∧ r.2.mem ((c.tc : Thread Cert.AdamLruInRefIdeal.nD Cert.AdamLruInRefIdeal.τ).loc Cert.AdamLruInRefIdeal.main_v17) = v3 c
          ∧ r.2.mem ((c.tc : Thread Cert.AdamLruInRefIdeal.nD Cert.AdamLruInRefIdeal.τ).loc Cert.AdamLruInRefIdeal.main_arg0) = m' ((c.tc : Thread Cert.AdamLruInRefIdeal.nD Cert.AdamLruInRefIdeal.τ).loc Cert.AdamLruInRefIdeal.main_arg0)
          ∧ r.2.mem ((c.tc : Thread Cert.AdamLruInRefIdeal.nD Cert.AdamLruInRefIdeal.τ).loc Cert.AdamLruInRefIdeal.main_arg1) = m' ((c.tc : Thread Cert.AdamLruInRefIdeal.nD Cert.AdamLruInRefIdeal.τ).loc Cert.AdamLruInRefIdeal.main_arg1)
          ∧ r.2.mem ((c.tc : Thread Cert.AdamLruInRefIdeal.nD Cert.AdamLruInRefIdeal.τ).loc Cert.AdamLruInRefIdeal.main_arg2) = m' ((c.tc : Thread Cert.AdamLruInRefIdeal.nD Cert.AdamLruInRefIdeal.τ).loc Cert.AdamLruInRefIdeal.main_arg2)
          ∧ r.2.mem ((c.tc : Thread Cert.AdamLruInRefIdeal.nD Cert.AdamLruInRefIdeal.τ).loc Cert.AdamLruInRefIdeal.main_arg3) = m' ((c.tc : Thread Cert.AdamLruInRefIdeal.nD Cert.AdamLruInRefIdeal.τ).loc Cert.AdamLruInRefIdeal.main_arg3)
          ∧ r.2.mem ((c.tc : Thread Cert.AdamLruInRefIdeal.nD Cert.AdamLruInRefIdeal.τ).loc Cert.AdamLruInRefIdeal.main_arg4) = m' ((c.tc : Thread Cert.AdamLruInRefIdeal.nD Cert.AdamLruInRefIdeal.τ).loc Cert.AdamLruInRefIdeal.main_arg4))

def preserves_AdamGate_AdamGateIdeal : Prop :=
  IdealRules.named_const.Statement Cert.AdamGateIdeal.κ "c1" .f32 0x3FC48605#32 (((5463681 / 8388608)⁻¹ : ℝ) : EReal)
  ∧ IdealRules.named_const.Statement Cert.AdamGateIdeal.κ "c2" .f32 0x42C8E6D3#32 (((2672307 / 268435456)⁻¹ : ℝ) : EReal)

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)
      ∧ m' ((c.tc : Thread Cert.AdamGateRefIdeal.nD Cert.AdamGateRefIdeal.τ).loc Cert.AdamGateRefIdeal.main_arg4) = m ((c.tc : Thread Cert.AdamGateIdeal.nD Cert.AdamGateIdeal.τ).loc Cert.AdamGateIdeal.main_arg4)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
          ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v4) = v0 c
          ∧ r.2.mem ((c.tc : Thread Cert.AdamGateRefIdeal.nD Cert.AdamGateRefIdeal.τ).loc Cert.AdamGateRefIdeal.main_v28) = v1 c
          ∧ r.2.mem ((c.tc : Thread Cert.AdamGateRefIdeal.nD Cert.AdamGateRefIdeal.τ).loc Cert.AdamGateRefIdeal.main_v9) = v2 c
          ∧ r.2.mem ((c.tc : Thread Cert.AdamGateRefIdeal.nD Cert.AdamGateRefIdeal.τ).loc Cert.AdamGateRefIdeal.main_v15) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3)
          ∧ r.2.mem ((c.tc : Thread Cert.AdamGateRefIdeal.nD Cert.AdamGateRefIdeal.τ).loc Cert.AdamGateRefIdeal.main_arg4) = m' ((c.tc : Thread Cert.AdamGateRefIdeal.nD Cert.AdamGateRefIdeal.τ).loc Cert.AdamGateRefIdeal.main_arg4))

def preserves_AdamSmall_AdamSmallIdeal : Prop :=
  IdealRules.named_const.Statement Cert.AdamSmallIdeal.κ "c1" .f32 0x3FC48605#32 (((5463681 / 8388608)⁻¹ : ℝ) : EReal)
  ∧ IdealRules.named_const.Statement Cert.AdamSmallIdeal.κ "c2" .f32 0x42C8E6D3#32 (((2672307 / 268435456)⁻¹ : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v1) = v0 c
          ∧ r.2.mem ((c.tc : Thread Cert.AdamSmallRefIdeal.nD Cert.AdamSmallRefIdeal.τ).loc Cert.AdamSmallRefIdeal.main_v25) = v1 c
          ∧ r.2.mem ((c.tc : Thread Cert.AdamSmallRefIdeal.nD Cert.AdamSmallRefIdeal.τ).loc Cert.AdamSmallRefIdeal.main_v6) = v2 c
          ∧ r.2.mem ((c.tc : Thread Cert.AdamSmallRefIdeal.nD Cert.AdamSmallRefIdeal.τ).loc Cert.AdamSmallRefIdeal.main_v12) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_PreFwd_PreFwdIdeal : Prop :=
  True

def algebraic_PreFwdIdeal_PreFwdRefIdeal [hPreFwdIdeal : Cert.PreFwdIdeal.Facts] [hPreFwdRefIdeal : Cert.PreFwdRefIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg)
    (m' : (ℓ : Loc Cert.PreFwdRefIdeal.nD Cert.PreFwdRefIdeal.τ Cert.PreFwdRefIdeal.sig) → Buf (Elt Ideal) ℓ) (g' : Dev Cert.PreFwdRefIdeal.nD → PrngReg), Pre_PreFwdIdeal m →
    (∀ c : Dev Cert.PreFwdIdeal.nD,
      m' ((c.tc : Thread Cert.PreFwdRefIdeal.nD Cert.PreFwdRefIdeal.τ).loc Cert.PreFwdRefIdeal.main_arg0) = m ((c.tc : Thread Cert.PreFwdIdeal.nD Cert.PreFwdIdeal.τ).loc Cert.PreFwdIdeal.main_arg0)
      ∧ m' ((c.tc : Thread Cert.PreFwdRefIdeal.nD Cert.PreFwdRefIdeal.τ).loc Cert.PreFwdRefIdeal.main_arg1) = m ((c.tc : Thread Cert.PreFwdIdeal.nD Cert.PreFwdIdeal.τ).loc Cert.PreFwdIdeal.main_arg1)) →
    ∃ (v0 : (c : Dev Cert.PreFwdIdeal.nD) → Buf (Elt Ideal) ((c.tc : Thread Cert.PreFwdIdeal.nD Cert.PreFwdIdeal.τ).loc Cert.PreFwdIdeal.main_v0)),
      θ_run (Cert.PreFwdIdeal.defs (F := Ideal)) (onTc (τ := Cert.PreFwdIdeal.τ) (Cert.PreFwdIdeal.main (F := Ideal))) ⟨m, fun _ => 0, g⟩ (fun r => ∀ c : Dev Cert.PreFwdIdeal.nD,
          r.2.mem ((c.tc : Thread Cert.PreFwdIdeal.nD Cert.PreFwdIdeal.τ).loc Cert.PreFwdIdeal.main_v0) = v0 c
          ∧ r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
          ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1))
      ∧ θ_run (Cert.PreFwdRefIdeal.defs (F := Ideal)) (onTc (τ := Cert.PreFwdRefIdeal.τ) (Cert.PreFwdRefIdeal.main (F := Ideal))) ⟨m', fun _ => 0, g'⟩ (fun r => ∀ c : Dev Cert.PreFwdRefIdeal.nD,
          r.2.mem ((c.tc : Thread Cert.PreFwdRefIdeal.nD Cert.PreFwdRefIdeal.τ).loc Cert.PreFwdRefIdeal.main_v14) = v0 c
          ∧ r.2.mem ((c.tc : Thread Cert.PreFwdRefIdeal.nD Cert.PreFwdRefIdeal.τ).loc Cert.PreFwdRefIdeal.main_arg0) = m' ((c.tc : Thread Cert.PreFwdRefIdeal.nD Cert.PreFwdRefIdeal.τ).loc Cert.PreFwdRefIdeal.main_arg0)
          ∧ r.2.mem ((c.tc : Thread Cert.PreFwdRefIdeal.nD Cert.PreFwdRefIdeal.τ).loc Cert.PreFwdRefIdeal.main_arg1) = m' ((c.tc : Thread Cert.PreFwdRefIdeal.nD Cert.PreFwdRefIdeal.τ).loc Cert.PreFwdRefIdeal.main_arg1))

def preserves_PostFwd_PostFwdIdeal : Prop :=
  True

def algebraic_PostFwdIdeal_PostFwdRefIdeal [hPostFwdIdeal : Cert.PostFwdIdeal.Facts] [hPostFwdRefIdeal : Cert.PostFwdRefIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg)
    (m' : (ℓ : Loc Cert.PostFwdRefIdeal.nD Cert.PostFwdRefIdeal.τ Cert.PostFwdRefIdeal.sig) → Buf (Elt Ideal) ℓ) (g' : Dev Cert.PostFwdRefIdeal.nD → PrngReg), Pre_PostFwdIdeal m →
    (∀ c : Dev Cert.PostFwdIdeal.nD,
      m' ((c.tc : Thread Cert.PostFwdRefIdeal.nD Cert.PostFwdRefIdeal.τ).loc Cert.PostFwdRefIdeal.main_arg0) = m ((c.tc : Thread Cert.PostFwdIdeal.nD Cert.PostFwdIdeal.τ).loc Cert.PostFwdIdeal.main_arg0)
      ∧ m' ((c.tc : Thread Cert.PostFwdRefIdeal.nD Cert.PostFwdRefIdeal.τ).loc Cert.PostFwdRefIdeal.main_arg1) = m ((c.tc : Thread Cert.PostFwdIdeal.nD Cert.PostFwdIdeal.τ).loc Cert.PostFwdIdeal.main_arg1)
      ∧ m' ((c.tc : Thread Cert.PostFwdRefIdeal.nD Cert.PostFwdRefIdeal.τ).loc Cert.PostFwdRefIdeal.main_arg2) = m ((c.tc : Thread Cert.PostFwdIdeal.nD Cert.PostFwdIdeal.τ).loc Cert.PostFwdIdeal.main_arg2)
      ∧ m' ((c.tc : Thread Cert.PostFwdRefIdeal.nD Cert.PostFwdRefIdeal.τ).loc Cert.PostFwdRefIdeal.main_arg3) = m ((c.tc : Thread Cert.PostFwdIdeal.nD Cert.PostFwdIdeal.τ).loc Cert.PostFwdIdeal.main_arg3)) →
    ∃ (v0 : (c : Dev Cert.PostFwdIdeal.nD) → Buf (Elt Ideal) ((c.tc : Thread Cert.PostFwdIdeal.nD Cert.PostFwdIdeal.τ).loc Cert.PostFwdIdeal.main_v0_0)) (v1 : (c : Dev Cert.PostFwdIdeal.nD) → Buf (Elt Ideal) ((c.tc : Thread Cert.PostFwdIdeal.nD Cert.PostFwdIdeal.τ).loc Cert.PostFwdIdeal.main_v0_1)),
      θ_run (Cert.PostFwdIdeal.defs (F := Ideal)) (onTc (τ := Cert.PostFwdIdeal.τ) (Cert.PostFwdIdeal.main (F := Ideal))) ⟨m, fun _ => 0, g⟩ (fun r => ∀ c : Dev Cert.PostFwdIdeal.nD,
          r.2.mem ((c.tc : Thread Cert.PostFwdIdeal.nD Cert.PostFwdIdeal.τ).loc Cert.PostFwdIdeal.main_v0_0) = v0 c
          ∧ r.2.mem ((c.tc : Thread Cert.PostFwdIdeal.nD Cert.PostFwdIdeal.τ).loc Cert.PostFwdIdeal.main_v0_1) = v1 c
          ∧ r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
          ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
          ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
          ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3))
      ∧ θ_run (Cert.PostFwdRefIdeal.defs (F := Ideal)) (onTc (τ := Cert.PostFwdRefIdeal.τ) (Cert.PostFwdRefIdeal.main (F := Ideal))) ⟨m', fun _ => 0, g'⟩ (fun r => ∀ c : Dev Cert.PostFwdRefIdeal.nD,
          r.2.mem ((c.tc : Thread Cert.PostFwdRefIdeal.nD Cert.PostFwdRefIdeal.τ).loc Cert.PostFwdRefIdeal.main_v14) = v0 c
          ∧ r.2.mem ((c.tc : Thread Cert.PostFwdRefIdeal.nD Cert.PostFwdRefIdeal.τ).loc Cert.PostFwdRefIdeal.main_v29) = v1 c
          ∧ r.2.mem ((c.tc : Thread Cert.PostFwdRefIdeal.nD Cert.PostFwdRefIdeal.τ).loc Cert.PostFwdRefIdeal.main_arg0) = m' ((c.tc : Thread Cert.PostFwdRefIdeal.nD Cert.PostFwdRefIdeal.τ).loc Cert.PostFwdRefIdeal.main_arg0)
          ∧ r.2.mem ((c.tc : Thread Cert.PostFwdRefIdeal.nD Cert.PostFwdRefIdeal.τ).loc Cert.PostFwdRefIdeal.main_arg1) = m' ((c.tc : Thread Cert.PostFwdRefIdeal.nD Cert.PostFwdRefIdeal.τ).loc Cert.PostFwdRefIdeal.main_arg1)
          ∧ r.2.mem ((c.tc : Thread Cert.PostFwdRefIdeal.nD Cert.PostFwdRefIdeal.τ).loc Cert.PostFwdRefIdeal.main_arg2) = m' ((c.tc : Thread Cert.PostFwdRefIdeal.nD Cert.PostFwdRefIdeal.τ).loc Cert.PostFwdRefIdeal.main_arg2)
          ∧ r.2.mem ((c.tc : Thread Cert.PostFwdRefIdeal.nD Cert.PostFwdRefIdeal.τ).loc Cert.PostFwdRefIdeal.main_arg3) = m' ((c.tc : Thread Cert.PostFwdRefIdeal.nD Cert.PostFwdRefIdeal.τ).loc Cert.PostFwdRefIdeal.main_arg3))

def preserves_PostLoss_PostLossIdeal : Prop :=
  True

def algebraic_PostLossIdeal_PostLossRefIdeal [hPostLossIdeal : Cert.PostLossIdeal.Facts] [hPostLossRefIdeal : Cert.PostLossRefIdeal.Facts] : Prop :=
  ∀ (m : (ℓ : Loc Cert.PostLossIdeal.nD Cert.PostLossIdeal.τ Cert.PostLossIdeal.sig) → Buf (Elt Ideal) ℓ) (g : Dev Cert.PostLossIdeal.nD → PrngReg)
    (m' : (ℓ : Loc Cert.PostLossRefIdeal.nD Cert.PostLossRefIdeal.τ Cert.PostLossRefIdeal.sig) → Buf (Elt Ideal) ℓ) (g' : Dev Cert.PostLossRefIdeal.nD → PrngReg), Pre_PostLossIdeal m →
    (∀ c : Dev Cert.PostLossIdeal.nD,
      m' ((c.tc : Thread Cert.PostLossRefIdeal.nD Cert.PostLossRefIdeal.τ).loc Cert.PostLossRefIdeal.main_arg0) = m ((c.tc : Thread Cert.PostLossIdeal.nD Cert.PostLossIdeal.τ).loc Cert.PostLossIdeal.main_arg0)
      ∧ m' ((c.tc : Thread Cert.PostLossRefIdeal.nD Cert.PostLossRefIdeal.τ).loc Cert.PostLossRefIdeal.main_arg1) = m ((c.tc : Thread Cert.PostLossIdeal.nD Cert.PostLossIdeal.τ).loc Cert.PostLossIdeal.main_arg1)
      ∧ m' ((c.tc : Thread Cert.PostLossRefIdeal.nD Cert.PostLossRefIdeal.τ).loc Cert.PostLossRefIdeal.main_arg2) = m ((c.tc : Thread Cert.PostLossIdeal.nD Cert.PostLossIdeal.τ).loc Cert.PostLossIdeal.main_arg2)
      ∧ m' ((c.tc : Thread Cert.PostLossRefIdeal.nD Cert.PostLossRefIdeal.τ).loc Cert.PostLossRefIdeal.main_arg3) = m ((c.tc : Thread Cert.PostLossIdeal.nD Cert.PostLossIdeal.τ).loc Cert.PostLossIdeal.main_arg3)) →
    ∃ (v0 : (c : Dev Cert.PostLossIdeal.nD) → Buf (Elt Ideal) ((c.tc : Thread Cert.PostLossIdeal.nD Cert.PostLossIdeal.τ).loc Cert.PostLossIdeal.main_v0_0)) (v1 : (c : Dev Cert.PostLossIdeal.nD) → Buf (Elt Ideal) ((c.tc : Thread Cert.PostLossIdeal.nD Cert.PostLossIdeal.τ).loc Cert.PostLossIdeal.main_v0_1)),
      θ_run (Cert.PostLossIdeal.defs (F := Ideal)) (onTc (τ := Cert.PostLossIdeal.τ) (Cert.PostLossIdeal.main (F := Ideal))) ⟨m, fun _ => 0, g⟩ (fun r => ∀ c : Dev Cert.PostLossIdeal.nD,
          r.2.mem ((c.tc : Thread Cert.PostLossIdeal.nD Cert.PostLossIdeal.τ).loc Cert.PostLossIdeal.main_v0_0) = v0 c
          ∧ r.2.mem ((c.tc : Thread Cert.PostLossIdeal.nD Cert.PostLossIdeal.τ).loc Cert.PostLossIdeal.main_v0_1) = v1 c
          ∧ r.2.mem ((c.tc : Thread Cert.PostLossIdeal.nD Cert.PostLossIdeal.τ).loc Cert.PostLossIdeal.main_arg0) = m ((c.tc : Thread Cert.PostLossIdeal.nD Cert.PostLossIdeal.τ).loc Cert.PostLossIdeal.main_arg0)
          ∧ r.2.mem ((c.tc : Thread Cert.PostLossIdeal.nD Cert.PostLossIdeal.τ).loc Cert.PostLossIdeal.main_arg1) = m ((c.tc : Thread Cert.PostLossIdeal.nD Cert.PostLossIdeal.τ).loc Cert.PostLossIdeal.main_arg1)
          ∧ r.2.mem ((c.tc : Thread Cert.PostLossIdeal.nD Cert.PostLossIdeal.τ).loc Cert.PostLossIdeal.main_arg2) = m ((c.tc : Thread Cert.PostLossIdeal.nD Cert.PostLossIdeal.τ).loc Cert.PostLossIdeal.main_arg2)
          ∧ r.2.mem ((c.tc : Thread Cert.PostLossIdeal.nD Cert.PostLossIdeal.τ).loc Cert.PostLossIdeal.main_arg3) = m ((c.tc : Thread Cert.PostLossIdeal.nD Cert.PostLossIdeal.τ).loc Cert.PostLossIdeal.main_arg3))
      ∧ θ_run (Cert.PostLossRefIdeal.defs (F := Ideal)) (onTc (τ := Cert.PostLossRefIdeal.τ) (Cert.PostLossRefIdeal.main (F := Ideal))) ⟨m', fun _ => 0, g'⟩ (fun r => ∀ c : Dev Cert.PostLossRefIdeal.nD,
          r.2.mem ((c.tc : Thread Cert.PostLossRefIdeal.nD Cert.PostLossRefIdeal.τ).loc Cert.PostLossRefIdeal.main_v29) = v0 c
          ∧ r.2.mem ((c.tc : Thread Cert.PostLossRefIdeal.nD Cert.PostLossRefIdeal.τ).loc Cert.PostLossRefIdeal.main_v30) = v1 c
          ∧ r.2.mem ((c.tc : Thread Cert.PostLossRefIdeal.nD Cert.PostLossRefIdeal.τ).loc Cert.PostLossRefIdeal.main_arg0) = m' ((c.tc : Thread Cert.PostLossRefIdeal.nD Cert.PostLossRefIdeal.τ).loc Cert.PostLossRefIdeal.main_arg0)
          ∧ r.2.mem ((c.tc : Thread Cert.PostLossRefIdeal.nD Cert.PostLossRefIdeal.τ).loc Cert.PostLossRefIdeal.main_arg1) = m' ((c.tc : Thread Cert.PostLossRefIdeal.nD Cert.PostLossRefIdeal.τ).loc Cert.PostLossRefIdeal.main_arg1)
          ∧ r.2.mem ((c.tc : Thread Cert.PostLossRefIdeal.nD Cert.PostLossRefIdeal.τ).loc Cert.PostLossRefIdeal.main_arg2) = m' ((c.tc : Thread Cert.PostLossRefIdeal.nD Cert.PostLossRefIdeal.τ).loc Cert.PostLossRefIdeal.main_arg2)
          ∧ r.2.mem ((c.tc : Thread Cert.PostLossRefIdeal.nD Cert.PostLossRefIdeal.τ).loc Cert.PostLossRefIdeal.main_arg3) = m' ((c.tc : Thread Cert.PostLossRefIdeal.nD Cert.PostLossRefIdeal.τ).loc Cert.PostLossRefIdeal.main_arg3))

def preserves_PostBwd_PostBwdIdeal : Prop :=
  True

def algebraic_PostBwdIdeal_PostBwdRefIdeal [hPostBwdIdeal : Cert.PostBwdIdeal.Facts] [hPostBwdRefIdeal : Cert.PostBwdRefIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)) →
    ∃ (v0 : (c : Dev Cert.PostBwdIdeal.nD) → Buf (Elt Ideal) ((c.tc : Thread Cert.PostBwdIdeal.nD Cert.PostBwdIdeal.τ).loc Cert.PostBwdIdeal.main_v0_0)) (v1 : (c : Dev Cert.PostBwdIdeal.nD) → Buf (Elt Ideal) ((c.tc : Thread Cert.PostBwdIdeal.nD Cert.PostBwdIdeal.τ).loc Cert.PostBwdIdeal.main_v0_1)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v0_0) = v0 c
          ∧ r.2.mem ((c.tc : Thread Cert.PostBwdIdeal.nD Cert.PostBwdIdeal.τ).loc Cert.PostBwdIdeal.main_v0_1) = v1 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v38) = v0 c
          ∧ r.2.mem ((c.tc : Thread Cert.PostBwdRefIdeal.nD Cert.PostBwdRefIdeal.τ).loc Cert.PostBwdRefIdeal.main_v37) = v1 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2))

def preserves_PrePostBwd_PrePostBwdIdeal : Prop :=
  True

def algebraic_PrePostBwdIdeal_PrePostBwdRefIdeal [hPrePostBwdIdeal : Cert.PrePostBwdIdeal.Facts] [hPrePostBwdRefIdeal : Cert.PrePostBwdRefIdeal.Facts] : Prop :=
  ∀ (m : (ℓ : Loc Cert.PrePostBwdIdeal.nD Cert.PrePostBwdIdeal.τ Cert.PrePostBwdIdeal.sig) → Buf (Elt Ideal) ℓ) (g : Dev Cert.PrePostBwdIdeal.nD → PrngReg)
    (m' : (ℓ : Loc Cert.PrePostBwdRefIdeal.nD Cert.PrePostBwdRefIdeal.τ Cert.PrePostBwdRefIdeal.sig) → Buf (Elt Ideal) ℓ) (g' : Dev Cert.PrePostBwdRefIdeal.nD → PrngReg), Pre_PrePostBwdIdeal m →
    (∀ c : Dev Cert.PrePostBwdIdeal.nD,
      m' ((c.tc : Thread Cert.PrePostBwdRefIdeal.nD Cert.PrePostBwdRefIdeal.τ).loc Cert.PrePostBwdRefIdeal.main_arg0) = m ((c.tc : Thread Cert.PrePostBwdIdeal.nD Cert.PrePostBwdIdeal.τ).loc Cert.PrePostBwdIdeal.main_arg0)
      ∧ m' ((c.tc : Thread Cert.PrePostBwdRefIdeal.nD Cert.PrePostBwdRefIdeal.τ).loc Cert.PrePostBwdRefIdeal.main_arg1) = m ((c.tc : Thread Cert.PrePostBwdIdeal.nD Cert.PrePostBwdIdeal.τ).loc Cert.PrePostBwdIdeal.main_arg1)
      ∧ m' ((c.tc : Thread Cert.PrePostBwdRefIdeal.nD Cert.PrePostBwdRefIdeal.τ).loc Cert.PrePostBwdRefIdeal.main_arg2) = m ((c.tc : Thread Cert.PrePostBwdIdeal.nD Cert.PrePostBwdIdeal.τ).loc Cert.PrePostBwdIdeal.main_arg2)
      ∧ m' ((c.tc : Thread Cert.PrePostBwdRefIdeal.nD Cert.PrePostBwdRefIdeal.τ).loc Cert.PrePostBwdRefIdeal.main_arg3) = m ((c.tc : Thread Cert.PrePostBwdIdeal.nD Cert.PrePostBwdIdeal.τ).loc Cert.PrePostBwdIdeal.main_arg3)
      ∧ m' ((c.tc : Thread Cert.PrePostBwdRefIdeal.nD Cert.PrePostBwdRefIdeal.τ).loc Cert.PrePostBwdRefIdeal.main_arg4) = m ((c.tc : Thread Cert.PrePostBwdIdeal.nD Cert.PrePostBwdIdeal.τ).loc Cert.PrePostBwdIdeal.main_arg4)
      ∧ m' ((c.tc : Thread Cert.PrePostBwdRefIdeal.nD Cert.PrePostBwdRefIdeal.τ).loc Cert.PrePostBwdRefIdeal.main_arg5) = m ((c.tc : Thread Cert.PrePostBwdIdeal.nD Cert.PrePostBwdIdeal.τ).loc Cert.PrePostBwdIdeal.main_arg5)) →
    ∃ (v0 : (c : Dev Cert.PrePostBwdIdeal.nD) → Buf (Elt Ideal) ((c.tc : Thread Cert.PrePostBwdIdeal.nD Cert.PrePostBwdIdeal.τ).loc Cert.PrePostBwdIdeal.main_v0_0)) (v1 : (c : Dev Cert.PrePostBwdIdeal.nD) → Buf (Elt Ideal) ((c.tc : Thread Cert.PrePostBwdIdeal.nD Cert.PrePostBwdIdeal.τ).loc Cert.PrePostBwdIdeal.main_v0_1)) (v2 : (c : Dev Cert.PrePostBwdIdeal.nD) → Buf (Elt Ideal) ((c.tc : Thread Cert.PrePostBwdIdeal.nD Cert.PrePostBwdIdeal.τ).loc Cert.PrePostBwdIdeal.main_v0_2)) (v3 : (c : Dev Cert.PrePostBwdIdeal.nD) → Buf (Elt Ideal) ((c.tc : Thread Cert.PrePostBwdIdeal.nD Cert.PrePostBwdIdeal.τ).loc Cert.PrePostBwdIdeal.main_v0_3)),
      θ_run (Cert.PrePostBwdIdeal.defs (F := Ideal)) (onTc (τ := Cert.PrePostBwdIdeal.τ) (Cert.PrePostBwdIdeal.main (F := Ideal))) ⟨m, fun _ => 0, g⟩ (fun r => ∀ c : Dev Cert.PrePostBwdIdeal.nD,
          r.2.mem ((c.tc : Thread Cert.PrePostBwdIdeal.nD Cert.PrePostBwdIdeal.τ).loc Cert.PrePostBwdIdeal.main_v0_0) = v0 c
          ∧ r.2.mem ((c.tc : Thread Cert.PrePostBwdIdeal.nD Cert.PrePostBwdIdeal.τ).loc Cert.PrePostBwdIdeal.main_v0_1) = v1 c
          ∧ r.2.mem ((c.tc : Thread Cert.PrePostBwdIdeal.nD Cert.PrePostBwdIdeal.τ).loc Cert.PrePostBwdIdeal.main_v0_2) = v2 c
          ∧ r.2.mem ((c.tc : Thread Cert.PrePostBwdIdeal.nD Cert.PrePostBwdIdeal.τ).loc Cert.PrePostBwdIdeal.main_v0_3) = v3 c
          ∧ r.2.mem ((c.tc : Thread Cert.PrePostBwdIdeal.nD Cert.PrePostBwdIdeal.τ).loc Cert.PrePostBwdIdeal.main_arg0) = m ((c.tc : Thread Cert.PrePostBwdIdeal.nD Cert.PrePostBwdIdeal.τ).loc Cert.PrePostBwdIdeal.main_arg0)
          ∧ r.2.mem ((c.tc : Thread Cert.PrePostBwdIdeal.nD Cert.PrePostBwdIdeal.τ).loc Cert.PrePostBwdIdeal.main_arg1) = m ((c.tc : Thread Cert.PrePostBwdIdeal.nD Cert.PrePostBwdIdeal.τ).loc Cert.PrePostBwdIdeal.main_arg1)
          ∧ r.2.mem ((c.tc : Thread Cert.PrePostBwdIdeal.nD Cert.PrePostBwdIdeal.τ).loc Cert.PrePostBwdIdeal.main_arg2) = m ((c.tc : Thread Cert.PrePostBwdIdeal.nD Cert.PrePostBwdIdeal.τ).loc Cert.PrePostBwdIdeal.main_arg2)
          ∧ r.2.mem ((c.tc : Thread Cert.PrePostBwdIdeal.nD Cert.PrePostBwdIdeal.τ).loc Cert.PrePostBwdIdeal.main_arg3) = m ((c.tc : Thread Cert.PrePostBwdIdeal.nD Cert.PrePostBwdIdeal.τ).loc Cert.PrePostBwdIdeal.main_arg3)
          ∧ r.2.mem ((c.tc : Thread Cert.PrePostBwdIdeal.nD Cert.PrePostBwdIdeal.τ).loc Cert.PrePostBwdIdeal.main_arg4) = m ((c.tc : Thread Cert.PrePostBwdIdeal.nD Cert.PrePostBwdIdeal.τ).loc Cert.PrePostBwdIdeal.main_arg4)
          ∧ r.2.mem ((c.tc : Thread Cert.PrePostBwdIdeal.nD Cert.PrePostBwdIdeal.τ).loc Cert.PrePostBwdIdeal.main_arg5) = m ((c.tc : Thread Cert.PrePostBwdIdeal.nD Cert.PrePostBwdIdeal.τ).loc Cert.PrePostBwdIdeal.main_arg5))
      ∧ θ_run (Cert.PrePostBwdRefIdeal.defs (F := Ideal)) (onTc (τ := Cert.PrePostBwdRefIdeal.τ) (Cert.PrePostBwdRefIdeal.main (F := Ideal))) ⟨m', fun _ => 0, g'⟩ (fun r => ∀ c : Dev Cert.PrePostBwdRefIdeal.nD,
          r.2.mem ((c.tc : Thread Cert.PrePostBwdRefIdeal.nD Cert.PrePostBwdRefIdeal.τ).loc Cert.PrePostBwdRefIdeal.main_v37) = v0 c
          ∧ r.2.mem ((c.tc : Thread Cert.PrePostBwdRefIdeal.nD Cert.PrePostBwdRefIdeal.τ).loc Cert.PrePostBwdRefIdeal.main_v77) = v1 c
          ∧ r.2.mem ((c.tc : Thread Cert.PrePostBwdRefIdeal.nD Cert.PrePostBwdRefIdeal.τ).loc Cert.PrePostBwdRefIdeal.main_v38) = v2 c
          ∧ r.2.mem ((c.tc : Thread Cert.PrePostBwdRefIdeal.nD Cert.PrePostBwdRefIdeal.τ).loc Cert.PrePostBwdRefIdeal.main_v76) = v3 c
          ∧ r.2.mem ((c.tc : Thread Cert.PrePostBwdRefIdeal.nD Cert.PrePostBwdRefIdeal.τ).loc Cert.PrePostBwdRefIdeal.main_arg0) = m' ((c.tc : Thread Cert.PrePostBwdRefIdeal.nD Cert.PrePostBwdRefIdeal.τ).loc Cert.PrePostBwdRefIdeal.main_arg0)
          ∧ r.2.mem ((c.tc : Thread Cert.PrePostBwdRefIdeal.nD Cert.PrePostBwdRefIdeal.τ).loc Cert.PrePostBwdRefIdeal.main_arg1) = m' ((c.tc : Thread Cert.PrePostBwdRefIdeal.nD Cert.PrePostBwdRefIdeal.τ).loc Cert.PrePostBwdRefIdeal.main_arg1)
          ∧ r.2.mem ((c.tc : Thread Cert.PrePostBwdRefIdeal.nD Cert.PrePostBwdRefIdeal.τ).loc Cert.PrePostBwdRefIdeal.main_arg2) = m' ((c.tc : Thread Cert.PrePostBwdRefIdeal.nD Cert.PrePostBwdRefIdeal.τ).loc Cert.PrePostBwdRefIdeal.main_arg2)
          ∧ r.2.mem ((c.tc : Thread Cert.PrePostBwdRefIdeal.nD Cert.PrePostBwdRefIdeal.τ).loc Cert.PrePostBwdRefIdeal.main_arg3) = m' ((c.tc : Thread Cert.PrePostBwdRefIdeal.nD Cert.PrePostBwdRefIdeal.τ).loc Cert.PrePostBwdRefIdeal.main_arg3)
          ∧ r.2.mem ((c.tc : Thread Cert.PrePostBwdRefIdeal.nD Cert.PrePostBwdRefIdeal.τ).loc Cert.PrePostBwdRefIdeal.main_arg4) = m' ((c.tc : Thread Cert.PrePostBwdRefIdeal.nD Cert.PrePostBwdRefIdeal.τ).loc Cert.PrePostBwdRefIdeal.main_arg4)
          ∧ r.2.mem ((c.tc : Thread Cert.PrePostBwdRefIdeal.nD Cert.PrePostBwdRefIdeal.τ).loc Cert.PrePostBwdRefIdeal.main_arg5) = m' ((c.tc : Thread Cert.PrePostBwdRefIdeal.nD Cert.PrePostBwdRefIdeal.τ).loc Cert.PrePostBwdRefIdeal.main_arg5))

def preserves_PreBwd_PreBwdIdeal : Prop :=
  True

def algebraic_PreBwdIdeal_PreBwdRefIdeal [hPreBwdIdeal : Cert.PreBwdIdeal.Facts] [hPreBwdRefIdeal : Cert.PreBwdRefIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreBwdRefIdeal.nD Cert.PreBwdRefIdeal.τ Cert.PreBwdRefIdeal.sig) → Buf (Elt Ideal) ℓ) (g' : Dev Cert.PreBwdRefIdeal.nD → PrngReg), Pre_PreBwdIdeal m →
    (∀ c : Dev Cert.PreBwdIdeal.nD,
      m' ((c.tc : Thread Cert.PreBwdRefIdeal.nD Cert.PreBwdRefIdeal.τ).loc Cert.PreBwdRefIdeal.main_arg0) = m ((c.tc : Thread Cert.PreBwdIdeal.nD Cert.PreBwdIdeal.τ).loc Cert.PreBwdIdeal.main_arg0)
      ∧ m' ((c.tc : Thread Cert.PreBwdRefIdeal.nD Cert.PreBwdRefIdeal.τ).loc Cert.PreBwdRefIdeal.main_arg1) = m ((c.tc : Thread Cert.PreBwdIdeal.nD Cert.PreBwdIdeal.τ).loc Cert.PreBwdIdeal.main_arg1)
      ∧ m' ((c.tc : Thread Cert.PreBwdRefIdeal.nD Cert.PreBwdRefIdeal.τ).loc Cert.PreBwdRefIdeal.main_arg2) = m ((c.tc : Thread Cert.PreBwdIdeal.nD Cert.PreBwdIdeal.τ).loc Cert.PreBwdIdeal.main_arg2)
      ∧ m' ((c.tc : Thread Cert.PreBwdRefIdeal.nD Cert.PreBwdRefIdeal.τ).loc Cert.PreBwdRefIdeal.main_arg3) = m ((c.tc : Thread Cert.PreBwdIdeal.nD Cert.PreBwdIdeal.τ).loc Cert.PreBwdIdeal.main_arg3)) →
    ∃ (v0 : (c : Dev Cert.PreBwdIdeal.nD) → Buf (Elt Ideal) ((c.tc : Thread Cert.PreBwdIdeal.nD Cert.PreBwdIdeal.τ).loc Cert.PreBwdIdeal.main_v0_0)) (v1 : (c : Dev Cert.PreBwdIdeal.nD) → Buf (Elt Ideal) ((c.tc : Thread Cert.PreBwdIdeal.nD Cert.PreBwdIdeal.τ).loc Cert.PreBwdIdeal.main_v0_1)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v0_0) = v0 c
          ∧ r.2.mem ((c.tc : Thread Cert.PreBwdIdeal.nD Cert.PreBwdIdeal.τ).loc Cert.PreBwdIdeal.main_v0_1) = v1 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
          ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3))
      ∧ θ_run (Cert.PreBwdRefIdeal.defs (F := Ideal)) (onTc (τ := Cert.PreBwdRefIdeal.τ) (Cert.PreBwdRefIdeal.main (F := Ideal))) ⟨m', fun _ => 0, g'⟩ (fun r => ∀ c : Dev Cert.PreBwdRefIdeal.nD,
          r.2.mem ((c.tc : Thread Cert.PreBwdRefIdeal.nD Cert.PreBwdRefIdeal.τ).loc Cert.PreBwdRefIdeal.main_v37) = v0 c
          ∧ r.2.mem ((c.tc : Thread Cert.PreBwdRefIdeal.nD Cert.PreBwdRefIdeal.τ).loc Cert.PreBwdRefIdeal.main_v38) = v1 c
          ∧ r.2.mem ((c.tc : Thread Cert.PreBwdRefIdeal.nD Cert.PreBwdRefIdeal.τ).loc Cert.PreBwdRefIdeal.main_arg0) = m' ((c.tc : Thread Cert.PreBwdRefIdeal.nD Cert.PreBwdRefIdeal.τ).loc Cert.PreBwdRefIdeal.main_arg0)
          ∧ r.2.mem ((c.tc : Thread Cert.PreBwdRefIdeal.nD Cert.PreBwdRefIdeal.τ).loc Cert.PreBwdRefIdeal.main_arg1) = m' ((c.tc : Thread Cert.PreBwdRefIdeal.nD Cert.PreBwdRefIdeal.τ).loc Cert.PreBwdRefIdeal.main_arg1)
          ∧ r.2.mem ((c.tc : Thread Cert.PreBwdRefIdeal.nD Cert.PreBwdRefIdeal.τ).loc Cert.PreBwdRefIdeal.main_arg2) = m' ((c.tc : Thread Cert.PreBwdRefIdeal.nD Cert.PreBwdRefIdeal.τ).loc Cert.PreBwdRefIdeal.main_arg2)
          ∧ r.2.mem ((c.tc : Thread Cert.PreBwdRefIdeal.nD Cert.PreBwdRefIdeal.τ).loc Cert.PreBwdRefIdeal.main_arg3) = m' ((c.tc : Thread Cert.PreBwdRefIdeal.nD Cert.PreBwdRefIdeal.τ).loc Cert.PreBwdRefIdeal.main_arg3))

def Claim : Prop :=
  ∃ (hKernel : Cert.Kernel.Facts) (hKernelIdeal : Cert.KernelIdeal.Facts) (hAttnIn : Cert.AttnIn.Facts) (hAttnInIdeal : Cert.AttnInIdeal.Facts) (hAttnInRefIdeal : Cert.AttnInRefIdeal.Facts) (hLruIn : Cert.LruIn.Facts) (hLruInIdeal : Cert.LruInIdeal.Facts) (hLruInRefIdeal : Cert.LruInRefIdeal.Facts) (hMixOut : Cert.MixOut.Facts) (hMixOutIdeal : Cert.MixOutIdeal.Facts) (hMixOutRefIdeal : Cert.MixOutRefIdeal.Facts) (hMixOutDx : Cert.MixOutDx.Facts) (hMixOutDxIdeal : Cert.MixOutDxIdeal.Facts) (hMixOutDxRefIdeal : Cert.MixOutDxRefIdeal.Facts) (hMixOutDw : Cert.MixOutDw.Facts) (hMixOutDwIdeal : Cert.MixOutDwIdeal.Facts) (hMixOutDwRefIdeal : Cert.MixOutDwRefIdeal.Facts) (hAttnInDx : Cert.AttnInDx.Facts) (hAttnInDxIdeal : Cert.AttnInDxIdeal.Facts) (hAttnInDxRefIdeal : Cert.AttnInDxRefIdeal.Facts) (hAttnInDw : Cert.AttnInDw.Facts) (hAttnInDwIdeal : Cert.AttnInDwIdeal.Facts) (hAttnInDwRefIdeal : Cert.AttnInDwRefIdeal.Facts) (hLruInDx : Cert.LruInDx.Facts) (hLruInDxIdeal : Cert.LruInDxIdeal.Facts) (hLruInDxRefIdeal : Cert.LruInDxRefIdeal.Facts) (hLruInDw : Cert.LruInDw.Facts) (hLruInDwIdeal : Cert.LruInDwIdeal.Facts) (hLruInDwRefIdeal : Cert.LruInDwRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamLruIn : Cert.AdamLruIn.Facts) (hAdamLruInIdeal : Cert.AdamLruInIdeal.Facts) (hAdamLruInRefIdeal : Cert.AdamLruInRefIdeal.Facts) (hAdamGate : Cert.AdamGate.Facts) (hAdamGateIdeal : Cert.AdamGateIdeal.Facts) (hAdamGateRefIdeal : Cert.AdamGateRefIdeal.Facts) (hAdamSmall : Cert.AdamSmall.Facts) (hAdamSmallIdeal : Cert.AdamSmallIdeal.Facts) (hAdamSmallRefIdeal : Cert.AdamSmallRefIdeal.Facts) (hPreFwd : Cert.PreFwd.Facts) (hPreFwdIdeal : Cert.PreFwdIdeal.Facts) (hPreFwdRefIdeal : Cert.PreFwdRefIdeal.Facts) (hPostFwd : Cert.PostFwd.Facts) (hPostFwdIdeal : Cert.PostFwdIdeal.Facts) (hPostFwdRefIdeal : Cert.PostFwdRefIdeal.Facts) (hPostLoss : Cert.PostLoss.Facts) (hPostLossIdeal : Cert.PostLossIdeal.Facts) (hPostLossRefIdeal : Cert.PostLossRefIdeal.Facts) (hPostBwd : Cert.PostBwd.Facts) (hPostBwdIdeal : Cert.PostBwdIdeal.Facts) (hPostBwdRefIdeal : Cert.PostBwdRefIdeal.Facts) (hPrePostBwd : Cert.PrePostBwd.Facts) (hPrePostBwdIdeal : Cert.PrePostBwdIdeal.Facts) (hPrePostBwdRefIdeal : Cert.PrePostBwdRefIdeal.Facts) (hPreBwd : Cert.PreBwd.Facts) (hPreBwdIdeal : Cert.PreBwdIdeal.Facts) (hPreBwdRefIdeal : Cert.PreBwdRefIdeal.Facts),
    quiescent_Kernel (hKernel := hKernel)
    ∧ quiescent_KernelIdeal (hKernelIdeal := hKernelIdeal)
    ∧ quiescent_AttnIn (hAttnIn := hAttnIn)
    ∧ quiescent_AttnInIdeal (hAttnInIdeal := hAttnInIdeal)
    ∧ quiescent_AttnInRefIdeal (hAttnInRefIdeal := hAttnInRefIdeal)
    ∧ quiescent_LruIn (hLruIn := hLruIn)
    ∧ quiescent_LruInIdeal (hLruInIdeal := hLruInIdeal)
    ∧ quiescent_LruInRefIdeal (hLruInRefIdeal := hLruInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_AttnInDx (hAttnInDx := hAttnInDx)
    ∧ quiescent_AttnInDxIdeal (hAttnInDxIdeal := hAttnInDxIdeal)
    ∧ quiescent_AttnInDxRefIdeal (hAttnInDxRefIdeal := hAttnInDxRefIdeal)
    ∧ quiescent_AttnInDw (hAttnInDw := hAttnInDw)
    ∧ quiescent_AttnInDwIdeal (hAttnInDwIdeal := hAttnInDwIdeal)
    ∧ quiescent_AttnInDwRefIdeal (hAttnInDwRefIdeal := hAttnInDwRefIdeal)
    ∧ quiescent_LruInDx (hLruInDx := hLruInDx)
    ∧ quiescent_LruInDxIdeal (hLruInDxIdeal := hLruInDxIdeal)
    ∧ quiescent_LruInDxRefIdeal (hLruInDxRefIdeal := hLruInDxRefIdeal)
    ∧ quiescent_LruInDw (hLruInDw := hLruInDw)
    ∧ quiescent_LruInDwIdeal (hLruInDwIdeal := hLruInDwIdeal)
    ∧ quiescent_LruInDwRefIdeal (hLruInDwRefIdeal := hLruInDwRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamLruIn (hAdamLruIn := hAdamLruIn)
    ∧ quiescent_AdamLruInIdeal (hAdamLruInIdeal := hAdamLruInIdeal)
    ∧ quiescent_AdamLruInRefIdeal (hAdamLruInRefIdeal := hAdamLruInRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_PreFwd (hPreFwd := hPreFwd)
    ∧ quiescent_PreFwdIdeal (hPreFwdIdeal := hPreFwdIdeal)
    ∧ quiescent_PreFwdRefIdeal (hPreFwdRefIdeal := hPreFwdRefIdeal)
    ∧ quiescent_PostFwd (hPostFwd := hPostFwd)
    ∧ quiescent_PostFwdIdeal (hPostFwdIdeal := hPostFwdIdeal)
    ∧ quiescent_PostFwdRefIdeal (hPostFwdRefIdeal := hPostFwdRefIdeal)
    ∧ quiescent_PostLoss (hPostLoss := hPostLoss)
    ∧ quiescent_PostLossIdeal (hPostLossIdeal := hPostLossIdeal)
    ∧ quiescent_PostLossRefIdeal (hPostLossRefIdeal := hPostLossRefIdeal)
    ∧ quiescent_PostBwd (hPostBwd := hPostBwd)
    ∧ quiescent_PostBwdIdeal (hPostBwdIdeal := hPostBwdIdeal)
    ∧ quiescent_PostBwdRefIdeal (hPostBwdRefIdeal := hPostBwdRefIdeal)
    ∧ quiescent_PrePostBwd (hPrePostBwd := hPrePostBwd)
    ∧ quiescent_PrePostBwdIdeal (hPrePostBwdIdeal := hPrePostBwdIdeal)
    ∧ quiescent_PrePostBwdRefIdeal (hPrePostBwdRefIdeal := hPrePostBwdRefIdeal)
    ∧ quiescent_PreBwd (hPreBwd := hPreBwd)
    ∧ quiescent_PreBwdIdeal (hPreBwdIdeal := hPreBwdIdeal)
    ∧ quiescent_PreBwdRefIdeal (hPreBwdRefIdeal := hPreBwdRefIdeal)
    ∧ preserves_Kernel_KernelIdeal
    ∧ preserves_AttnIn_AttnInIdeal
    ∧ algebraic_AttnInIdeal_AttnInRefIdeal (hAttnInIdeal := hAttnInIdeal) (hAttnInRefIdeal := hAttnInRefIdeal)
    ∧ preserves_LruIn_LruInIdeal
    ∧ algebraic_LruInIdeal_LruInRefIdeal (hLruInIdeal := hLruInIdeal) (hLruInRefIdeal := hLruInRefIdeal)
    ∧ preserves_MixOut_MixOutIdeal
    ∧ algebraic_MixOutIdeal_MixOutRefIdeal (hMixOutIdeal := hMixOutIdeal) (hMixOutRefIdeal := hMixOutRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_AttnInDx_AttnInDxIdeal
    ∧ algebraic_AttnInDxIdeal_AttnInDxRefIdeal (hAttnInDxIdeal := hAttnInDxIdeal) (hAttnInDxRefIdeal := hAttnInDxRefIdeal)
    ∧ preserves_AttnInDw_AttnInDwIdeal
    ∧ algebraic_AttnInDwIdeal_AttnInDwRefIdeal (hAttnInDwIdeal := hAttnInDwIdeal) (hAttnInDwRefIdeal := hAttnInDwRefIdeal)
    ∧ preserves_LruInDx_LruInDxIdeal
    ∧ algebraic_LruInDxIdeal_LruInDxRefIdeal (hLruInDxIdeal := hLruInDxIdeal) (hLruInDxRefIdeal := hLruInDxRefIdeal)
    ∧ preserves_LruInDw_LruInDwIdeal
    ∧ algebraic_LruInDwIdeal_LruInDwRefIdeal (hLruInDwIdeal := hLruInDwIdeal) (hLruInDwRefIdeal := hLruInDwRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamLruIn_AdamLruInIdeal
    ∧ algebraic_AdamLruInIdeal_AdamLruInRefIdeal (hAdamLruInIdeal := hAdamLruInIdeal) (hAdamLruInRefIdeal := hAdamLruInRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_PreFwd_PreFwdIdeal
    ∧ algebraic_PreFwdIdeal_PreFwdRefIdeal (hPreFwdIdeal := hPreFwdIdeal) (hPreFwdRefIdeal := hPreFwdRefIdeal)
    ∧ preserves_PostFwd_PostFwdIdeal
    ∧ algebraic_PostFwdIdeal_PostFwdRefIdeal (hPostFwdIdeal := hPostFwdIdeal) (hPostFwdRefIdeal := hPostFwdRefIdeal)
    ∧ preserves_PostLoss_PostLossIdeal
    ∧ algebraic_PostLossIdeal_PostLossRefIdeal (hPostLossIdeal := hPostLossIdeal) (hPostLossRefIdeal := hPostLossRefIdeal)
    ∧ preserves_PostBwd_PostBwdIdeal
    ∧ algebraic_PostBwdIdeal_PostBwdRefIdeal (hPostBwdIdeal := hPostBwdIdeal) (hPostBwdRefIdeal := hPostBwdRefIdeal)
    ∧ preserves_PrePostBwd_PrePostBwdIdeal
    ∧ algebraic_PrePostBwdIdeal_PrePostBwdRefIdeal (hPrePostBwdIdeal := hPrePostBwdIdeal) (hPrePostBwdRefIdeal := hPrePostBwdRefIdeal)
    ∧ preserves_PreBwd_PreBwdIdeal
    ∧ algebraic_PreBwdIdeal_PreBwdRefIdeal (hPreBwdIdeal := hPreBwdIdeal) (hPreBwdRefIdeal := hPreBwdRefIdeal)
-- ==== Kernel.lean ====
abbrev S8192x4608 : Shape := ⟨2, ![8192, 4608]⟩
abbrev S8192x2048 : Shape := ⟨2, ![8192, 2048]⟩
abbrev S32 : Shape := ⟨1, ![32]⟩
abbrev S1x8192x4608 : Shape := ⟨3, ![1, 8192, 4608]⟩
abbrev S1x8192x2048 : Shape := ⟨3, ![1, 8192, 2048]⟩
abbrev S1x8192x256 : Shape := ⟨3, ![1, 8192, 256]⟩
abbrev S1x64x128x4x8x64 : Shape := ⟨6, ![1, 64, 128, 4, 8, 64]⟩
abbrev S1x64x128x4x64 : Shape := ⟨5, ![1, 64, 128, 4, 64]⟩
abbrev S_ : Shape := ⟨0, ![]⟩
abbrev S1x1x128x4x64 : Shape := ⟨5, ![1, 1, 128, 4, 64]⟩
abbrev S1x63x128x4x64 : Shape := ⟨5, ![1, 63, 128, 4, 64]⟩
abbrev S1x64x256x4x64 : Shape := ⟨5, ![1, 64, 256, 4, 64]⟩
abbrev S1x64x4x256x128x8 : Shape := ⟨6, ![1, 64, 4, 256, 128, 8]⟩
abbrev S1x64x4x8x128x256 : Shape := ⟨6, ![1, 64, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S1x1x4x8x1x1 : Shape := ⟨6, ![1, 1, 4, 8, 1, 1]⟩
abbrev S1x64x4x8x128x1 : Shape := ⟨6, ![1, 64, 4, 8, 128, 1]⟩
abbrev S1x64x4x8x128x257 : Shape := ⟨6, ![1, 64, 4, 8, 128, 257]⟩
abbrev S1x64x4x8x128 : Shape := ⟨5, ![1, 64, 4, 8, 128]⟩
abbrev S1x64x4x64x8x128 : Shape := ⟨6, ![1, 64, 4, 64, 8, 128]⟩
abbrev S2x256x512 : Shape := ⟨3, ![2, 256, 512]⟩
abbrev S8192x512 : Shape := ⟨2, ![8192, 512]⟩
abbrev S32x128 : Shape := ⟨2, ![32, 128]⟩
abbrev S1x256x512 : Shape := ⟨3, ![1, 256, 512]⟩
abbrev S128x2048 : Shape := ⟨2, ![128, 2048]⟩
abbrev S128x512 : Shape := ⟨2, ![128, 512]⟩
abbrev S128x4608 : Shape := ⟨2, ![128, 4608]⟩
abbrev S256x512 : Shape := ⟨2, ![256, 512]⟩
abbrev S256x128 : Shape := ⟨2, ![256, 128]⟩
abbrev S8x128 : Shape := ⟨2, ![8, 128]⟩
abbrev S128x128 : Shape := ⟨2, ![128, 128]⟩
abbrev S512x128 : Shape := ⟨2, ![512, 128]⟩
abbrev S8x512 : Shape := ⟨2, ![8, 512]⟩
abbrev S512 : Shape := ⟨1, ![512]⟩
abbrev S1x512 : Shape := ⟨2, ![1, 512]⟩
abbrev S1 : Shape := ⟨1, ![1]⟩
abbrev S1x128 : Shape := ⟨2, ![1, 128]⟩
abbrev S1x1 : Shape := ⟨2, ![1, 1]⟩

abbrev nBuf : Space → Nat
  | .hbm => 116
  | .vmem => 26
  | .smem => 1
  | _ => 0

abbrev bufTy : (tb : Table) → Fin (tcTables nBuf tb) → BufTy
  | .hbm, ⟨0, _⟩ => ⟨S8192x4608, .bf16⟩
  | .hbm, ⟨1, _⟩ => ⟨S8192x2048, .bf16⟩
  | .hbm, ⟨2, _⟩ => ⟨S32, .f32⟩
  | .hbm, ⟨3, _⟩ => ⟨S8192x4608, .f32⟩
  | .hbm, ⟨4, _⟩ => ⟨S1x8192x4608, .f32⟩
  | .hbm, ⟨5, _⟩ => ⟨S1x8192x2048, .f32⟩
  | .hbm, ⟨6, _⟩ => ⟨S1x8192x256, .f32⟩
  | .hbm, ⟨7, _⟩ => ⟨S1x8192x256, .f32⟩
  | .hbm, ⟨8, _⟩ => ⟨S1x8192x2048, .f32⟩
  | .hbm, ⟨9, _⟩ => ⟨S1x64x128x4x8x64, .f32⟩
  | .hbm, ⟨10, _⟩ => ⟨S1x64x128x4x64, .f32⟩
  | .hbm, ⟨11, _⟩ => ⟨S1x64x128x4x64, .f32⟩
  | .hbm, ⟨12, _⟩ => ⟨S_, .f32⟩
  | .hbm, ⟨13, _⟩ => ⟨S1x1x128x4x64, .f32⟩
  | .hbm, ⟨14, _⟩ => ⟨S1x63x128x4x64, .f32⟩
  | .hbm, ⟨15, _⟩ => ⟨S1x64x128x4x64, .f32⟩
  | .hbm, ⟨16, _⟩ => ⟨S1x64x256x4x64, .f32⟩
  | .hbm, ⟨17, _⟩ => ⟨S1x63x128x4x64, .f32⟩
  | .hbm, ⟨18, _⟩ => ⟨S1x64x128x4x64, .f32⟩
  | .hbm, ⟨19, _⟩ => ⟨S1x64x256x4x64, .f32⟩
  | .hbm, ⟨20, _⟩ => ⟨S1x64x4x256x128x8, .f32⟩
  | .hbm, ⟨21, _⟩ => ⟨S1x64x4x8x128x256, .f32⟩
  | .hbm, ⟨22, _⟩ => ⟨S_, .f32⟩
  | .hbm, ⟨23, _⟩ => ⟨S1x64x4x8x128x256, .f32⟩
  | .hbm, ⟨24, _⟩ => ⟨S1x64x4x8x128x256, .f32⟩
  | .hbm, ⟨25, _⟩ => ⟨S128, .i32⟩
  | .hbm, ⟨26, _⟩ => ⟨S128x1, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S64, .i32⟩
  | .hbm, ⟨43, _⟩ => ⟨S64x1x1, .i32⟩
  | .hbm, ⟨44, _⟩ => ⟨S_, .i32⟩
  | .hbm, ⟨45, _⟩ => ⟨S64x1x1, .i32⟩
  | .hbm, ⟨46, _⟩ => ⟨S64x1x1, .i1⟩
  | .hbm, ⟨47, _⟩ => ⟨S1x1x256, .i32⟩
  | .hbm, ⟨48, _⟩ => ⟨S_, .i32⟩
  | .hbm, ⟨49, _⟩ => ⟨S1x1x256, .i32⟩
  | .hbm, ⟨50, _⟩ => ⟨S1x1x256, .i1⟩
  | .hbm, ⟨51, _⟩ => ⟨S64x1x256, .i1⟩
  | .hbm, ⟨52, _⟩ => ⟨S64x1x256, .i1⟩
  | .hbm, ⟨53, _⟩ => ⟨S64x1x256, .i1⟩
  | .hbm, ⟨54, _⟩ => ⟨S1x128x256, .i1⟩
  | .hbm, ⟨55, _⟩ => ⟨S64x128x256, .i1⟩
  | .hbm, ⟨56, _⟩ => ⟨S64x128x256, .i1⟩
  | .hbm, ⟨57, _⟩ => ⟨S64x128x256, .i1⟩
  | .hbm, ⟨58, _⟩ => ⟨S64x1x1x128x256, .i1⟩
  | .hbm, ⟨59, _⟩ => ⟨S_, .f32⟩
  | .hbm, ⟨60, _⟩ => ⟨S_, .f32⟩
  | .hbm, ⟨61, _⟩ => ⟨S1x64x4x8x128x256, .i1⟩
  | .hbm, ⟨62, _⟩ => ⟨S1x64x4x8x128x256, .f32⟩
  | .hbm, ⟨63, _⟩ => ⟨S1x64x4x8x128x256, .f32⟩
  | .hbm, ⟨64, _⟩ => ⟨S1x1x4x8x1x1, .f32⟩
  | .hbm, ⟨65, _⟩ => ⟨S1x64x4x8x128x1, .f32⟩
  | .hbm, ⟨66, _⟩ => ⟨S1x64x4x8x128x257, .f32⟩
  | .hbm, ⟨67, _⟩ => ⟨S_, .f32⟩
  | .hbm, ⟨68, _⟩ => ⟨S1x64x4x8x128, .f32⟩
  | .hbm, ⟨69, _⟩ => ⟨S_, .f32⟩
  | .hbm, ⟨70, _⟩ => ⟨S1x64x4x8x128, .f32⟩
  | .hbm, ⟨71, _⟩ => ⟨S1x64x4x8x128, .f32⟩
  | .hbm, ⟨72, _⟩ => ⟨S1x64x4x8x128x1, .f32⟩
  | .hbm, ⟨73, _⟩ => ⟨S1x64x4x8x128x257, .f32⟩
  | .hbm, ⟨74, _⟩ => ⟨S1x64x4x8x128x257, .f32⟩
  | .hbm, ⟨75, _⟩ => ⟨S1x64x4x8x128x257, .f32⟩
  | .hbm, ⟨76, _⟩ => ⟨S_, .f32⟩
  | .hbm, ⟨77, _⟩ => ⟨S1x64x4x8x128, .f32⟩
  | .hbm, ⟨78, _⟩ => ⟨S1x64x4x8x128x1, .f32⟩
  | .hbm, ⟨79, _⟩ => ⟨S1x64x4x8x128x257, .f32⟩
  | .hbm, ⟨80, _⟩ => ⟨S1x64x4x8x128x257, .f32⟩
  | .hbm, ⟨81, _⟩ => ⟨S1x64x4x8x128x256, .f32⟩
  | .hbm, ⟨82, _⟩ => ⟨S1x64x4x64x8x128, .f32⟩
  | .hbm, ⟨83, _⟩ => ⟨S1x64x128x4x8x64, .f32⟩
  | .hbm, ⟨84, _⟩ => ⟨S1x8192x2048, .f32⟩
  | .hbm, ⟨85, _⟩ => ⟨S8192x2048, .f32⟩
  | .hbm, ⟨86, _⟩ => ⟨S2x256x512, .i32⟩
  | .hbm, ⟨87, _⟩ => ⟨S2x256x512, .i32⟩
  | .hbm, ⟨88, _⟩ => ⟨S_, .i32⟩
  | .hbm, ⟨89, _⟩ => ⟨S2x256x512, .i32⟩
  | .hbm, ⟨90, _⟩ => ⟨S2x256x512, .i32⟩
  | .hbm, ⟨91, _⟩ => ⟨S2x256x512, .i32⟩
  | .hbm, ⟨92, _⟩ => ⟨S_, .i32⟩
  | .hbm, ⟨93, _⟩ => ⟨S2x256x512, .i32⟩
  | .hbm, ⟨94, _⟩ => ⟨S2x256x512, .i1⟩
  | .hbm, ⟨95, _⟩ => ⟨S2x256x512, .i1⟩
  | .hbm, ⟨96, _⟩ => ⟨S_, .i32⟩
  | .hbm, ⟨97, _⟩ => ⟨S2x256x512, .i32⟩
  | .hbm, ⟨98, _⟩ => ⟨S2x256x512, .i32⟩
  | .hbm, ⟨99, _⟩ => ⟨S2x256x512, .i1⟩
  | .hbm, ⟨100, _⟩ => ⟨S2x256x512, .i1⟩
  | .hbm, ⟨101, _⟩ => ⟨S_, .i32⟩
  | .hbm, ⟨102, _⟩ => ⟨S2x256x512, .i32⟩
  | .hbm, ⟨103, _⟩ => ⟨S2x256x512, .i1⟩
  | .hbm, ⟨104, _⟩ => ⟨S2x256x512, .i1⟩
  | .hbm, ⟨105, _⟩ => ⟨S2x256x512, .i1⟩
  | .hbm, ⟨106, _⟩ => ⟨S2x256x512, .i1⟩
  | .hbm, ⟨107, _⟩ => ⟨S_, .f32⟩
  | .hbm, ⟨108, _⟩ => ⟨S_, .f32⟩
  | .hbm, ⟨109, _⟩ => ⟨S2x256x512, .f32⟩
  | .hbm, ⟨110, _⟩ => ⟨S2x256x512, .f32⟩
  | .hbm, ⟨111, _⟩ => ⟨S2x256x512, .f32⟩
  | .hbm, ⟨112, _⟩ => ⟨S2x256x512, .f32⟩
  | .hbm, ⟨113, _⟩ => ⟨S8192x4608, .bf16⟩
  | .hbm, ⟨114, _⟩ => ⟨S8192x512, .bf16⟩
  | .hbm, ⟨115, _⟩ => ⟨S32x128, .f32⟩
  | .local _ .vmem, ⟨0, _⟩ => ⟨S1x256x512, .f32⟩
  | .local _ .vmem, ⟨1, _⟩ => ⟨S1x256x512, .f32⟩
  | .local _ .vmem, ⟨2, _⟩ => ⟨S128x2048, .bf16⟩
  | .local _ .vmem, ⟨3, _⟩ => ⟨S128x2048, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S128x2048, .f32⟩
  | .local _ .vmem, ⟨17, _⟩ => ⟨S128x2048, .f32⟩
  | .local _ .vmem, ⟨18, _⟩ => ⟨S128x2048, .bf16⟩
  | .local _ .vmem, ⟨19, _⟩ => ⟨S128x2048, .bf16⟩
  | .local _ .vmem, ⟨20, _⟩ => ⟨S128x4608, .bf16⟩
  | .local _ .vmem, ⟨21, _⟩ => ⟨S128x4608, .bf16⟩
  | .local _ .vmem, ⟨22, _⟩ => ⟨S128x512, .bf16⟩
  | .local _ .vmem, ⟨23, _⟩ => ⟨S128x512, .bf16⟩
  | .local _ .vmem, ⟨24, _⟩ => ⟨S32x128, .f32⟩
  | .local _ .vmem, ⟨25, _⟩ => ⟨S128x512, .f32⟩
  | .local _ .smem, ⟨0, _⟩ => ⟨S32, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_c_9 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_10 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_c_11 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_c_12 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_13 : Ref sig .tc := ⟨.hbm, 107, rfl⟩
abbrev main_cst_14 : Ref sig .tc := ⟨.hbm, 108, rfl⟩
abbrev main_call1_v0 : Ref sig .tc := ⟨.hbm, 109, rfl⟩
abbrev main_call1_v1 : Ref sig .tc := ⟨.hbm, 110, rfl⟩
abbrev main_v86 : Ref sig .tc := ⟨.hbm, 111, rfl⟩
abbrev main_v87 : Ref sig .tc := ⟨.hbm, 112, rfl⟩
abbrev main_v88_0 : Ref sig .tc := ⟨.hbm, 113, rfl⟩
abbrev main_v88_1 : Ref sig .tc := ⟨.hbm, 114, rfl⟩
abbrev main_v88_2 : Ref sig .tc := ⟨.hbm, 115, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c64_i32_2 : BitVec 32 := 64#32
  let v6 : BitVec 1 := Scalar.cmpi .slt arg0 c64_i32_2
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c64_i32 : BitVec 32 := 64#32
  let v3 : BitVec 1 := Scalar.cmpi .eq arg0 c64_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let c0_i32 : BitVec 32 := 0#32
  ![v0.toNat, c4_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c5_i32 : BitVec 32 := 5#32
  let c0_i32 : BitVec 32 := 0#32
  ![v0.toNat, c5_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c6_i32 : BitVec 32 := 6#32
  let c0_i32 : BitVec 32 := 0#32
  ![v0.toNat, c6_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c7_i32 : BitVec 32 := 7#32
  let c0_i32 : BitVec 32 := 0#32
  ![v0.toNat, c7_i32.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  ![v0.toNat, c8_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x4608 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== AttnIn.lean ====
abbrev S8192x2048 : Shape := ⟨2, ![8192, 2048]⟩
abbrev S2048x4608 : Shape := ⟨2, ![2048, 4608]⟩
abbrev S8192x4608 : Shape := ⟨2, ![8192, 4608]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4608, .bf16⟩
  | .hbm, ⟨2, _⟩ => ⟨S8192x4608, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInRefIdeal.lean ====
abbrev S8192x2048 : Shape := ⟨2, ![8192, 2048]⟩
abbrev S2048x4608 : Shape := ⟨2, ![2048, 4608]⟩
abbrev S8192x4608 : Shape := ⟨2, ![8192, 4608]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4608, .bf16⟩
  | .hbm, ⟨2, _⟩ => ⟨S8192x2048, .f32⟩
  | .hbm, ⟨3, _⟩ => ⟨S2048x4608, .f32⟩
  | .hbm, ⟨4, _⟩ => ⟨S8192x4608, .f32⟩
  | .hbm, ⟨5, _⟩ => ⟨S8192x4608, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LruIn.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInRefIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | .hbm, ⟨5, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOut.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOutDx.lean ====
abbrev S2048x2048 : Shape := ⟨2, ![2048, 2048]⟩
abbrev S8192x2048 : Shape := ⟨2, ![8192, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixOutDw.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnInDx.lean ====
abbrev S2048x4608 : Shape := ⟨2, ![2048, 4608]⟩
abbrev S8192x4608 : Shape := ⟨2, ![8192, 4608]⟩
abbrev S8192x2048 : Shape := ⟨2, ![8192, 2048]⟩
abbrev S512x4608 : Shape := ⟨2, ![512, 4608]⟩
abbrev S1024x4608 : Shape := ⟨2, ![1024, 4608]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4608, .bf16⟩
  | .hbm, ⟨1, _⟩ => ⟨S8192x4608, .bf16⟩
  | .hbm, ⟨2, _⟩ => ⟨S8192x2048, .f32⟩
  | .local _ .vmem, ⟨0, _⟩ => ⟨S512x4608, .bf16⟩
  | .local _ .vmem, ⟨1, _⟩ => ⟨S512x4608, .bf16⟩
  | .local _ .vmem, ⟨2, _⟩ => ⟨S1024x4608, .bf16⟩
  | .local _ .vmem, ⟨3, _⟩ => ⟨S1024x4608, .bf16⟩
  | .local _ .vmem, ⟨4, _⟩ => ⟨S512x1024, .f32⟩
  | .local _ .vmem, ⟨5, _⟩ => ⟨S512x1024, .f32⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInDxRefIdeal.lean ====
abbrev S2048x4608 : Shape := ⟨2, ![2048, 4608]⟩
abbrev S8192x4608 : Shape := ⟨2, ![8192, 4608]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4608, .bf16⟩
  | .hbm, ⟨1, _⟩ => ⟨S8192x4608, .bf16⟩
  | .hbm, ⟨2, _⟩ => ⟨S_, .f32⟩
  | .hbm, ⟨3, _⟩ => ⟨S8192x2048, .f32⟩
  | .hbm, ⟨4, _⟩ => ⟨S2048x4608, .f32⟩
  | .hbm, ⟨5, _⟩ => ⟨S8192x4608, .f32⟩
  | .hbm, ⟨6, _⟩ => ⟨S8192x4608, .f32⟩
  | .hbm, ⟨7, _⟩ => ⟨S8192x2048, .f32⟩
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnInDw.lean ====
abbrev S8192x2048 : Shape := ⟨2, ![8192, 2048]⟩
abbrev S8192x4608 : Shape := ⟨2, ![8192, 4608]⟩
abbrev S2048x4608 : Shape := ⟨2, ![2048, 4608]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4608, .bf16⟩
  | .hbm, ⟨2, _⟩ => ⟨S2048x4608, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInDwRefIdeal.lean ====
abbrev S8192x2048 : Shape := ⟨2, ![8192, 2048]⟩
abbrev S8192x4608 : Shape := ⟨2, ![8192, 4608]⟩
abbrev S_ : Shape := ⟨0, ![]⟩
abbrev S2048x4608 : Shape := ⟨2, ![2048, 4608]⟩
abbrev S4608x2048 : Shape := ⟨2, ![4608, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4608, .bf16⟩
  | .hbm, ⟨2, _⟩ => ⟨S_, .f32⟩
  | .hbm, ⟨3, _⟩ => ⟨S2048x4608, .f32⟩
  | .hbm, ⟨4, _⟩ => ⟨S8192x2048, .f32⟩
  | .hbm, ⟨5, _⟩ => ⟨S8192x4608, .f32⟩
  | .hbm, ⟨6, _⟩ => ⟨S8192x4608, .f32⟩
  | .hbm, ⟨7, _⟩ => ⟨S4608x2048, .f32⟩
  | .hbm, ⟨8, _⟩ => ⟨S2048x4608, .f32⟩
  | .hbm, ⟨9, _⟩ => ⟨S2048x4608, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LruInDx.lean ====
abbrev S2048x4096 : Shape := ⟨2, ![2048, 4096]⟩
abbrev S8192x4096 : Shape := ⟨2, ![8192, 4096]⟩
abbrev S8192x2048 : Shape := ⟨2, ![8192, 2048]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S8192x4096, .bf16⟩
  | .hbm, ⟨2, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInDxRefIdeal.lean ====
abbrev S2048x4096 : Shape := ⟨2, ![2048, 4096]⟩
abbrev S8192x4096 : Shape := ⟨2, ![8192, 4096]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S8192x4096, .bf16⟩
  | .hbm, ⟨2, _⟩ => ⟨S_, .f32⟩
  | .hbm, ⟨3, _⟩ => ⟨S8192x2048, .f32⟩
  | .hbm, ⟨4, _⟩ => ⟨S2048x4096, .f32⟩
  | .hbm, ⟨5, _⟩ => ⟨S8192x4096, .f32⟩
  | .hbm, ⟨6, _⟩ => ⟨S8192x4096, .f32⟩
  | .hbm, ⟨7, _⟩ => ⟨S8192x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LruInDw.lean ====
abbrev S8192x2048 : Shape := ⟨2, ![8192, 2048]⟩
abbrev S8192x4096 : Shape := ⟨2, ![8192, 4096]⟩
abbrev S8x2048x512 : Shape := ⟨3, ![8, 2048, 512]⟩
abbrev S8192x512 : Shape := ⟨2, ![8192, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8x2048x512, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S1x512x512, .bf16⟩
  | .local _ .vmem, ⟨5, _⟩ => ⟨S1x512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruInDwRefIdeal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩
abbrev S2048x8x512 : Shape := ⟨3, ![2048, 8, 512]⟩
abbrev S8x2048x512 : Shape := ⟨3, ![8, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S_, .f32⟩
  | .hbm, ⟨3, _⟩ => ⟨S2048x4096, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S2048x8x512, .bf16⟩
  | .hbm, ⟨11, _⟩ => ⟨S8x2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AdamIn.lean ====
abbrev S8x2048x576 : Shape := ⟨3, ![8, 2048, 576]⟩
abbrev S2x2048x576 : Shape := ⟨3, ![2, 2048, 576]⟩
abbrev S8x256x576 : Shape := ⟨3, ![8, 256, 576]⟩
abbrev S1x256x576 : Shape := ⟨3, ![1, 256, 576]⟩
abbrev S256x576 : Shape := ⟨2, ![256, 576]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x576, .bf16⟩
  | .hbm, ⟨1, _⟩ => ⟨S8x2048x576, .bf16⟩
  | .hbm, ⟨2, _⟩ => ⟨S2x2048x576, .f32⟩
  | .hbm, ⟨3, _⟩ => ⟨S2x2048x576, .f32⟩
  | .hbm, ⟨4, _⟩ => ⟨S2x2048x576, .f32⟩
  | .hbm, ⟨5, _⟩ => ⟨S2x2048x576, .f32⟩
  | .hbm, ⟨6, _⟩ => ⟨S2x2048x576, .f32⟩
  | .hbm, ⟨7, _⟩ => ⟨S2x2048x576, .f32⟩
  | .hbm, ⟨8, _⟩ => ⟨S2x2048x576, .f32⟩
  | .local _ .vmem, ⟨0, _⟩ => ⟨S8x256x576, .bf16⟩
  | .local _ .vmem, ⟨1, _⟩ => ⟨S8x256x576, .bf16⟩
  | .local _ .vmem, ⟨2, _⟩ => ⟨S8x256x576, .bf16⟩
  | .local _ .vmem, ⟨3, _⟩ => ⟨S8x256x576, .bf16⟩
  | .local _ .vmem, ⟨4, _⟩ => ⟨S1x256x576, .f32⟩
  | .local _ .vmem, ⟨5, _⟩ => ⟨S1x256x576, .f32⟩
  | .local _ .vmem, ⟨6, _⟩ => ⟨S1x256x576, .f32⟩
  | .local _ .vmem, ⟨7, _⟩ => ⟨S1x256x576, .f32⟩
  | .local _ .vmem, ⟨8, _⟩ => ⟨S1x256x576, .f32⟩
  | .local _ .vmem, ⟨9, _⟩ => ⟨S1x256x576, .f32⟩
  | .local _ .vmem, ⟨10, _⟩ => ⟨S1x256x576, .f32⟩
  | .local _ .vmem, ⟨11, _⟩ => ⟨S1x256x576, .f32⟩
  | .local _ .vmem, ⟨12, _⟩ => ⟨S1x256x576, .f32⟩
  | .local _ .vmem, ⟨13, _⟩ => ⟨S1x256x576, .f32⟩
  | .local _ .vmem, ⟨14, _⟩ => ⟨S1x256x576, .f32⟩
  | .local _ .vmem, ⟨15, _⟩ => ⟨S1x256x576, .f32⟩
  | .local _ .vmem, ⟨16, _⟩ => ⟨S1x256x576, .f32⟩
  | .local _ .vmem, ⟨17, _⟩ => ⟨S1x256x576, .f32⟩
  | _, _ => ⟨S8x2048x576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x576 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamInRefIdeal.lean ====
abbrev S8x2048x576 : Shape := ⟨3, ![8, 2048, 576]⟩
abbrev S2x2048x576 : Shape := ⟨3, ![2, 2048, 576]⟩
abbrev S_ : Shape := ⟨0, ![]⟩
abbrev S2048x576 : Shape := ⟨2, ![2048, 576]⟩
abbrev S1x2048x576 : Shape := ⟨3, ![1, 2048, 576]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x576, .bf16⟩
  | .hbm, ⟨1, _⟩ => ⟨S8x2048x576, .bf16⟩
  | .hbm, ⟨2, _⟩ => ⟨S2x2048x576, .f32⟩
  | .hbm, ⟨3, _⟩ => ⟨S2x2048x576, .f32⟩
  | .hbm, ⟨4, _⟩ => ⟨S2x2048x576, .f32⟩
  | .hbm, ⟨5, _⟩ => ⟨S8x2048x576, .f32⟩
  | .hbm, ⟨6, _⟩ => ⟨S_, .f32⟩
  | .hbm, ⟨7, _⟩ => ⟨S2048x576, .f32⟩
  | .hbm, ⟨8, _⟩ => ⟨S8x2048x576, .f32⟩
  | .hbm, ⟨9, _⟩ => ⟨S_, .f32⟩
  | .hbm, ⟨10, _⟩ => ⟨S2048x576, .f32⟩
  | .hbm, ⟨11, _⟩ => ⟨S1x2048x576, .f32⟩
  | .hbm, ⟨12, _⟩ => ⟨S1x2048x576, .f32⟩
  | .hbm, ⟨13, _⟩ => ⟨S2x2048x576, .f32⟩
  | .hbm, ⟨14, _⟩ => ⟨S_, .f32⟩
  | .hbm, ⟨15, _⟩ => ⟨S2x2048x576, .f32⟩
  | .hbm, ⟨16, _⟩ => ⟨S2x2048x576, .f32⟩
  | .hbm, ⟨17, _⟩ => ⟨S_, .f32⟩
  | .hbm, ⟨18, _⟩ => ⟨S2x2048x576, .f32⟩
  | .hbm, ⟨19, _⟩ => ⟨S2x2048x576, .f32⟩
  | .hbm, ⟨20, _⟩ => ⟨S2x2048x576, .f32⟩
  | .hbm, ⟨21, _⟩ => ⟨S_, .f32⟩
  | .hbm, ⟨22, _⟩ => ⟨S2x2048x576, .f32⟩
  | .hbm, ⟨23, _⟩ => ⟨S2x2048x576, .f32⟩
  | .hbm, ⟨24, _⟩ => ⟨S2x2048x576, .f32⟩
  | .hbm, ⟨25, _⟩ => ⟨S_, .f32⟩
  | .hbm, ⟨26, _⟩ => ⟨S2x2048x576, .f32⟩
  | .hbm, ⟨27, _⟩ => ⟨S2x2048x576, .f32⟩
  | .hbm, ⟨28, _⟩ => ⟨S2x2048x576, .f32⟩
  | .hbm, ⟨29, _⟩ => ⟨S_, .f32⟩
  | .hbm, ⟨30, _⟩ => ⟨S2x2048x576, .f32⟩
  | .hbm, ⟨31, _⟩ => ⟨S2x2048x576, .f32⟩
  | .hbm, ⟨32, _⟩ => ⟨S_, .f32⟩
  | .hbm, ⟨33, _⟩ => ⟨S2x2048x576, .f32⟩
  | .hbm, ⟨34, _⟩ => ⟨S2x2048x576, .f32⟩
  | .hbm, ⟨35, _⟩ => ⟨S2x2048x576, .f32⟩
  | .hbm, ⟨36, _⟩ => ⟨S_, .f32⟩
  | .hbm, ⟨37, _⟩ => ⟨S2x2048x576, .f32⟩
  | .hbm, ⟨38, _⟩ => ⟨S2x2048x576, .f32⟩
  | .hbm, ⟨39, _⟩ => ⟨S2x2048x576, .f32⟩
  | .hbm, ⟨40, _⟩ => ⟨S_, .f32⟩
  | .hbm, ⟨41, _⟩ => ⟨S2x2048x576, .f32⟩
  | .hbm, ⟨42, _⟩ => ⟨S2x2048x576, .f32⟩
  | .hbm, ⟨43, _⟩ => ⟨S2x2048x576, .f32⟩
  | .hbm, ⟨44, _⟩ => ⟨S_, .f32⟩
  | .hbm, ⟨45, _⟩ => ⟨S2x2048x576, .f32⟩
  | .hbm, ⟨46, _⟩ => ⟨S2x2048x576, .f32⟩
  | _, _ => ⟨S8x2048x576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamOut.lean ====
abbrev S8x256x2048 : Shape := ⟨3, ![8, 256, 2048]⟩
abbrev S2x256x2048 : Shape := ⟨3, ![2, 256, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S8x64x2048, .bf16⟩
  | .local _ .vmem, ⟨1, _⟩ => ⟨S8x64x2048, .bf16⟩
  | .local _ .vmem, ⟨2, _⟩ => ⟨S8x64x2048, .bf16⟩
  | .local _ .vmem, ⟨3, _⟩ => ⟨S8x64x2048, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamOutRefIdeal.lean ====
abbrev S8x256x2048 : Shape := ⟨3, ![8, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S1x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S_, .f32⟩
  | .hbm, ⟨33, _⟩ => ⟨S2x256x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S_, .f32⟩
  | .hbm, ⟨41, _⟩ => ⟨S2x256x2048, .f32⟩
  | .hbm, ⟨42, _⟩ => ⟨S2x256x2048, .f32⟩
  | .hbm, ⟨43, _⟩ => ⟨S2x256x2048, .f32⟩
  | .hbm, ⟨44, _⟩ => ⟨S_, .f32⟩
  | .hbm, ⟨45, _⟩ => ⟨S2x256x2048, .f32⟩
  | .hbm, ⟨46, _⟩ => ⟨S2x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamLruIn.lean ====
abbrev S8x2048x512 : Shape := ⟨3, ![8, 2048, 512]⟩
abbrev S2x2048x512 : Shape := ⟨3, ![2, 2048, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamLruInIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamLruInRefIdeal.lean ====
abbrev S8x2048x512 : Shape := ⟨3, ![8, 2048, 512]⟩
abbrev S2x2048x512 : Shape := ⟨3, ![2, 2048, 512]⟩
abbrev S_ : Shape := ⟨0, ![]⟩
abbrev S2048x512 : Shape := ⟨2, ![2048, 512]⟩
abbrev S1x2048x512 : Shape := ⟨3, ![1, 2048, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S8x2048x512, .f32⟩
  | .hbm, ⟨6, _⟩ => ⟨S_, .f32⟩
  | .hbm, ⟨7, _⟩ => ⟨S2048x512, .f32⟩
  | .hbm, ⟨8, _⟩ => ⟨S8x2048x512, .f32⟩
  | .hbm, ⟨9, _⟩ => ⟨S_, .f32⟩
  | .hbm, ⟨10, _⟩ => ⟨S2048x512, .f32⟩
  | .hbm, ⟨11, _⟩ => ⟨S1x2048x512, .f32⟩
  | .hbm, ⟨12, _⟩ => ⟨S1x2048x512, .f32⟩
  | .hbm, ⟨13, _⟩ => ⟨S2x2048x512, .f32⟩
  | .hbm, ⟨14, _⟩ => ⟨S_, .f32⟩
  | .hbm, ⟨15, _⟩ => ⟨S2x2048x512, .f32⟩
  | .hbm, ⟨16, _⟩ => ⟨S2x2048x512, .f32⟩
  | .hbm, ⟨17, _⟩ => ⟨S_, .f32⟩
  | .hbm, ⟨18, _⟩ => ⟨S2x2048x512, .f32⟩
  | .hbm, ⟨19, _⟩ => ⟨S2x2048x512, .f32⟩
  | .hbm, ⟨20, _⟩ => ⟨S2x2048x512, .f32⟩
  | .hbm, ⟨21, _⟩ => ⟨S_, .f32⟩
  | .hbm, ⟨22, _⟩ => ⟨S2x2048x512, .f32⟩
  | .hbm, ⟨23, _⟩ => ⟨S2x2048x512, .f32⟩
  | .hbm, ⟨24, _⟩ => ⟨S2x2048x512, .f32⟩
  | .hbm, ⟨25, _⟩ => ⟨S_, .f32⟩
  | .hbm, ⟨26, _⟩ => ⟨S2x2048x512, .f32⟩
  | .hbm, ⟨27, _⟩ => ⟨S2x2048x512, .f32⟩
  | .hbm, ⟨28, _⟩ => ⟨S2x2048x512, .f32⟩
  | .hbm, ⟨29, _⟩ => ⟨S_, .f32⟩
  | .hbm, ⟨30, _⟩ => ⟨S2x2048x512, .f32⟩
  | .hbm, ⟨31, _⟩ => ⟨S2x2048x512, .f32⟩
  | .hbm, ⟨32, _⟩ => ⟨S_, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S_, .f32⟩
  | .hbm, ⟨37, _⟩ => ⟨S2x2048x512, .f32⟩
  | .hbm, ⟨38, _⟩ => ⟨S2x2048x512, .f32⟩
  | .hbm, ⟨39, _⟩ => ⟨S2x2048x512, .f32⟩
  | .hbm, ⟨40, _⟩ => ⟨S_, .f32⟩
  | .hbm, ⟨41, _⟩ => ⟨S2x2048x512, .f32⟩
  | .hbm, ⟨42, _⟩ => ⟨S2x2048x512, .f32⟩
  | .hbm, ⟨43, _⟩ => ⟨S2x2048x512, .f32⟩
  | .hbm, ⟨44, _⟩ => ⟨S_, .f32⟩
  | .hbm, ⟨45, _⟩ => ⟨S2x2048x512, .f32⟩
  | .hbm, ⟨46, _⟩ => ⟨S2x2048x512, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamGate.lean ====
abbrev S8x256x256 : Shape := ⟨3, ![8, 256, 256]⟩
abbrev S2x256x256 : Shape := ⟨3, ![2, 256, 256]⟩
abbrev S1x256x256 : Shape := ⟨3, ![1, 256, 256]⟩
abbrev S256x256 : Shape := ⟨2, ![256, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x256x256, .f32⟩
  | .hbm, ⟨1, _⟩ => ⟨S8x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x256, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGateIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamGateRefIdeal.lean ====
abbrev S8x256x256 : Shape := ⟨3, ![8, 256, 256]⟩
abbrev S2x256x256 : Shape := ⟨3, ![2, 256, 256]⟩
abbrev S_ : Shape := ⟨0, ![]⟩
abbrev S256x256 : Shape := ⟨2, ![256, 256]⟩
abbrev S1x256x256 : Shape := ⟨3, ![1, 256, 256]⟩

abbrev nBuf : Space → Nat
  | .hbm => 45
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S8x256x256, .f32⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S_, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S1x256x256, .f32⟩
  | .hbm, ⟨10, _⟩ => ⟨S1x256x256, .f32⟩
  | .hbm, ⟨11, _⟩ => ⟨S2x256x256, .f32⟩
  | .hbm, ⟨12, _⟩ => ⟨S_, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S2x256x256, .f32⟩
  | .hbm, ⟨23, _⟩ => ⟨S_, .f32⟩
  | .hbm, ⟨24, _⟩ => ⟨S2x256x256, .f32⟩
  | .hbm, ⟨25, _⟩ => ⟨S2x256x256, .f32⟩
  | .hbm, ⟨26, _⟩ => ⟨S2x256x256, .f32⟩
  | .hbm, ⟨27, _⟩ => ⟨S_, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S2x256x256, .f32⟩
  | .hbm, ⟨38, _⟩ => ⟨S_, .f32⟩
  | .hbm, ⟨39, _⟩ => ⟨S2x256x256, .f32⟩
  | .hbm, ⟨40, _⟩ => ⟨S2x256x256, .f32⟩
  | .hbm, ⟨41, _⟩ => ⟨S2x256x256, .f32⟩
  | .hbm, ⟨42, _⟩ => ⟨S_, .f32⟩
  | .hbm, ⟨43, _⟩ => ⟨S2x256x256, .f32⟩
  | .hbm, ⟨44, _⟩ => ⟨S2x256x256, .f32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamSmall.lean ====
abbrev S8x24x1024 : Shape := ⟨3, ![8, 24, 1024]⟩
abbrev S1x24x1024 : Shape := ⟨3, ![1, 24, 1024]⟩
abbrev S24x1024 : Shape := ⟨2, ![24, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x24x1024, .f32⟩
  | .hbm, ⟨1, _⟩ => ⟨S1x24x1024, .f32⟩
  | .hbm, ⟨2, _⟩ => ⟨S1x24x1024, .f32⟩
  | .hbm, ⟨3, _⟩ => ⟨S1x24x1024, .f32⟩
  | .hbm, ⟨4, _⟩ => ⟨S1x24x1024, .f32⟩
  | .hbm, ⟨5, _⟩ => ⟨S1x24x1024, .f32⟩
  | .hbm, ⟨6, _⟩ => ⟨S1x24x1024, .f32⟩
  | .hbm, ⟨7, _⟩ => ⟨S1x24x1024, .f32⟩
  | .local _ .vmem, ⟨0, _⟩ => ⟨S8x24x1024, .f32⟩
  | .local _ .vmem, ⟨1, _⟩ => ⟨S1x24x1024, .f32⟩
  | .local _ .vmem, ⟨2, _⟩ => ⟨S1x24x1024, .f32⟩
  | .local _ .vmem, ⟨3, _⟩ => ⟨S1x24x1024, .f32⟩
  | .local _ .vmem, ⟨4, _⟩ => ⟨S1x24x1024, .f32⟩
  | .local _ .vmem, ⟨5, _⟩ => ⟨S1x24x1024, .f32⟩
  | .local _ .vmem, ⟨6, _⟩ => ⟨S1x24x1024, .f32⟩
  | .local _ .vmem, ⟨7, _⟩ => ⟨S1x24x1024, .f32⟩
  | _, _ => ⟨S8x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSmallIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamSmallRefIdeal.lean ====
abbrev S8x24x1024 : Shape := ⟨3, ![8, 24, 1024]⟩
abbrev S1x24x1024 : Shape := ⟨3, ![1, 24, 1024]⟩
abbrev S_ : Shape := ⟨0, ![]⟩
abbrev S24x1024 : Shape := ⟨2, ![24, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S1x24x1024, .f32⟩
  | .hbm, ⟨2, _⟩ => ⟨S1x24x1024, .f32⟩
  | .hbm, ⟨3, _⟩ => ⟨S1x24x1024, .f32⟩
  | .hbm, ⟨4, _⟩ => ⟨S_, .f32⟩
  | .hbm, ⟨5, _⟩ => ⟨S24x1024, .f32⟩
  | .hbm, ⟨6, _⟩ => ⟨S1x24x1024, .f32⟩
  | .hbm, ⟨7, _⟩ => ⟨S_, .f32⟩
  | .hbm, ⟨8, _⟩ => ⟨S1x24x1024, .f32⟩
  | .hbm, ⟨9, _⟩ => ⟨S1x24x1024, .f32⟩
  | .hbm, ⟨10, _⟩ => ⟨S_, .f32⟩
  | .hbm, ⟨11, _⟩ => ⟨S1x24x1024, .f32⟩
  | .hbm, ⟨12, _⟩ => ⟨S1x24x1024, .f32⟩
  | .hbm, ⟨13, _⟩ => ⟨S1x24x1024, .f32⟩
  | .hbm, ⟨14, _⟩ => ⟨S_, .f32⟩
  | .hbm, ⟨15, _⟩ => ⟨S1x24x1024, .f32⟩
  | .hbm, ⟨16, _⟩ => ⟨S1x24x1024, .f32⟩
  | .hbm, ⟨17, _⟩ => ⟨S1x24x1024, .f32⟩
  | .hbm, ⟨18, _⟩ => ⟨S_, .f32⟩
  | .hbm, ⟨19, _⟩ => ⟨S1x24x1024, .f32⟩
  | .hbm, ⟨20, _⟩ => ⟨S1x24x1024, .f32⟩
  | .hbm, ⟨21, _⟩ => ⟨S1x24x1024, .f32⟩
  | .hbm, ⟨22, _⟩ => ⟨S_, .f32⟩
  | .hbm, ⟨23, _⟩ => ⟨S1x24x1024, .f32⟩
  | .hbm, ⟨24, _⟩ => ⟨S1x24x1024, .f32⟩
  | .hbm, ⟨25, _⟩ => ⟨S_, .f32⟩
  | .hbm, ⟨26, _⟩ => ⟨S1x24x1024, .f32⟩
  | .hbm, ⟨27, _⟩ => ⟨S1x24x1024, .f32⟩
  | .hbm, ⟨28, _⟩ => ⟨S1x24x1024, .f32⟩
  | .hbm, ⟨29, _⟩ => ⟨S_, .f32⟩
  | .hbm, ⟨30, _⟩ => ⟨S1x24x1024, .f32⟩
  | .hbm, ⟨31, _⟩ => ⟨S1x24x1024, .f32⟩
  | .hbm, ⟨32, _⟩ => ⟨S1x24x1024, .f32⟩
  | .hbm, ⟨33, _⟩ => ⟨S_, .f32⟩
  | .hbm, ⟨34, _⟩ => ⟨S1x24x1024, .f32⟩
  | .hbm, ⟨35, _⟩ => ⟨S1x24x1024, .f32⟩
  | .hbm, ⟨36, _⟩ => ⟨S1x24x1024, .f32⟩
  | .hbm, ⟨37, _⟩ => ⟨S_, .f32⟩
  | .hbm, ⟨38, _⟩ => ⟨S1x24x1024, .f32⟩
  | .hbm, ⟨39, _⟩ => ⟨S1x24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== PreFwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreFwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== PostFwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostFwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== PostLoss.lean ====
abbrev S8192x2048 : Shape := ⟨2, ![8192, 2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PostLossRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S1x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== PostBwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .bf16⟩
  | .hbm, ⟨4, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostBwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== PrePostBwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .hbm, ⟨8, _⟩ => ⟨S1x2048, .f32⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PrePostBwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 102
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x2048, .f32⟩
  | .hbm, ⟨71, _⟩ => ⟨S8192x2048, .f32⟩
  | .hbm, ⟨72, _⟩ => ⟨S1x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S2048, .f32⟩
  | .hbm, ⟨83, _⟩ => ⟨S8192x2048, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x2048, .f32⟩
  | .hbm, ⟨88, _⟩ => ⟨S8192x2048, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S8192x2048, .f32⟩
  | .hbm, ⟨100, _⟩ => ⟨S1x2048, .f32⟩
  | .hbm, ⟨101, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_cst_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== PreBwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreBwdRefIdeal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Attn.Base.lean ====
/- The kernel's body at one grid point: which of its three branches run there, the buffers it is called with, and the
   body's text in the form the runs of the three cases start from. -/
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, k0_cond1, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_1, k0_cond2, e0]
    word_cmp
   : ∀ t : Fin grid0.N, cond0_1 (grid0.coords t) ↔ t.val % 65 = 64)

/-- The condition of the body's `scf.if` 2 (`k0_h3`), from the grid coordinates (the skeleton's scalar
    chain substituted). -/
abbrev cond0_2 (i : grid0.Coords) : Prop := k0_cond3 i = 1#1
/-- It holds at the points before point 64 — decided over the grid. -/
theorem hcond0_2 : ∀ t : Fin cfg0.N, cond0_2 (grid0.coords t) ↔ t.val < 64 :=
  (by decide +kernel : ∀ t : Fin grid0.N, cond0_2 (grid0.coords t) ↔ t.val < 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x4608 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x128 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S128x512 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body's text -/

section
variable (c : Dev nD) (i : grid0.Coords)
  (arg1 : Memref sig .tc .smem S32 .f32) (harg1 : arg1.IsWhole)
  (arg2 : Memref sig .tc .vmem S1x256x512 .f32) (harg2 : arg2.IsWhole)
  (arg3 : Memref sig .tc .vmem S128x2048 .bf16) (harg3 : arg3.IsWhole)
  (arg4 : Memref sig .tc .vmem S128x512 .bf16) (harg4 : arg4.IsWhole)
  (arg5 : Memref sig .tc .vmem S128x512 .bf16) (harg5 : arg5.IsWhole)
  (arg6 : Memref sig .tc .vmem S128x512 .bf16) (harg6 : arg6.IsWhole)
  (arg7 : Memref sig .tc .vmem S128x512 .bf16) (harg7 : arg7.IsWhole)
  (arg8 : Memref sig .tc .vmem S128x512 .bf16) (harg8 : arg8.IsWhole)
  (arg9 : Memref sig .tc .vmem S128x512 .bf16) (harg9 : arg9.IsWhole)
  (arg10 : Memref sig .tc .vmem S128x2048 .f32) (harg10 : arg10.IsWhole)
  (arg11 : Memref sig .tc .vmem S128x2048 .bf16) (harg11 : arg11.IsWhole)
  (arg12 : Memref sig .tc .vmem S128x4608 .bf16) (harg12 : arg12.IsWhole)
  (arg13 : Memref sig .tc .vmem S128x512 .bf16) (harg13 : arg13.IsWhole)
  (arg14 : Memref sig .tc .vmem S32x128 .f32) (harg14 : arg14.IsWhole)
  (arg15 : Memref sig .tc .vmem S128x512 .f32) (harg15 : arg15.IsWhole)

/-- The body, with each of its parts in the form in which the values it computes have names. -/
theorem body_named (Q : Prog (TpuEff nD τ sig (Elt F) Λ₀ .tc) PUnit → Prop) (h : ∀ P, Q P) : Q (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  exact h _
end

end Cert.AttnBwd

end
-- ==== Proof.Attn.RunA.lean ====
/- The run of the kernel's body at the first grid point. -/
module

public import proofs.«01_k».proof.Proof.Attn.Base

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid0.Coords)
  (arg1 : Memref sig .tc .smem S32 .f32) (harg1 : arg1.IsWhole)
  (arg2 : Memref sig .tc .vmem S1x256x512 .f32) (harg2 : arg2.IsWhole)
  (arg3 : Memref sig .tc .vmem S128x2048 .bf16) (harg3 : arg3.IsWhole)
  (arg4 : Memref sig .tc .vmem S128x512 .bf16) (harg4 : arg4.IsWhole)
  (arg5 : Memref sig .tc .vmem S128x512 .bf16) (harg5 : arg5.IsWhole)
  (arg6 : Memref sig .tc .vmem S128x512 .bf16) (harg6 : arg6.IsWhole)
  (arg7 : Memref sig .tc .vmem S128x512 .bf16) (harg7 : arg7.IsWhole)
  (arg8 : Memref sig .tc .vmem S128x512 .bf16) (harg8 : arg8.IsWhole)
  (arg9 : Memref sig .tc .vmem S128x512 .bf16) (harg9 : arg9.IsWhole)
  (arg10 : Memref sig .tc .vmem S128x2048 .f32) (harg10 : arg10.IsWhole)
  (arg11 : Memref sig .tc .vmem S128x2048 .bf16) (harg11 : arg11.IsWhole)
  (arg12 : Memref sig .tc .vmem S128x4608 .bf16) (harg12 : arg12.IsWhole)
  (arg13 : Memref sig .tc .vmem S128x512 .bf16) (harg13 : arg13.IsWhole)
  (arg14 : Memref sig .tc .vmem S32x128 .f32) (harg14 : arg14.IsWhole)
  (arg15 : Memref sig .tc .vmem S128x512 .f32) (harg15 : arg15.IsWhole)

set_option maxHeartbeats 2000000 in
/-- The body at the first grid point: the list of blocks it stores into each buffer, latest first, with the proof that the body, called with
    its inputs at `x0` … `x10`, ends with the inputs as they were and those blocks stored. -/
def runA (hc0 : cond0_0 i) (hc1 : ¬cond0_1 i) (hc2 : cond0_2 i)
    (x0 : Vec F S32 .f32) (x1 : Vec F S1x256x512 .f32) (x2 : Vec F S128x2048 .bf16) (x3 : Vec F S128x512 .bf16) (x4 : Vec F S128x512 .bf16) (x5 : Vec F S128x512 .bf16) (x6 : Vec F S128x512 .bf16) (x7 : Vec F S128x512 .bf16) (x8 : Vec F S128x512 .bf16) (x9 : Vec F S128x2048 .f32) (x10 : Vec F S128x2048 .bf16) :
    Σ' (L11 : List (View.Piece (Elt F) S128x4608 .bf16)), Σ' (L12 : List (View.Piece (Elt F) S128x512 .bf16)), Σ' (L13 : List (View.Piece (Elt F) S32x128 .f32)), { LS0 : List (View.Piece (Elt F) S128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    isplitl [H12]
    · iexists _; iexact H12
    isplitl [H13]
    · iexists _; iexact H13
    iexists _; iexact HS0

end

end Cert.AttnBwd

end
-- ==== Proof.Attn.RunB.lean ====
/- The run of the kernel's body at a grid point between the first and the last. -/
module

public import proofs.«01_k».proof.Proof.Attn.Base

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid0.Coords)
  (arg1 : Memref sig .tc .smem S32 .f32) (harg1 : arg1.IsWhole)
  (arg2 : Memref sig .tc .vmem S1x256x512 .f32) (harg2 : arg2.IsWhole)
  (arg3 : Memref sig .tc .vmem S128x2048 .bf16) (harg3 : arg3.IsWhole)
  (arg4 : Memref sig .tc .vmem S128x512 .bf16) (harg4 : arg4.IsWhole)
  (arg5 : Memref sig .tc .vmem S128x512 .bf16) (harg5 : arg5.IsWhole)
  (arg6 : Memref sig .tc .vmem S128x512 .bf16) (harg6 : arg6.IsWhole)
  (arg7 : Memref sig .tc .vmem S128x512 .bf16) (harg7 : arg7.IsWhole)
  (arg8 : Memref sig .tc .vmem S128x512 .bf16) (harg8 : arg8.IsWhole)
  (arg9 : Memref sig .tc .vmem S128x512 .bf16) (harg9 : arg9.IsWhole)
  (arg10 : Memref sig .tc .vmem S128x2048 .f32) (harg10 : arg10.IsWhole)
  (arg11 : Memref sig .tc .vmem S128x2048 .bf16) (harg11 : arg11.IsWhole)
  (arg12 : Memref sig .tc .vmem S128x4608 .bf16) (harg12 : arg12.IsWhole)
  (arg13 : Memref sig .tc .vmem S128x512 .bf16) (harg13 : arg13.IsWhole)
  (arg14 : Memref sig .tc .vmem S32x128 .f32) (harg14 : arg14.IsWhole)
  (arg15 : Memref sig .tc .vmem S128x512 .f32) (harg15 : arg15.IsWhole)

set_option maxHeartbeats 2000000 in
/-- The body at a grid point between the first and the last: the list of blocks it stores into each buffer, latest first, with the proof that the body, called with
    its inputs at `x0` … `x10`, ends with the inputs as they were and those blocks stored. -/
def runB (hc0 : ¬cond0_0 i) (hc1 : ¬cond0_1 i) (hc2 : cond0_2 i)
    (x0 : Vec F S32 .f32) (x1 : Vec F S1x256x512 .f32) (x2 : Vec F S128x2048 .bf16) (x3 : Vec F S128x512 .bf16) (x4 : Vec F S128x512 .bf16) (x5 : Vec F S128x512 .bf16) (x6 : Vec F S128x512 .bf16) (x7 : Vec F S128x512 .bf16) (x8 : Vec F S128x512 .bf16) (x9 : Vec F S128x2048 .f32) (x10 : Vec F S128x2048 .bf16) (xo13 : Vec F S32x128 .f32) (xs0 : Vec F S128x512 .f32) :
    Σ' (L11 : List (View.Piece (Elt F) S128x4608 .bf16)), Σ' (L12 : List (View.Piece (Elt F) S128x512 .bf16)), Σ' (L13 : List (View.Piece (Elt F) S32x128 .f32)), { LS0 : List (View.Piece (Elt F) S128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xo13 ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hf13; obtain rfl := harg15.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexact H11
    isplitl [H12]
    · iexists _; iexact H12
    isplitl [H13]
    · iexists _; iexact H13
    iexists _; iexact HS0

end

end Cert.AttnBwd

end
-- ==== Proof.Attn.RunC.lean ====
/- The run of the kernel's body at the last grid point. -/
module

public import proofs.«01_k».proof.Proof.Attn.Base

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid0.Coords)
  (arg1 : Memref sig .tc .smem S32 .f32) (harg1 : arg1.IsWhole)
  (arg2 : Memref sig .tc .vmem S1x256x512 .f32) (harg2 : arg2.IsWhole)
  (arg3 : Memref sig .tc .vmem S128x2048 .bf16) (harg3 : arg3.IsWhole)
  (arg4 : Memref sig .tc .vmem S128x512 .bf16) (harg4 : arg4.IsWhole)
  (arg5 : Memref sig .tc .vmem S128x512 .bf16) (harg5 : arg5.IsWhole)
  (arg6 : Memref sig .tc .vmem S128x512 .bf16) (harg6 : arg6.IsWhole)
  (arg7 : Memref sig .tc .vmem S128x512 .bf16) (harg7 : arg7.IsWhole)
  (arg8 : Memref sig .tc .vmem S128x512 .bf16) (harg8 : arg8.IsWhole)
  (arg9 : Memref sig .tc .vmem S128x512 .bf16) (harg9 : arg9.IsWhole)
  (arg10 : Memref sig .tc .vmem S128x2048 .f32) (harg10 : arg10.IsWhole)
  (arg11 : Memref sig .tc .vmem S128x2048 .bf16) (harg11 : arg11.IsWhole)
  (arg12 : Memref sig .tc .vmem S128x4608 .bf16) (harg12 : arg12.IsWhole)
  (arg13 : Memref sig .tc .vmem S128x512 .bf16) (harg13 : arg13.IsWhole)
  (arg14 : Memref sig .tc .vmem S32x128 .f32) (harg14 : arg14.IsWhole)
  (arg15 : Memref sig .tc .vmem S128x512 .f32) (harg15 : arg15.IsWhole)

set_option maxHeartbeats 2000000 in
/-- The body at the last grid point: the list of blocks it stores into each buffer, latest first, with the proof that the body, called with
    its inputs at `x0` … `x10`, ends with the inputs as they were and those blocks stored. -/
def runC (hc0 : ¬cond0_0 i) (hc1 : cond0_1 i) (hc2 : ¬cond0_2 i)
    (x0 : Vec F S32 .f32) (x1 : Vec F S1x256x512 .f32) (x2 : Vec F S128x2048 .bf16) (x3 : Vec F S128x512 .bf16) (x4 : Vec F S128x512 .bf16) (x5 : Vec F S128x512 .bf16) (x6 : Vec F S128x512 .bf16) (x7 : Vec F S128x512 .bf16) (x8 : Vec F S128x512 .bf16) (x9 : Vec F S128x2048 .f32) (x10 : Vec F S128x2048 .bf16) (xo11 : Vec F S128x4608 .bf16) (xo13 : Vec F S32x128 .f32) (xs0 : Vec F S128x512 .f32) :
    { L12 : List (View.Piece (Elt F) S128x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo11 ∗ (∃ d, owns (c : Thread nD τ) arg13 fullShare d) ∗ owns (c : Thread nD τ) arg14 fullShare xo13 ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo11 ∗ (∃ f, arg13.view.loc (c : Thread nD τ) ↦[arg13.view.set]{fullShare} arg13.view.writes (Elt F) f L12) ∗ owns (c : Thread nD τ) arg14 fullShare xo13 ∗ owns (c : Thread nD τ) arg15 fullShare xs0) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; iexact H12
    isplitl [H13]
    · iexists _; isplitr; · ipureintro; exact harg14.read_unread _
      iexact H13
    iexists _; isplitr; · ipureintro; exact harg15.read_unread _
    iexact HS0

end

end Cert.AttnBwd

end
-- ==== Proof.Attn.Frame.lean ====
/- The launch of the attention's gradient: what the kernel may leave in each buffer at each grid point, the body's triple
   there, and the run of the whole program. -/

module

public import proofs.«01_k».proof.Proof.Attn.RunA
public import proofs.«01_k».proof.Proof.Attn.RunB
public import proofs.«01_k».proof.Proof.Attn.RunC
public import Idealize.ShloMosaic.Lib.Claim

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three runs at a grid point's own buffers -/

theorem hypA0 {t : Fin cfg0.N} (h : t.val = 0) : cond0_0 (grid0.coords t) := (hcond0_0 t).mpr (by omega)
theorem hypA1 {t : Fin cfg0.N} (h : t.val = 0) : ¬cond0_1 (grid0.coords t) := fun e => by have := (hcond0_1 t).mp e; omega
theorem hypA2 {t : Fin cfg0.N} (h : t.val = 0) : cond0_2 (grid0.coords t) := (hcond0_2 t).mpr (by omega)
theorem hypB0 {t : Fin cfg0.N} (h : t.val ≠ 0) (h' : t.val < 64) : ¬cond0_0 (grid0.coords t) := fun e => by
  have := (hcond0_0 t).mp e; omega
theorem hypB1 {t : Fin cfg0.N} (h' : t.val < 64) : ¬cond0_1 (grid0.coords t) := fun e => by
  have := (hcond0_1 t).mp e; omega
theorem hypB2 {t : Fin cfg0.N} (h' : t.val < 64) : cond0_2 (grid0.coords t) := (hcond0_2 t).mpr h'
theorem hypC {t : Fin cfg0.N} (h' : ¬t.val < 64) : t.val = 64 := by
  have hN : t.val < 65 := lt_of_lt_of_eq t.isLt (show cfg0.N = 65 from N_0); omega
theorem hypC0 {t : Fin cfg0.N} (h' : ¬t.val < 64) : ¬cond0_0 (grid0.coords t) := fun e => by
  have := (hcond0_0 t).mp e; have := hypC h'; omega
theorem hypC1 {t : Fin cfg0.N} (h' : ¬t.val < 64) : cond0_1 (grid0.coords t) := (hcond0_1 t).mpr (by have := hypC h'; omega)
theorem hypC2 {t : Fin cfg0.N} (h' : ¬t.val < 64) : ¬cond0_2 (grid0.coords t) := fun e => h' ((hcond0_2 t).mp e)

/-- The first point's run on the buffers of grid point `t`. -/
abbrev stepA (c : Dev nD) (t : Fin cfg0.N) (h : t.val = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    (hypA0 h) (hypA1 h) (hypA2 h) (iblk m c 0 t) (iblk m c 1 t) (X0_2 m c t) (iblk m c 3 t) (iblk m c 4 t) (iblk m c 5 t) (iblk m c 6 t) (iblk m c 7 t) (iblk m c 8 t) (iblk m c 9 t) (iblk m c 10 t)

/-- A middle point's run on the buffers of grid point `t`, the sinks' gradients found at `Y`, the carried block at `S`. -/
abbrev stepB (c : Dev nD) (t : Fin cfg0.N) (h : t.val ≠ 0) (h' : t.val < 64) (Y : Vec F S32x128 .f32) (S : Vec F S128x512 .f32) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    (hypB0 h h') (hypB1 h') (hypB2 h') (iblk m c 0 t) (iblk m c 1 t) (X0_2 m c t) (iblk m c 3 t) (iblk m c 4 t) (iblk m c 5 t) (iblk m c 6 t) (iblk m c 7 t) (iblk m c 8 t) (iblk m c 9 t) (iblk m c 10 t) Y S

/-- The last point's run on the buffers of grid point `t`, which leaves `Z` and `Y` as found and stores the carried block `S`. -/
abbrev stepC (c : Dev nD) (t : Fin cfg0.N) (h' : ¬t.val < 64) (Z : Vec F S128x4608 .bf16) (Y : Vec F S32x128 .f32) (S : Vec F S128x512 .f32) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _)
    (hypC0 h') (hypC1 h') (hypC2 h') (iblk m c 0 t) (iblk m c 1 t) (X0_2 m c t) (iblk m c 3 t) (iblk m c 4 t) (iblk m c 5 t) (iblk m c 6 t) (iblk m c 7 t) (iblk m c 8 t) (iblk m c 9 t) (iblk m c 10 t) Z Y S

/-! ## What each point may leave -/

/-- `X` is what a buffer holds after the pieces `L` were stored into it, whatever it held before. -/
def Stored {sp : Space} {s : Shape} {e : EltTy} (M : Memref sig .tc sp s e) (L : List (View.Piece (Elt F) s e)) (X : Vec F s e) : Prop :=
  ∃ f, X = M.view.read (Elt F) (M.view.writes (Elt F) f L)

/-- What the carried block may hold after point `t`. -/
def Carry (c : Dev nD) (t : Fin cfg0.N) (S : Vec F S128x512 .f32) : Prop :=
  if h : t.val = 0 then Stored scM0_0 (stepA m c t h).2.2.2.1 S
  else if h' : t.val < 64 then ∃ Y S', Stored scM0_0 (stepB m c t h h' Y S').2.2.2.1 S
  else True

/-- The point before `t`. -/
abbrev prev (t : Fin cfg0.N) : Fin cfg0.N := ⟨t.val - 1, Nat.lt_of_le_of_lt (Nat.sub_le _ _) t.isLt⟩

/-- What point `t` may leave in the block of the first result (the gradient of the queries and of the gate). -/
def Rel11 (c : Dev nD) (t : Fin cfg0.N) (Y X : Vec F S128x4608 .bf16) : Prop :=
  if h : t.val = 0 then Stored (ms0_11 t) (stepA m c t h).1 X
  else if h' : t.val < 64 then ∃ Y13 S, Stored (ms0_11 t) (stepB m c t h h' Y13 S).1 X
  else X = Y

/-- What point `t` may leave in the block of the second result (the gradient of the keys and values). -/
def Rel12 (c : Dev nD) (t : Fin cfg0.N) (X : Vec F S128x512 .bf16) : Prop :=
  if h : t.val = 0 then Stored (ms0_12 t) (stepA m c t h).2.1 X
  else if h' : t.val < 64 then ∃ Y S, Carry m c (prev t) S ∧ Stored (ms0_12 t) (stepB m c t h h' Y S).2.1 X
  else ∃ Z Y S, Carry m c (prev t) S ∧ Stored (ms0_12 t) (stepC m c t h' Z Y S).1 X

/-- What point `t`, finding `Y`, may leave in the block of the third result (the gradient of the sinks). -/
def Rel13 (c : Dev nD) (t : Fin cfg0.N) (Y X : Vec F S32x128 .f32) : Prop :=
  if h : t.val = 0 then Stored (ms0_13 t) (stepA m c t h).2.2.1 X
  else if h' : t.val < 64 then ∃ S, Stored (ms0_13 t) (stepB m c t h h' Y S).2.2.1 X
  else X = Y

/-- The invariant before point `n`: the carried block at something the point before may have left. -/
def PhiS (c : Dev nD) : (n : ℕ) → n ≤ cfg0.N → sProp 𝕄
  | 0, _ => Pipeline.ΦA spec0 c
  | n + 1, hn => iprop((∃ S, ⌜Carry m c ⟨n, hn⟩ S⌝ ∗ owns (c : Thread nD τ) scM0_0 fullShare S) ∗ (∃ r, prngReg c r))

theorem PhiS_pos (c : Dev nD) (t : Fin cfg0.N) (h : t.val ≠ 0) : PhiS m c t.val (Nat.le_of_lt t.isLt)
    = iprop((∃ S, ⌜Carry m c (prev t) S⌝ ∗ owns (c : Thread nD τ) scM0_0 fullShare S) ∗ (∃ r, prngReg c r)) := by
  obtain ⟨n, hn⟩ := t
  cases n with
  | zero => exact absurd rfl h
  | succ n => rfl

/-! ## The proof's data -/

/-- The data of the inputs, each of whose buffers holds its block throughout; of the results nothing is named. -/
def inDat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ t := PhiS m c t.val (Nat.le_of_lt_succ t.isLt)
  q w := Pipeline.shareOf spec0 w
  owed _ := 0

/-- Each result's own relation. -/
def outRel (c : Dev nD) : (w : Fin cfg0.W) → Option (Fin cfg0.N → (Y X : (cfg0.win w).block.Idx → Elt F (cfg0.win w).elt) → Prop)
  | ⟨11, _⟩ => some (Rel11 m c)
  | ⟨12, _⟩ => some (fun t _ X => Rel12 m c t X)
  | ⟨13, _⟩ => some (Rel13 m c)
  | _ => none

/-- The data of the launch: the inputs' named, the results' constrained. -/
def rdat (c : Dev nD) : RDat τ (Elt F) Unit ℕ (UR sig nD τ) ℕ cfg0 c := (inDat m c).toR.override (outRel m c)

theorem inDat_A (c : Dev nD) (w : Fin cfg0.W) : (inDat m c).A w = V m c (Pipeline.arrRef spec0 w) := by dsimp only [inDat]
theorem rdat_A (c : Dev nD) (w : Fin cfg0.W) : (rdat m c).A w = V m c (Pipeline.arrRef spec0 w) := by
  rw [rdat, RDat.override_A, Dat.toR_A]; exact inDat_A m c w

theorem after_0 (c : Dev nD) (t : Fin cfg0.N) : (inDat m c).after 0 t = iblk m c 0 t := by dsimp only [inDat]
/-- Input 0's buffer can only hold its block. -/
theorem finds_0 (c : Dev nD) (t : Fin cfg0.N) (Y) (h : (rdat m c).Finds 0 t Y) : Y = iblk m c 0 t := by
  obtain ⟨d, hd⟩ := (inDat m c).toR_finds 0 t Y (((inDat m c).toR.override_finds (ovr := outRel m c) rfl t Y).mp h)
  rw [hd]; exact before0_0_of m (inDat m c) (inDat_A m c 0) (after_0 m c) t d
/-- Leaving the block there is what is asked of it. -/
theorem stays_0 (c : Dev nD) (t : Fin cfg0.N) (Y) : (rdat m c).after 0 t Y (iblk m c 0 t) := by
  rw [rdat, RDat.override_after_of_eq_none _ rfl]
  show (inDat m c).Leaves 0 t _
  unfold Dat.Leaves; rw [liveAt0_0 t]
  exact (after_0 m c t).symm
theorem after_1 (c : Dev nD) (t : Fin cfg0.N) : (inDat m c).after 1 t = iblk m c 1 t := by dsimp only [inDat]
/-- Input 1's buffer can only hold its block. -/
theorem finds_1 (c : Dev nD) (t : Fin cfg0.N) (Y) (h : (rdat m c).Finds 1 t Y) : Y = iblk m c 1 t := by
  obtain ⟨d, hd⟩ := (inDat m c).toR_finds 1 t Y (((inDat m c).toR.override_finds (ovr := outRel m c) rfl t Y).mp h)
  rw [hd]; exact before0_1_of m (inDat m c) (inDat_A m c 1) (after_1 m c) t d
/-- Leaving the block there is what is asked of it. -/
theorem stays_1 (c : Dev nD) (t : Fin cfg0.N) (Y) : (rdat m c).after 1 t Y (iblk m c 1 t) := by
  rw [rdat, RDat.override_after_of_eq_none _ rfl]
  show (inDat m c).Leaves 1 t _
  unfold Dat.Leaves; rw [liveAt0_1 t]
  exact (after_1 m c t).symm
theorem after_2 (c : Dev nD) (t : Fin cfg0.N) : (inDat m c).after 2 t = X0_2 m c t := by dsimp only [inDat]
/-- Input 2's buffer can only hold its block. -/
theorem finds_2 (c : Dev nD) (t : Fin cfg0.N) (Y) (h : (rdat m c).Finds 2 t Y) : Y = X0_2 m c t := by
  obtain ⟨d, hd⟩ := (inDat m c).toR_finds 2 t Y (((inDat m c).toR.override_finds (ovr := outRel m c) rfl t Y).mp h)
  rw [hd]; exact before0_2_of m (inDat m c) (inDat_A m c 2) (after_2 m c) t d
/-- Leaving the block there is what is asked of it. -/
theorem stays_2 (c : Dev nD) (t : Fin cfg0.N) (Y) : (rdat m c).after 2 t Y (X0_2 m c t) := by
  rw [rdat, RDat.override_after_of_eq_none _ rfl]
  show (inDat m c).Leaves 2 t _
  unfold Dat.Leaves; rw [liveAt0_2 t]
  exact ⟨dflt0_2, by rw [after_2]; unfold X0_2; rw [Pipeline.Window.cut_fill]⟩
theorem after_3 (c : Dev nD) (t : Fin cfg0.N) : (inDat m c).after 3 t = iblk m c 3 t := by dsimp only [inDat]
/-- Input 3's buffer can only hold its block. -/
theorem finds_3 (c : Dev nD) (t : Fin cfg0.N) (Y) (h : (rdat m c).Finds 3 t Y) : Y = iblk m c 3 t := by
  obtain ⟨d, hd⟩ := (inDat m c).toR_finds 3 t Y (((inDat m c).toR.override_finds (ovr := outRel m c) rfl t Y).mp h)
  rw [hd]; exact before0_3_of m (inDat m c) (inDat_A m c 3) (after_3 m c) t d
/-- Leaving the block there is what is asked of it. -/
theorem stays_3 (c : Dev nD) (t : Fin cfg0.N) (Y) : (rdat m c).after 3 t Y (iblk m c 3 t) := by
  rw [rdat, RDat.override_after_of_eq_none _ rfl]
  show (inDat m c).Leaves 3 t _
  unfold Dat.Leaves; rw [liveAt0_3 t]
  exact (after_3 m c t).symm
theorem after_4 (c : Dev nD) (t : Fin cfg0.N) : (inDat m c).after 4 t = iblk m c 4 t := by dsimp only [inDat]
/-- Input 4's buffer can only hold its block. -/
theorem finds_4 (c : Dev nD) (t : Fin cfg0.N) (Y) (h : (rdat m c).Finds 4 t Y) : Y = iblk m c 4 t := by
  obtain ⟨d, hd⟩ := (inDat m c).toR_finds 4 t Y (((inDat m c).toR.override_finds (ovr := outRel m c) rfl t Y).mp h)
  rw [hd]; exact before0_4_of m (inDat m c) (inDat_A m c 4) (after_4 m c) t d
/-- Leaving the block there is what is asked of it. -/
theorem stays_4 (c : Dev nD) (t : Fin cfg0.N) (Y) : (rdat m c).after 4 t Y (iblk m c 4 t) := by
  rw [rdat, RDat.override_after_of_eq_none _ rfl]
  show (inDat m c).Leaves 4 t _
  unfold Dat.Leaves; rw [liveAt0_4 t]
  exact (after_4 m c t).symm
theorem after_5 (c : Dev nD) (t : Fin cfg0.N) : (inDat m c).after 5 t = iblk m c 5 t := by dsimp only [inDat]
/-- Input 5's buffer can only hold its block. -/
theorem finds_5 (c : Dev nD) (t : Fin cfg0.N) (Y) (h : (rdat m c).Finds 5 t Y) : Y = iblk m c 5 t := by
  obtain ⟨d, hd⟩ := (inDat m c).toR_finds 5 t Y (((inDat m c).toR.override_finds (ovr := outRel m c) rfl t Y).mp h)
  rw [hd]; exact before0_5_of m (inDat m c) (inDat_A m c 5) (after_5 m c) t d
/-- Leaving the block there is what is asked of it. -/
theorem stays_5 (c : Dev nD) (t : Fin cfg0.N) (Y) : (rdat m c).after 5 t Y (iblk m c 5 t) := by
  rw [rdat, RDat.override_after_of_eq_none _ rfl]
  show (inDat m c).Leaves 5 t _
  unfold Dat.Leaves; rw [liveAt0_5 t]
  exact (after_5 m c t).symm
theorem after_6 (c : Dev nD) (t : Fin cfg0.N) : (inDat m c).after 6 t = iblk m c 6 t := by dsimp only [inDat]
/-- Input 6's buffer can only hold its block. -/
theorem finds_6 (c : Dev nD) (t : Fin cfg0.N) (Y) (h : (rdat m c).Finds 6 t Y) : Y = iblk m c 6 t := by
  obtain ⟨d, hd⟩ := (inDat m c).toR_finds 6 t Y (((inDat m c).toR.override_finds (ovr := outRel m c) rfl t Y).mp h)
  rw [hd]; exact before0_6_of m (inDat m c) (inDat_A m c 6) (after_6 m c) t d
/-- Leaving the block there is what is asked of it. -/
theorem stays_6 (c : Dev nD) (t : Fin cfg0.N) (Y) : (rdat m c).after 6 t Y (iblk m c 6 t) := by
  rw [rdat, RDat.override_after_of_eq_none _ rfl]
  show (inDat m c).Leaves 6 t _
  unfold Dat.Leaves; rw [liveAt0_6 t]
  exact (after_6 m c t).symm
theorem after_7 (c : Dev nD) (t : Fin cfg0.N) : (inDat m c).after 7 t = iblk m c 7 t := by dsimp only [inDat]
/-- Input 7's buffer can only hold its block. -/
theorem finds_7 (c : Dev nD) (t : Fin cfg0.N) (Y) (h : (rdat m c).Finds 7 t Y) : Y = iblk m c 7 t := by
  obtain ⟨d, hd⟩ := (inDat m c).toR_finds 7 t Y (((inDat m c).toR.override_finds (ovr := outRel m c) rfl t Y).mp h)
  rw [hd]; exact before0_7_of m (inDat m c) (inDat_A m c 7) (after_7 m c) t d
/-- Leaving the block there is what is asked of it. -/
theorem stays_7 (c : Dev nD) (t : Fin cfg0.N) (Y) : (rdat m c).after 7 t Y (iblk m c 7 t) := by
  rw [rdat, RDat.override_after_of_eq_none _ rfl]
  show (inDat m c).Leaves 7 t _
  unfold Dat.Leaves; rw [liveAt0_7 t]
  exact (after_7 m c t).symm
theorem after_8 (c : Dev nD) (t : Fin cfg0.N) : (inDat m c).after 8 t = iblk m c 8 t := by dsimp only [inDat]
/-- Input 8's buffer can only hold its block. -/
theorem finds_8 (c : Dev nD) (t : Fin cfg0.N) (Y) (h : (rdat m c).Finds 8 t Y) : Y = iblk m c 8 t := by
  obtain ⟨d, hd⟩ := (inDat m c).toR_finds 8 t Y (((inDat m c).toR.override_finds (ovr := outRel m c) rfl t Y).mp h)
  rw [hd]; exact before0_8_of m (inDat m c) (inDat_A m c 8) (after_8 m c) t d
/-- Leaving the block there is what is asked of it. -/
theorem stays_8 (c : Dev nD) (t : Fin cfg0.N) (Y) : (rdat m c).after 8 t Y (iblk m c 8 t) := by
  rw [rdat, RDat.override_after_of_eq_none _ rfl]
  show (inDat m c).Leaves 8 t _
  unfold Dat.Leaves; rw [liveAt0_8 t]
  exact (after_8 m c t).symm
theorem after_9 (c : Dev nD) (t : Fin cfg0.N) : (inDat m c).after 9 t = iblk m c 9 t := by dsimp only [inDat]
/-- Input 9's buffer can only hold its block. -/
theorem finds_9 (c : Dev nD) (t : Fin cfg0.N) (Y) (h : (rdat m c).Finds 9 t Y) : Y = iblk m c 9 t := by
  obtain ⟨d, hd⟩ := (inDat m c).toR_finds 9 t Y (((inDat m c).toR.override_finds (ovr := outRel m c) rfl t Y).mp h)
  rw [hd]; exact before0_9_of m (inDat m c) (inDat_A m c 9) (after_9 m c) t d
/-- Leaving the block there is what is asked of it. -/
theorem stays_9 (c : Dev nD) (t : Fin cfg0.N) (Y) : (rdat m c).after 9 t Y (iblk m c 9 t) := by
  rw [rdat, RDat.override_after_of_eq_none _ rfl]
  show (inDat m c).Leaves 9 t _
  unfold Dat.Leaves; rw [liveAt0_9 t]
  exact (after_9 m c t).symm
theorem after_10 (c : Dev nD) (t : Fin cfg0.N) : (inDat m c).after 10 t = iblk m c 10 t := by dsimp only [inDat]
/-- Input 10's buffer can only hold its block. -/
theorem finds_10 (c : Dev nD) (t : Fin cfg0.N) (Y) (h : (rdat m c).Finds 10 t Y) : Y = iblk m c 10 t := by
  obtain ⟨d, hd⟩ := (inDat m c).toR_finds 10 t Y (((inDat m c).toR.override_finds (ovr := outRel m c) rfl t Y).mp h)
  rw [hd]; exact before0_10_of m (inDat m c) (inDat_A m c 10) (after_10 m c) t d
/-- Leaving the block there is what is asked of it. -/
theorem stays_10 (c : Dev nD) (t : Fin cfg0.N) (Y) : (rdat m c).after 10 t Y (iblk m c 10 t) := by
  rw [rdat, RDat.override_after_of_eq_none _ rfl]
  show (inDat m c).Leaves 10 t _
  unfold Dat.Leaves; rw [liveAt0_10 t]
  exact (after_10 m c t).symm

theorem rel_11 (c : Dev nD) (t : Fin cfg0.N) : (rdat m c).after 11 t = Rel11 m c t := by
  rw [rdat, RDat.override_after_of_eq_some _ (R := Rel11 m c) rfl]
theorem rel_12 (c : Dev nD) (t : Fin cfg0.N) : (rdat m c).after 12 t = fun _ X => Rel12 m c t X := by
  rw [rdat, RDat.override_after_of_eq_some _ (R := fun t _ X => Rel12 m c t X) rfl]; rfl
theorem rel_13 (c : Dev nD) (t : Fin cfg0.N) : (rdat m c).after 13 t = Rel13 m c t := by
  rw [rdat, RDat.override_after_of_eq_some _ (R := Rel13 m c) rfl]

/-! ## The body's triple -/

/-- What the body is called with at point `t`, -/
def bodyPre (c : Dev nD) (t : Fin cfg0.N) (Y11 : Vec F S128x4608 .bf16) (Y12 : Vec F S128x512 .bf16) (Y13 : Vec F S32x128 .f32) : sProp 𝕄 :=
  iprop(PhiS m c t.val (Nat.le_of_lt t.isLt) ∗ (inDat m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (X0_2 m c t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare Y11
    ∗ owns (c : Thread nD τ) (ms0_12 t) fullShare Y12
    ∗ owns (c : Thread nD τ) (ms0_13 t) fullShare Y13)

/-- and what it returns. -/
def bodyPost (c : Dev nD) (t : Fin cfg0.N) (Y11 : Vec F S128x4608 .bf16) (Y13 : Vec F S32x128 .f32) : sProp 𝕄 :=
  iprop(PhiS m c (t.val + 1) t.isLt ∗ (inDat m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (X0_2 m c t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ (∃ X, ⌜Rel11 m c t Y11 X⌝ ∗ owns (c : Thread nD τ) (ms0_11 t) fullShare X)
    ∗ (∃ X, ⌜Rel12 m c t X⌝ ∗ owns (c : Thread nD τ) (ms0_12 t) fullShare X)
    ∗ (∃ X, ⌜Rel13 m c t Y13 X⌝ ∗ owns (c : Thread nD τ) (ms0_13 t) fullShare X))

set_option maxHeartbeats 4000000 in
/-- The body's triple at the first point. -/
theorem sound_A (c : Dev nD) (t : Fin cfg0.N) (h : t.val = 0) (Y11 Y12 Y13) : bodyPre m c t Y11 Y12 Y13
    ⊢ wp frame (wpE (defs₀ (F := F)) Variants.none c none) Set.univ (bodyAt0 t) (fun _ => bodyPost m c t Y11 Y13) := by
  have hphi : PhiS m c t.val (Nat.le_of_lt t.isLt) = Pipeline.ΦA spec0 c := by
    obtain ⟨n, hn⟩ := t
    cases n with
    | zero => rfl
    | succ n => exact absurd h (Nat.succ_ne_zero n)
  unfold bodyPre bodyPost bodyAt0
  rw [hphi, PhiA0_eq]
  dsimp only [PhiS]
  iintro ⟨⟨HS0, Hg⟩, Ho, H0, H1, H2, H3, H4, H5, H6, H7, H8, H9, H10, H11, H12, H13⟩
  iapply ((stepA m c t h).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [HS0]; · iexact HS0
  iintro ⟨H0, H1, H2, H3, H4, H5, H6, H7, H8, H9, H10, ⟨%e11, H11⟩, ⟨%e12, H12⟩, ⟨%e13, H13⟩, ⟨%es0, HS0⟩⟩
  isplitl [HS0 Hg]
  · isplitl [HS0]
    · iexists _; isplitr
      swap
      · unfold owns; iexists _; isplitr
        swap; · iexact HS0
        ipureintro; rfl
      ipureintro; unfold Carry; rw [dif_pos h]; exact ⟨_, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr
    swap
    · unfold owns; iexists _; isplitr
      swap; · iexact H11
      ipureintro; rfl
    ipureintro; unfold Rel11; rw [dif_pos h]; exact ⟨_, rfl⟩
  isplitl [H12]
  · iexists _; isplitr
    swap
    · unfold owns; iexists _; isplitr
      swap; · iexact H12
      ipureintro; rfl
    ipureintro; unfold Rel12; rw [dif_pos h]; exact ⟨_, rfl⟩
  iexists _; isplitr
  swap
  · unfold owns; iexists _; isplitr
    swap; · iexact H13
    ipureintro; rfl
  ipureintro; unfold Rel13; rw [dif_pos h]; exact ⟨_, rfl⟩

set_option maxHeartbeats 4000000 in
/-- The body's triple at a middle point. -/
theorem sound_B (c : Dev nD) (t : Fin cfg0.N) (h : t.val ≠ 0) (h' : t.val < 64) (Y11 Y12 Y13) : bodyPre m c t Y11 Y12 Y13
    ⊢ wp frame (wpE (defs₀ (F := F)) Variants.none c none) Set.univ (bodyAt0 t) (fun _ => bodyPost m c t Y11 Y13) := by
  unfold bodyPre bodyPost bodyAt0
  rw [PhiS_pos m c t h]
  dsimp only [PhiS]
  iintro ⟨⟨⟨%S, %hS, HS0⟩, Hg⟩, Ho, H0, H1, H2, H3, H4, H5, H6, H7, H8, H9, H10, H11, H12, H13⟩
  iapply ((stepB m c t h h' Y13 S).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexact H13
  isplitl [HS0]; · iexact HS0
  iintro ⟨H0, H1, H2, H3, H4, H5, H6, H7, H8, H9, H10, ⟨%e11, H11⟩, ⟨%e12, H12⟩, ⟨%e13, H13⟩, ⟨%es0, HS0⟩⟩
  isplitl [HS0 Hg]
  · isplitl [HS0]
    · iexists _; isplitr
      swap
      · unfold owns; iexists _; isplitr
        swap; · iexact HS0
        ipureintro; rfl
      ipureintro; unfold Carry; rw [dif_neg h, dif_pos h']; exact ⟨Y13, S, _, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr
    swap
    · unfold owns; iexists _; isplitr
      swap; · iexact H11
      ipureintro; rfl
    ipureintro; unfold Rel11; rw [dif_neg h, dif_pos h']; exact ⟨Y13, S, _, rfl⟩
  isplitl [H12]
  · iexists _; isplitr
    swap
    · unfold owns; iexists _; isplitr
      swap; · iexact H12
      ipureintro; rfl
    ipureintro; unfold Rel12; rw [dif_neg h, dif_pos h']; exact ⟨Y13, S, hS, _, rfl⟩
  iexists _; isplitr
  swap
  · unfold owns; iexists _; isplitr
    swap; · iexact H13
    ipureintro; rfl
  ipureintro; unfold Rel13; rw [dif_neg h, dif_pos h']; exact ⟨S, _, rfl⟩

set_option maxHeartbeats 4000000 in
/-- The body's triple at the last point. -/
theorem sound_C (c : Dev nD) (t : Fin cfg0.N) (h' : ¬t.val < 64) (Y11 Y12 Y13) : bodyPre m c t Y11 Y12 Y13
    ⊢ wp frame (wpE (defs₀ (F := F)) Variants.none c none) Set.univ (bodyAt0 t) (fun _ => bodyPost m c t Y11 Y13) := by
  have h : t.val ≠ 0 := by have := hypC h'; omega
  unfold bodyPre bodyPost bodyAt0
  rw [PhiS_pos m c t h]
  dsimp only [PhiS]
  iintro ⟨⟨⟨%S, %hS, HS0⟩, Hg⟩, Ho, H0, H1, H2, H3, H4, H5, H6, H7, H8, H9, H10, H11, H12, H13⟩
  iapply ((stepC m c t h' Y11 Y13 S).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [HS0]; · iexact HS0
  iintro ⟨H0, H1, H2, H3, H4, H5, H6, H7, H8, H9, H10, H11, ⟨%e12, H12⟩, H13, HS0⟩
  isplitl [HS0 Hg]
  · isplitl [HS0]
    · iexists _; isplitr
      swap; · iexact HS0
      ipureintro; unfold Carry; rw [dif_neg h, dif_neg h']; trivial
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr
    swap; · iexact H11
    ipureintro; unfold Rel11; rw [dif_neg h, dif_neg h']
  isplitl [H12]
  · iexists _; isplitr
    swap
    · unfold owns; iexists _; isplitr
      swap; · iexact H12
      ipureintro; rfl
    ipureintro; unfold Rel12; rw [dif_neg h, dif_neg h']; exact ⟨Y11, Y13, S, hS, _, rfl⟩
  iexists _; isplitr
  swap; · iexact H13
  ipureintro; unfold Rel13; rw [dif_neg h, dif_neg h']

/-- The body's triple at any point. -/
theorem sound_body (c : Dev nD) (t : Fin cfg0.N) (Y11 Y12 Y13) : bodyPre m c t Y11 Y12 Y13
    ⊢ wp frame (wpE (defs₀ (F := F)) Variants.none c none) Set.univ (bodyAt0 t) (fun _ => bodyPost m c t Y11 Y13) := by
  by_cases h : t.val = 0
  · exact sound_A m c t h Y11 Y12 Y13
  · by_cases h' : t.val < 64
    · exact sound_B m c t h h' Y11 Y12 Y13
    · exact sound_C m c t h' Y11 Y12 Y13

/-- The body table's row at point `t`'s buffers is the kernel's body. -/
theorem row_eq (t : Fin cfg0.N) : defs₀ (F := F) .tc cfg0.body (cfg0.bodyArgs t (cfg0.slots t)) = bodyAt0 t := by
  unfold defs₀; rw [Defs.onTc_tc]

/-- An input's buffer handed back at its block. -/
theorem give (c : Dev nD) (w : Fin cfg0.W) (t : Fin cfg0.N) (Y X) (h : (rdat m c).after w t Y X) :
    owns (c : Thread nD τ) ((cfg0.win w).stage (cfg0.slots t w)) fullShare X
      ⊢ (iprop(∃ X, ⌜(rdat m c).after w t Y X⌝ ∗ owns (c : Thread nD τ) ((cfg0.win w).stage (cfg0.slots t w)) fullShare X) : sProp 𝕄) := by
  iintro H; iexists X; isplitr
  · ipureintro; exact h
  iexact H

set_option maxHeartbeats 4000000 in
/-- The body keeps the launch's data at every point. -/
theorem body_obligation (c : Dev nD) : (rdat (F := F) m c).BodyObligation (defs₀ (F := F)) Variants.none () Set.univ := fun t Y hY => by
  have e0 := finds_0 m c t _ (hY 0)
  have e1 := finds_1 m c t _ (hY 1)
  have e2 := finds_2 m c t _ (hY 2)
  have e3 := finds_3 m c t _ (hY 3)
  have e4 := finds_4 m c t _ (hY 4)
  have e5 := finds_5 m c t _ (hY 5)
  have e6 := finds_6 m c t _ (hY 6)
  have e7 := finds_7 m c t _ (hY 7)
  have e8 := finds_8 m c t _ (hY 8)
  have e9 := finds_9 m c t _ (hY 9)
  have e10 := finds_10 m c t _ (hY 10)
  rw [bigSep_W0, bigSep_W0, row_eq]
  refine triple_restated (sound_body m c t (Y 11) (Y 12) (Y 13)) rfl ?_ fun _ => ?_
  · rw [e0, e1, e2, e3, e4, e5, e6, e7, e8, e9, e10]
    exact .rfl
  · show bodyPost m c t (Y 11) (Y 13) ⊢ _
    unfold bodyPost
    iintro ⟨HP, Ho, H0, H1, H2, H3, H4, H5, H6, H7, H8, H9, H10, H11, H12, H13⟩
    rw [show (rdat m c).Φ t.succ = PhiS m c (t.val + 1) t.isLt from rfl,
      show (rdat m c).owesAt () t.succ = (inDat m c).owesAt () t.castSucc from rfl]
    isplitl [HP]; · iexact HP
    isplitl [Ho]; · iexact Ho
    isplitl [H0]; · iapply (give m c 0 t (Y 0) _ (stays_0 m c t _)); iexact H0
    isplitl [H1]; · iapply (give m c 1 t (Y 1) _ (stays_1 m c t _)); iexact H1
    isplitl [H2]; · iapply (give m c 2 t (Y 2) _ (stays_2 m c t _)); iexact H2
    isplitl [H3]; · iapply (give m c 3 t (Y 3) _ (stays_3 m c t _)); iexact H3
    isplitl [H4]; · iapply (give m c 4 t (Y 4) _ (stays_4 m c t _)); iexact H4
    isplitl [H5]; · iapply (give m c 5 t (Y 5) _ (stays_5 m c t _)); iexact H5
    isplitl [H6]; · iapply (give m c 6 t (Y 6) _ (stays_6 m c t _)); iexact H6
    isplitl [H7]; · iapply (give m c 7 t (Y 7) _ (stays_7 m c t _)); iexact H7
    isplitl [H8]; · iapply (give m c 8 t (Y 8) _ (stays_8 m c t _)); iexact H8
    isplitl [H9]; · iapply (give m c 9 t (Y 9) _ (stays_9 m c t _)); iexact H9
    isplitl [H10]; · iapply (give m c 10 t (Y 10) _ (stays_10 m c t _)); iexact H10
    rw [rel_11, rel_12, rel_13]
    isplitl [H11]; · iexact H11
    isplitl [H12]; · iexact H12
    iexact H13

/-- The launch hands over what the invariant asks before the first point. -/
theorem hin (c : Dev nD) : Pipeline.ΦA spec0 c ⊢ (rdat m c).Φ 0 := .rfl

/-- After the last point the invariant gives back the carried block. -/
theorem hout (c : Dev nD) : (rdat m c).Φ (Fin.last cfg0.N) ⊢ Pipeline.ΦA spec0 c := by
  have e : (rdat m c).Φ (Fin.last cfg0.N) = PhiS m c (64 + 1) (by rw [show cfg0.N = 65 from N_0]) := rfl
  rw [e, PhiA0_eq]
  dsimp only [PhiS]
  iintro ⟨⟨%S, -, HS0⟩, Hg⟩
  isplitl [HS0]
  · iexists _; iexact HS0
  iexact Hg

/-! ## The run -/

-- the launch theorem's implicit arguments are found by unifying its conclusion with the statement, through plain definitions
set_option backward.isDefEq.respectTransparency.types false in
/-- Every execution ends, with every windowed array at something the data above allow and every counter at zero. -/
theorem run_quiescent : θ_run defs (onTc (τ := τ) (main (F := F))) (s₀ m ρ)
    (fun r => RDat.FramePost cfg0 (rdat m) (V m) r ∧ r.2.sem = fun _ => 0) :=
  RDat.θ_run_frame_track_shared (Q' := _) cfgs (0 : Fin 1) launch₀0 defs₀ Variants.none (rdat m) m ρ main
    (hbody := body_obligation m) (hq := fun _ _ _ => rfl)
    (howed := fun _ _ => rfl) (V := V m) (hmain := hmain m Variants.none) (hA := rdat_A m) (hin := hin m) (hout := hout m)

/-- Every execution ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1.arr_in c 8 rfl).trans ((rdat_A m c 8).trans (V_main_arg0 m c)),
        (h.1.arr_in c 10 rfl).trans ((rdat_A m c 10).trans (V_main_arg1 m c)),
        (h.1.arr_in c 0 rfl).trans ((rdat_A m c 0).trans (V_main_arg2 m c))⟩, h.2⟩) (run_quiescent m ρ)

end Cert.AttnBwd

end
-- ==== Proof.Products.AttnIn.lean ====
/- The attention layer's input projection: what the kernel's blocks hold, what its array ends at, what the reference computes, and the equation. -/
module

public import proofs.«01_k».proof.Defs
public import proofs.«01_k».proof.Proof.Gen.AttnInIdeal.Value
public import proofs.«01_k».proof.Proof.Gen.AttnInRefIdeal.Run
public import Idealize.ShloMosaic.Lib.Pointwise

@[expose] public section

noncomputable section

namespace Cert.Products.AttnIn

open Cert.AttnInIdeal Cert.AttnInIdeal.Gen Cert.AttnInIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-- The product, entry by entry: each entry of the result is a sum of 2048 products. -/
def product (x : S8192x2048.Idx → EReal) (w : S2048x4608.Idx → EReal) : S8192x4608.Idx → EReal := fun i =>
  ∑ k : Fin 2048, x (ix2 (i 0) k) * w (ix2 k (i 1))

/-- What the body computes of one block of rows and one block of columns. -/
theorem payload_apply (x : Vec Ideal S1024x2048 .bf16) (w : Vec Ideal S2048x1536 .bf16) (y : S1024x1536.Idx) :
    k0_pay1 (F := Ideal) x w y = ∑ k : Fin 2048, x (ix2 (y 0) k) * w (ix2 k (y 1)) := by
  pointwise [k0_pay1]

/-- The rows' block moves with the result's rows, the weights' block with the result's columns. -/
theorem blocks_move : ∀ t : Fin cfg0.N, win0_0.index t = ![win0_2.index t 0, 0] ∧ win0_1.index t = ![0, win0_2.index t 1] :=
  (by decide +kernel : ∀ t : Fin grid0.N, _)

/-- Every block of the result is written by some point. -/
theorem blocks_onto : ∀ (q0 : Fin 8) (q1 : Fin 3), ∃ t : Fin cfg0.N, (cfg0.win 2).flush t = true ∧ win0_2.index t = ![q0.val, q1.val] :=
  (by decide +kernel : ∀ (q0 : Fin 8) (q1 : Fin 3), ∃ t : Fin grid0.N, win0_2.flush t = true ∧ win0_2.index t = ![q0.val, q1.val])

/-- What a point writes back is its block of the product. -/
theorem written (c : Dev nD) (t : Fin cfg0.N) : (dats (F := Ideal) m 0 c).flushed 2 t
    = ((cfg0.win 2).blk t).view.read (Elt Ideal) (product (V m c main_arg0) (V m c main_arg1)) := by
  rw [flushed2]; unfold out0_2
  rw [View.canon_unit_zero (funext fun a => by fin_cases a <;> rfl), View.ld_unit_zero (S := S1024x2048) (funext fun a => by fin_cases a <;> rfl),
    View.ld_unit_zero (S := S2048x1536) (funext fun a => by fin_cases a <;> rfl)]
  obtain ⟨e0, e1⟩ := blocks_move t
  funext y
  show k0_pay1 (F := Ideal) (iblk m c 0 t) (iblk m c 1 t) ((cfg0.win 2).xinj (grid0.coords t) y) = product _ _ (((cfg0.win 2).blk t).view.emb y)
  rw [payload_apply]
  refine Finset.sum_congr rfl fun k _ => ?_
  refine congrArg₂ (· * ·) ?_ ?_
  · show V m c main_arg0 (((cfg0.win 0).blk t).view.emb _) = V m c main_arg0 _
    refine congrArg _ (funext fun a => Fin.ext ?_)
    match a with
    | ⟨0, _⟩ =>
      show win0_0.index t 0 * 1024 + 1 * (y 0).val = win0_2.index t 0 * 1024 + 1 * (y 0).val
      rw [e0]; rfl
    | ⟨1, _⟩ =>
      show win0_0.index t 1 * 2048 + 1 * k.val = k.val
      rw [e0]; show 0 * 2048 + 1 * k.val = k.val; omega
  · show V m c main_arg1 (((cfg0.win 1).blk t).view.emb _) = V m c main_arg1 _
    refine congrArg _ (funext fun a => Fin.ext ?_)
    match a with
    | ⟨0, _⟩ =>
      show win0_1.index t 0 * 2048 + 1 * k.val = k.val
      rw [e1]; show 0 * 2048 + 1 * k.val = k.val; omega
    | ⟨1, _⟩ =>
      show win0_1.index t 1 * 1536 + 1 * (y 1).val = win0_2.index t 1 * 1536 + 1 * (y 1).val
      rw [e1]; rfl

/-- An entry of the result is in a point's block when each coordinate is in the block's range. -/
theorem mem_block (t : Fin cfg0.N) (i : S8192x4608.Idx) : i ∈ ((cfg0.win 2).blk t).view.set
    ↔ ∀ a : Fin 2, win0_2.index t a * S1024x1536.size a ≤ (i a).val ∧ (i a).val < win0_2.index t a * S1024x1536.size a + S1024x1536.size a := by
  show i ∈ ((View.whole main_v0).slice (win0_2.rect t)).set ↔ _
  rw [View.set_slice_whole, Rect.mem_set_unit]
  exact Iff.rfl

/-- After the run the result's array holds the product. -/
theorem final (c : Dev nD) : (dats (F := Ideal) m 0 c).arrAt 2 cfg0.N = product (V m c main_arg0) (V m c main_arg1) :=
  (dats m 0 c).arrAt_eq_of_cover 2 _ (fun t _ => written m c t) (fun i => by
    have h0 : (i 0).val < 8192 := (i 0).isLt
    have h1 : (i 1).val < 4608 := (i 1).isLt
    obtain ⟨t, hf, ht⟩ := blocks_onto ⟨(i 0).val / 1024, by omega⟩ ⟨(i 1).val / 1536, by omega⟩
    have q0 : win0_2.index t (0 : Fin 2) = (i 0).val / 1024 := congrFun ht 0
    have q1 : win0_2.index t (1 : Fin 2) = (i 1).val / 1536 := congrFun ht 1
    refine ⟨t, hf, ?_⟩
    rw [mem_block]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1536 ≤ (i 1).val ∧ (i 1).val < win0_2.index t (1 : Fin 2) * 1536 + 1536; omega)

/-- The reference's result is the product. -/
theorem reference_eq (x : FVec Ideal S8192x2048 .bf16) (w : FVec Ideal S2048x4608 .bf16) (h : FTy.bits .bf16 < FTy.bits .f32) :
    truncf .bf16 (Host.dotGeneral Cert.AttnInRefIdeal.dot_S8192x2048_S2048x4608_S8192x4608_1_0_0_1_n_n none (extf .f32 x h) (extf .f32 w h)) h = product x w := by
  funext i
  pointwise [product, Cert.AttnInRefIdeal.dot_S8192x2048_S2048x4608_S8192x4608_1_0_0_1_n_n]

/-- Kernel and reference end at the same array. -/
theorem algebraic : Cert.algebraic_AttnInIdeal_AttnInRefIdeal := by
  intro m ρ m' ρ' _ hagree
  refine ⟨fun c => product (m ((c : Thread nD τ).loc main_arg0)) (m ((c : Thread nD τ).loc main_arg1)), ?_, ?_⟩
  · exact (θ_run Cert.AttnInIdeal.defs _ _).mono (fun r h c => ⟨(h c).1.trans (final m c), (h c).2⟩) (run_blocks (F := Ideal) m ρ)
  · refine (θ_run Cert.AttnInRefIdeal.defs _ _).mono (fun r h c => ⟨(h c).1.trans ?_, (h c).2⟩) (Cert.AttnInRefIdeal.Value.run (F := Ideal) m' ρ')
    rw [(hagree c).1, (hagree c).2]
    exact reference_eq _ _ _

/-- The reference runs and leaves its arguments as they were. -/
theorem reference_frame : Cert.quiescent_AttnInRefIdeal := fun m ρ _ =>
  (θ_run Cert.AttnInRefIdeal.defs _ _).mono (fun r h => ⟨fun c => (h c).2, sem_eq_zero_of_no_sems (by decide) r.2⟩)
    (Cert.AttnInRefIdeal.Value.run (F := Ideal) m ρ)

end Cert.Products.AttnIn

end
-- ==== Proof.Products.LruIn.lean ====
/- The recurrent layer's input projection: what the kernel's blocks hold, what its array ends at, what the reference computes, and the equation. -/
module

public import proofs.«01_k».proof.Defs
public import proofs.«01_k».proof.Proof.Gen.LruInIdeal.Value
public import proofs.«01_k».proof.Proof.Gen.LruInRefIdeal.Run
public import Idealize.ShloMosaic.Lib.Pointwise

@[expose] public section

noncomputable section

namespace Cert.Products.LruIn

open Cert.LruInIdeal Cert.LruInIdeal.Gen Cert.LruInIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-- The product, entry by entry: each entry of the result is a sum of 2048 products. -/
def product (x : S8192x2048.Idx → EReal) (w : S2048x4096.Idx → EReal) : S8192x4096.Idx → EReal := fun i =>
  ∑ k : Fin 2048, x (ix2 (i 0) k) * w (ix2 k (i 1))

/-- What the body computes of one block of rows and one block of columns. -/
theorem payload_apply (x : Vec Ideal S1024x2048 .bf16) (w : Vec Ideal S2048x1024 .bf16) (y : S1024x1024.Idx) :
    k0_pay1 (F := Ideal) x w y = ∑ k : Fin 2048, x (ix2 (y 0) k) * w (ix2 k (y 1)) := by
  pointwise [k0_pay1]

/-- The rows' block moves with the result's rows, the weights' block with the result's columns. -/
theorem blocks_move : ∀ t : Fin cfg0.N, win0_0.index t = ![win0_2.index t 0, 0] ∧ win0_1.index t = ![0, win0_2.index t 1] :=
  (by decide +kernel : ∀ t : Fin grid0.N, _)

/-- Every block of the result is written by some point. -/
theorem blocks_onto : ∀ (q0 : Fin 8) (q1 : Fin 4), ∃ t : Fin cfg0.N, (cfg0.win 2).flush t = true ∧ win0_2.index t = ![q0.val, q1.val] :=
  (by decide +kernel : ∀ (q0 : Fin 8) (q1 : Fin 4), ∃ t : Fin grid0.N, win0_2.flush t = true ∧ win0_2.index t = ![q0.val, q1.val])

/-- What a point writes back is its block of the product. -/
theorem written (c : Dev nD) (t : Fin cfg0.N) : (dats (F := Ideal) m 0 c).flushed 2 t
    = ((cfg0.win 2).blk t).view.read (Elt Ideal) (product (V m c main_arg0) (V m c main_arg1)) := by
  rw [flushed2]; unfold out0_2
  rw [View.canon_unit_zero (funext fun a => by fin_cases a <;> rfl), View.ld_unit_zero (S := S1024x2048) (funext fun a => by fin_cases a <;> rfl),
    View.ld_unit_zero (S := S2048x1024) (funext fun a => by fin_cases a <;> rfl)]
  obtain ⟨e0, e1⟩ := blocks_move t
  funext y
  show k0_pay1 (F := Ideal) (iblk m c 0 t) (iblk m c 1 t) ((cfg0.win 2).xinj (grid0.coords t) y) = product _ _ (((cfg0.win 2).blk t).view.emb y)
  rw [payload_apply]
  refine Finset.sum_congr rfl fun k _ => ?_
  refine congrArg₂ (· * ·) ?_ ?_
  · show V m c main_arg0 (((cfg0.win 0).blk t).view.emb _) = V m c main_arg0 _
    refine congrArg _ (funext fun a => Fin.ext ?_)
    match a with
    | ⟨0, _⟩ =>
      show win0_0.index t 0 * 1024 + 1 * (y 0).val = win0_2.index t 0 * 1024 + 1 * (y 0).val
      rw [e0]; rfl
    | ⟨1, _⟩ =>
      show win0_0.index t 1 * 2048 + 1 * k.val = k.val
      rw [e0]; show 0 * 2048 + 1 * k.val = k.val; omega
  · show V m c main_arg1 (((cfg0.win 1).blk t).view.emb _) = V m c main_arg1 _
    refine congrArg _ (funext fun a => Fin.ext ?_)
    match a with
    | ⟨0, _⟩ =>
      show win0_1.index t 0 * 2048 + 1 * k.val = k.val
      rw [e1]; show 0 * 2048 + 1 * k.val = k.val; omega
    | ⟨1, _⟩ =>
      show win0_1.index t 1 * 1024 + 1 * (y 1).val = win0_2.index t 1 * 1024 + 1 * (y 1).val
      rw [e1]; rfl

/-- An entry of the result is in a point's block when each coordinate is in the block's range. -/
theorem mem_block (t : Fin cfg0.N) (i : S8192x4096.Idx) : i ∈ ((cfg0.win 2).blk t).view.set
    ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- After the run the result's array holds the product. -/
theorem final (c : Dev nD) : (dats (F := Ideal) m 0 c).arrAt 2 cfg0.N = product (V m c main_arg0) (V m c main_arg1) :=
  (dats m 0 c).arrAt_eq_of_cover 2 _ (fun t _ => written m c t) (fun i => by
    have h0 : (i 0).val < 8192 := (i 0).isLt
    have h1 : (i 1).val < 4096 := (i 1).isLt
    obtain ⟨t, hf, ht⟩ := blocks_onto ⟨(i 0).val / 1024, by omega⟩ ⟨(i 1).val / 1024, by omega⟩
    have q0 : win0_2.index t (0 : Fin 2) = (i 0).val / 1024 := congrFun ht 0
    have q1 : win0_2.index t (1 : Fin 2) = (i 1).val / 1024 := congrFun ht 1
    refine ⟨t, hf, ?_⟩
    rw [mem_block]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega)

/-- The reference's result is the product. -/
theorem reference_eq (x : FVec Ideal S8192x2048 .bf16) (w : FVec Ideal S2048x4096 .bf16) (h : FTy.bits .bf16 < FTy.bits .f32) :
    truncf .bf16 (Host.dotGeneral Cert.LruInRefIdeal.dot_S8192x2048_S2048x4096_S8192x4096_1_0_0_1_n_n none (extf .f32 x h) (extf .f32 w h)) h = product x w := by
  funext i
  pointwise [product, Cert.LruInRefIdeal.dot_S8192x2048_S2048x4096_S8192x4096_1_0_0_1_n_n]

/-- Kernel and reference end at the same array. -/
theorem algebraic : Cert.algebraic_LruInIdeal_LruInRefIdeal := by
  intro m ρ m' ρ' _ hagree
  refine ⟨fun c => product (m ((c : Thread nD τ).loc main_arg0)) (m ((c : Thread nD τ).loc main_arg1)), ?_, ?_⟩
  · exact (θ_run Cert.LruInIdeal.defs _ _).mono (fun r h c => ⟨(h c).1.trans (final m c), (h c).2⟩) (run_blocks (F := Ideal) m ρ)
  · refine (θ_run Cert.LruInRefIdeal.defs _ _).mono (fun r h c => ⟨(h c).1.trans ?_, (h c).2⟩) (Cert.LruInRefIdeal.Value.run (F := Ideal) m' ρ')
    rw [(hagree c).1, (hagree c).2]
    exact reference_eq _ _ _

/-- The reference runs and leaves its arguments as they were. -/
theorem reference_frame : Cert.quiescent_LruInRefIdeal := fun m ρ _ =>
  (θ_run Cert.LruInRefIdeal.defs _ _).mono (fun r h => ⟨fun c => (h c).2, sem_eq_zero_of_no_sems (by decide) r.2⟩)
    (Cert.LruInRefIdeal.Value.run (F := Ideal) m ρ)

end Cert.Products.LruIn

end
-- ==== Proof.Products.MixOut.lean ====
/- A layer's output projection: what the kernel's blocks hold, what its array ends at, what the reference computes, and the equation. -/
module

public import proofs.«01_k».proof.Defs
public import proofs.«01_k».proof.Proof.Gen.MixOutIdeal.Value
public import proofs.«01_k».proof.Proof.Gen.MixOutRefIdeal.Run
public import Idealize.ShloMosaic.Lib.Pointwise

@[expose] public section

noncomputable section

namespace Cert.Products.MixOut

open Cert.MixOutIdeal Cert.MixOutIdeal.Gen Cert.MixOutIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-- The product, entry by entry: each entry of the result is a sum of 2048 products. -/
def product (x : S8192x2048.Idx → EReal) (w : S2048x2048.Idx → EReal) : S8192x2048.Idx → EReal := fun i =>
  ∑ k : Fin 2048, x (ix2 (i 0) k) * w (ix2 k (i 1))

/-- What the body computes of one block of rows and one block of columns. -/
theorem payload_apply (x : Vec Ideal S512x2048 .bf16) (w : Vec Ideal S2048x2048 .bf16) (y : S512x2048.Idx) :
    k0_pay1 (F := Ideal) x w y = ∑ k : Fin 2048, x (ix2 (y 0) k) * w (ix2 k (y 1)) := by
  pointwise [k0_pay1]

/-- The rows' block moves with the result's rows, the weights' block with the result's columns. -/
theorem blocks_move : ∀ t : Fin cfg0.N, win0_0.index t = ![win0_2.index t 0, 0] ∧ win0_1.index t = ![0, win0_2.index t 1] :=
  (by decide +kernel : ∀ t : Fin grid0.N, _)

/-- Every block of the result is written by some point. -/
theorem blocks_onto : ∀ (q0 : Fin 16) (q1 : Fin 1), ∃ t : Fin cfg0.N, (cfg0.win 2).flush t = true ∧ win0_2.index t = ![q0.val, q1.val] :=
  (by decide +kernel : ∀ (q0 : Fin 16) (q1 : Fin 1), ∃ t : Fin grid0.N, win0_2.flush t = true ∧ win0_2.index t = ![q0.val, q1.val])

/-- What a point writes back is its block of the product. -/
theorem written (c : Dev nD) (t : Fin cfg0.N) : (dats (F := Ideal) m 0 c).flushed 2 t
    = ((cfg0.win 2).blk t).view.read (Elt Ideal) (product (V m c main_arg0) (V m c main_arg1)) := by
  rw [flushed2]; unfold out0_2
  rw [View.canon_unit_zero (funext fun a => by fin_cases a <;> rfl), View.ld_unit_zero (S := S512x2048) (funext fun a => by fin_cases a <;> rfl),
    View.ld_unit_zero (S := S2048x2048) (funext fun a => by fin_cases a <;> rfl)]
  obtain ⟨e0, e1⟩ := blocks_move t
  funext y
  show k0_pay1 (F := Ideal) (iblk m c 0 t) (iblk m c 1 t) ((cfg0.win 2).xinj (grid0.coords t) y) = product _ _ (((cfg0.win 2).blk t).view.emb y)
  rw [payload_apply]
  refine Finset.sum_congr rfl fun k _ => ?_
  refine congrArg₂ (· * ·) ?_ ?_
  · show V m c main_arg0 (((cfg0.win 0).blk t).view.emb _) = V m c main_arg0 _
    refine congrArg _ (funext fun a => Fin.ext ?_)
    match a with
    | ⟨0, _⟩ =>
      show win0_0.index t 0 * 512 + 1 * (y 0).val = win0_2.index t 0 * 512 + 1 * (y 0).val
      rw [e0]; rfl
    | ⟨1, _⟩ =>
      show win0_0.index t 1 * 2048 + 1 * k.val = k.val
      rw [e0]; show 0 * 2048 + 1 * k.val = k.val; omega
  · show V m c main_arg1 (((cfg0.win 1).blk t).view.emb _) = V m c main_arg1 _
    refine congrArg _ (funext fun a => Fin.ext ?_)
    match a with
    | ⟨0, _⟩ =>
      show win0_1.index t 0 * 2048 + 1 * k.val = k.val
      rw [e1]; show 0 * 2048 + 1 * k.val = k.val; omega
    | ⟨1, _⟩ =>
      show win0_1.index t 1 * 2048 + 1 * (y 1).val = win0_2.index t 1 * 2048 + 1 * (y 1).val
      rw [e1]; rfl

/-- An entry of the result is in a point's block when each coordinate is in the block's range. -/
theorem mem_block (t : Fin cfg0.N) (i : S8192x2048.Idx) : i ∈ ((cfg0.win 2).blk t).view.set
    ↔ ∀ a : Fin 2, win0_2.index t a * S512x2048.size a ≤ (i a).val ∧ (i a).val < win0_2.index t a * S512x2048.size a + S512x2048.size a := by
  show i ∈ ((View.whole main_v0).slice (win0_2.rect t)).set ↔ _
  rw [View.set_slice_whole, Rect.mem_set_unit]
  exact Iff.rfl

/-- After the run the result's array holds the product. -/
theorem final (c : Dev nD) : (dats (F := Ideal) m 0 c).arrAt 2 cfg0.N = product (V m c main_arg0) (V m c main_arg1) :=
  (dats m 0 c).arrAt_eq_of_cover 2 _ (fun t _ => written m c t) (fun i => by
    have h0 : (i 0).val < 8192 := (i 0).isLt
    have h1 : (i 1).val < 2048 := (i 1).isLt
    obtain ⟨t, hf, ht⟩ := blocks_onto ⟨(i 0).val / 512, by omega⟩ ⟨(i 1).val / 2048, by omega⟩
    have q0 : win0_2.index t (0 : Fin 2) = (i 0).val / 512 := congrFun ht 0
    have q1 : win0_2.index t (1 : Fin 2) = (i 1).val / 2048 := congrFun ht 1
    refine ⟨t, hf, ?_⟩
    rw [mem_block]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 2048 ≤ (i 1).val ∧ (i 1).val < win0_2.index t (1 : Fin 2) * 2048 + 2048; omega)

/-- The reference's result is the product. -/
theorem reference_eq (x : FVec Ideal S8192x2048 .bf16) (w : FVec Ideal S2048x2048 .bf16) (h : FTy.bits .bf16 < FTy.bits .f32) :
    Host.dotGeneral Cert.MixOutRefIdeal.dot_S8192x2048_S2048x2048_S8192x2048_1_0_0_1_n_n none (extf .f32 x h) (extf .f32 w h) = product x w := by
  funext i
  pointwise [product, Cert.MixOutRefIdeal.dot_S8192x2048_S2048x2048_S8192x2048_1_0_0_1_n_n]

/-- Kernel and reference end at the same array. -/
theorem algebraic : Cert.algebraic_MixOutIdeal_MixOutRefIdeal := by
  intro m ρ m' ρ' _ hagree
  refine ⟨fun c => product (m ((c : Thread nD τ).loc main_arg0)) (m ((c : Thread nD τ).loc main_arg1)), ?_, ?_⟩
  · exact (θ_run Cert.MixOutIdeal.defs _ _).mono (fun r h c => ⟨(h c).1.trans (final m c), (h c).2⟩) (run_blocks (F := Ideal) m ρ)
  · refine (θ_run Cert.MixOutRefIdeal.defs _ _).mono (fun r h c => ⟨(h c).1.trans ?_, (h c).2⟩) (Cert.MixOutRefIdeal.Value.run (F := Ideal) m' ρ')
    rw [(hagree c).1, (hagree c).2]
    exact reference_eq _ _ _

/-- The reference runs and leaves its arguments as they were. -/
theorem reference_frame : Cert.quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)

end Cert.Products.MixOut

end
-- ==== Proof.Products.MixOutDx.lean ====
/- The gradient of a layer's output projection to its input: what the kernel's blocks hold, what its array ends at, what the reference computes, and the equation. -/
module

public import proofs.«01_k».proof.Defs
public import proofs.«01_k».proof.Proof.Gen.MixOutDxIdeal.Value
public import proofs.«01_k».proof.Proof.Gen.MixOutDxRefIdeal.Run
public import Idealize.ShloMosaic.Lib.Pointwise

@[expose] public section

noncomputable section

namespace Cert.Products.MixOutDx

open Cert.MixOutDxIdeal Cert.MixOutDxIdeal.Gen Cert.MixOutDxIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-- The product, entry by entry: each entry of the result is a sum of 2048 products. -/
def product (x : S8192x2048.Idx → EReal) (w : S2048x2048.Idx → EReal) : S8192x2048.Idx → EReal := fun i =>
  ∑ k : Fin 2048, x (ix2 (i 0) k) * w (ix2 (i 1) k)

/-- What the body computes of one block of rows and one block of columns. -/
theorem payload_apply (x : Vec Ideal S1024x2048 .bf16) (w : Vec Ideal S2048x2048 .bf16) (y : S1024x2048.Idx) :
    k0_pay1 (F := Ideal) x w y = ∑ k : Fin 2048, x (ix2 (y 0) k) * w (ix2 (y 1) k) := by
  pointwise [k0_pay1]

/-- The rows' block moves with the result's rows, the weights' block with the result's columns. -/
theorem blocks_move : ∀ t : Fin cfg0.N, win0_0.index t = ![win0_2.index t 0, 0] ∧ win0_1.index t = ![win0_2.index t 1, 0] :=
  (by decide +kernel : ∀ t : Fin grid0.N, _)

/-- Every block of the result is written by some point. -/
theorem blocks_onto : ∀ (q0 : Fin 8) (q1 : Fin 1), ∃ t : Fin cfg0.N, (cfg0.win 2).flush t = true ∧ win0_2.index t = ![q0.val, q1.val] :=
  (by decide +kernel : ∀ (q0 : Fin 8) (q1 : Fin 1), ∃ t : Fin grid0.N, win0_2.flush t = true ∧ win0_2.index t = ![q0.val, q1.val])

/-- What a point writes back is its block of the product. -/
theorem written (c : Dev nD) (t : Fin cfg0.N) : (dats (F := Ideal) m 0 c).flushed 2 t
    = ((cfg0.win 2).blk t).view.read (Elt Ideal) (product (V m c main_arg1) (V m c main_arg0)) := by
  rw [flushed2]; unfold out0_2
  rw [View.canon_unit_zero (funext fun a => by fin_cases a <;> rfl), View.ld_unit_zero (S := S1024x2048) (funext fun a => by fin_cases a <;> rfl),
    View.ld_unit_zero (S := S2048x2048) (funext fun a => by fin_cases a <;> rfl)]
  obtain ⟨e0, e1⟩ := blocks_move t
  funext y
  show k0_pay1 (F := Ideal) (iblk m c 0 t) (iblk m c 1 t) ((cfg0.win 2).xinj (grid0.coords t) y) = product _ _ (((cfg0.win 2).blk t).view.emb y)
  rw [payload_apply]
  refine Finset.sum_congr rfl fun k _ => ?_
  refine congrArg₂ (· * ·) ?_ ?_
  · show V m c main_arg1 (((cfg0.win 0).blk t).view.emb _) = V m c main_arg1 _
    refine congrArg _ (funext fun a => Fin.ext ?_)
    match a with
    | ⟨0, _⟩ =>
      show win0_0.index t 0 * 1024 + 1 * (y 0).val = win0_2.index t 0 * 1024 + 1 * (y 0).val
      rw [e0]; rfl
    | ⟨1, _⟩ =>
      show win0_0.index t 1 * 2048 + 1 * k.val = k.val
      rw [e0]; show 0 * 2048 + 1 * k.val = k.val; omega
  · show V m c main_arg0 (((cfg0.win 1).blk t).view.emb _) = V m c main_arg0 _
    refine congrArg _ (funext fun a => Fin.ext ?_)
    match a with
    | ⟨1, _⟩ =>
      show win0_1.index t 1 * 2048 + 1 * k.val = k.val
      rw [e1]; show 0 * 2048 + 1 * k.val = k.val; omega
    | ⟨0, _⟩ =>
      show win0_1.index t 0 * 2048 + 1 * (y 1).val = win0_2.index t 1 * 2048 + 1 * (y 1).val
      rw [e1]; rfl

/-- An entry of the result is in a point's block when each coordinate is in the block's range. -/
theorem mem_block (t : Fin cfg0.N) (i : S8192x2048.Idx) : i ∈ ((cfg0.win 2).blk t).view.set
    ↔ ∀ a : Fin 2, win0_2.index t a * S1024x2048.size a ≤ (i a).val ∧ (i a).val < win0_2.index t a * S1024x2048.size a + S1024x2048.size a := by
  show i ∈ ((View.whole main_v0).slice (win0_2.rect t)).set ↔ _
  rw [View.set_slice_whole, Rect.mem_set_unit]
  exact Iff.rfl

/-- After the run the result's array holds the product. -/
theorem final (c : Dev nD) : (dats (F := Ideal) m 0 c).arrAt 2 cfg0.N = product (V m c main_arg1) (V m c main_arg0) :=
  (dats m 0 c).arrAt_eq_of_cover 2 _ (fun t _ => written m c t) (fun i => by
    have h0 : (i 0).val < 8192 := (i 0).isLt
    have h1 : (i 1).val < 2048 := (i 1).isLt
    obtain ⟨t, hf, ht⟩ := blocks_onto ⟨(i 0).val / 1024, by omega⟩ ⟨(i 1).val / 2048, by omega⟩
    have q0 : win0_2.index t (0 : Fin 2) = (i 0).val / 1024 := congrFun ht 0
    have q1 : win0_2.index t (1 : Fin 2) = (i 1).val / 2048 := congrFun ht 1
    refine ⟨t, hf, ?_⟩
    rw [mem_block]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 2048 ≤ (i 1).val ∧ (i 1).val < win0_2.index t (1 : Fin 2) * 2048 + 2048; omega)

/-- The reference's result is the product. -/
theorem reference_eq (x : FVec Ideal S8192x2048 .bf16) (w : FVec Ideal S2048x2048 .bf16) (h : FTy.bits .bf16 < FTy.bits .f32) :
    truncf .bf16 (Host.dotGeneral Cert.MixOutDxRefIdeal.dot_S8192x2048_S2048x2048_S8192x2048_1_1_0_0_n_n none (extf .f32 x h) (extf .f32 w h)) h = product x w := by
  funext i
  pointwise [product, Cert.MixOutDxRefIdeal.dot_S8192x2048_S2048x2048_S8192x2048_1_1_0_0_n_n]

/-- Kernel and reference end at the same array. -/
theorem algebraic : Cert.algebraic_MixOutDxIdeal_MixOutDxRefIdeal := by
  intro m ρ m' ρ' _ hagree
  refine ⟨fun c => product (m ((c : Thread nD τ).loc main_arg1)) (m ((c : Thread nD τ).loc main_arg0)), ?_, ?_⟩
  · exact (θ_run Cert.MixOutDxIdeal.defs _ _).mono (fun r h c => ⟨(h c).1.trans (final m c), (h c).2⟩) (run_blocks (F := Ideal) m ρ)
  · refine (θ_run Cert.MixOutDxRefIdeal.defs _ _).mono (fun r h c => ⟨(h c).1.trans ?_, (h c).2⟩) (Cert.MixOutDxRefIdeal.Value.run (F := Ideal) m' ρ')
    rw [(hagree c).1, (hagree c).2]
    exact reference_eq _ _ _

/-- The reference runs and leaves its arguments as they were. -/
theorem reference_frame : Cert.quiescent_MixOutDxRefIdeal := fun m ρ _ =>
  (θ_run Cert.MixOutDxRefIdeal.defs _ _).mono (fun r h => ⟨fun c => (h c).2, sem_eq_zero_of_no_sems (by decide) r.2⟩)
    (Cert.MixOutDxRefIdeal.Value.run (F := Ideal) m ρ)

end Cert.Products.MixOutDx

end
-- ==== Proof.Products.MixOutDw.lean ====
/- The gradient of a layer's output projection to its weights. The kernel walks the rows in four tiles and adds the tiles' products in
   a scratch: what one point leaves there, what the fourth point writes back, what the array ends at, what the reference
   computes, and the equation. -/
module

public import proofs.«01_k».proof.Defs
public import proofs.«01_k».proof.Proof.Gen.MixOutDwIdeal.Value
public import proofs.«01_k».proof.Proof.Gen.MixOutDwRefIdeal.Run
public import Idealize.ShloMosaic.Lib.Pointwise

@[expose] public section

noncomputable section

namespace Cert.Products.MixOutDw

open Cert.MixOutDwIdeal Cert.MixOutDwIdeal.Gen Cert.MixOutDwIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-- The gradient, entry by entry: each entry is a sum of 8192 products, one for each row. -/
def product (x : S8192x2048.Idx → EReal) (g : S8192x2048.Idx → EReal) : S2048x2048.Idx → EReal := fun i =>
  ∑ k : Fin 8192, x (ix2 k (i 0)) * g (ix2 k (i 1))

/-! ## What one point computes -/

/-- The first point of a run of four starts the scratch at zero and adds its tile's product. -/
theorem first_point (c : Dev nD) (i : grid0.Coords) (r0 : Memref sig .tc .vmem S2048x1024 .bf16) (h0 : r0.IsWhole) (r1 : Memref sig .tc .vmem S2048x1024 .bf16) (h1 : r1.IsWhole)
    (r2 : Memref sig .tc .vmem S1024x1024 .bf16) (h2 : r2.IsWhole) (s0 : Memref sig .tc .vmem S1024x1024 .f32) (hs : s0.IsWhole)
    (hc0 : cond0_0 i) (hc1 : ¬cond0_1 i) (x0 : Vec Ideal S2048x1024 .bf16) (x1 : Vec Ideal S2048x1024 .bf16) :
    sout0_A_0 (F := Ideal) c i r0 h0 r1 h1 r2 h2 s0 hs hc0 hc1 x0 x1 = k0_pay2 k0_pay1 x0 x1 := by
  unfold sout0_A_0
  rw [View.read_writes_eq_canon _ _ _ (scover0_A_0 c i r0 h0 r1 h1 r2 h2 s0 hs hc0 hc1 x0 x1)]
  unfold kernelRun0_A
  dsimp only
  sl_unfold_words
  rw [View.canon_cons_unit_zero (S := S1024x1024) (funext fun a => by fin_cases a <;> rfl), View.readCov_unit_zero (S := S1024x1024) _ (funext fun a => by fin_cases a <;> rfl)]
  simp only [View.readAt_eq_ld, h0.read_unread, h1.read_unread]
  rw [View.ld_unit_zero (S := S2048x1024) (funext fun a => by fin_cases a <;> rfl), View.ld_unit_zero (S := S2048x1024) (funext fun a => by fin_cases a <;> rfl)]

/-- A later point adds its tile's product to what the scratch held. -/
theorem later_point (c : Dev nD) (i : grid0.Coords) (r0 : Memref sig .tc .vmem S2048x1024 .bf16) (h0 : r0.IsWhole) (r1 : Memref sig .tc .vmem S2048x1024 .bf16) (h1 : r1.IsWhole)
    (r2 : Memref sig .tc .vmem S1024x1024 .bf16) (h2 : r2.IsWhole) (s0 : Memref sig .tc .vmem S1024x1024 .f32) (hs : s0.IsWhole)
    (hc0 : ¬cond0_0 i) (hc1 : ¬cond0_1 i) (x0 : Vec Ideal S2048x1024 .bf16) (x1 : Vec Ideal S2048x1024 .bf16) (xs : Vec Ideal S1024x1024 .f32) :
    sout0_B_0 (F := Ideal) c i r0 h0 r1 h1 r2 h2 s0 hs hc0 hc1 x0 x1 xs = k0_pay2 xs x0 x1 := by
  unfold sout0_B_0
  rw [View.read_writes_eq_canon _ _ _ (scover0_B_0 c i r0 h0 r1 h1 r2 h2 s0 hs hc0 hc1 x0 x1 xs)]
  unfold kernelRun0_B
  dsimp only
  sl_unfold_words
  rw [View.canon_unit_zero (S := S1024x1024) (funext fun a => by fin_cases a <;> rfl)]
  simp only [View.readAt_eq_ld, h0.read_unread, h1.read_unread, hs.read_unread]
  rw [View.ld_unit_zero (S := S2048x1024) (funext fun a => by fin_cases a <;> rfl), View.ld_unit_zero (S := S2048x1024) (funext fun a => by fin_cases a <;> rfl), View.ld_unit_zero (S := S1024x1024) (funext fun a => by fin_cases a <;> rfl)]

/-- The fourth point adds its tile's product and stores the rounded sum. -/
theorem fourth_point (c : Dev nD) (i : grid0.Coords) (r0 : Memref sig .tc .vmem S2048x1024 .bf16) (h0 : r0.IsWhole) (r1 : Memref sig .tc .vmem S2048x1024 .bf16) (h1 : r1.IsWhole)
    (r2 : Memref sig .tc .vmem S1024x1024 .bf16) (h2 : r2.IsWhole) (s0 : Memref sig .tc .vmem S1024x1024 .f32) (hs : s0.IsWhole)
    (hc0 : ¬cond0_0 i) (hc1 : cond0_1 i) (x0 : Vec Ideal S2048x1024 .bf16) (x1 : Vec Ideal S2048x1024 .bf16) (xs : Vec Ideal S1024x1024 .f32) :
    out0_C_2 (F := Ideal) c i r0 h0 r1 h1 r2 h2 s0 hs hc0 hc1 x0 x1 xs = k0_pay3 (k0_pay2 xs x0 x1) := by
  unfold out0_C_2
  rw [View.read_writes_eq_canon _ _ _ (cover0_C_2 c i r0 h0 r1 h1 r2 h2 s0 hs hc0 hc1 x0 x1 xs)]
  unfold kernelRun0_C
  dsimp only
  sl_unfold_words
  rw [View.canon_unit_zero (S := S1024x1024) (funext fun a => by fin_cases a <;> rfl), View.readCov_unit_zero (S := S1024x1024) _ (funext fun a => by fin_cases a <;> rfl)]
  simp only [View.readAt_eq_ld, h0.read_unread, h1.read_unread, hs.read_unread]
  rw [View.ld_unit_zero (S := S2048x1024) (funext fun a => by fin_cases a <;> rfl), View.ld_unit_zero (S := S2048x1024) (funext fun a => by fin_cases a <;> rfl), View.ld_unit_zero (S := S1024x1024) (funext fun a => by fin_cases a <;> rfl)]

/-- The product of one tile of rows. -/
def tile (x0 : S2048x1024.Idx → EReal) (x1 : S2048x1024.Idx → EReal) (y : S1024x1024.Idx) : EReal := ∑ k : Fin 2048, x0 (ix2 k (y 0)) * x1 (ix2 k (y 1))

theorem zero_apply (y : S1024x1024.Idx) : k0_pay1 (F := Ideal) y = 0 := by pointwise [k0_pay1]

theorem add_apply (xs : Vec Ideal S1024x1024 .f32) (x0 : Vec Ideal S2048x1024 .bf16) (x1 : Vec Ideal S2048x1024 .bf16) (y : S1024x1024.Idx) :
    k0_pay2 (F := Ideal) xs x0 x1 y = xs y + tile x0 x1 y := by
  pointwise [k0_pay2, tile]

theorem round_apply (xs : Vec Ideal S1024x1024 .f32) (y : S1024x1024.Idx) : k0_pay3 (F := Ideal) xs y = xs y := by pointwise [k0_pay3]

/-- The two blocks that point `t` reads, and their product. -/
def tileAt (c : Dev nD) (n : ℕ) (h : n < cfg0.N) (y : S1024x1024.Idx) : EReal := tile (iblk m c 0 ⟨n, h⟩) (iblk m c 1 ⟨n, h⟩) y

/-- What the scratch holds after the first, second and third point of run `q`. -/
theorem scratch_first (c : Dev nD) (q : ℕ) (h : 4 * q < cfg0.N) (y : S1024x1024.Idx) :
    (outsAt0 (F := Ideal) m c (4 * q) h).2 y = tileAt m c (4 * q) h y := by
  rw [show outsAt0 (F := Ideal) m c (4 * q) h = _ from outsAt0_A m c ⟨4 * q, h⟩ (show 4 * q % 4 = 0 by omega) (show ¬ 4 * q % 4 = 3 by omega)]
  dsimp only
  rw [first_point, add_apply, zero_apply, zero_add]
  unfold tileAt
  rfl

theorem scratch_next (c : Dev nD) (n : ℕ) (h : n + 1 < cfg0.N) (e0 : ¬ (n + 1) % 4 = 0) (e3 : ¬ (n + 1) % 4 = 3) (y : S1024x1024.Idx) :
    (outsAt0 (F := Ideal) m c (n + 1) h).2 y = (outsAt0 m c n (Nat.lt_of_succ_lt h)).2 y + tileAt m c (n + 1) h y := by
  rw [show outsAt0 (F := Ideal) m c (n + 1) h = _ from outsAt0_B m c ⟨n + 1, h⟩ e0 e3]
  dsimp only
  rw [later_point, add_apply]
  unfold tileAt
  rfl

/-! ## What the array ends at -/

/-- The point's two blocks: tile `t mod 4` of the rows, the columns of the result's block. -/
theorem blocks_move : ∀ t : Fin cfg0.N, win0_0.index t = ![t.val % 4, win0_2.index t 0] ∧ win0_1.index t = ![t.val % 4, win0_2.index t 1] :=
  (by decide +kernel : ∀ t : Fin grid0.N, _)

/-- The four points of a run share the result's block. -/
theorem block_shared : ∀ (t : Fin cfg0.N) (j : Fin 4) (h : 4 * (t.val / 4) + j.val < cfg0.N), win0_2.index ⟨4 * (t.val / 4) + j.val, h⟩ = win0_2.index t :=
  (by decide +kernel : ∀ (t : Fin grid0.N) (j : Fin 4) (h : 4 * (t.val / 4) + j.val < grid0.N), win0_2.index ⟨4 * (t.val / 4) + j.val, h⟩ = win0_2.index t)

/-- The terms of the sum that belong to rows `2048 j` to `2048 j + 2047`. -/
def rows (x : S8192x2048.Idx → EReal) (g : S8192x2048.Idx → EReal) (j : Fin 4) (i : S2048x2048.Idx) : EReal :=
  ∑ k : Fin 2048, x (ix2 (⟨j.val * 2048 + k.val, by have := j.isLt; have := k.isLt; omega⟩ : Fin 8192) (i 0))
    * g (ix2 (⟨j.val * 2048 + k.val, by have := j.isLt; have := k.isLt; omega⟩ : Fin 8192) (i 1))

theorem product_tiles (x : S8192x2048.Idx → EReal) (g : S8192x2048.Idx → EReal) (i : S2048x2048.Idx) :
    product x g i = ∑ j : Fin 4, rows x g j i := by
  unfold product
  exact Fin.sum_univ_tiles 4 2048 rfl _

/-- Tile `j` of the run that ends at `t`: the terms of the sum that belong to rows `2048 j` to `2048 j + 2047`. -/
theorem tile_rows (c : Dev nD) (t : Fin cfg0.N) (j : Fin 4) (h : 4 * (t.val / 4) + j.val < cfg0.N) (y : S1024x1024.Idx) :
    tileAt m c (4 * (t.val / 4) + j.val) h y = rows (V m c main_arg0) (V m c main_arg1) j (((cfg0.win 2).blk t).view.emb y) := by
  obtain ⟨e0, e1⟩ := blocks_move ⟨4 * (t.val / 4) + j.val, h⟩
  have e2 := block_shared t j h
  have hj : (4 * (t.val / 4) + j.val) % 4 = j.val := by have := j.isLt; omega
  rw [e2] at e0 e1
  unfold tileAt tile rows
  refine Finset.sum_congr rfl fun k _ => ?_
  refine congrArg₂ (· * ·) ?_ ?_
  · show V m c main_arg0 (((cfg0.win 0).blk ⟨4 * (t.val / 4) + j.val, h⟩).view.emb _) = V m c main_arg0 _
    refine congrArg _ (funext fun a => Fin.ext ?_)
    match a with
    | ⟨0, _⟩ =>
      show win0_0.index ⟨4 * (t.val / 4) + j.val, h⟩ 0 * 2048 + 1 * k.val = j.val * 2048 + k.val
      rw [e0]; show (4 * (t.val / 4) + j.val) % 4 * 2048 + 1 * k.val = _; rw [hj, Nat.one_mul]
    | ⟨1, _⟩ =>
      show win0_0.index ⟨4 * (t.val / 4) + j.val, h⟩ 1 * 1024 + 1 * (y 0).val = win0_2.index t 0 * 1024 + 1 * (y 0).val
      rw [e0]; rfl
  · show V m c main_arg1 (((cfg0.win 1).blk ⟨4 * (t.val / 4) + j.val, h⟩).view.emb _) = V m c main_arg1 _
    refine congrArg _ (funext fun a => Fin.ext ?_)
    match a with
    | ⟨0, _⟩ =>
      show win0_1.index ⟨4 * (t.val / 4) + j.val, h⟩ 0 * 2048 + 1 * k.val = j.val * 2048 + k.val
      rw [e1]; show (4 * (t.val / 4) + j.val) % 4 * 2048 + 1 * k.val = _; rw [hj, Nat.one_mul]
    | ⟨1, _⟩ =>
      show win0_1.index ⟨4 * (t.val / 4) + j.val, h⟩ 1 * 1024 + 1 * (y 1).val = win0_2.index t 1 * 1024 + 1 * (y 1).val
      rw [e1]; rfl

/-- What the fourth point computes: the sum of the run's four tiles. -/
theorem stored (c : Dev nD) (t : Fin cfg0.N) (h3 : t.val % 4 = 3) (h : ∀ j : Fin 4, 4 * (t.val / 4) + j.val < cfg0.N) (y : S1024x1024.Idx) :
    (outsAt0 (F := Ideal) m c t.val t.isLt).1 y = ∑ j : Fin 4, tileAt m c (4 * (t.val / 4) + j.val) (h j) y := by
  have key : ∀ (q : ℕ) (hq : 4 * q + 3 < cfg0.N), (outsAt0 (F := Ideal) m c (4 * q + 3) hq).1 y
      = ((tileAt m c (4 * q) (by omega) y + tileAt m c (4 * q + 1) (by omega) y) + tileAt m c (4 * q + 2) (by omega) y) + tileAt m c (4 * q + 3) hq y := by
    intro q hq
    rw [show outsAt0 (F := Ideal) m c (4 * q + 3) hq = _ from outsAt0_C m c ⟨4 * q + 3, hq⟩ (show ¬ (4 * q + 3) % 4 = 0 by omega) (show (4 * q + 3) % 4 = 3 by omega)]
    dsimp only
    rw [fourth_point, round_apply, add_apply]
    have e2 : ∀ hn, (outsAt0 (F := Ideal) m c (4 * q + 3 - 1) hn).2 y = (outsAt0 (F := Ideal) m c (4 * q + 1 + 1) (by omega)).2 y := fun _ => rfl
    rw [e2, scratch_next m c (4 * q + 1) _ (by omega) (by omega), scratch_next m c (4 * q) _ (by omega) (by omega), scratch_first m c q]
    unfold tileAt
    rfl
  have ht : t.val = 4 * (t.val / 4) + 3 := by omega
  have hlt : 4 * (t.val / 4) + 3 < cfg0.N := h 3
  have : ∀ (n : ℕ) (hn : n < cfg0.N) (e : n = 4 * (t.val / 4) + 3), outsAt0 (F := Ideal) m c n hn = outsAt0 m c (4 * (t.val / 4) + 3) hlt := by
    intro n hn e; subst e; rfl
  rw [this _ _ ht, key _ hlt, Fin.sum_univ_four]
  rfl

/-- What the fourth point of a run writes back is its block of the gradient. -/
theorem written (c : Dev nD) (t : Fin cfg0.N) (hf : (cfg0.win 2).flush t = true) : (dats (F := Ideal) m 0 c).flushed 2 t
    = ((cfg0.win 2).blk t).view.read (Elt Ideal) (product (V m c main_arg0) (V m c main_arg1)) := by
  have h3 : t.val % 4 = 3 := (flush0_2 t).mp hf
  have h : ∀ j : Fin 4, 4 * (t.val / 4) + j.val < cfg0.N := fun j => lt_of_le_of_lt (by have := j.isLt; omega) t.isLt
  have key : ∀ p : S2048x2048.Idx → EReal, (∀ y : S1024x1024.Idx, (outsAt0 (F := Ideal) m c t.val t.isLt).1 y = p (((cfg0.win 2).blk t).view.emb y))
      → (dats (F := Ideal) m 0 c).flushed 2 t = ((cfg0.win 2).blk t).view.read (Elt Ideal) p := by
    intro p hp
    show (cfg0.win 2).cut (grid0.coords t) ((dats (F := Ideal) m 0 c).after 2 t) = _
    rw [after0_2]
    exact funext hp
  refine key _ fun y => ?_
  rw [stored m c t h3 h, product_tiles]
  exact Finset.sum_congr rfl fun j _ => tile_rows m c t j (h j) y

/-- After the run the result's array holds the gradient. -/
theorem final (c : Dev nD) : (dats (F := Ideal) m 0 c).arrAt 2 cfg0.N = product (V m c main_arg0) (V m c main_arg1) :=
  (dats m 0 c).arrAt_eq_of_cover 2 _ (fun t hf => written m c t hf) (fun i => (covered_iff2 i).2 (by
    have h0 : (i 0).val < 2048 := (i 0).isLt; have h1 : (i 1).val < 2048 := (i 1).isLt; omega))

/-! ## The reference, and the equation -/

/-- The reference's result is the gradient. -/
theorem reference_eq (x : FVec Ideal S8192x2048 .bf16) (g : FVec Ideal S8192x2048 .bf16) (h : FTy.bits .bf16 < FTy.bits .f32)
    (ht : Shape.Transposes S2048x2048 [1, 0] S2048x2048) :
    truncf .bf16 (transpose S2048x2048 [1, 0] (Host.dotGeneral Cert.MixOutDwRefIdeal.dot_S8192x2048_S8192x2048_S2048x2048_0_0_1_1_n_n none (extf .f32 g h) (extf .f32 x h)) ht) h = product x g := by
  funext i
  unfold product
  simp only [mul_comm (x _)]
  pointwise [Cert.MixOutDwRefIdeal.dot_S8192x2048_S8192x2048_S2048x2048_0_0_1_1_n_n]

/-- Kernel and reference end at the same array. -/
theorem algebraic : Cert.algebraic_MixOutDwIdeal_MixOutDwRefIdeal := by
  intro m ρ m' ρ' _ hagree
  refine ⟨fun c => product (m ((c : Thread nD τ).loc main_arg0)) (m ((c : Thread nD τ).loc main_arg1)), ?_, ?_⟩
  · exact (θ_run Cert.MixOutDwIdeal.defs _ _).mono (fun r h c => ⟨(h c).1.trans (final m c), (h c).2⟩) (run_blocks (F := Ideal) m ρ)
  · refine (θ_run Cert.MixOutDwRefIdeal.defs _ _).mono (fun r h c => ⟨(h c).1.trans ?_, (h c).2⟩) (Cert.MixOutDwRefIdeal.Value.run (F := Ideal) m' ρ')
    rw [(hagree c).1, (hagree c).2]
    exact reference_eq _ _ _ _

/-- The reference runs and leaves its arguments as they were. -/
theorem reference_frame : Cert.quiescent_MixOutDwRefIdeal := fun m ρ _ =>
  (θ_run Cert.MixOutDwRefIdeal.defs _ _).mono (fun r h => ⟨fun c => (h c).2, sem_eq_zero_of_no_sems (by decide) r.2⟩)
    (Cert.MixOutDwRefIdeal.Value.run (F := Ideal) m ρ)

end Cert.Products.MixOutDw

end
-- ==== Proof.Products.AttnInDx.lean ====
/- The gradient of the attention layer's input projection to its input: what the kernel's blocks hold, what its array ends at, what the reference computes, and the equation. -/
module

public import proofs.«01_k».proof.Defs
public import proofs.«01_k».proof.Proof.Gen.AttnInDxIdeal.Value
public import proofs.«01_k».proof.Proof.Gen.AttnInDxRefIdeal.Run
public import Idealize.ShloMosaic.Lib.Pointwise

@[expose] public section

noncomputable section

namespace Cert.Products.AttnInDx

open Cert.AttnInDxIdeal Cert.AttnInDxIdeal.Gen Cert.AttnInDxIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-- The product, entry by entry: each entry of the result is a sum of 4608 products. -/
def product (x : S8192x4608.Idx → EReal) (w : S2048x4608.Idx → EReal) : S8192x2048.Idx → EReal := fun i =>
  ∑ k : Fin 4608, x (ix2 (i 0) k) * w (ix2 (i 1) k)

/-- What the body computes of one block of rows and one block of columns. -/
theorem payload_apply (x : Vec Ideal S512x4608 .bf16) (w : Vec Ideal S1024x4608 .bf16) (y : S512x1024.Idx) :
    k0_pay1 (F := Ideal) x w y = ∑ k : Fin 4608, x (ix2 (y 0) k) * w (ix2 (y 1) k) := by
  pointwise [k0_pay1]

/-- The rows' block moves with the result's rows, the weights' block with the result's columns. -/
theorem blocks_move : ∀ t : Fin cfg0.N, win0_0.index t = ![win0_2.index t 0, 0] ∧ win0_1.index t = ![win0_2.index t 1, 0] :=
  (by decide +kernel : ∀ t : Fin grid0.N, _)

/-- Every block of the result is written by some point. -/
theorem blocks_onto : ∀ (q0 : Fin 16) (q1 : Fin 2), ∃ t : Fin cfg0.N, (cfg0.win 2).flush t = true ∧ win0_2.index t = ![q0.val, q1.val] :=
  (by decide +kernel : ∀ (q0 : Fin 16) (q1 : Fin 2), ∃ t : Fin grid0.N, win0_2.flush t = true ∧ win0_2.index t = ![q0.val, q1.val])

/-- What a point writes back is its block of the product. -/
theorem written (c : Dev nD) (t : Fin cfg0.N) : (dats (F := Ideal) m 0 c).flushed 2 t
    = ((cfg0.win 2).blk t).view.read (Elt Ideal) (product (V m c main_arg1) (V m c main_arg0)) := by
  rw [flushed2]; unfold out0_2
  rw [View.canon_unit_zero (funext fun a => by fin_cases a <;> rfl), View.ld_unit_zero (S := S512x4608) (funext fun a => by fin_cases a <;> rfl),
    View.ld_unit_zero (S := S1024x4608) (funext fun a => by fin_cases a <;> rfl)]
  obtain ⟨e0, e1⟩ := blocks_move t
  funext y
  show k0_pay1 (F := Ideal) (iblk m c 0 t) (iblk m c 1 t) ((cfg0.win 2).xinj (grid0.coords t) y) = product _ _ (((cfg0.win 2).blk t).view.emb y)
  rw [payload_apply]
  refine Finset.sum_congr rfl fun k _ => ?_
  refine congrArg₂ (· * ·) ?_ ?_
  · show V m c main_arg1 (((cfg0.win 0).blk t).view.emb _) = V m c main_arg1 _
    refine congrArg _ (funext fun a => Fin.ext ?_)
    match a with
    | ⟨0, _⟩ =>
      show win0_0.index t 0 * 512 + 1 * (y 0).val = win0_2.index t 0 * 512 + 1 * (y 0).val
      rw [e0]; rfl
    | ⟨1, _⟩ =>
      show win0_0.index t 1 * 4608 + 1 * k.val = k.val
      rw [e0]; show 0 * 4608 + 1 * k.val = k.val; omega
  · show V m c main_arg0 (((cfg0.win 1).blk t).view.emb _) = V m c main_arg0 _
    refine congrArg _ (funext fun a => Fin.ext ?_)
    match a with
    | ⟨1, _⟩ =>
      show win0_1.index t 1 * 4608 + 1 * k.val = k.val
      rw [e1]; show 0 * 4608 + 1 * k.val = k.val; omega
    | ⟨0, _⟩ =>
      show win0_1.index t 0 * 1024 + 1 * (y 1).val = win0_2.index t 1 * 1024 + 1 * (y 1).val
      rw [e1]; rfl

/-- An entry of the result is in a point's block when each coordinate is in the block's range. -/
theorem mem_block (t : Fin cfg0.N) (i : S8192x2048.Idx) : i ∈ ((cfg0.win 2).blk t).view.set
    ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- After the run the result's array holds the product. -/
theorem final (c : Dev nD) : (dats (F := Ideal) m 0 c).arrAt 2 cfg0.N = product (V m c main_arg1) (V m c main_arg0) :=
  (dats m 0 c).arrAt_eq_of_cover 2 _ (fun t _ => written m c t) (fun i => by
    have h0 : (i 0).val < 8192 := (i 0).isLt
    have h1 : (i 1).val < 2048 := (i 1).isLt
    obtain ⟨t, hf, ht⟩ := blocks_onto ⟨(i 0).val / 512, by omega⟩ ⟨(i 1).val / 1024, by omega⟩
    have q0 : win0_2.index t (0 : Fin 2) = (i 0).val / 512 := congrFun ht 0
    have q1 : win0_2.index t (1 : Fin 2) = (i 1).val / 1024 := congrFun ht 1
    refine ⟨t, hf, ?_⟩
    rw [mem_block]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 1024 ≤ (i 1).val ∧ (i 1).val < win0_2.index t (1 : Fin 2) * 1024 + 1024; omega)

/-- The reference's result is the product. -/
theorem reference_eq (x : FVec Ideal S8192x4608 .bf16) (w : FVec Ideal S2048x4608 .bf16) (h : FTy.bits .bf16 < FTy.bits .f32) :
    Host.dotGeneral Cert.AttnInDxRefIdeal.dot_S8192x4608_S2048x4608_S8192x2048_1_1_0_0_n_n none (extf .f32 x h) (extf .f32 w h) = product x w := by
  funext i
  pointwise [product, Cert.AttnInDxRefIdeal.dot_S8192x4608_S2048x4608_S8192x2048_1_1_0_0_n_n]

/-- Kernel and reference end at the same array. -/
theorem algebraic : Cert.algebraic_AttnInDxIdeal_AttnInDxRefIdeal := by
  intro m ρ m' ρ' _ hagree
  refine ⟨fun c => product (m ((c : Thread nD τ).loc main_arg1)) (m ((c : Thread nD τ).loc main_arg0)), ?_, ?_⟩
  · exact (θ_run Cert.AttnInDxIdeal.defs _ _).mono (fun r h c => ⟨(h c).1.trans (final m c), (h c).2⟩) (run_blocks (F := Ideal) m ρ)
  · refine (θ_run Cert.AttnInDxRefIdeal.defs _ _).mono (fun r h c => ⟨(h c).1.trans ?_, (h c).2⟩) (Cert.AttnInDxRefIdeal.Value.run (F := Ideal) m' ρ')
    rw [(hagree c).1, (hagree c).2]
    exact reference_eq _ _ _

/-- The reference runs and leaves its arguments as they were. -/
theorem reference_frame : Cert.quiescent_AttnInDxRefIdeal := fun m ρ _ =>
  (θ_run Cert.AttnInDxRefIdeal.defs _ _).mono (fun r h => ⟨fun c => (h c).2, sem_eq_zero_of_no_sems (by decide) r.2⟩)
    (Cert.AttnInDxRefIdeal.Value.run (F := Ideal) m ρ)

end Cert.Products.AttnInDx

end
-- ==== Proof.Products.AttnInDw.lean ====
/- The gradient of the attention layer's input projection to its weights. The kernel walks the rows in four tiles and adds the tiles' products in
   a scratch: what one point leaves there, what the fourth point writes back, what the array ends at, what the reference
   computes, and the equation. -/
module

public import proofs.«01_k».proof.Defs
public import proofs.«01_k».proof.Proof.Gen.AttnInDwIdeal.Value
public import proofs.«01_k».proof.Proof.Gen.AttnInDwRefIdeal.Run
public import Idealize.ShloMosaic.Lib.Pointwise

@[expose] public section

noncomputable section

namespace Cert.Products.AttnInDw

open Cert.AttnInDwIdeal Cert.AttnInDwIdeal.Gen Cert.AttnInDwIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-- The gradient, entry by entry: each entry is a sum of 8192 products, one for each row. -/
def product (x : S8192x2048.Idx → EReal) (g : S8192x4608.Idx → EReal) : S2048x4608.Idx → EReal := fun i =>
  ∑ k : Fin 8192, x (ix2 k (i 0)) * g (ix2 k (i 1))

/-! ## What one point computes -/

/-- The first point of a run of four starts the scratch at zero and adds its tile's product. -/
theorem first_point (c : Dev nD) (i : grid0.Coords) (r0 : Memref sig .tc .vmem S2048x1024 .bf16) (h0 : r0.IsWhole) (r1 : Memref sig .tc .vmem S2048x1536 .bf16) (h1 : r1.IsWhole)
    (r2 : Memref sig .tc .vmem S1024x1536 .bf16) (h2 : r2.IsWhole) (s0 : Memref sig .tc .vmem S1024x1536 .f32) (hs : s0.IsWhole)
    (hc0 : cond0_0 i) (hc1 : ¬cond0_1 i) (x0 : Vec Ideal S2048x1024 .bf16) (x1 : Vec Ideal S2048x1536 .bf16) :
    sout0_A_0 (F := Ideal) c i r0 h0 r1 h1 r2 h2 s0 hs hc0 hc1 x0 x1 = k0_pay2 k0_pay1 x0 x1 := by
  unfold sout0_A_0
  rw [View.read_writes_eq_canon _ _ _ (scover0_A_0 c i r0 h0 r1 h1 r2 h2 s0 hs hc0 hc1 x0 x1)]
  unfold kernelRun0_A
  dsimp only
  sl_unfold_words
  rw [View.canon_cons_unit_zero (S := S1024x1536) (funext fun a => by fin_cases a <;> rfl), View.readCov_unit_zero (S := S1024x1536) _ (funext fun a => by fin_cases a <;> rfl)]
  simp only [View.readAt_eq_ld, h0.read_unread, h1.read_unread]
  rw [View.ld_unit_zero (S := S2048x1024) (funext fun a => by fin_cases a <;> rfl), View.ld_unit_zero (S := S2048x1536) (funext fun a => by fin_cases a <;> rfl)]

/-- A later point adds its tile's product to what the scratch held. -/
theorem later_point (c : Dev nD) (i : grid0.Coords) (r0 : Memref sig .tc .vmem S2048x1024 .bf16) (h0 : r0.IsWhole) (r1 : Memref sig .tc .vmem S2048x1536 .bf16) (h1 : r1.IsWhole)
    (r2 : Memref sig .tc .vmem S1024x1536 .bf16) (h2 : r2.IsWhole) (s0 : Memref sig .tc .vmem S1024x1536 .f32) (hs : s0.IsWhole)
    (hc0 : ¬cond0_0 i) (hc1 : ¬cond0_1 i) (x0 : Vec Ideal S2048x1024 .bf16) (x1 : Vec Ideal S2048x1536 .bf16) (xs : Vec Ideal S1024x1536 .f32) :
    sout0_B_0 (F := Ideal) c i r0 h0 r1 h1 r2 h2 s0 hs hc0 hc1 x0 x1 xs = k0_pay2 xs x0 x1 := by
  unfold sout0_B_0
  rw [View.read_writes_eq_canon _ _ _ (scover0_B_0 c i r0 h0 r1 h1 r2 h2 s0 hs hc0 hc1 x0 x1 xs)]
  unfold kernelRun0_B
  dsimp only
  sl_unfold_words
  rw [View.canon_unit_zero (S := S1024x1536) (funext fun a => by fin_cases a <;> rfl)]
  simp only [View.readAt_eq_ld, h0.read_unread, h1.read_unread, hs.read_unread]
  rw [View.ld_unit_zero (S := S2048x1024) (funext fun a => by fin_cases a <;> rfl), View.ld_unit_zero (S := S2048x1536) (funext fun a => by fin_cases a <;> rfl), View.ld_unit_zero (S := S1024x1536) (funext fun a => by fin_cases a <;> rfl)]

/-- The fourth point adds its tile's product and stores the rounded sum. -/
theorem fourth_point (c : Dev nD) (i : grid0.Coords) (r0 : Memref sig .tc .vmem S2048x1024 .bf16) (h0 : r0.IsWhole) (r1 : Memref sig .tc .vmem S2048x1536 .bf16) (h1 : r1.IsWhole)
    (r2 : Memref sig .tc .vmem S1024x1536 .bf16) (h2 : r2.IsWhole) (s0 : Memref sig .tc .vmem S1024x1536 .f32) (hs : s0.IsWhole)
    (hc0 : ¬cond0_0 i) (hc1 : cond0_1 i) (x0 : Vec Ideal S2048x1024 .bf16) (x1 : Vec Ideal S2048x1536 .bf16) (xs : Vec Ideal S1024x1536 .f32) :
    out0_C_2 (F := Ideal) c i r0 h0 r1 h1 r2 h2 s0 hs hc0 hc1 x0 x1 xs = k0_pay3 (k0_pay2 xs x0 x1) := by
  unfold out0_C_2
  rw [View.read_writes_eq_canon _ _ _ (cover0_C_2 c i r0 h0 r1 h1 r2 h2 s0 hs hc0 hc1 x0 x1 xs)]
  unfold kernelRun0_C
  dsimp only
  sl_unfold_words
  rw [View.canon_unit_zero (S := S1024x1536) (funext fun a => by fin_cases a <;> rfl), View.readCov_unit_zero (S := S1024x1536) _ (funext fun a => by fin_cases a <;> rfl)]
  simp only [View.readAt_eq_ld, h0.read_unread, h1.read_unread, hs.read_unread]
  rw [View.ld_unit_zero (S := S2048x1024) (funext fun a => by fin_cases a <;> rfl), View.ld_unit_zero (S := S2048x1536) (funext fun a => by fin_cases a <;> rfl), View.ld_unit_zero (S := S1024x1536) (funext fun a => by fin_cases a <;> rfl)]

/-- The product of one tile of rows. -/
def tile (x0 : S2048x1024.Idx → EReal) (x1 : S2048x1536.Idx → EReal) (y : S1024x1536.Idx) : EReal := ∑ k : Fin 2048, x0 (ix2 k (y 0)) * x1 (ix2 k (y 1))

theorem zero_apply (y : S1024x1536.Idx) : k0_pay1 (F := Ideal) y = 0 := by pointwise [k0_pay1]

theorem add_apply (xs : Vec Ideal S1024x1536 .f32) (x0 : Vec Ideal S2048x1024 .bf16) (x1 : Vec Ideal S2048x1536 .bf16) (y : S1024x1536.Idx) :
    k0_pay2 (F := Ideal) xs x0 x1 y = xs y + tile x0 x1 y := by
  pointwise [k0_pay2, tile]

theorem round_apply (xs : Vec Ideal S1024x1536 .f32) (y : S1024x1536.Idx) : k0_pay3 (F := Ideal) xs y = xs y := by pointwise [k0_pay3]

/-- The two blocks that point `t` reads, and their product. -/
def tileAt (c : Dev nD) (n : ℕ) (h : n < cfg0.N) (y : S1024x1536.Idx) : EReal := tile (iblk m c 0 ⟨n, h⟩) (iblk m c 1 ⟨n, h⟩) y

/-- What the scratch holds after the first, second and third point of run `q`. -/
theorem scratch_first (c : Dev nD) (q : ℕ) (h : 4 * q < cfg0.N) (y : S1024x1536.Idx) :
    (outsAt0 (F := Ideal) m c (4 * q) h).2 y = tileAt m c (4 * q) h y := by
  rw [show outsAt0 (F := Ideal) m c (4 * q) h = _ from outsAt0_A m c ⟨4 * q, h⟩ (show 4 * q % 4 = 0 by omega) (show ¬ 4 * q % 4 = 3 by omega)]
  dsimp only
  rw [first_point, add_apply, zero_apply, zero_add]
  unfold tileAt
  rfl

theorem scratch_next (c : Dev nD) (n : ℕ) (h : n + 1 < cfg0.N) (e0 : ¬ (n + 1) % 4 = 0) (e3 : ¬ (n + 1) % 4 = 3) (y : S1024x1536.Idx) :
    (outsAt0 (F := Ideal) m c (n + 1) h).2 y = (outsAt0 m c n (Nat.lt_of_succ_lt h)).2 y + tileAt m c (n + 1) h y := by
  rw [show outsAt0 (F := Ideal) m c (n + 1) h = _ from outsAt0_B m c ⟨n + 1, h⟩ e0 e3]
  dsimp only
  rw [later_point, add_apply]
  unfold tileAt
  rfl

/-! ## What the array ends at -/

/-- The point's two blocks: tile `t mod 4` of the rows, the columns of the result's block. -/
theorem blocks_move : ∀ t : Fin cfg0.N, win0_0.index t = ![t.val % 4, win0_2.index t 0] ∧ win0_1.index t = ![t.val % 4, win0_2.index t 1] :=
  (by decide +kernel : ∀ t : Fin grid0.N, _)

/-- The four points of a run share the result's block. -/
theorem block_shared : ∀ (t : Fin cfg0.N) (j : Fin 4) (h : 4 * (t.val / 4) + j.val < cfg0.N), win0_2.index ⟨4 * (t.val / 4) + j.val, h⟩ = win0_2.index t :=
  (by decide +kernel : ∀ (t : Fin grid0.N) (j : Fin 4) (h : 4 * (t.val / 4) + j.val < grid0.N), win0_2.index ⟨4 * (t.val / 4) + j.val, h⟩ = win0_2.index t)

/-- The terms of the sum that belong to rows `2048 j` to `2048 j + 2047`. -/
def rows (x : S8192x2048.Idx → EReal) (g : S8192x4608.Idx → EReal) (j : Fin 4) (i : S2048x4608.Idx) : EReal :=
  ∑ k : Fin 2048, x (ix2 (⟨j.val * 2048 + k.val, by have := j.isLt; have := k.isLt; omega⟩ : Fin 8192) (i 0))
    * g (ix2 (⟨j.val * 2048 + k.val, by have := j.isLt; have := k.isLt; omega⟩ : Fin 8192) (i 1))

theorem product_tiles (x : S8192x2048.Idx → EReal) (g : S8192x4608.Idx → EReal) (i : S2048x4608.Idx) :
    product x g i = ∑ j : Fin 4, rows x g j i := by
  unfold product
  exact Fin.sum_univ_tiles 4 2048 rfl _

/-- Tile `j` of the run that ends at `t`: the terms of the sum that belong to rows `2048 j` to `2048 j + 2047`. -/
theorem tile_rows (c : Dev nD) (t : Fin cfg0.N) (j : Fin 4) (h : 4 * (t.val / 4) + j.val < cfg0.N) (y : S1024x1536.Idx) :
    tileAt m c (4 * (t.val / 4) + j.val) h y = rows (V m c main_arg0) (V m c main_arg1) j (((cfg0.win 2).blk t).view.emb y) := by
  obtain ⟨e0, e1⟩ := blocks_move ⟨4 * (t.val / 4) + j.val, h⟩
  have e2 := block_shared t j h
  have hj : (4 * (t.val / 4) + j.val) % 4 = j.val := by have := j.isLt; omega
  rw [e2] at e0 e1
  unfold tileAt tile rows
  refine Finset.sum_congr rfl fun k _ => ?_
  refine congrArg₂ (· * ·) ?_ ?_
  · show V m c main_arg0 (((cfg0.win 0).blk ⟨4 * (t.val / 4) + j.val, h⟩).view.emb _) = V m c main_arg0 _
    refine congrArg _ (funext fun a => Fin.ext ?_)
    match a with
    | ⟨0, _⟩ =>
      show win0_0.index ⟨4 * (t.val / 4) + j.val, h⟩ 0 * 2048 + 1 * k.val = j.val * 2048 + k.val
      rw [e0]; show (4 * (t.val / 4) + j.val) % 4 * 2048 + 1 * k.val = _; rw [hj, Nat.one_mul]
    | ⟨1, _⟩ =>
      show win0_0.index ⟨4 * (t.val / 4) + j.val, h⟩ 1 * 1024 + 1 * (y 0).val = win0_2.index t 0 * 1024 + 1 * (y 0).val
      rw [e0]; rfl
  · show V m c main_arg1 (((cfg0.win 1).blk ⟨4 * (t.val / 4) + j.val, h⟩).view.emb _) = V m c main_arg1 _
    refine congrArg _ (funext fun a => Fin.ext ?_)
    match a with
    | ⟨0, _⟩ =>
      show win0_1.index ⟨4 * (t.val / 4) + j.val, h⟩ 0 * 2048 + 1 * k.val = j.val * 2048 + k.val
      rw [e1]; show (4 * (t.val / 4) + j.val) % 4 * 2048 + 1 * k.val = _; rw [hj, Nat.one_mul]
    | ⟨1, _⟩ =>
      show win0_1.index ⟨4 * (t.val / 4) + j.val, h⟩ 1 * 1536 + 1 * (y 1).val = win0_2.index t 1 * 1536 + 1 * (y 1).val
      rw [e1]; rfl

/-- What the fourth point computes: the sum of the run's four tiles. -/
theorem stored (c : Dev nD) (t : Fin cfg0.N) (h3 : t.val % 4 = 3) (h : ∀ j : Fin 4, 4 * (t.val / 4) + j.val < cfg0.N) (y : S1024x1536.Idx) :
    (outsAt0 (F := Ideal) m c t.val t.isLt).1 y = ∑ j : Fin 4, tileAt m c (4 * (t.val / 4) + j.val) (h j) y := by
  have key : ∀ (q : ℕ) (hq : 4 * q + 3 < cfg0.N), (outsAt0 (F := Ideal) m c (4 * q + 3) hq).1 y
      = ((tileAt m c (4 * q) (by omega) y + tileAt m c (4 * q + 1) (by omega) y) + tileAt m c (4 * q + 2) (by omega) y) + tileAt m c (4 * q + 3) hq y := by
    intro q hq
    rw [show outsAt0 (F := Ideal) m c (4 * q + 3) hq = _ from outsAt0_C m c ⟨4 * q + 3, hq⟩ (show ¬ (4 * q + 3) % 4 = 0 by omega) (show (4 * q + 3) % 4 = 3 by omega)]
    dsimp only
    rw [fourth_point, round_apply, add_apply]
    have e2 : ∀ hn, (outsAt0 (F := Ideal) m c (4 * q + 3 - 1) hn).2 y = (outsAt0 (F := Ideal) m c (4 * q + 1 + 1) (by omega)).2 y := fun _ => rfl
    rw [e2, scratch_next m c (4 * q + 1) _ (by omega) (by omega), scratch_next m c (4 * q) _ (by omega) (by omega), scratch_first m c q]
    unfold tileAt
    rfl
  have ht : t.val = 4 * (t.val / 4) + 3 := by omega
  have hlt : 4 * (t.val / 4) + 3 < cfg0.N := h 3
  have : ∀ (n : ℕ) (hn : n < cfg0.N) (e : n = 4 * (t.val / 4) + 3), outsAt0 (F := Ideal) m c n hn = outsAt0 m c (4 * (t.val / 4) + 3) hlt := by
    intro n hn e; subst e; rfl
  rw [this _ _ ht, key _ hlt, Fin.sum_univ_four]
  rfl

/-- What the fourth point of a run writes back is its block of the gradient. -/
theorem written (c : Dev nD) (t : Fin cfg0.N) (hf : (cfg0.win 2).flush t = true) : (dats (F := Ideal) m 0 c).flushed 2 t
    = ((cfg0.win 2).blk t).view.read (Elt Ideal) (product (V m c main_arg0) (V m c main_arg1)) := by
  have h3 : t.val % 4 = 3 := (flush0_2 t).mp hf
  have h : ∀ j : Fin 4, 4 * (t.val / 4) + j.val < cfg0.N := fun j => lt_of_le_of_lt (by have := j.isLt; omega) t.isLt
  have key : ∀ p : S2048x4608.Idx → EReal, (∀ y : S1024x1536.Idx, (outsAt0 (F := Ideal) m c t.val t.isLt).1 y = p (((cfg0.win 2).blk t).view.emb y))
      → (dats (F := Ideal) m 0 c).flushed 2 t = ((cfg0.win 2).blk t).view.read (Elt Ideal) p := by
    intro p hp
    show (cfg0.win 2).cut (grid0.coords t) ((dats (F := Ideal) m 0 c).after 2 t) = _
    rw [after0_2]
    exact funext hp
  refine key _ fun y => ?_
  rw [stored m c t h3 h, product_tiles]
  exact Finset.sum_congr rfl fun j _ => tile_rows m c t j (h j) y

/-- After the run the result's array holds the gradient. -/
theorem final (c : Dev nD) : (dats (F := Ideal) m 0 c).arrAt 2 cfg0.N = product (V m c main_arg0) (V m c main_arg1) :=
  (dats m 0 c).arrAt_eq_of_cover 2 _ (fun t hf => written m c t hf) (fun i => (covered_iff2 i).2 (by
    have h0 : (i 0).val < 2048 := (i 0).isLt; have h1 : (i 1).val < 4608 := (i 1).isLt; omega))

/-! ## The reference, and the equation -/

/-- The reference's result is the gradient. -/
theorem reference_eq (x : FVec Ideal S8192x2048 .bf16) (g : FVec Ideal S8192x4608 .bf16) (h : FTy.bits .bf16 < FTy.bits .f32)
    (ht : Shape.Transposes Cert.AttnInDwRefIdeal.S4608x2048 [1, 0] S2048x4608) :
    truncf .bf16 (transpose S2048x4608 [1, 0] (Host.dotGeneral Cert.AttnInDwRefIdeal.dot_S8192x4608_S8192x2048_S4608x2048_0_0_1_1_n_n none (extf .f32 g h) (extf .f32 x h)) ht) h = product x g := by
  funext i
  unfold product
  simp only [mul_comm (x _)]
  pointwise [Cert.AttnInDwRefIdeal.dot_S8192x4608_S8192x2048_S4608x2048_0_0_1_1_n_n]

/-- Kernel and reference end at the same array. -/
theorem algebraic : Cert.algebraic_AttnInDwIdeal_AttnInDwRefIdeal := by
  intro m ρ m' ρ' _ hagree
  refine ⟨fun c => product (m ((c : Thread nD τ).loc main_arg0)) (m ((c : Thread nD τ).loc main_arg1)), ?_, ?_⟩
  · exact (θ_run Cert.AttnInDwIdeal.defs _ _).mono (fun r h c => ⟨(h c).1.trans (final m c), (h c).2⟩) (run_blocks (F := Ideal) m ρ)
  · refine (θ_run Cert.AttnInDwRefIdeal.defs _ _).mono (fun r h c => ⟨(h c).1.trans ?_, (h c).2⟩) (Cert.AttnInDwRefIdeal.Value.run (F := Ideal) m' ρ')
    rw [(hagree c).1, (hagree c).2]
    exact reference_eq _ _ _ _

/-- The reference runs and leaves its arguments as they were. -/
theorem reference_frame : Cert.quiescent_AttnInDwRefIdeal := fun m ρ _ =>
  (θ_run Cert.AttnInDwRefIdeal.defs _ _).mono (fun r h => ⟨fun c => (h c).2, sem_eq_zero_of_no_sems (by decide) r.2⟩)
    (Cert.AttnInDwRefIdeal.Value.run (F := Ideal) m ρ)

end Cert.Products.AttnInDw

end
-- ==== Proof.Products.LruInDx.lean ====
/- The gradient of the recurrent layer's input projection to its input: what the kernel's blocks hold, what its array ends at, what the reference computes, and the equation. -/
module

public import proofs.«01_k».proof.Defs
public import proofs.«01_k».proof.Proof.Gen.LruInDxIdeal.Value
public import proofs.«01_k».proof.Proof.Gen.LruInDxRefIdeal.Run
public import Idealize.ShloMosaic.Lib.Pointwise

@[expose] public section

noncomputable section

namespace Cert.Products.LruInDx

open Cert.LruInDxIdeal Cert.LruInDxIdeal.Gen Cert.LruInDxIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-- The product, entry by entry: each entry of the result is a sum of 4096 products. -/
def product (x : S8192x4096.Idx → EReal) (w : S2048x4096.Idx → EReal) : S8192x2048.Idx → EReal := fun i =>
  ∑ k : Fin 4096, x (ix2 (i 0) k) * w (ix2 (i 1) k)

/-- What the body computes of one block of rows and one block of columns. -/
theorem payload_apply (x : Vec Ideal S512x4096 .bf16) (w : Vec Ideal S1024x4096 .bf16) (y : S512x1024.Idx) :
    k0_pay1 (F := Ideal) x w y = ∑ k : Fin 4096, x (ix2 (y 0) k) * w (ix2 (y 1) k) := by
  pointwise [k0_pay1]

/-- The rows' block moves with the result's rows, the weights' block with the result's columns. -/
theorem blocks_move : ∀ t : Fin cfg0.N, win0_0.index t = ![win0_2.index t 0, 0] ∧ win0_1.index t = ![win0_2.index t 1, 0] :=
  (by decide +kernel : ∀ t : Fin grid0.N, _)

/-- Every block of the result is written by some point. -/
theorem blocks_onto : ∀ (q0 : Fin 16) (q1 : Fin 2), ∃ t : Fin cfg0.N, (cfg0.win 2).flush t = true ∧ win0_2.index t = ![q0.val, q1.val] :=
  (by decide +kernel : ∀ (q0 : Fin 16) (q1 : Fin 2), ∃ t : Fin grid0.N, win0_2.flush t = true ∧ win0_2.index t = ![q0.val, q1.val])

/-- What a point writes back is its block of the product. -/
theorem written (c : Dev nD) (t : Fin cfg0.N) : (dats (F := Ideal) m 0 c).flushed 2 t
    = ((cfg0.win 2).blk t).view.read (Elt Ideal) (product (V m c main_arg1) (V m c main_arg0)) := by
  rw [flushed2]; unfold out0_2
  rw [View.canon_unit_zero (funext fun a => by fin_cases a <;> rfl), View.ld_unit_zero (S := S512x4096) (funext fun a => by fin_cases a <;> rfl),
    View.ld_unit_zero (S := S1024x4096) (funext fun a => by fin_cases a <;> rfl)]
  obtain ⟨e0, e1⟩ := blocks_move t
  funext y
  show k0_pay1 (F := Ideal) (iblk m c 0 t) (iblk m c 1 t) ((cfg0.win 2).xinj (grid0.coords t) y) = product _ _ (((cfg0.win 2).blk t).view.emb y)
  rw [payload_apply]
  refine Finset.sum_congr rfl fun k _ => ?_
  refine congrArg₂ (· * ·) ?_ ?_
  · show V m c main_arg1 (((cfg0.win 0).blk t).view.emb _) = V m c main_arg1 _
    refine congrArg _ (funext fun a => Fin.ext ?_)
    match a with
    | ⟨0, _⟩ =>
      show win0_0.index t 0 * 512 + 1 * (y 0).val = win0_2.index t 0 * 512 + 1 * (y 0).val
      rw [e0]; rfl
    | ⟨1, _⟩ =>
      show win0_0.index t 1 * 4096 + 1 * k.val = k.val
      rw [e0]; show 0 * 4096 + 1 * k.val = k.val; omega
  · show V m c main_arg0 (((cfg0.win 1).blk t).view.emb _) = V m c main_arg0 _
    refine congrArg _ (funext fun a => Fin.ext ?_)
    match a with
    | ⟨1, _⟩ =>
      show win0_1.index t 1 * 4096 + 1 * k.val = k.val
      rw [e1]; show 0 * 4096 + 1 * k.val = k.val; omega
    | ⟨0, _⟩ =>
      show win0_1.index t 0 * 1024 + 1 * (y 1).val = win0_2.index t 1 * 1024 + 1 * (y 1).val
      rw [e1]; rfl

/-- An entry of the result is in a point's block when each coordinate is in the block's range. -/
theorem mem_block (t : Fin cfg0.N) (i : S8192x2048.Idx) : i ∈ ((cfg0.win 2).blk t).view.set
    ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- After the run the result's array holds the product. -/
theorem final (c : Dev nD) : (dats (F := Ideal) m 0 c).arrAt 2 cfg0.N = product (V m c main_arg1) (V m c main_arg0) :=
  (dats m 0 c).arrAt_eq_of_cover 2 _ (fun t _ => written m c t) (fun i => by
    have h0 : (i 0).val < 8192 := (i 0).isLt
    have h1 : (i 1).val < 2048 := (i 1).isLt
    obtain ⟨t, hf, ht⟩ := blocks_onto ⟨(i 0).val / 512, by omega⟩ ⟨(i 1).val / 1024, by omega⟩
    have q0 : win0_2.index t (0 : Fin 2) = (i 0).val / 512 := congrFun ht 0
    have q1 : win0_2.index t (1 : Fin 2) = (i 1).val / 1024 := congrFun ht 1
    refine ⟨t, hf, ?_⟩
    rw [mem_block]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 1024 ≤ (i 1).val ∧ (i 1).val < win0_2.index t (1 : Fin 2) * 1024 + 1024; omega)

/-- The reference's result is the product. -/
theorem reference_eq (x : FVec Ideal S8192x4096 .bf16) (w : FVec Ideal S2048x4096 .bf16) (h : FTy.bits .bf16 < FTy.bits .f32) :
    Host.dotGeneral Cert.LruInDxRefIdeal.dot_S8192x4096_S2048x4096_S8192x2048_1_1_0_0_n_n none (extf .f32 x h) (extf .f32 w h) = product x w := by
  funext i
  pointwise [product, Cert.LruInDxRefIdeal.dot_S8192x4096_S2048x4096_S8192x2048_1_1_0_0_n_n]

/-- Kernel and reference end at the same array. -/
theorem algebraic : Cert.algebraic_LruInDxIdeal_LruInDxRefIdeal := by
  intro m ρ m' ρ' _ hagree
  refine ⟨fun c => product (m ((c : Thread nD τ).loc main_arg1)) (m ((c : Thread nD τ).loc main_arg0)), ?_, ?_⟩
  · exact (θ_run Cert.LruInDxIdeal.defs _ _).mono (fun r h c => ⟨(h c).1.trans (final m c), (h c).2⟩) (run_blocks (F := Ideal) m ρ)
  · refine (θ_run Cert.LruInDxRefIdeal.defs _ _).mono (fun r h c => ⟨(h c).1.trans ?_, (h c).2⟩) (Cert.LruInDxRefIdeal.Value.run (F := Ideal) m' ρ')
    rw [(hagree c).1, (hagree c).2]
    exact reference_eq _ _ _

/-- The reference runs and leaves its arguments as they were. -/
theorem reference_frame : Cert.quiescent_LruInDxRefIdeal := fun m ρ _ =>
  (θ_run Cert.LruInDxRefIdeal.defs _ _).mono (fun r h => ⟨fun c => (h c).2, sem_eq_zero_of_no_sems (by decide) r.2⟩)
    (Cert.LruInDxRefIdeal.Value.run (F := Ideal) m ρ)

end Cert.Products.LruInDx

end
-- ==== Proof.Products.LruInDw.lean ====
/- The gradient of the recurrent layer's input projection to its weights: what the kernel's blocks hold, what its array
   ends at, what the reference computes, and the equation. -/
module

public import proofs.«01_k».proof.Defs
public import proofs.«01_k».proof.Proof.Gen.LruInDwIdeal.Value
public import proofs.«01_k».proof.Proof.Gen.LruInDwRefIdeal.Run
public import Idealize.ShloMosaic.Lib.Pointwise

@[expose] public section

noncomputable section

namespace Cert.Products.LruInDw

open Cert.LruInDwIdeal Cert.LruInDwIdeal.Gen Cert.LruInDwIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-- The gradient, entry by entry: each entry is a sum of 8192 products, one for each row. The columns come in eight groups of 512. -/
def product (x : S8192x2048.Idx → EReal) (g : S8192x4096.Idx → EReal) : S8x2048x512.Idx → EReal := fun i =>
  ∑ k : Fin 8192, x (ix2 k (i 1)) * g (ix2 k (⟨(i 0).val * 512 + (i 2).val, by
    have h0 : (i 0).val < 8 := (i 0).isLt
    have h2 : (i 2).val < 512 := (i 2).isLt
    omega⟩ : Fin 4096))

/-- What the body computes of one block of each array. -/
theorem payload_apply (x : Vec Ideal S8192x512 .bf16) (g : Vec Ideal S8192x512 .bf16) (y : S1x512x512.Idx) :
    k0_pay1 (F := Ideal) x g y = ∑ k : Fin 8192, x (ix2 k (y 1)) * g (ix2 k (y 2)) := by
  pointwise [k0_pay1]

/-- The first array's block moves with the result's rows, the second's with the group of columns. -/
theorem blocks_move : ∀ t : Fin cfg0.N, win0_0.index t = ![0, win0_2.index t 1] ∧ win0_1.index t = ![0, win0_2.index t 0] ∧ win0_2.index t 2 = 0 :=
  (by decide +kernel : ∀ t : Fin grid0.N, _)

/-- Every block of the result is written by some point. -/
theorem blocks_onto : ∀ (q0 : Fin 8) (q1 : Fin 4), ∃ t : Fin cfg0.N, (cfg0.win 2).flush t = true ∧ win0_2.index t = ![q0.val, q1.val, 0] :=
  (by decide +kernel : ∀ (q0 : Fin 8) (q1 : Fin 4), ∃ t : Fin grid0.N, win0_2.flush t = true ∧ win0_2.index t = ![q0.val, q1.val, 0])

/-- What a point writes back is its block of the gradient. -/
theorem written (c : Dev nD) (t : Fin cfg0.N) : (dats (F := Ideal) m 0 c).flushed 2 t
    = ((cfg0.win 2).blk t).view.read (Elt Ideal) (product (V m c main_arg0) (V m c main_arg1)) := by
  rw [flushed2]; unfold out0_2
  rw [View.canon_unit_zero (funext fun a => by fin_cases a <;> rfl), View.ld_unit_zero (S := S8192x512) (funext fun a => by fin_cases a <;> rfl),
    View.ld_unit_zero (S := S8192x512) (funext fun a => by fin_cases a <;> rfl)]
  obtain ⟨e0, e1, e2⟩ := blocks_move t
  have key : ∀ p : S8x2048x512.Idx → EReal, (∀ y : S1x512x512.Idx, k0_pay1 (F := Ideal) (iblk m c 0 t) (iblk m c 1 t) y = p (((cfg0.win 2).blk t).view.emb y))
      → (cfg0.win 2).cut (grid0.coords t) (k0_pay1 (F := Ideal) (iblk m c 0 t) (iblk m c 1 t)) = ((cfg0.win 2).blk t).view.read (Elt Ideal) p :=
    fun p hp => funext hp
  refine key _ fun y => ?_
  unfold product
  rw [payload_apply]
  have hy0 : (y 0).val < 1 := (y 0).isLt
  refine Finset.sum_congr rfl fun k _ => ?_
  refine congrArg₂ (· * ·) ?_ ?_
  · show V m c main_arg0 (((cfg0.win 0).blk t).view.emb _) = V m c main_arg0 _
    refine congrArg _ (funext fun a => Fin.ext ?_)
    match a with
    | ⟨0, _⟩ =>
      show win0_0.index t 0 * 8192 + 1 * k.val = k.val
      rw [e0]; show 0 * 8192 + 1 * k.val = k.val; omega
    | ⟨1, _⟩ =>
      show win0_0.index t 1 * 512 + 1 * (y 1).val = win0_2.index t 1 * 512 + 1 * (y 1).val
      rw [e0]; rfl
  · show V m c main_arg1 (((cfg0.win 1).blk t).view.emb _) = V m c main_arg1 _
    refine congrArg _ (funext fun a => Fin.ext ?_)
    match a with
    | ⟨0, _⟩ =>
      show win0_1.index t 0 * 8192 + 1 * k.val = k.val
      rw [e1]; show 0 * 8192 + 1 * k.val = k.val; omega
    | ⟨1, _⟩ =>
      show win0_1.index t 1 * 512 + 1 * (y 2).val = (win0_2.index t 0 * 1 + 1 * (y 0).val) * 512 + (win0_2.index t 2 * 512 + 1 * (y 2).val)
      rw [e1, e2]; show win0_2.index t 0 * 512 + 1 * (y 2).val = _; omega

/-- An entry of the result is in a point's block when each coordinate is in the block's range. -/
theorem mem_block (t : Fin cfg0.N) (i : S8x2048x512.Idx) : i ∈ ((cfg0.win 2).blk t).view.set
    ↔ ∀ a : Fin 3, win0_2.index t a * S1x512x512.size a ≤ (i a).val ∧ (i a).val < win0_2.index t a * S1x512x512.size a + S1x512x512.size a := by
  show i ∈ ((View.whole main_v0).slice (win0_2.rect t)).set ↔ _
  rw [View.set_slice_whole, Rect.mem_set_unit]
  exact Iff.rfl

/-- After the run the result's array holds the gradient. -/
theorem final (c : Dev nD) : (dats (F := Ideal) m 0 c).arrAt 2 cfg0.N = product (V m c main_arg0) (V m c main_arg1) :=
  (dats m 0 c).arrAt_eq_of_cover 2 _ (fun t _ => written m c t) (fun i => by
    have h0 : (i 0).val < 8 := (i 0).isLt
    have h1 : (i 1).val < 2048 := (i 1).isLt
    have h2 : (i 2).val < 512 := (i 2).isLt
    obtain ⟨t, hf, ht⟩ := blocks_onto ⟨(i 0).val, by omega⟩ ⟨(i 1).val / 512, by omega⟩
    have q0 : win0_2.index t (0 : Fin 3) = (i 0).val := congrFun ht 0
    have q1 : win0_2.index t (1 : Fin 3) = (i 1).val / 512 := congrFun ht 1
    have q2 : win0_2.index t (2 : Fin 3) = 0 := congrFun ht 2
    refine ⟨t, hf, ?_⟩
    rw [mem_block]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 512 ≤ (i 1).val ∧ (i 1).val < win0_2.index t (1 : Fin 3) * 512 + 512; omega
    | ⟨2, _⟩ => show win0_2.index t (2 : Fin 3) * 512 ≤ (i 2).val ∧ (i 2).val < win0_2.index t (2 : Fin 3) * 512 + 512; omega)

/-- The reference's result is the gradient. -/
theorem reference_eq (x : FVec Ideal S8192x2048 .bf16) (g : FVec Ideal S8192x4096 .bf16) (h : FTy.bits .bf16 < FTy.bits .f32)
    (ht : Shape.Transposes Cert.LruInDwRefIdeal.S4096x2048 [1, 0] Cert.LruInDwRefIdeal.S2048x4096) (hc : Cert.LruInDwRefIdeal.S2048x4096.ShapeCasts Cert.LruInDwRefIdeal.S2048x8x512) (hp : Cert.LruInDwRefIdeal.S2048x8x512.Transposes [1, 0, 2] S8x2048x512) :
    transpose S8x2048x512 [1, 0, 2] (shapeCast _ (truncf .bf16 (transpose Cert.LruInDwRefIdeal.S2048x4096 [1, 0]
      (Host.dotGeneral Cert.LruInDwRefIdeal.dot_S8192x4096_S8192x2048_S4096x2048_0_0_1_1_n_n none (extf .f32 g h) (extf .f32 x h)) ht) h) hc) hp = product x g := by
  funext i
  unfold product
  simp only [mul_comm (x _)]
  pointwise [Cert.LruInDwRefIdeal.dot_S8192x4096_S8192x2048_S4096x2048_0_0_1_1_n_n]

/-- Kernel and reference end at the same array. -/
theorem algebraic : Cert.algebraic_LruInDwIdeal_LruInDwRefIdeal := by
  intro m ρ m' ρ' _ hagree
  refine ⟨fun c => product (m ((c : Thread nD τ).loc main_arg0)) (m ((c : Thread nD τ).loc main_arg1)), ?_, ?_⟩
  · exact (θ_run Cert.LruInDwIdeal.defs _ _).mono (fun r h c => ⟨(h c).1.trans (final m c), (h c).2⟩) (run_blocks (F := Ideal) m ρ)
  · refine (θ_run Cert.LruInDwRefIdeal.defs _ _).mono (fun r h c => ⟨(h c).1.trans ?_, (h c).2⟩) (Cert.LruInDwRefIdeal.Value.run (F := Ideal) m' ρ')
    rw [(hagree c).1, (hagree c).2]
    exact reference_eq _ _ _ _ _ _

/-- The reference runs and leaves its arguments as they were. -/
theorem reference_frame : Cert.quiescent_LruInDwRefIdeal := fun m ρ _ =>
  (θ_run Cert.LruInDwRefIdeal.defs _ _).mono (fun r h => ⟨fun c => (h c).2, sem_eq_zero_of_no_sems (by decide) r.2⟩)
    (Cert.LruInDwRefIdeal.Value.run (F := Ideal) m ρ)

end Cert.Products.LruInDw

end
-- ==== Proof.Optimiser.Step.lean ====
/- The optimiser's step at one entry of a weight, over the extended reals. -/
module

public import Idealize.ShloMosaic.PureOps.Ideal

@[expose] public section

noncomputable section

namespace Cert.Optimiser

open Idealize.ShloMosaic

/-- The number that a float32 word is. -/
abbrev lit (b : BitVec 32) : EReal := Ideal.ofBits .f32 b

/-- The new first moment, from the gradient and the old moment. -/
def first (g m : EReal) : EReal := lit 0x3F666666#32 * m + lit 0x3DCCCCCD#32 * g

/-- The new second moment, from the gradient and the old moment. -/
def second (g v : EReal) : EReal := lit 0x3F7FBE77#32 * v + lit 0x3A83126F#32 * (g * g)

/-- The weight's change, from the weight and the two new moments. -/
def change (w m v : EReal) : EReal :=
  lit 0xBA83126F#32 * (Ideal.div (Ideal.div m (lit 0x3F26BD02#32)) (Ideal.sqrt (Ideal.div v (lit 0x3C231ACC#32)) + lit 0x322BCC77#32)
    + lit 0x3C23D70A#32 * w)

theorem bias1 : lit 0x3F26BD02#32 = ((5463681 / 8388608 : ℝ) : EReal) := by
  simp [lit, Ideal.ofBits, Ideal.ieee, -EReal.coe_mul]
  norm_num

theorem bias2 : lit 0x3C231ACC#32 = ((2672307 / 268435456 : ℝ) : EReal) := by
  simp [lit, Ideal.ofBits, Ideal.ieee, -EReal.coe_mul]
  norm_num

/-- The product with the inverse of the first bias is the quotient by it. -/
theorem mul_inv1 (x : EReal) : x * (((5463681 / 8388608)⁻¹ : ℝ) : EReal) = Ideal.div x (lit 0x3F26BD02#32) := by
  rw [bias1, Ideal.div_coe (by norm_num), one_div]

/-- The product with the inverse of the second bias is the quotient by it. -/
theorem mul_inv2 (x : EReal) : x * (((2672307 / 268435456)⁻¹ : ℝ) : EReal) = Ideal.div x (lit 0x3C231ACC#32) := by
  rw [bias2, Ideal.div_coe (by norm_num), one_div]

end Cert.Optimiser

end
-- ==== Proof.Optimiser.AdamIn.lean ====
/- The optimiser's step for the attention's input weights: what the kernel's blocks hold, what its arrays end at, what the reference computes, and the
   equation. -/
module

public import proofs.«01_k».proof.Defs
public import proofs.«01_k».proof.Proof.Gen.AdamInIdeal.Value
public import proofs.«01_k».proof.Proof.Gen.AdamInRefIdeal.Run
public import proofs.«01_k».proof.Proof.Optimiser.Step
public import Idealize.ShloMosaic.Lib.Pointwise

@[expose] public section

noncomputable section

namespace Cert.Optimiser.AdamIn

open Cert.AdamInIdeal Cert.AdamInIdeal.Gen Cert.AdamInIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The function -/

/-- A layer's gradient: the sum of the eight devices' parts. -/
def gradient (p0 p1 : S8x2048x576.Idx → EReal) : S2x2048x576.Idx → EReal := fun i =>
  if (i 0).val = 0 then ∑ s : Fin 8, p0 (ix3 s (i 1) (i 2)) else ∑ s : Fin 8, p1 (ix3 s (i 1) (i 2))

/-- The new first moment. -/
def moment1 (p0 p1 : S8x2048x576.Idx → EReal) (u : S2x2048x576.Idx → EReal) : S2x2048x576.Idx → EReal := fun i => first (gradient p0 p1 i) (u i)

/-- The new second moment. -/
def moment2 (p0 p1 : S8x2048x576.Idx → EReal) (v : S2x2048x576.Idx → EReal) : S2x2048x576.Idx → EReal := fun i => second (gradient p0 p1 i) (v i)

/-- The weight's change. -/
def delta (p0 p1 : S8x2048x576.Idx → EReal) (w u v : S2x2048x576.Idx → EReal) : S2x2048x576.Idx → EReal := fun i =>
  change (w i) (moment1 p0 p1 u i) (moment2 p0 p1 v i)

/-! ## What one point computes -/

/-- The sum of a block's eight parts. -/
def total (x : S8x256x576.Idx → EReal) (y : S1x256x576.Idx) : EReal := ∑ s : Fin 8, x (ix3 s (y 1) (y 2))

/-- The index of a block is its row and its column. -/
theorem here (y : S1x256x576.Idx) : (ix3 0 (y 1) (y 2) : S1x256x576.Idx) = y := by
  funext a
  match a with
  | ⟨0, _⟩ => exact (Fin.ext (by have : (y 0).val < 1 := (y 0).isLt; show 0 = (y 0).val; omega))
  | ⟨1, _⟩ => rfl
  | ⟨2, _⟩ => rfl

theorem named1 : (Named.named (F := Ideal) κ "c1" 0x3FC48605#32 : Ideal .f32) = (((5463681 / 8388608)⁻¹ : ℝ) : EReal) :=
  IdealRules.named_const.ideal_named_scalar κ "c1" _ _ rfl

theorem named2 : (Named.named (F := Ideal) κ "c2" 0x42C8E6D3#32 : Ideal .f32) = (((2672307 / 268435456)⁻¹ : ℝ) : EReal) :=
  IdealRules.named_const.ideal_named_scalar κ "c2" _ _ rfl

/-- At a point of the first layer the body stores the gradient. -/
theorem grad_A (c : Dev nD) (i : grid0.Coords) (r0 : Memref sig .tc .vmem S8x256x576 .bf16) (h0 : r0.IsWhole) (r1 : Memref sig .tc .vmem S8x256x576 .bf16) (h1 : r1.IsWhole) (r2 : Memref sig .tc .vmem S1x256x576 .f32) (h2 : r2.IsWhole) (r3 : Memref sig .tc .vmem S1x256x576 .f32) (h3 : r3.IsWhole) (r4 : Memref sig .tc .vmem S1x256x576 .f32) (h4 : r4.IsWhole) (r5 : Memref sig .tc .vmem S1x256x576 .f32) (h5 : r5.IsWhole) (r6 : Memref sig .tc .vmem S1x256x576 .f32) (h6 : r6.IsWhole) (r7 : Memref sig .tc .vmem S1x256x576 .f32) (h7 : r7.IsWhole) (r8 : Memref sig .tc .vmem S1x256x576 .f32) (h8 : r8.IsWhole)
    (hc0 : cond0_0 i) (hc1 : ¬cond0_1 i) (x0 x1 : Vec Ideal S8x256x576 .bf16) (x2 x3 x4 : Vec Ideal S1x256x576 .f32) (y : S1x256x576.Idx) :
    out0_A_5 (F := Ideal) c i r0 h0 r1 h1 r2 h2 r3 h3 r4 h4 r5 h5 r6 h6 r7 h7 r8 h8 hc0 hc1 x0 x1 x2 x3 x4 y = total x0 y := by
  unfold out0_A_5
  rw [View.read_writes_eq_canon _ _ _ (cover0_A_5 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x256x576) (funext fun a => by fin_cases a <;> rfl)]
  simp only [View.readAt_eq_ld, h0.read_unread, h1.read_unread, h2.read_unread, h3.read_unread, h4.read_unread]
  pointwise [k0_pay3, k0_pay7, total, first, second, change, Fin.sum_univ_eight]

/-- At a point of the first layer the body stores the weight's change. -/
theorem delta_A (c : Dev nD) (i : grid0.Coords) (r0 : Memref sig .tc .vmem S8x256x576 .bf16) (h0 : r0.IsWhole) (r1 : Memref sig .tc .vmem S8x256x576 .bf16) (h1 : r1.IsWhole) (r2 : Memref sig .tc .vmem S1x256x576 .f32) (h2 : r2.IsWhole) (r3 : Memref sig .tc .vmem S1x256x576 .f32) (h3 : r3.IsWhole) (r4 : Memref sig .tc .vmem S1x256x576 .f32) (h4 : r4.IsWhole) (r5 : Memref sig .tc .vmem S1x256x576 .f32) (h5 : r5.IsWhole) (r6 : Memref sig .tc .vmem S1x256x576 .f32) (h6 : r6.IsWhole) (r7 : Memref sig .tc .vmem S1x256x576 .f32) (h7 : r7.IsWhole) (r8 : Memref sig .tc .vmem S1x256x576 .f32) (h8 : r8.IsWhole)
    (hc0 : cond0_0 i) (hc1 : ¬cond0_1 i) (x0 x1 : Vec Ideal S8x256x576 .bf16) (x2 x3 x4 : Vec Ideal S1x256x576 .f32) (y : S1x256x576.Idx) :
    out0_A_6 (F := Ideal) c i r0 h0 r1 h1 r2 h2 r3 h3 r4 h4 r5 h5 r6 h6 r7 h7 r8 h8 hc0 hc1 x0 x1 x2 x3 x4 y = change (x2 y) (first (total x0 y) (x3 y)) (second (total x0 y) (x4 y)) := by
  unfold out0_A_6
  rw [View.read_writes_eq_canon _ _ _ (cover0_A_6 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x256x576) (funext fun a => by fin_cases a <;> rfl)]
  simp only [View.readAt_eq_ld, h0.read_unread, h1.read_unread, h2.read_unread, h3.read_unread, h4.read_unread]
  pointwise [k0_pay1, k0_pay3, k0_pay4, k0_pay5, k0_pay6, k0_pay10, k0_pay11, total, first, second, change, Fin.sum_univ_eight]
  simp only [named1, named2, mul_inv1, mul_inv2, here y]

/-- At a point of the first layer the body stores the new first moment. -/
theorem moment1_A (c : Dev nD) (i : grid0.Coords) (r0 : Memref sig .tc .vmem S8x256x576 .bf16) (h0 : r0.IsWhole) (r1 : Memref sig .tc .vmem S8x256x576 .bf16) (h1 : r1.IsWhole) (r2 : Memref sig .tc .vmem S1x256x576 .f32) (h2 : r2.IsWhole) (r3 : Memref sig .tc .vmem S1x256x576 .f32) (h3 : r3.IsWhole) (r4 : Memref sig .tc .vmem S1x256x576 .f32) (h4 : r4.IsWhole) (r5 : Memref sig .tc .vmem S1x256x576 .f32) (h5 : r5.IsWhole) (r6 : Memref sig .tc .vmem S1x256x576 .f32) (h6 : r6.IsWhole) (r7 : Memref sig .tc .vmem S1x256x576 .f32) (h7 : r7.IsWhole) (r8 : Memref sig .tc .vmem S1x256x576 .f32) (h8 : r8.IsWhole)
    (hc0 : cond0_0 i) (hc1 : ¬cond0_1 i) (x0 x1 : Vec Ideal S8x256x576 .bf16) (x2 x3 x4 : Vec Ideal S1x256x576 .f32) (y : S1x256x576.Idx) :
    out0_A_7 (F := Ideal) c i r0 h0 r1 h1 r2 h2 r3 h3 r4 h4 r5 h5 r6 h6 r7 h7 r8 h8 hc0 hc1 x0 x1 x2 x3 x4 y = first (total x0 y) (x3 y) := by
  unfold out0_A_7
  rw [View.read_writes_eq_canon _ _ _ (cover0_A_7 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x256x576) (funext fun a => by fin_cases a <;> rfl)]
  simp only [View.readAt_eq_ld, h0.read_unread, h1.read_unread, h2.read_unread, h3.read_unread, h4.read_unread]
  pointwise [k0_pay3, k0_pay4, k0_pay5, k0_pay6, k0_pay8, total, first, second, change, Fin.sum_univ_eight]
  simp only [here y]

/-- At a point of the first layer the body stores the new second moment. -/
theorem moment2_A (c : Dev nD) (i : grid0.Coords) (r0 : Memref sig .tc .vmem S8x256x576 .bf16) (h0 : r0.IsWhole) (r1 : Memref sig .tc .vmem S8x256x576 .bf16) (h1 : r1.IsWhole) (r2 : Memref sig .tc .vmem S1x256x576 .f32) (h2 : r2.IsWhole) (r3 : Memref sig .tc .vmem S1x256x576 .f32) (h3 : r3.IsWhole) (r4 : Memref sig .tc .vmem S1x256x576 .f32) (h4 : r4.IsWhole) (r5 : Memref sig .tc .vmem S1x256x576 .f32) (h5 : r5.IsWhole) (r6 : Memref sig .tc .vmem S1x256x576 .f32) (h6 : r6.IsWhole) (r7 : Memref sig .tc .vmem S1x256x576 .f32) (h7 : r7.IsWhole) (r8 : Memref sig .tc .vmem S1x256x576 .f32) (h8 : r8.IsWhole)
    (hc0 : cond0_0 i) (hc1 : ¬cond0_1 i) (x0 x1 : Vec Ideal S8x256x576 .bf16) (x2 x3 x4 : Vec Ideal S1x256x576 .f32) (y : S1x256x576.Idx) :
    out0_A_8 (F := Ideal) c i r0 h0 r1 h1 r2 h2 r3 h3 r4 h4 r5 h5 r6 h6 r7 h7 r8 h8 hc0 hc1 x0 x1 x2 x3 x4 y = second (total x0 y) (x4 y) := by
  unfold out0_A_8
  rw [View.read_writes_eq_canon _ _ _ (cover0_A_8 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x256x576) (funext fun a => by fin_cases a <;> rfl)]
  simp only [View.readAt_eq_ld, h0.read_unread, h1.read_unread, h2.read_unread, h3.read_unread, h4.read_unread]
  pointwise [k0_pay3, k0_pay5, k0_pay6, k0_pay9, total, first, second, change, Fin.sum_univ_eight]
  simp only [here y]

/-- At a point of the second layer the body stores the gradient. -/
theorem grad_B (c : Dev nD) (i : grid0.Coords) (r0 : Memref sig .tc .vmem S8x256x576 .bf16) (h0 : r0.IsWhole) (r1 : Memref sig .tc .vmem S8x256x576 .bf16) (h1 : r1.IsWhole) (r2 : Memref sig .tc .vmem S1x256x576 .f32) (h2 : r2.IsWhole) (r3 : Memref sig .tc .vmem S1x256x576 .f32) (h3 : r3.IsWhole) (r4 : Memref sig .tc .vmem S1x256x576 .f32) (h4 : r4.IsWhole) (r5 : Memref sig .tc .vmem S1x256x576 .f32) (h5 : r5.IsWhole) (r6 : Memref sig .tc .vmem S1x256x576 .f32) (h6 : r6.IsWhole) (r7 : Memref sig .tc .vmem S1x256x576 .f32) (h7 : r7.IsWhole) (r8 : Memref sig .tc .vmem S1x256x576 .f32) (h8 : r8.IsWhole)
    (hc0 : ¬cond0_0 i) (hc1 : cond0_1 i) (x0 x1 : Vec Ideal S8x256x576 .bf16) (x2 x3 x4 : Vec Ideal S1x256x576 .f32) (y : S1x256x576.Idx) :
    out0_B_5 (F := Ideal) c i r0 h0 r1 h1 r2 h2 r3 h3 r4 h4 r5 h5 r6 h6 r7 h7 r8 h8 hc0 hc1 x0 x1 x2 x3 x4 y = total x1 y := by
  unfold out0_B_5
  rw [View.read_writes_eq_canon _ _ _ (cover0_B_5 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x256x576) (funext fun a => by fin_cases a <;> rfl)]
  simp only [View.readAt_eq_ld, h0.read_unread, h1.read_unread, h2.read_unread, h3.read_unread, h4.read_unread]
  pointwise [k0_pay12, k0_pay16, total, first, second, change, Fin.sum_univ_eight]

/-- At a point of the second layer the body stores the weight's change. -/
theorem delta_B (c : Dev nD) (i : grid0.Coords) (r0 : Memref sig .tc .vmem S8x256x576 .bf16) (h0 : r0.IsWhole) (r1 : Memref sig .tc .vmem S8x256x576 .bf16) (h1 : r1.IsWhole) (r2 : Memref sig .tc .vmem S1x256x576 .f32) (h2 : r2.IsWhole) (r3 : Memref sig .tc .vmem S1x256x576 .f32) (h3 : r3.IsWhole) (r4 : Memref sig .tc .vmem S1x256x576 .f32) (h4 : r4.IsWhole) (r5 : Memref sig .tc .vmem S1x256x576 .f32) (h5 : r5.IsWhole) (r6 : Memref sig .tc .vmem S1x256x576 .f32) (h6 : r6.IsWhole) (r7 : Memref sig .tc .vmem S1x256x576 .f32) (h7 : r7.IsWhole) (r8 : Memref sig .tc .vmem S1x256x576 .f32) (h8 : r8.IsWhole)
    (hc0 : ¬cond0_0 i) (hc1 : cond0_1 i) (x0 x1 : Vec Ideal S8x256x576 .bf16) (x2 x3 x4 : Vec Ideal S1x256x576 .f32) (y : S1x256x576.Idx) :
    out0_B_6 (F := Ideal) c i r0 h0 r1 h1 r2 h2 r3 h3 r4 h4 r5 h5 r6 h6 r7 h7 r8 h8 hc0 hc1 x0 x1 x2 x3 x4 y = change (x2 y) (first (total x1 y) (x3 y)) (second (total x1 y) (x4 y)) := by
  unfold out0_B_6
  rw [View.read_writes_eq_canon _ _ _ (cover0_B_6 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x256x576) (funext fun a => by fin_cases a <;> rfl)]
  simp only [View.readAt_eq_ld, h0.read_unread, h1.read_unread, h2.read_unread, h3.read_unread, h4.read_unread]
  pointwise [k0_pay2, k0_pay12, k0_pay13, k0_pay14, k0_pay15, k0_pay19, k0_pay20, total, first, second, change, Fin.sum_univ_eight]
  simp only [named1, named2, mul_inv1, mul_inv2, here y]

/-- At a point of the second layer the body stores the new first moment. -/
theorem moment1_B (c : Dev nD) (i : grid0.Coords) (r0 : Memref sig .tc .vmem S8x256x576 .bf16) (h0 : r0.IsWhole) (r1 : Memref sig .tc .vmem S8x256x576 .bf16) (h1 : r1.IsWhole) (r2 : Memref sig .tc .vmem S1x256x576 .f32) (h2 : r2.IsWhole) (r3 : Memref sig .tc .vmem S1x256x576 .f32) (h3 : r3.IsWhole) (r4 : Memref sig .tc .vmem S1x256x576 .f32) (h4 : r4.IsWhole) (r5 : Memref sig .tc .vmem S1x256x576 .f32) (h5 : r5.IsWhole) (r6 : Memref sig .tc .vmem S1x256x576 .f32) (h6 : r6.IsWhole) (r7 : Memref sig .tc .vmem S1x256x576 .f32) (h7 : r7.IsWhole) (r8 : Memref sig .tc .vmem S1x256x576 .f32) (h8 : r8.IsWhole)
    (hc0 : ¬cond0_0 i) (hc1 : cond0_1 i) (x0 x1 : Vec Ideal S8x256x576 .bf16) (x2 x3 x4 : Vec Ideal S1x256x576 .f32) (y : S1x256x576.Idx) :
    out0_B_7 (F := Ideal) c i r0 h0 r1 h1 r2 h2 r3 h3 r4 h4 r5 h5 r6 h6 r7 h7 r8 h8 hc0 hc1 x0 x1 x2 x3 x4 y = first (total x1 y) (x3 y) := by
  unfold out0_B_7
  rw [View.read_writes_eq_canon _ _ _ (cover0_B_7 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x256x576) (funext fun a => by fin_cases a <;> rfl)]
  simp only [View.readAt_eq_ld, h0.read_unread, h1.read_unread, h2.read_unread, h3.read_unread, h4.read_unread]
  pointwise [k0_pay12, k0_pay13, k0_pay14, k0_pay15, k0_pay17, total, first, second, change, Fin.sum_univ_eight]
  simp only [here y]

/-- At a point of the second layer the body stores the new second moment. -/
theorem moment2_B (c : Dev nD) (i : grid0.Coords) (r0 : Memref sig .tc .vmem S8x256x576 .bf16) (h0 : r0.IsWhole) (r1 : Memref sig .tc .vmem S8x256x576 .bf16) (h1 : r1.IsWhole) (r2 : Memref sig .tc .vmem S1x256x576 .f32) (h2 : r2.IsWhole) (r3 : Memref sig .tc .vmem S1x256x576 .f32) (h3 : r3.IsWhole) (r4 : Memref sig .tc .vmem S1x256x576 .f32) (h4 : r4.IsWhole) (r5 : Memref sig .tc .vmem S1x256x576 .f32) (h5 : r5.IsWhole) (r6 : Memref sig .tc .vmem S1x256x576 .f32) (h6 : r6.IsWhole) (r7 : Memref sig .tc .vmem S1x256x576 .f32) (h7 : r7.IsWhole) (r8 : Memref sig .tc .vmem S1x256x576 .f32) (h8 : r8.IsWhole)
    (hc0 : ¬cond0_0 i) (hc1 : cond0_1 i) (x0 x1 : Vec Ideal S8x256x576 .bf16) (x2 x3 x4 : Vec Ideal S1x256x576 .f32) (y : S1x256x576.Idx) :
    out0_B_8 (F := Ideal) c i r0 h0 r1 h1 r2 h2 r3 h3 r4 h4 r5 h5 r6 h6 r7 h7 r8 h8 hc0 hc1 x0 x1 x2 x3 x4 y = second (total x1 y) (x4 y) := by
  unfold out0_B_8
  rw [View.read_writes_eq_canon _ _ _ (cover0_B_8 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x256x576) (funext fun a => by fin_cases a <;> rfl)]
  simp only [View.readAt_eq_ld, h0.read_unread, h1.read_unread, h2.read_unread, h3.read_unread, h4.read_unread]
  pointwise [k0_pay12, k0_pay14, k0_pay15, k0_pay18, total, first, second, change, Fin.sum_univ_eight]
  simp only [here y]

/-! ## What the arrays end at -/

/-- The parts' blocks move with the results' rows in their own layer; the other arrays' blocks are the results'. -/
theorem blocks_move : ∀ t : Fin cfg0.N, (t.val < 8 → win0_0.index t = ![0, win0_5.index t 1, 0] ∧ win0_5.index t 0 = 0)
    ∧ (¬t.val < 8 → win0_1.index t = ![0, win0_5.index t 1, 0] ∧ win0_5.index t 0 = 1) ∧ win0_5.index t 2 = 0 :=
  (by decide +kernel : ∀ t : Fin grid0.N, _)

/-- Where an index of a point's block stands in an array. -/
def place (t : Fin cfg0.N) (y : S1x256x576.Idx) : S2x2048x576.Idx := ((cfg0.win 5).blk t).view.emb y

/-- In the first layer a block's sum is the gradient. -/
theorem total_A (c : Dev nD) (t : Fin cfg0.N) (h : t.val < 8) (y : S1x256x576.Idx) :
    total (iblk m c 0 t) y = gradient (V m c main_arg0) (V m c main_arg1) (place t y) := by
  obtain ⟨e0, e1⟩ := (blocks_move t).1 h
  have e2 := (blocks_move t).2.2
  have hy : (y 0).val < 1 := (y 0).isLt
  have hl : (place t y 0).val = 0 := by
    show win0_5.index t 0 * 1 + 1 * (y 0).val = 0
    rw [e1]; omega
  unfold total gradient
  rw [if_pos (by rw [hl])]
  refine Finset.sum_congr rfl fun s _ => ?_
  show V m c main_arg0 (((cfg0.win 0).blk t).view.emb _) = V m c main_arg0 _
  refine congrArg _ (funext fun a => Fin.ext ?_)
  match a with
  | ⟨0, _⟩ =>
    show win0_0.index t 0 * 8 + 1 * s.val = s.val
    rw [e0]; show 0 * 8 + 1 * s.val = s.val; omega
  | ⟨1, _⟩ =>
    show win0_0.index t 1 * 256 + 1 * (y 1).val = win0_5.index t 1 * 256 + 1 * (y 1).val
    rw [e0]; rfl
  | ⟨2, _⟩ =>
    show win0_0.index t 2 * 576 + 1 * (y 2).val = win0_5.index t 2 * 576 + 1 * (y 2).val
    rw [e0, e2]; rfl

/-- In the second layer a block's sum is the gradient. -/
theorem total_B (c : Dev nD) (t : Fin cfg0.N) (h : ¬t.val < 8) (y : S1x256x576.Idx) :
    total (iblk m c 1 t) y = gradient (V m c main_arg0) (V m c main_arg1) (place t y) := by
  obtain ⟨e0, e1⟩ := (blocks_move t).2.1 h
  have e2 := (blocks_move t).2.2
  have hy : (y 0).val < 1 := (y 0).isLt
  have hl : (place t y 0).val = 1 := by
    show win0_5.index t 0 * 1 + 1 * (y 0).val = 1
    rw [e1]; omega
  unfold total gradient
  rw [if_neg (by rw [hl]; decide)]
  refine Finset.sum_congr rfl fun s _ => ?_
  show V m c main_arg1 (((cfg0.win 1).blk t).view.emb _) = V m c main_arg1 _
  refine congrArg _ (funext fun a => Fin.ext ?_)
  match a with
  | ⟨0, _⟩ =>
    show win0_1.index t 0 * 8 + 1 * s.val = s.val
    rw [e0]; show 0 * 8 + 1 * s.val = s.val; omega
  | ⟨1, _⟩ =>
    show win0_1.index t 1 * 256 + 1 * (y 1).val = win0_5.index t 1 * 256 + 1 * (y 1).val
    rw [e0]; rfl
  | ⟨2, _⟩ =>
    show win0_1.index t 2 * 576 + 1 * (y 2).val = win0_5.index t 2 * 576 + 1 * (y 2).val
    rw [e0, e2]; rfl

/-- What a point writes back is its block of the gradient. -/
theorem written5 (c : Dev nD) (t : Fin cfg0.N) : (dats (F := Ideal) m 0 c).flushed 5 t
    = ((cfg0.win 5).blk t).view.read (Elt Ideal) (gradient (V m c main_arg0) (V m c main_arg1)) := by
  have key : ∀ (b : S1x256x576.Idx → EReal) (p : S2x2048x576.Idx → EReal), (∀ y : S1x256x576.Idx, b y = p (((cfg0.win 5).blk t).view.emb y))
      → (cfg0.win 5).cut (grid0.coords t) b = ((cfg0.win 5).blk t).view.read (Elt Ideal) p :=
    fun b p hp => funext hp
  by_cases h : t.val < 8
  · rw [flushed5_A m c t h (by omega)]
    refine key _ _ fun y => ?_
    rw [grad_A]
    show total (iblk m c 0 t) y = gradient (V m c main_arg0) (V m c main_arg1) (place t y)
    rw [total_A m c t h y]
  · rw [flushed5_B m c t h (by omega)]
    refine key _ _ fun y => ?_
    rw [grad_B]
    show total (iblk m c 1 t) y = gradient (V m c main_arg0) (V m c main_arg1) (place t y)
    rw [total_B m c t h y]

theorem blocks_onto5 : ∀ (q0 : Fin 2) (q1 : Fin 8), ∃ t : Fin cfg0.N, (cfg0.win 5).flush t = true ∧ win0_5.index t = ![q0.val, q1.val, 0] :=
  (by decide +kernel : ∀ (q0 : Fin 2) (q1 : Fin 8), ∃ t : Fin grid0.N, win0_5.flush t = true ∧ win0_5.index t = ![q0.val, q1.val, 0])

theorem mem_block5 (t : Fin cfg0.N) (i : S2x2048x576.Idx) : i ∈ ((cfg0.win 5).blk t).view.set
    ↔ ∀ a : Fin 3, win0_5.index t a * S1x256x576.size a ≤ (i a).val ∧ (i a).val < win0_5.index t a * S1x256x576.size a + S1x256x576.size a := by
  show i ∈ ((View.whole main_v0_0).slice (win0_5.rect t)).set ↔ _
  rw [View.set_slice_whole, Rect.mem_set_unit]
  exact Iff.rfl

/-- After the run the array holds the gradient. -/
theorem final5 (c : Dev nD) : (dats (F := Ideal) m 0 c).arrAt 5 cfg0.N = gradient (V m c main_arg0) (V m c main_arg1) :=
  (dats m 0 c).arrAt_eq_of_cover 5 _ (fun t _ => written5 m c t) (fun i => by
    have h0 : (i 0).val < 2 := (i 0).isLt
    have h1 : (i 1).val < 2048 := (i 1).isLt
    have h2 : (i 2).val < 576 := (i 2).isLt
    obtain ⟨t, hf, ht⟩ := blocks_onto5 ⟨(i 0).val, by omega⟩ ⟨(i 1).val / 256, by omega⟩
    have q0 : win0_5.index t (0 : Fin 3) = (i 0).val := congrFun ht 0
    have q1 : win0_5.index t (1 : Fin 3) = (i 1).val / 256 := congrFun ht 1
    have q2 : win0_5.index t (2 : Fin 3) = 0 := congrFun ht 2
    refine ⟨t, hf, ?_⟩
    rw [mem_block5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 256 ≤ (i 1).val ∧ (i 1).val < win0_5.index t (1 : Fin 3) * 256 + 256; omega
    | ⟨2, _⟩ => show win0_5.index t (2 : Fin 3) * 576 ≤ (i 2).val ∧ (i 2).val < win0_5.index t (2 : Fin 3) * 576 + 576; omega)

/-- What a point writes back is its block of the weight's change. -/
theorem written6 (c : Dev nD) (t : Fin cfg0.N) : (dats (F := Ideal) m 0 c).flushed 6 t
    = ((cfg0.win 6).blk t).view.read (Elt Ideal) (delta (V m c main_arg0) (V m c main_arg1) (V m c main_arg2) (V m c main_arg3) (V m c main_arg4)) := by
  have key : ∀ (b : S1x256x576.Idx → EReal) (p : S2x2048x576.Idx → EReal), (∀ y : S1x256x576.Idx, b y = p (((cfg0.win 6).blk t).view.emb y))
      → (cfg0.win 6).cut (grid0.coords t) b = ((cfg0.win 6).blk t).view.read (Elt Ideal) p :=
    fun b p hp => funext hp
  by_cases h : t.val < 8
  · rw [flushed6_A m c t h (by omega)]
    refine key _ _ fun y => ?_
    rw [delta_A]
    show change (V m c main_arg2 (place t y)) (first (total (iblk m c 0 t) y) (V m c main_arg3 (place t y))) (second (total (iblk m c 0 t) y) (V m c main_arg4 (place t y))) = delta (V m c main_arg0) (V m c main_arg1) (V m c main_arg2) (V m c main_arg3) (V m c main_arg4) (place t y)
    rw [total_A m c t h y]; rfl
  · rw [flushed6_B m c t h (by omega)]
    refine key _ _ fun y => ?_
    rw [delta_B]
    show change (V m c main_arg2 (place t y)) (first (total (iblk m c 1 t) y) (V m c main_arg3 (place t y))) (second (total (iblk m c 1 t) y) (V m c main_arg4 (place t y))) = delta (V m c main_arg0) (V m c main_arg1) (V m c main_arg2) (V m c main_arg3) (V m c main_arg4) (place t y)
    rw [total_B m c t h y]; rfl

theorem blocks_onto6 : ∀ (q0 : Fin 2) (q1 : Fin 8), ∃ t : Fin cfg0.N, (cfg0.win 6).flush t = true ∧ win0_6.index t = ![q0.val, q1.val, 0] :=
  (by decide +kernel : ∀ (q0 : Fin 2) (q1 : Fin 8), ∃ t : Fin grid0.N, win0_6.flush t = true ∧ win0_6.index t = ![q0.val, q1.val, 0])

theorem mem_block6 (t : Fin cfg0.N) (i : S2x2048x576.Idx) : i ∈ ((cfg0.win 6).blk t).view.set
    ↔ ∀ a : Fin 3, win0_6.index t a * S1x256x576.size a ≤ (i a).val ∧ (i a).val < win0_6.index t a * S1x256x576.size a + S1x256x576.size a := by
  show i ∈ ((View.whole main_v0_1).slice (win0_6.rect t)).set ↔ _
  rw [View.set_slice_whole, Rect.mem_set_unit]
  exact Iff.rfl

/-- After the run the array holds the weight's change. -/
theorem final6 (c : Dev nD) : (dats (F := Ideal) m 0 c).arrAt 6 cfg0.N = delta (V m c main_arg0) (V m c main_arg1) (V m c main_arg2) (V m c main_arg3) (V m c main_arg4) :=
  (dats m 0 c).arrAt_eq_of_cover 6 _ (fun t _ => written6 m c t) (fun i => by
    have h0 : (i 0).val < 2 := (i 0).isLt
    have h1 : (i 1).val < 2048 := (i 1).isLt
    have h2 : (i 2).val < 576 := (i 2).isLt
    obtain ⟨t, hf, ht⟩ := blocks_onto6 ⟨(i 0).val, by omega⟩ ⟨(i 1).val / 256, by omega⟩
    have q0 : win0_6.index t (0 : Fin 3) = (i 0).val := congrFun ht 0
    have q1 : win0_6.index t (1 : Fin 3) = (i 1).val / 256 := congrFun ht 1
    have q2 : win0_6.index t (2 : Fin 3) = 0 := congrFun ht 2
    refine ⟨t, hf, ?_⟩
    rw [mem_block6]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 256 ≤ (i 1).val ∧ (i 1).val < win0_6.index t (1 : Fin 3) * 256 + 256; omega
    | ⟨2, _⟩ => show win0_6.index t (2 : Fin 3) * 576 ≤ (i 2).val ∧ (i 2).val < win0_6.index t (2 : Fin 3) * 576 + 576; omega)

/-- What a point writes back is its block of the new first moment. -/
theorem written7 (c : Dev nD) (t : Fin cfg0.N) : (dats (F := Ideal) m 0 c).flushed 7 t
    = ((cfg0.win 7).blk t).view.read (Elt Ideal) (moment1 (V m c main_arg0) (V m c main_arg1) (V m c main_arg3)) := by
  have key : ∀ (b : S1x256x576.Idx → EReal) (p : S2x2048x576.Idx → EReal), (∀ y : S1x256x576.Idx, b y = p (((cfg0.win 7).blk t).view.emb y))
      → (cfg0.win 7).cut (grid0.coords t) b = ((cfg0.win 7).blk t).view.read (Elt Ideal) p :=
    fun b p hp => funext hp
  by_cases h : t.val < 8
  · rw [flushed7_A m c t h (by omega)]
    refine key _ _ fun y => ?_
    rw [moment1_A]
    show first (total (iblk m c 0 t) y) (V m c main_arg3 (place t y)) = moment1 (V m c main_arg0) (V m c main_arg1) (V m c main_arg3) (place t y)
    rw [total_A m c t h y]; rfl
  · rw [flushed7_B m c t h (by omega)]
    refine key _ _ fun y => ?_
    rw [moment1_B]
    show first (total (iblk m c 1 t) y) (V m c main_arg3 (place t y)) = moment1 (V m c main_arg0) (V m c main_arg1) (V m c main_arg3) (place t y)
    rw [total_B m c t h y]; rfl

theorem blocks_onto7 : ∀ (q0 : Fin 2) (q1 : Fin 8), ∃ t : Fin cfg0.N, (cfg0.win 7).flush t = true ∧ win0_7.index t = ![q0.val, q1.val, 0] :=
  (by decide +kernel : ∀ (q0 : Fin 2) (q1 : Fin 8), ∃ t : Fin grid0.N, win0_7.flush t = true ∧ win0_7.index t = ![q0.val, q1.val, 0])

theorem mem_block7 (t : Fin cfg0.N) (i : S2x2048x576.Idx) : i ∈ ((cfg0.win 7).blk t).view.set
    ↔ ∀ a : Fin 3, win0_7.index t a * S1x256x576.size a ≤ (i a).val ∧ (i a).val < win0_7.index t a * S1x256x576.size a + S1x256x576.size a := by
  show i ∈ ((View.whole main_v0_2).slice (win0_7.rect t)).set ↔ _
  rw [View.set_slice_whole, Rect.mem_set_unit]
  exact Iff.rfl

/-- After the run the array holds the new first moment. -/
theorem final7 (c : Dev nD) : (dats (F := Ideal) m 0 c).arrAt 7 cfg0.N = moment1 (V m c main_arg0) (V m c main_arg1) (V m c main_arg3) :=
  (dats m 0 c).arrAt_eq_of_cover 7 _ (fun t _ => written7 m c t) (fun i => by
    have h0 : (i 0).val < 2 := (i 0).isLt
    have h1 : (i 1).val < 2048 := (i 1).isLt
    have h2 : (i 2).val < 576 := (i 2).isLt
    obtain ⟨t, hf, ht⟩ := blocks_onto7 ⟨(i 0).val, by omega⟩ ⟨(i 1).val / 256, by omega⟩
    have q0 : win0_7.index t (0 : Fin 3) = (i 0).val := congrFun ht 0
    have q1 : win0_7.index t (1 : Fin 3) = (i 1).val / 256 := congrFun ht 1
    have q2 : win0_7.index t (2 : Fin 3) = 0 := congrFun ht 2
    refine ⟨t, hf, ?_⟩
    rw [mem_block7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 256 ≤ (i 1).val ∧ (i 1).val < win0_7.index t (1 : Fin 3) * 256 + 256; omega
    | ⟨2, _⟩ => show win0_7.index t (2 : Fin 3) * 576 ≤ (i 2).val ∧ (i 2).val < win0_7.index t (2 : Fin 3) * 576 + 576; omega)

/-- What a point writes back is its block of the new second moment. -/
theorem written8 (c : Dev nD) (t : Fin cfg0.N) : (dats (F := Ideal) m 0 c).flushed 8 t
    = ((cfg0.win 8).blk t).view.read (Elt Ideal) (moment2 (V m c main_arg0) (V m c main_arg1) (V m c main_arg4)) := by
  have key : ∀ (b : S1x256x576.Idx → EReal) (p : S2x2048x576.Idx → EReal), (∀ y : S1x256x576.Idx, b y = p (((cfg0.win 8).blk t).view.emb y))
      → (cfg0.win 8).cut (grid0.coords t) b = ((cfg0.win 8).blk t).view.read (Elt Ideal) p :=
    fun b p hp => funext hp
  by_cases h : t.val < 8
  · rw [flushed8_A m c t h (by omega)]
    refine key _ _ fun y => ?_
    rw [moment2_A]
    show second (total (iblk m c 0 t) y) (V m c main_arg4 (place t y)) = moment2 (V m c main_arg0) (V m c main_arg1) (V m c main_arg4) (place t y)
    rw [total_A m c t h y]; rfl
  · rw [flushed8_B m c t h (by omega)]
    refine key _ _ fun y => ?_
    rw [moment2_B]
    show second (total (iblk m c 1 t) y) (V m c main_arg4 (place t y)) = moment2 (V m c main_arg0) (V m c main_arg1) (V m c main_arg4) (place t y)
    rw [total_B m c t h y]; rfl

theorem blocks_onto8 : ∀ (q0 : Fin 2) (q1 : Fin 8), ∃ t : Fin cfg0.N, (cfg0.win 8).flush t = true ∧ win0_8.index t = ![q0.val, q1.val, 0] :=
  (by decide +kernel : ∀ (q0 : Fin 2) (q1 : Fin 8), ∃ t : Fin grid0.N, win0_8.flush t = true ∧ win0_8.index t = ![q0.val, q1.val, 0])

theorem mem_block8 (t : Fin cfg0.N) (i : S2x2048x576.Idx) : i ∈ ((cfg0.win 8).blk t).view.set
    ↔ ∀ a : Fin 3, win0_8.index t a * S1x256x576.size a ≤ (i a).val ∧ (i a).val < win0_8.index t a * S1x256x576.size a + S1x256x576.size a := by
  show i ∈ ((View.whole main_v0_3).slice (win0_8.rect t)).set ↔ _
  rw [View.set_slice_whole, Rect.mem_set_unit]
  exact Iff.rfl

/-- After the run the array holds the new second moment. -/
theorem final8 (c : Dev nD) : (dats (F := Ideal) m 0 c).arrAt 8 cfg0.N = moment2 (V m c main_arg0) (V m c main_arg1) (V m c main_arg4) :=
  (dats m 0 c).arrAt_eq_of_cover 8 _ (fun t _ => written8 m c t) (fun i => by
    have h0 : (i 0).val < 2 := (i 0).isLt
    have h1 : (i 1).val < 2048 := (i 1).isLt
    have h2 : (i 2).val < 576 := (i 2).isLt
    obtain ⟨t, hf, ht⟩ := blocks_onto8 ⟨(i 0).val, by omega⟩ ⟨(i 1).val / 256, by omega⟩
    have q0 : win0_8.index t (0 : Fin 3) = (i 0).val := congrFun ht 0
    have q1 : win0_8.index t (1 : Fin 3) = (i 1).val / 256 := congrFun ht 1
    have q2 : win0_8.index t (2 : Fin 3) = 0 := congrFun ht 2
    refine ⟨t, hf, ?_⟩
    rw [mem_block8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 256 ≤ (i 1).val ∧ (i 1).val < win0_8.index t (1 : Fin 3) * 256 + 256; omega
    | ⟨2, _⟩ => show win0_8.index t (2 : Fin 3) * 576 ≤ (i 2).val ∧ (i 2).val < win0_8.index t (2 : Fin 3) * 576 + 576; omega)

/-! ## The reference -/

/-- The reference's first result is the gradient. -/
theorem reference_grad (p0 p1 : FVec Ideal S8x2048x576 .bf16) (h : FTy.bits .bf16 < FTy.bits .f32) (hb : Cert.AdamInRefIdeal.S2048x576.BroadcastsInDim Cert.AdamInRefIdeal.S1x2048x576 ![1, 2])
    (hr : Shape.ReducesTo S8x2048x576 [0] Cert.AdamInRefIdeal.S2048x576) (hs : 0 < Cert.AdamInRefIdeal.S_.numel) (hc : Shape.Concatenates [Cert.AdamInRefIdeal.S1x2048x576, Cert.AdamInRefIdeal.S1x2048x576] S2x2048x576 0) :
    concatenate S2x2048x576 0 [⟨Cert.AdamInRefIdeal.S1x2048x576, broadcastInDim Cert.AdamInRefIdeal.S1x2048x576 ![1, 2] hb (Host.reduceAdd (extf .f32 p0 h) (constant Cert.AdamInRefIdeal.S_ .f32 0x00000000#32) hr hs)⟩,
      ⟨Cert.AdamInRefIdeal.S1x2048x576, broadcastInDim Cert.AdamInRefIdeal.S1x2048x576 ![1, 2] hb (Host.reduceAdd (extf .f32 p1 h) (constant Cert.AdamInRefIdeal.S_ .f32 0x00000000#32) hr hs)⟩] hc = gradient p0 p1 := by
  funext i
  unfold gradient
  pointwise
  simp only [Nat.lt_one_iff, dite_eq_ite]

/-- Kernel and reference end at the same arrays. -/
theorem algebraic : Cert.algebraic_AdamInIdeal_AdamInRefIdeal := by
  intro m ρ m' ρ' _ hagree
  refine ⟨fun c => gradient (m ((c : Thread nD τ).loc main_arg0)) (m ((c : Thread nD τ).loc main_arg1)),
    fun c => delta (m ((c : Thread nD τ).loc main_arg0)) (m ((c : Thread nD τ).loc main_arg1)) (m ((c : Thread nD τ).loc main_arg2)) (m ((c : Thread nD τ).loc main_arg3)) (m ((c : Thread nD τ).loc main_arg4)),
    fun c => moment1 (m ((c : Thread nD τ).loc main_arg0)) (m ((c : Thread nD τ).loc main_arg1)) (m ((c : Thread nD τ).loc main_arg3)),
    fun c => moment2 (m ((c : Thread nD τ).loc main_arg0)) (m ((c : Thread nD τ).loc main_arg1)) (m ((c : Thread nD τ).loc main_arg4)), ?_, ?_⟩
  · exact (θ_run Cert.AdamInIdeal.defs _ _).mono (fun r h c => ⟨(h c).1.trans (final5 m c), (h c).2.1.trans (final6 m c), (h c).2.2.1.trans (final7 m c),
      (h c).2.2.2.1.trans (final8 m c), (h c).2.2.2.2⟩) (run_blocks (F := Ideal) m ρ)
  · refine (θ_run Cert.AdamInRefIdeal.defs _ _).mono (fun r h c => ⟨(h c).1.trans ?_, (h c).2.1.trans ?_, (h c).2.2.1.trans ?_, (h c).2.2.2.1.trans ?_, (h c).2.2.2.2⟩)
      (Cert.AdamInRefIdeal.Value.run (F := Ideal) m' ρ')
    all_goals rw [(hagree c).1, (hagree c).2.1]
    · exact reference_grad _ _ _ _ _ _ _
    · rw [(hagree c).2.2.1, (hagree c).2.2.2.1, (hagree c).2.2.2.2, reference_grad]
      rfl
    · rw [(hagree c).2.2.2.1, reference_grad]
      rfl
    · rw [(hagree c).2.2.2.2, reference_grad]
      rfl

/-- The two constants that were given a name. -/
theorem preserves : Cert.preserves_AdamIn_AdamInIdeal :=
  ⟨IdealRules.named_const.statement Cert.AdamInIdeal.κ "c1" .f32 0x3FC48605#32 (((5463681 / 8388608)⁻¹ : ℝ) : EReal) rfl,
    IdealRules.named_const.statement Cert.AdamInIdeal.κ "c2" .f32 0x42C8E6D3#32 (((2672307 / 268435456)⁻¹ : ℝ) : EReal) rfl⟩

/-- The reference runs and leaves its arguments as they were. -/
theorem reference_frame : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

end Cert.Optimiser.AdamIn

end
-- ==== Proof.Optimiser.AdamOut.lean ====
/- The optimiser's step for the output weights: what the kernel's blocks hold, what its arrays end at, what the reference computes, and the
   equation. -/
module

public import proofs.«01_k».proof.Defs
public import proofs.«01_k».proof.Proof.Gen.AdamOutIdeal.Value
public import proofs.«01_k».proof.Proof.Gen.AdamOutRefIdeal.Run
public import proofs.«01_k».proof.Proof.Optimiser.Step
public import Idealize.ShloMosaic.Lib.Pointwise

@[expose] public section

noncomputable section

namespace Cert.Optimiser.AdamOut

open Cert.AdamOutIdeal Cert.AdamOutIdeal.Gen Cert.AdamOutIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The function -/

/-- A layer's gradient: the sum of the eight devices' parts. -/
def gradient (p0 p1 : S8x256x2048.Idx → EReal) : S2x256x2048.Idx → EReal := fun i =>
  if (i 0).val = 0 then ∑ s : Fin 8, p0 (ix3 s (i 1) (i 2)) else ∑ s : Fin 8, p1 (ix3 s (i 1) (i 2))

/-- The new first moment. -/
def moment1 (p0 p1 : S8x256x2048.Idx → EReal) (u : S2x256x2048.Idx → EReal) : S2x256x2048.Idx → EReal := fun i => first (gradient p0 p1 i) (u i)

/-- The new second moment. -/
def moment2 (p0 p1 : S8x256x2048.Idx → EReal) (v : S2x256x2048.Idx → EReal) : S2x256x2048.Idx → EReal := fun i => second (gradient p0 p1 i) (v i)

/-- The weight's change. -/
def delta (p0 p1 : S8x256x2048.Idx → EReal) (w u v : S2x256x2048.Idx → EReal) : S2x256x2048.Idx → EReal := fun i =>
  change (w i) (moment1 p0 p1 u i) (moment2 p0 p1 v i)

/-! ## What one point computes -/

/-- The sum of a block's eight parts. -/
def total (x : S8x64x2048.Idx → EReal) (y : S1x64x2048.Idx) : EReal := ∑ s : Fin 8, x (ix3 s (y 1) (y 2))

/-- The index of a block is its row and its column. -/
theorem here (y : S1x64x2048.Idx) : (ix3 0 (y 1) (y 2) : S1x64x2048.Idx) = y := by
  funext a
  match a with
  | ⟨0, _⟩ => exact (Fin.ext (by have : (y 0).val < 1 := (y 0).isLt; show 0 = (y 0).val; omega))
  | ⟨1, _⟩ => rfl
  | ⟨2, _⟩ => rfl

theorem named1 : (Named.named (F := Ideal) κ "c1" 0x3FC48605#32 : Ideal .f32) = (((5463681 / 8388608)⁻¹ : ℝ) : EReal) :=
  IdealRules.named_const.ideal_named_scalar κ "c1" _ _ rfl

theorem named2 : (Named.named (F := Ideal) κ "c2" 0x42C8E6D3#32 : Ideal .f32) = (((2672307 / 268435456)⁻¹ : ℝ) : EReal) :=
  IdealRules.named_const.ideal_named_scalar κ "c2" _ _ rfl

/-- At a point of the first layer the body stores the gradient. -/
theorem grad_A (c : Dev nD) (i : grid0.Coords) (r0 : Memref sig .tc .vmem S8x64x2048 .bf16) (h0 : r0.IsWhole) (r1 : Memref sig .tc .vmem S8x64x2048 .bf16) (h1 : r1.IsWhole) (r2 : Memref sig .tc .vmem S1x64x2048 .f32) (h2 : r2.IsWhole) (r3 : Memref sig .tc .vmem S1x64x2048 .f32) (h3 : r3.IsWhole) (r4 : Memref sig .tc .vmem S1x64x2048 .f32) (h4 : r4.IsWhole) (r5 : Memref sig .tc .vmem S1x64x2048 .f32) (h5 : r5.IsWhole) (r6 : Memref sig .tc .vmem S1x64x2048 .f32) (h6 : r6.IsWhole) (r7 : Memref sig .tc .vmem S1x64x2048 .f32) (h7 : r7.IsWhole) (r8 : Memref sig .tc .vmem S1x64x2048 .f32) (h8 : r8.IsWhole)
    (hc0 : cond0_0 i) (hc1 : ¬cond0_1 i) (x0 x1 : Vec Ideal S8x64x2048 .bf16) (x2 x3 x4 : Vec Ideal S1x64x2048 .f32) (y : S1x64x2048.Idx) :
    out0_A_5 (F := Ideal) c i r0 h0 r1 h1 r2 h2 r3 h3 r4 h4 r5 h5 r6 h6 r7 h7 r8 h8 hc0 hc1 x0 x1 x2 x3 x4 y = total x0 y := by
  unfold out0_A_5
  rw [View.read_writes_eq_canon _ _ _ (cover0_A_5 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x64x2048) (funext fun a => by fin_cases a <;> rfl)]
  simp only [View.readAt_eq_ld, h0.read_unread, h1.read_unread, h2.read_unread, h3.read_unread, h4.read_unread]
  pointwise [k0_pay3, k0_pay7, total, first, second, change, Fin.sum_univ_eight]

/-- At a point of the first layer the body stores the weight's change. -/
theorem delta_A (c : Dev nD) (i : grid0.Coords) (r0 : Memref sig .tc .vmem S8x64x2048 .bf16) (h0 : r0.IsWhole) (r1 : Memref sig .tc .vmem S8x64x2048 .bf16) (h1 : r1.IsWhole) (r2 : Memref sig .tc .vmem S1x64x2048 .f32) (h2 : r2.IsWhole) (r3 : Memref sig .tc .vmem S1x64x2048 .f32) (h3 : r3.IsWhole) (r4 : Memref sig .tc .vmem S1x64x2048 .f32) (h4 : r4.IsWhole) (r5 : Memref sig .tc .vmem S1x64x2048 .f32) (h5 : r5.IsWhole) (r6 : Memref sig .tc .vmem S1x64x2048 .f32) (h6 : r6.IsWhole) (r7 : Memref sig .tc .vmem S1x64x2048 .f32) (h7 : r7.IsWhole) (r8 : Memref sig .tc .vmem S1x64x2048 .f32) (h8 : r8.IsWhole)
    (hc0 : cond0_0 i) (hc1 : ¬cond0_1 i) (x0 x1 : Vec Ideal S8x64x2048 .bf16) (x2 x3 x4 : Vec Ideal S1x64x2048 .f32) (y : S1x64x2048.Idx) :
    out0_A_6 (F := Ideal) c i r0 h0 r1 h1 r2 h2 r3 h3 r4 h4 r5 h5 r6 h6 r7 h7 r8 h8 hc0 hc1 x0 x1 x2 x3 x4 y = change (x2 y) (first (total x0 y) (x3 y)) (second (total x0 y) (x4 y)) := by
  unfold out0_A_6
  rw [View.read_writes_eq_canon _ _ _ (cover0_A_6 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x64x2048) (funext fun a => by fin_cases a <;> rfl)]
  simp only [View.readAt_eq_ld, h0.read_unread, h1.read_unread, h2.read_unread, h3.read_unread, h4.read_unread]
  pointwise [k0_pay1, k0_pay3, k0_pay4, k0_pay5, k0_pay6, k0_pay10, k0_pay11, total, first, second, change, Fin.sum_univ_eight]
  simp only [named1, named2, mul_inv1, mul_inv2, here y]

/-- At a point of the first layer the body stores the new first moment. -/
theorem moment1_A (c : Dev nD) (i : grid0.Coords) (r0 : Memref sig .tc .vmem S8x64x2048 .bf16) (h0 : r0.IsWhole) (r1 : Memref sig .tc .vmem S8x64x2048 .bf16) (h1 : r1.IsWhole) (r2 : Memref sig .tc .vmem S1x64x2048 .f32) (h2 : r2.IsWhole) (r3 : Memref sig .tc .vmem S1x64x2048 .f32) (h3 : r3.IsWhole) (r4 : Memref sig .tc .vmem S1x64x2048 .f32) (h4 : r4.IsWhole) (r5 : Memref sig .tc .vmem S1x64x2048 .f32) (h5 : r5.IsWhole) (r6 : Memref sig .tc .vmem S1x64x2048 .f32) (h6 : r6.IsWhole) (r7 : Memref sig .tc .vmem S1x64x2048 .f32) (h7 : r7.IsWhole) (r8 : Memref sig .tc .vmem S1x64x2048 .f32) (h8 : r8.IsWhole)
    (hc0 : cond0_0 i) (hc1 : ¬cond0_1 i) (x0 x1 : Vec Ideal S8x64x2048 .bf16) (x2 x3 x4 : Vec Ideal S1x64x2048 .f32) (y : S1x64x2048.Idx) :
    out0_A_7 (F := Ideal) c i r0 h0 r1 h1 r2 h2 r3 h3 r4 h4 r5 h5 r6 h6 r7 h7 r8 h8 hc0 hc1 x0 x1 x2 x3 x4 y = first (total x0 y) (x3 y) := by
  unfold out0_A_7
  rw [View.read_writes_eq_canon _ _ _ (cover0_A_7 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x64x2048) (funext fun a => by fin_cases a <;> rfl)]
  simp only [View.readAt_eq_ld, h0.read_unread, h1.read_unread, h2.read_unread, h3.read_unread, h4.read_unread]
  pointwise [k0_pay3, k0_pay4, k0_pay5, k0_pay6, k0_pay8, total, first, second, change, Fin.sum_univ_eight]
  simp only [here y]

/-- At a point of the first layer the body stores the new second moment. -/
theorem moment2_A (c : Dev nD) (i : grid0.Coords) (r0 : Memref sig .tc .vmem S8x64x2048 .bf16) (h0 : r0.IsWhole) (r1 : Memref sig .tc .vmem S8x64x2048 .bf16) (h1 : r1.IsWhole) (r2 : Memref sig .tc .vmem S1x64x2048 .f32) (h2 : r2.IsWhole) (r3 : Memref sig .tc .vmem S1x64x2048 .f32) (h3 : r3.IsWhole) (r4 : Memref sig .tc .vmem S1x64x2048 .f32) (h4 : r4.IsWhole) (r5 : Memref sig .tc .vmem S1x64x2048 .f32) (h5 : r5.IsWhole) (r6 : Memref sig .tc .vmem S1x64x2048 .f32) (h6 : r6.IsWhole) (r7 : Memref sig .tc .vmem S1x64x2048 .f32) (h7 : r7.IsWhole) (r8 : Memref sig .tc .vmem S1x64x2048 .f32) (h8 : r8.IsWhole)
    (hc0 : cond0_0 i) (hc1 : ¬cond0_1 i) (x0 x1 : Vec Ideal S8x64x2048 .bf16) (x2 x3 x4 : Vec Ideal S1x64x2048 .f32) (y : S1x64x2048.Idx) :
    out0_A_8 (F := Ideal) c i r0 h0 r1 h1 r2 h2 r3 h3 r4 h4 r5 h5 r6 h6 r7 h7 r8 h8 hc0 hc1 x0 x1 x2 x3 x4 y = second (total x0 y) (x4 y) := by
  unfold out0_A_8
  rw [View.read_writes_eq_canon _ _ _ (cover0_A_8 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x64x2048) (funext fun a => by fin_cases a <;> rfl)]
  simp only [View.readAt_eq_ld, h0.read_unread, h1.read_unread, h2.read_unread, h3.read_unread, h4.read_unread]
  pointwise [k0_pay3, k0_pay5, k0_pay6, k0_pay9, total, first, second, change, Fin.sum_univ_eight]
  simp only [here y]

/-- At a point of the second layer the body stores the gradient. -/
theorem grad_B (c : Dev nD) (i : grid0.Coords) (r0 : Memref sig .tc .vmem S8x64x2048 .bf16) (h0 : r0.IsWhole) (r1 : Memref sig .tc .vmem S8x64x2048 .bf16) (h1 : r1.IsWhole) (r2 : Memref sig .tc .vmem S1x64x2048 .f32) (h2 : r2.IsWhole) (r3 : Memref sig .tc .vmem S1x64x2048 .f32) (h3 : r3.IsWhole) (r4 : Memref sig .tc .vmem S1x64x2048 .f32) (h4 : r4.IsWhole) (r5 : Memref sig .tc .vmem S1x64x2048 .f32) (h5 : r5.IsWhole) (r6 : Memref sig .tc .vmem S1x64x2048 .f32) (h6 : r6.IsWhole) (r7 : Memref sig .tc .vmem S1x64x2048 .f32) (h7 : r7.IsWhole) (r8 : Memref sig .tc .vmem S1x64x2048 .f32) (h8 : r8.IsWhole)
    (hc0 : ¬cond0_0 i) (hc1 : cond0_1 i) (x0 x1 : Vec Ideal S8x64x2048 .bf16) (x2 x3 x4 : Vec Ideal S1x64x2048 .f32) (y : S1x64x2048.Idx) :
    out0_B_5 (F := Ideal) c i r0 h0 r1 h1 r2 h2 r3 h3 r4 h4 r5 h5 r6 h6 r7 h7 r8 h8 hc0 hc1 x0 x1 x2 x3 x4 y = total x1 y := by
  unfold out0_B_5
  rw [View.read_writes_eq_canon _ _ _ (cover0_B_5 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x64x2048) (funext fun a => by fin_cases a <;> rfl)]
  simp only [View.readAt_eq_ld, h0.read_unread, h1.read_unread, h2.read_unread, h3.read_unread, h4.read_unread]
  pointwise [k0_pay12, k0_pay16, total, first, second, change, Fin.sum_univ_eight]

/-- At a point of the second layer the body stores the weight's change. -/
theorem delta_B (c : Dev nD) (i : grid0.Coords) (r0 : Memref sig .tc .vmem S8x64x2048 .bf16) (h0 : r0.IsWhole) (r1 : Memref sig .tc .vmem S8x64x2048 .bf16) (h1 : r1.IsWhole) (r2 : Memref sig .tc .vmem S1x64x2048 .f32) (h2 : r2.IsWhole) (r3 : Memref sig .tc .vmem S1x64x2048 .f32) (h3 : r3.IsWhole) (r4 : Memref sig .tc .vmem S1x64x2048 .f32) (h4 : r4.IsWhole) (r5 : Memref sig .tc .vmem S1x64x2048 .f32) (h5 : r5.IsWhole) (r6 : Memref sig .tc .vmem S1x64x2048 .f32) (h6 : r6.IsWhole) (r7 : Memref sig .tc .vmem S1x64x2048 .f32) (h7 : r7.IsWhole) (r8 : Memref sig .tc .vmem S1x64x2048 .f32) (h8 : r8.IsWhole)
    (hc0 : ¬cond0_0 i) (hc1 : cond0_1 i) (x0 x1 : Vec Ideal S8x64x2048 .bf16) (x2 x3 x4 : Vec Ideal S1x64x2048 .f32) (y : S1x64x2048.Idx) :
    out0_B_6 (F := Ideal) c i r0 h0 r1 h1 r2 h2 r3 h3 r4 h4 r5 h5 r6 h6 r7 h7 r8 h8 hc0 hc1 x0 x1 x2 x3 x4 y = change (x2 y) (first (total x1 y) (x3 y)) (second (total x1 y) (x4 y)) := by
  unfold out0_B_6
  rw [View.read_writes_eq_canon _ _ _ (cover0_B_6 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x64x2048) (funext fun a => by fin_cases a <;> rfl)]
  simp only [View.readAt_eq_ld, h0.read_unread, h1.read_unread, h2.read_unread, h3.read_unread, h4.read_unread]
  pointwise [k0_pay2, k0_pay12, k0_pay13, k0_pay14, k0_pay15, k0_pay19, k0_pay20, total, first, second, change, Fin.sum_univ_eight]
  simp only [named1, named2, mul_inv1, mul_inv2, here y]

/-- At a point of the second layer the body stores the new first moment. -/
theorem moment1_B (c : Dev nD) (i : grid0.Coords) (r0 : Memref sig .tc .vmem S8x64x2048 .bf16) (h0 : r0.IsWhole) (r1 : Memref sig .tc .vmem S8x64x2048 .bf16) (h1 : r1.IsWhole) (r2 : Memref sig .tc .vmem S1x64x2048 .f32) (h2 : r2.IsWhole) (r3 : Memref sig .tc .vmem S1x64x2048 .f32) (h3 : r3.IsWhole) (r4 : Memref sig .tc .vmem S1x64x2048 .f32) (h4 : r4.IsWhole) (r5 : Memref sig .tc .vmem S1x64x2048 .f32) (h5 : r5.IsWhole) (r6 : Memref sig .tc .vmem S1x64x2048 .f32) (h6 : r6.IsWhole) (r7 : Memref sig .tc .vmem S1x64x2048 .f32) (h7 : r7.IsWhole) (r8 : Memref sig .tc .vmem S1x64x2048 .f32) (h8 : r8.IsWhole)
    (hc0 : ¬cond0_0 i) (hc1 : cond0_1 i) (x0 x1 : Vec Ideal S8x64x2048 .bf16) (x2 x3 x4 : Vec Ideal S1x64x2048 .f32) (y : S1x64x2048.Idx) :
    out0_B_7 (F := Ideal) c i r0 h0 r1 h1 r2 h2 r3 h3 r4 h4 r5 h5 r6 h6 r7 h7 r8 h8 hc0 hc1 x0 x1 x2 x3 x4 y = first (total x1 y) (x3 y) := by
  unfold out0_B_7
  rw [View.read_writes_eq_canon _ _ _ (cover0_B_7 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x64x2048) (funext fun a => by fin_cases a <;> rfl)]
  simp only [View.readAt_eq_ld, h0.read_unread, h1.read_unread, h2.read_unread, h3.read_unread, h4.read_unread]
  pointwise [k0_pay12, k0_pay13, k0_pay14, k0_pay15, k0_pay17, total, first, second, change, Fin.sum_univ_eight]
  simp only [here y]

/-- At a point of the second layer the body stores the new second moment. -/
theorem moment2_B (c : Dev nD) (i : grid0.Coords) (r0 : Memref sig .tc .vmem S8x64x2048 .bf16) (h0 : r0.IsWhole) (r1 : Memref sig .tc .vmem S8x64x2048 .bf16) (h1 : r1.IsWhole) (r2 : Memref sig .tc .vmem S1x64x2048 .f32) (h2 : r2.IsWhole) (r3 : Memref sig .tc .vmem S1x64x2048 .f32) (h3 : r3.IsWhole) (r4 : Memref sig .tc .vmem S1x64x2048 .f32) (h4 : r4.IsWhole) (r5 : Memref sig .tc .vmem S1x64x2048 .f32) (h5 : r5.IsWhole) (r6 : Memref sig .tc .vmem S1x64x2048 .f32) (h6 : r6.IsWhole) (r7 : Memref sig .tc .vmem S1x64x2048 .f32) (h7 : r7.IsWhole) (r8 : Memref sig .tc .vmem S1x64x2048 .f32) (h8 : r8.IsWhole)
    (hc0 : ¬cond0_0 i) (hc1 : cond0_1 i) (x0 x1 : Vec Ideal S8x64x2048 .bf16) (x2 x3 x4 : Vec Ideal S1x64x2048 .f32) (y : S1x64x2048.Idx) :
    out0_B_8 (F := Ideal) c i r0 h0 r1 h1 r2 h2 r3 h3 r4 h4 r5 h5 r6 h6 r7 h7 r8 h8 hc0 hc1 x0 x1 x2 x3 x4 y = second (total x1 y) (x4 y) := by
  unfold out0_B_8
  rw [View.read_writes_eq_canon _ _ _ (cover0_B_8 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x64x2048) (funext fun a => by fin_cases a <;> rfl)]
  simp only [View.readAt_eq_ld, h0.read_unread, h1.read_unread, h2.read_unread, h3.read_unread, h4.read_unread]
  pointwise [k0_pay12, k0_pay14, k0_pay15, k0_pay18, total, first, second, change, Fin.sum_univ_eight]
  simp only [here y]

/-! ## What the arrays end at -/

/-- The parts' blocks move with the results' rows in their own layer; the other arrays' blocks are the results'. -/
theorem blocks_move : ∀ t : Fin cfg0.N, (t.val < 4 → win0_0.index t = ![0, win0_5.index t 1, 0] ∧ win0_5.index t 0 = 0)
    ∧ (¬t.val < 4 → win0_1.index t = ![0, win0_5.index t 1, 0] ∧ win0_5.index t 0 = 1) ∧ win0_5.index t 2 = 0 :=
  (by decide +kernel : ∀ t : Fin grid0.N, _)

/-- Where an index of a point's block stands in an array. -/
def place (t : Fin cfg0.N) (y : S1x64x2048.Idx) : S2x256x2048.Idx := ((cfg0.win 5).blk t).view.emb y

/-- In the first layer a block's sum is the gradient. -/
theorem total_A (c : Dev nD) (t : Fin cfg0.N) (h : t.val < 4) (y : S1x64x2048.Idx) :
    total (iblk m c 0 t) y = gradient (V m c main_arg0) (V m c main_arg1) (place t y) := by
  obtain ⟨e0, e1⟩ := (blocks_move t).1 h
  have e2 := (blocks_move t).2.2
  have hy : (y 0).val < 1 := (y 0).isLt
  have hl : (place t y 0).val = 0 := by
    show win0_5.index t 0 * 1 + 1 * (y 0).val = 0
    rw [e1]; omega
  unfold total gradient
  rw [if_pos (by rw [hl])]
  refine Finset.sum_congr rfl fun s _ => ?_
  show V m c main_arg0 (((cfg0.win 0).blk t).view.emb _) = V m c main_arg0 _
  refine congrArg _ (funext fun a => Fin.ext ?_)
  match a with
  | ⟨0, _⟩ =>
    show win0_0.index t 0 * 8 + 1 * s.val = s.val
    rw [e0]; show 0 * 8 + 1 * s.val = s.val; omega
  | ⟨1, _⟩ =>
    show win0_0.index t 1 * 64 + 1 * (y 1).val = win0_5.index t 1 * 64 + 1 * (y 1).val
    rw [e0]; rfl
  | ⟨2, _⟩ =>
    show win0_0.index t 2 * 2048 + 1 * (y 2).val = win0_5.index t 2 * 2048 + 1 * (y 2).val
    rw [e0, e2]; rfl

/-- In the second layer a block's sum is the gradient. -/
theorem total_B (c : Dev nD) (t : Fin cfg0.N) (h : ¬t.val < 4) (y : S1x64x2048.Idx) :
    total (iblk m c 1 t) y = gradient (V m c main_arg0) (V m c main_arg1) (place t y) := by
  obtain ⟨e0, e1⟩ := (blocks_move t).2.1 h
  have e2 := (blocks_move t).2.2
  have hy : (y 0).val < 1 := (y 0).isLt
  have hl : (place t y 0).val = 1 := by
    show win0_5.index t 0 * 1 + 1 * (y 0).val = 1
    rw [e1]; omega
  unfold total gradient
  rw [if_neg (by rw [hl]; decide)]
  refine Finset.sum_congr rfl fun s _ => ?_
  show V m c main_arg1 (((cfg0.win 1).blk t).view.emb _) = V m c main_arg1 _
  refine congrArg _ (funext fun a => Fin.ext ?_)
  match a with
  | ⟨0, _⟩ =>
    show win0_1.index t 0 * 8 + 1 * s.val = s.val
    rw [e0]; show 0 * 8 + 1 * s.val = s.val; omega
  | ⟨1, _⟩ =>
    show win0_1.index t 1 * 64 + 1 * (y 1).val = win0_5.index t 1 * 64 + 1 * (y 1).val
    rw [e0]; rfl
  | ⟨2, _⟩ =>
    show win0_1.index t 2 * 2048 + 1 * (y 2).val = win0_5.index t 2 * 2048 + 1 * (y 2).val
    rw [e0, e2]; rfl

/-- What a point writes back is its block of the gradient. -/
theorem written5 (c : Dev nD) (t : Fin cfg0.N) : (dats (F := Ideal) m 0 c).flushed 5 t
    = ((cfg0.win 5).blk t).view.read (Elt Ideal) (gradient (V m c main_arg0) (V m c main_arg1)) := by
  have key : ∀ (b : S1x64x2048.Idx → EReal) (p : S2x256x2048.Idx → EReal), (∀ y : S1x64x2048.Idx, b y = p (((cfg0.win 5).blk t).view.emb y))
      → (cfg0.win 5).cut (grid0.coords t) b = ((cfg0.win 5).blk t).view.read (Elt Ideal) p :=
    fun b p hp => funext hp
  by_cases h : t.val < 4
  · rw [flushed5_A m c t h (by omega)]
    refine key _ _ fun y => ?_
    rw [grad_A]
    show total (iblk m c 0 t) y = gradient (V m c main_arg0) (V m c main_arg1) (place t y)
    rw [total_A m c t h y]
  · rw [flushed5_B m c t h (by omega)]
    refine key _ _ fun y => ?_
    rw [grad_B]
    show total (iblk m c 1 t) y = gradient (V m c main_arg0) (V m c main_arg1) (place t y)
    rw [total_B m c t h y]

theorem blocks_onto5 : ∀ (q0 : Fin 2) (q1 : Fin 4), ∃ t : Fin cfg0.N, (cfg0.win 5).flush t = true ∧ win0_5.index t = ![q0.val, q1.val, 0] :=
  (by decide +kernel : ∀ (q0 : Fin 2) (q1 : Fin 4), ∃ t : Fin grid0.N, win0_5.flush t = true ∧ win0_5.index t = ![q0.val, q1.val, 0])

theorem mem_block5 (t : Fin cfg0.N) (i : S2x256x2048.Idx) : i ∈ ((cfg0.win 5).blk t).view.set
    ↔ ∀ a : Fin 3, win0_5.index t a * S1x64x2048.size a ≤ (i a).val ∧ (i a).val < win0_5.index t a * S1x64x2048.size a + S1x64x2048.size a := by
  show i ∈ ((View.whole main_v0_0).slice (win0_5.rect t)).set ↔ _
  rw [View.set_slice_whole, Rect.mem_set_unit]
  exact Iff.rfl

/-- After the run the array holds the gradient. -/
theorem final5 (c : Dev nD) : (dats (F := Ideal) m 0 c).arrAt 5 cfg0.N = gradient (V m c main_arg0) (V m c main_arg1) :=
  (dats m 0 c).arrAt_eq_of_cover 5 _ (fun t _ => written5 m c t) (fun i => by
    have h0 : (i 0).val < 2 := (i 0).isLt
    have h1 : (i 1).val < 256 := (i 1).isLt
    have h2 : (i 2).val < 2048 := (i 2).isLt
    obtain ⟨t, hf, ht⟩ := blocks_onto5 ⟨(i 0).val, by omega⟩ ⟨(i 1).val / 64, by omega⟩
    have q0 : win0_5.index t (0 : Fin 3) = (i 0).val := congrFun ht 0
    have q1 : win0_5.index t (1 : Fin 3) = (i 1).val / 64 := congrFun ht 1
    have q2 : win0_5.index t (2 : Fin 3) = 0 := congrFun ht 2
    refine ⟨t, hf, ?_⟩
    rw [mem_block5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 64 ≤ (i 1).val ∧ (i 1).val < win0_5.index t (1 : Fin 3) * 64 + 64; omega
    | ⟨2, _⟩ => show win0_5.index t (2 : Fin 3) * 2048 ≤ (i 2).val ∧ (i 2).val < win0_5.index t (2 : Fin 3) * 2048 + 2048; omega)

/-- What a point writes back is its block of the weight's change. -/
theorem written6 (c : Dev nD) (t : Fin cfg0.N) : (dats (F := Ideal) m 0 c).flushed 6 t
    = ((cfg0.win 6).blk t).view.read (Elt Ideal) (delta (V m c main_arg0) (V m c main_arg1) (V m c main_arg2) (V m c main_arg3) (V m c main_arg4)) := by
  have key : ∀ (b : S1x64x2048.Idx → EReal) (p : S2x256x2048.Idx → EReal), (∀ y : S1x64x2048.Idx, b y = p (((cfg0.win 6).blk t).view.emb y))
      → (cfg0.win 6).cut (grid0.coords t) b = ((cfg0.win 6).blk t).view.read (Elt Ideal) p :=
    fun b p hp => funext hp
  by_cases h : t.val < 4
  · rw [flushed6_A m c t h (by omega)]
    refine key _ _ fun y => ?_
    rw [delta_A]
    show change (V m c main_arg2 (place t y)) (first (total (iblk m c 0 t) y) (V m c main_arg3 (place t y))) (second (total (iblk m c 0 t) y) (V m c main_arg4 (place t y))) = delta (V m c main_arg0) (V m c main_arg1) (V m c main_arg2) (V m c main_arg3) (V m c main_arg4) (place t y)
    rw [total_A m c t h y]; rfl
  · rw [flushed6_B m c t h (by omega)]
    refine key _ _ fun y => ?_
    rw [delta_B]
    show change (V m c main_arg2 (place t y)) (first (total (iblk m c 1 t) y) (V m c main_arg3 (place t y))) (second (total (iblk m c 1 t) y) (V m c main_arg4 (place t y))) = delta (V m c main_arg0) (V m c main_arg1) (V m c main_arg2) (V m c main_arg3) (V m c main_arg4) (place t y)
    rw [total_B m c t h y]; rfl

theorem blocks_onto6 : ∀ (q0 : Fin 2) (q1 : Fin 4), ∃ t : Fin cfg0.N, (cfg0.win 6).flush t = true ∧ win0_6.index t = ![q0.val, q1.val, 0] :=
  (by decide +kernel : ∀ (q0 : Fin 2) (q1 : Fin 4), ∃ t : Fin grid0.N, win0_6.flush t = true ∧ win0_6.index t = ![q0.val, q1.val, 0])

theorem mem_block6 (t : Fin cfg0.N) (i : S2x256x2048.Idx) : i ∈ ((cfg0.win 6).blk t).view.set
    ↔ ∀ a : Fin 3, win0_6.index t a * S1x64x2048.size a ≤ (i a).val ∧ (i a).val < win0_6.index t a * S1x64x2048.size a + S1x64x2048.size a := by
  show i ∈ ((View.whole main_v0_1).slice (win0_6.rect t)).set ↔ _
  rw [View.set_slice_whole, Rect.mem_set_unit]
  exact Iff.rfl

/-- After the run the array holds the weight's change. -/
theorem final6 (c : Dev nD) : (dats (F := Ideal) m 0 c).arrAt 6 cfg0.N = delta (V m c main_arg0) (V m c main_arg1) (V m c main_arg2) (V m c main_arg3) (V m c main_arg4) :=
  (dats m 0 c).arrAt_eq_of_cover 6 _ (fun t _ => written6 m c t) (fun i => by
    have h0 : (i 0).val < 2 := (i 0).isLt
    have h1 : (i 1).val < 256 := (i 1).isLt
    have h2 : (i 2).val < 2048 := (i 2).isLt
    obtain ⟨t, hf, ht⟩ := blocks_onto6 ⟨(i 0).val, by omega⟩ ⟨(i 1).val / 64, by omega⟩
    have q0 : win0_6.index t (0 : Fin 3) = (i 0).val := congrFun ht 0
    have q1 : win0_6.index t (1 : Fin 3) = (i 1).val / 64 := congrFun ht 1
    have q2 : win0_6.index t (2 : Fin 3) = 0 := congrFun ht 2
    refine ⟨t, hf, ?_⟩
    rw [mem_block6]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 64 ≤ (i 1).val ∧ (i 1).val < win0_6.index t (1 : Fin 3) * 64 + 64; omega
    | ⟨2, _⟩ => show win0_6.index t (2 : Fin 3) * 2048 ≤ (i 2).val ∧ (i 2).val < win0_6.index t (2 : Fin 3) * 2048 + 2048; omega)

/-- What a point writes back is its block of the new first moment. -/
theorem written7 (c : Dev nD) (t : Fin cfg0.N) : (dats (F := Ideal) m 0 c).flushed 7 t
    = ((cfg0.win 7).blk t).view.read (Elt Ideal) (moment1 (V m c main_arg0) (V m c main_arg1) (V m c main_arg3)) := by
  have key : ∀ (b : S1x64x2048.Idx → EReal) (p : S2x256x2048.Idx → EReal), (∀ y : S1x64x2048.Idx, b y = p (((cfg0.win 7).blk t).view.emb y))
      → (cfg0.win 7).cut (grid0.coords t) b = ((cfg0.win 7).blk t).view.read (Elt Ideal) p :=
    fun b p hp => funext hp
  by_cases h : t.val < 4
  · rw [flushed7_A m c t h (by omega)]
    refine key _ _ fun y => ?_
    rw [moment1_A]
    show first (total (iblk m c 0 t) y) (V m c main_arg3 (place t y)) = moment1 (V m c main_arg0) (V m c main_arg1) (V m c main_arg3) (place t y)
    rw [total_A m c t h y]; rfl
  · rw [flushed7_B m c t h (by omega)]
    refine key _ _ fun y => ?_
    rw [moment1_B]
    show first (total (iblk m c 1 t) y) (V m c main_arg3 (place t y)) = moment1 (V m c main_arg0) (V m c main_arg1) (V m c main_arg3) (place t y)
    rw [total_B m c t h y]; rfl

theorem blocks_onto7 : ∀ (q0 : Fin 2) (q1 : Fin 4), ∃ t : Fin cfg0.N, (cfg0.win 7).flush t = true ∧ win0_7.index t = ![q0.val, q1.val, 0] :=
  (by decide +kernel : ∀ (q0 : Fin 2) (q1 : Fin 4), ∃ t : Fin grid0.N, win0_7.flush t = true ∧ win0_7.index t = ![q0.val, q1.val, 0])

theorem mem_block7 (t : Fin cfg0.N) (i : S2x256x2048.Idx) : i ∈ ((cfg0.win 7).blk t).view.set
    ↔ ∀ a : Fin 3, win0_7.index t a * S1x64x2048.size a ≤ (i a).val ∧ (i a).val < win0_7.index t a * S1x64x2048.size a + S1x64x2048.size a := by
  show i ∈ ((View.whole main_v0_2).slice (win0_7.rect t)).set ↔ _
  rw [View.set_slice_whole, Rect.mem_set_unit]
  exact Iff.rfl

/-- After the run the array holds the new first moment. -/
theorem final7 (c : Dev nD) : (dats (F := Ideal) m 0 c).arrAt 7 cfg0.N = moment1 (V m c main_arg0) (V m c main_arg1) (V m c main_arg3) :=
  (dats m 0 c).arrAt_eq_of_cover 7 _ (fun t _ => written7 m c t) (fun i => by
    have h0 : (i 0).val < 2 := (i 0).isLt
    have h1 : (i 1).val < 256 := (i 1).isLt
    have h2 : (i 2).val < 2048 := (i 2).isLt
    obtain ⟨t, hf, ht⟩ := blocks_onto7 ⟨(i 0).val, by omega⟩ ⟨(i 1).val / 64, by omega⟩
    have q0 : win0_7.index t (0 : Fin 3) = (i 0).val := congrFun ht 0
    have q1 : win0_7.index t (1 : Fin 3) = (i 1).val / 64 := congrFun ht 1
    have q2 : win0_7.index t (2 : Fin 3) = 0 := congrFun ht 2
    refine ⟨t, hf, ?_⟩
    rw [mem_block7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 64 ≤ (i 1).val ∧ (i 1).val < win0_7.index t (1 : Fin 3) * 64 + 64; omega
    | ⟨2, _⟩ => show win0_7.index t (2 : Fin 3) * 2048 ≤ (i 2).val ∧ (i 2).val < win0_7.index t (2 : Fin 3) * 2048 + 2048; omega)

/-- What a point writes back is its block of the new second moment. -/
theorem written8 (c : Dev nD) (t : Fin cfg0.N) : (dats (F := Ideal) m 0 c).flushed 8 t
    = ((cfg0.win 8).blk t).view.read (Elt Ideal) (moment2 (V m c main_arg0) (V m c main_arg1) (V m c main_arg4)) := by
  have key : ∀ (b : S1x64x2048.Idx → EReal) (p : S2x256x2048.Idx → EReal), (∀ y : S1x64x2048.Idx, b y = p (((cfg0.win 8).blk t).view.emb y))
      → (cfg0.win 8).cut (grid0.coords t) b = ((cfg0.win 8).blk t).view.read (Elt Ideal) p :=
    fun b p hp => funext hp
  by_cases h : t.val < 4
  · rw [flushed8_A m c t h (by omega)]
    refine key _ _ fun y => ?_
    rw [moment2_A]
    show second (total (iblk m c 0 t) y) (V m c main_arg4 (place t y)) = moment2 (V m c main_arg0) (V m c main_arg1) (V m c main_arg4) (place t y)
    rw [total_A m c t h y]; rfl
  · rw [flushed8_B m c t h (by omega)]
    refine key _ _ fun y => ?_
    rw [moment2_B]
    show second (total (iblk m c 1 t) y) (V m c main_arg4 (place t y)) = moment2 (V m c main_arg0) (V m c main_arg1) (V m c main_arg4) (place t y)
    rw [total_B m c t h y]; rfl

theorem blocks_onto8 : ∀ (q0 : Fin 2) (q1 : Fin 4), ∃ t : Fin cfg0.N, (cfg0.win 8).flush t = true ∧ win0_8.index t = ![q0.val, q1.val, 0] :=
  (by decide +kernel : ∀ (q0 : Fin 2) (q1 : Fin 4), ∃ t : Fin grid0.N, win0_8.flush t = true ∧ win0_8.index t = ![q0.val, q1.val, 0])

theorem mem_block8 (t : Fin cfg0.N) (i : S2x256x2048.Idx) : i ∈ ((cfg0.win 8).blk t).view.set
    ↔ ∀ a : Fin 3, win0_8.index t a * S1x64x2048.size a ≤ (i a).val ∧ (i a).val < win0_8.index t a * S1x64x2048.size a + S1x64x2048.size a := by
  show i ∈ ((View.whole main_v0_3).slice (win0_8.rect t)).set ↔ _
  rw [View.set_slice_whole, Rect.mem_set_unit]
  exact Iff.rfl

/-- After the run the array holds the new second moment. -/
theorem final8 (c : Dev nD) : (dats (F := Ideal) m 0 c).arrAt 8 cfg0.N = moment2 (V m c main_arg0) (V m c main_arg1) (V m c main_arg4) :=
  (dats m 0 c).arrAt_eq_of_cover 8 _ (fun t _ => written8 m c t) (fun i => by
    have h0 : (i 0).val < 2 := (i 0).isLt
    have h1 : (i 1).val < 256 := (i 1).isLt
    have h2 : (i 2).val < 2048 := (i 2).isLt
    obtain ⟨t, hf, ht⟩ := blocks_onto8 ⟨(i 0).val, by omega⟩ ⟨(i 1).val / 64, by omega⟩
    have q0 : win0_8.index t (0 : Fin 3) = (i 0).val := congrFun ht 0
    have q1 : win0_8.index t (1 : Fin 3) = (i 1).val / 64 := congrFun ht 1
    have q2 : win0_8.index t (2 : Fin 3) = 0 := congrFun ht 2
    refine ⟨t, hf, ?_⟩
    rw [mem_block8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 64 ≤ (i 1).val ∧ (i 1).val < win0_8.index t (1 : Fin 3) * 64 + 64; omega
    | ⟨2, _⟩ => show win0_8.index t (2 : Fin 3) * 2048 ≤ (i 2).val ∧ (i 2).val < win0_8.index t (2 : Fin 3) * 2048 + 2048; omega)

/-! ## The reference -/

/-- The reference's first result is the gradient. -/
theorem reference_grad (p0 p1 : FVec Ideal S8x256x2048 .bf16) (h : FTy.bits .bf16 < FTy.bits .f32) (hb : Cert.AdamOutRefIdeal.S256x2048.BroadcastsInDim Cert.AdamOutRefIdeal.S1x256x2048 ![1, 2])
    (hr : Shape.ReducesTo S8x256x2048 [0] Cert.AdamOutRefIdeal.S256x2048) (hs : 0 < Cert.AdamOutRefIdeal.S_.numel) (hc : Shape.Concatenates [Cert.AdamOutRefIdeal.S1x256x2048, Cert.AdamOutRefIdeal.S1x256x2048] S2x256x2048 0) :
    concatenate S2x256x2048 0 [⟨Cert.AdamOutRefIdeal.S1x256x2048, broadcastInDim Cert.AdamOutRefIdeal.S1x256x2048 ![1, 2] hb (Host.reduceAdd (extf .f32 p0 h) (constant Cert.AdamOutRefIdeal.S_ .f32 0x00000000#32) hr hs)⟩,
      ⟨Cert.AdamOutRefIdeal.S1x256x2048, broadcastInDim Cert.AdamOutRefIdeal.S1x256x2048 ![1, 2] hb (Host.reduceAdd (extf .f32 p1 h) (constant Cert.AdamOutRefIdeal.S_ .f32 0x00000000#32) hr hs)⟩] hc = gradient p0 p1 := by
  funext i
  unfold gradient
  pointwise
  simp only [Nat.lt_one_iff, dite_eq_ite]

/-- Kernel and reference end at the same arrays. -/
theorem algebraic : Cert.algebraic_AdamOutIdeal_AdamOutRefIdeal := by
  intro m ρ m' ρ' _ hagree
  refine ⟨fun c => gradient (m ((c : Thread nD τ).loc main_arg0)) (m ((c : Thread nD τ).loc main_arg1)),
    fun c => delta (m ((c : Thread nD τ).loc main_arg0)) (m ((c : Thread nD τ).loc main_arg1)) (m ((c : Thread nD τ).loc main_arg2)) (m ((c : Thread nD τ).loc main_arg3)) (m ((c : Thread nD τ).loc main_arg4)),
    fun c => moment1 (m ((c : Thread nD τ).loc main_arg0)) (m ((c : Thread nD τ).loc main_arg1)) (m ((c : Thread nD τ).loc main_arg3)),
    fun c => moment2 (m ((c : Thread nD τ).loc main_arg0)) (m ((c : Thread nD τ).loc main_arg1)) (m ((c : Thread nD τ).loc main_arg4)), ?_, ?_⟩
  · exact (θ_run Cert.AdamOutIdeal.defs _ _).mono (fun r h c => ⟨(h c).1.trans (final5 m c), (h c).2.1.trans (final6 m c), (h c).2.2.1.trans (final7 m c),
      (h c).2.2.2.1.trans (final8 m c), (h c).2.2.2.2⟩) (run_blocks (F := Ideal) m ρ)
  · refine (θ_run Cert.AdamOutRefIdeal.defs _ _).mono (fun r h c => ⟨(h c).1.trans ?_, (h c).2.1.trans ?_, (h c).2.2.1.trans ?_, (h c).2.2.2.1.trans ?_, (h c).2.2.2.2⟩)
      (Cert.AdamOutRefIdeal.Value.run (F := Ideal) m' ρ')
    all_goals rw [(hagree c).1, (hagree c).2.1]
    · exact reference_grad _ _ _ _ _ _ _
    · rw [(hagree c).2.2.1, (hagree c).2.2.2.1, (hagree c).2.2.2.2, reference_grad]
      rfl
    · rw [(hagree c).2.2.2.1, reference_grad]
      rfl
    · rw [(hagree c).2.2.2.2, reference_grad]
      rfl

/-- The two constants that were given a name. -/
theorem preserves : Cert.preserves_AdamOut_AdamOutIdeal :=
  ⟨IdealRules.named_const.statement Cert.AdamOutIdeal.κ "c1" .f32 0x3FC48605#32 (((5463681 / 8388608)⁻¹ : ℝ) : EReal) rfl,
    IdealRules.named_const.statement Cert.AdamOutIdeal.κ "c2" .f32 0x42C8E6D3#32 (((2672307 / 268435456)⁻¹ : ℝ) : EReal) rfl⟩

/-- The reference runs and leaves its arguments as they were. -/
theorem reference_frame : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

end Cert.Optimiser.AdamOut

end
-- ==== Proof.Optimiser.AdamLruIn.lean ====
/- The optimiser's step for the recurrent layers' input weights: what the kernel's blocks hold, what its arrays end at, what the reference computes, and the
   equation. -/
module

public import proofs.«01_k».proof.Defs
public import proofs.«01_k».proof.Proof.Gen.AdamLruInIdeal.Value
public import proofs.«01_k».proof.Proof.Gen.AdamLruInRefIdeal.Run
public import proofs.«01_k».proof.Proof.Optimiser.Step
public import Idealize.ShloMosaic.Lib.Pointwise

@[expose] public section

noncomputable section

namespace Cert.Optimiser.AdamLruIn

open Cert.AdamLruInIdeal Cert.AdamLruInIdeal.Gen Cert.AdamLruInIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The function -/

/-- A layer's gradient: the sum of the eight devices' parts. -/
def gradient (p0 p1 : S8x2048x512.Idx → EReal) : S2x2048x512.Idx → EReal := fun i =>
  if (i 0).val = 0 then ∑ s : Fin 8, p0 (ix3 s (i 1) (i 2)) else ∑ s : Fin 8, p1 (ix3 s (i 1) (i 2))

/-- The new first moment. -/
def moment1 (p0 p1 : S8x2048x512.Idx → EReal) (u : S2x2048x512.Idx → EReal) : S2x2048x512.Idx → EReal := fun i => first (gradient p0 p1 i) (u i)

/-- The new second moment. -/
def moment2 (p0 p1 : S8x2048x512.Idx → EReal) (v : S2x2048x512.Idx → EReal) : S2x2048x512.Idx → EReal := fun i => second (gradient p0 p1 i) (v i)

/-- The weight's change. -/
def delta (p0 p1 : S8x2048x512.Idx → EReal) (w u v : S2x2048x512.Idx → EReal) : S2x2048x512.Idx → EReal := fun i =>
  change (w i) (moment1 p0 p1 u i) (moment2 p0 p1 v i)

/-! ## What one point computes -/

/-- The sum of a block's eight parts. -/
def total (x : S8x256x512.Idx → EReal) (y : S1x256x512.Idx) : EReal := ∑ s : Fin 8, x (ix3 s (y 1) (y 2))

/-- The index of a block is its row and its column. -/
theorem here (y : S1x256x512.Idx) : (ix3 0 (y 1) (y 2) : S1x256x512.Idx) = y := by
  funext a
  match a with
  | ⟨0, _⟩ => exact (Fin.ext (by have : (y 0).val < 1 := (y 0).isLt; show 0 = (y 0).val; omega))
  | ⟨1, _⟩ => rfl
  | ⟨2, _⟩ => rfl

theorem named1 : (Named.named (F := Ideal) κ "c1" 0x3FC48605#32 : Ideal .f32) = (((5463681 / 8388608)⁻¹ : ℝ) : EReal) :=
  IdealRules.named_const.ideal_named_scalar κ "c1" _ _ rfl

theorem named2 : (Named.named (F := Ideal) κ "c2" 0x42C8E6D3#32 : Ideal .f32) = (((2672307 / 268435456)⁻¹ : ℝ) : EReal) :=
  IdealRules.named_const.ideal_named_scalar κ "c2" _ _ rfl

/-- At a point of the first layer the body stores the gradient. -/
theorem grad_A (c : Dev nD) (i : grid0.Coords) (r0 : Memref sig .tc .vmem S8x256x512 .bf16) (h0 : r0.IsWhole) (r1 : Memref sig .tc .vmem S8x256x512 .bf16) (h1 : r1.IsWhole) (r2 : Memref sig .tc .vmem S1x256x512 .f32) (h2 : r2.IsWhole) (r3 : Memref sig .tc .vmem S1x256x512 .f32) (h3 : r3.IsWhole) (r4 : Memref sig .tc .vmem S1x256x512 .f32) (h4 : r4.IsWhole) (r5 : Memref sig .tc .vmem S1x256x512 .f32) (h5 : r5.IsWhole) (r6 : Memref sig .tc .vmem S1x256x512 .f32) (h6 : r6.IsWhole) (r7 : Memref sig .tc .vmem S1x256x512 .f32) (h7 : r7.IsWhole) (r8 : Memref sig .tc .vmem S1x256x512 .f32) (h8 : r8.IsWhole)
    (hc0 : cond0_0 i) (hc1 : ¬cond0_1 i) (x0 x1 : Vec Ideal S8x256x512 .bf16) (x2 x3 x4 : Vec Ideal S1x256x512 .f32) (y : S1x256x512.Idx) :
    out0_A_5 (F := Ideal) c i r0 h0 r1 h1 r2 h2 r3 h3 r4 h4 r5 h5 r6 h6 r7 h7 r8 h8 hc0 hc1 x0 x1 x2 x3 x4 y = total x0 y := by
  unfold out0_A_5
  rw [View.read_writes_eq_canon _ _ _ (cover0_A_5 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x256x512) (funext fun a => by fin_cases a <;> rfl)]
  simp only [View.readAt_eq_ld, h0.read_unread, h1.read_unread, h2.read_unread, h3.read_unread, h4.read_unread]
  pointwise [k0_pay3, k0_pay7, total, first, second, change, Fin.sum_univ_eight]

/-- At a point of the first layer the body stores the weight's change. -/
theorem delta_A (c : Dev nD) (i : grid0.Coords) (r0 : Memref sig .tc .vmem S8x256x512 .bf16) (h0 : r0.IsWhole) (r1 : Memref sig .tc .vmem S8x256x512 .bf16) (h1 : r1.IsWhole) (r2 : Memref sig .tc .vmem S1x256x512 .f32) (h2 : r2.IsWhole) (r3 : Memref sig .tc .vmem S1x256x512 .f32) (h3 : r3.IsWhole) (r4 : Memref sig .tc .vmem S1x256x512 .f32) (h4 : r4.IsWhole) (r5 : Memref sig .tc .vmem S1x256x512 .f32) (h5 : r5.IsWhole) (r6 : Memref sig .tc .vmem S1x256x512 .f32) (h6 : r6.IsWhole) (r7 : Memref sig .tc .vmem S1x256x512 .f32) (h7 : r7.IsWhole) (r8 : Memref sig .tc .vmem S1x256x512 .f32) (h8 : r8.IsWhole)
    (hc0 : cond0_0 i) (hc1 : ¬cond0_1 i) (x0 x1 : Vec Ideal S8x256x512 .bf16) (x2 x3 x4 : Vec Ideal S1x256x512 .f32) (y : S1x256x512.Idx) :
    out0_A_6 (F := Ideal) c i r0 h0 r1 h1 r2 h2 r3 h3 r4 h4 r5 h5 r6 h6 r7 h7 r8 h8 hc0 hc1 x0 x1 x2 x3 x4 y = change (x2 y) (first (total x0 y) (x3 y)) (second (total x0 y) (x4 y)) := by
  unfold out0_A_6
  rw [View.read_writes_eq_canon _ _ _ (cover0_A_6 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x256x512) (funext fun a => by fin_cases a <;> rfl)]
  simp only [View.readAt_eq_ld, h0.read_unread, h1.read_unread, h2.read_unread, h3.read_unread, h4.read_unread]
  pointwise [k0_pay1, k0_pay3, k0_pay4, k0_pay5, k0_pay6, k0_pay10, k0_pay11, total, first, second, change, Fin.sum_univ_eight]
  simp only [named1, named2, mul_inv1, mul_inv2, here y]

/-- At a point of the first layer the body stores the new first moment. -/
theorem moment1_A (c : Dev nD) (i : grid0.Coords) (r0 : Memref sig .tc .vmem S8x256x512 .bf16) (h0 : r0.IsWhole) (r1 : Memref sig .tc .vmem S8x256x512 .bf16) (h1 : r1.IsWhole) (r2 : Memref sig .tc .vmem S1x256x512 .f32) (h2 : r2.IsWhole) (r3 : Memref sig .tc .vmem S1x256x512 .f32) (h3 : r3.IsWhole) (r4 : Memref sig .tc .vmem S1x256x512 .f32) (h4 : r4.IsWhole) (r5 : Memref sig .tc .vmem S1x256x512 .f32) (h5 : r5.IsWhole) (r6 : Memref sig .tc .vmem S1x256x512 .f32) (h6 : r6.IsWhole) (r7 : Memref sig .tc .vmem S1x256x512 .f32) (h7 : r7.IsWhole) (r8 : Memref sig .tc .vmem S1x256x512 .f32) (h8 : r8.IsWhole)
    (hc0 : cond0_0 i) (hc1 : ¬cond0_1 i) (x0 x1 : Vec Ideal S8x256x512 .bf16) (x2 x3 x4 : Vec Ideal S1x256x512 .f32) (y : S1x256x512.Idx) :
    out0_A_7 (F := Ideal) c i r0 h0 r1 h1 r2 h2 r3 h3 r4 h4 r5 h5 r6 h6 r7 h7 r8 h8 hc0 hc1 x0 x1 x2 x3 x4 y = first (total x0 y) (x3 y) := by
  unfold out0_A_7
  rw [View.read_writes_eq_canon _ _ _ (cover0_A_7 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x256x512) (funext fun a => by fin_cases a <;> rfl)]
  simp only [View.readAt_eq_ld, h0.read_unread, h1.read_unread, h2.read_unread, h3.read_unread, h4.read_unread]
  pointwise [k0_pay3, k0_pay4, k0_pay5, k0_pay6, k0_pay8, total, first, second, change, Fin.sum_univ_eight]
  simp only [here y]

/-- At a point of the first layer the body stores the new second moment. -/
theorem moment2_A (c : Dev nD) (i : grid0.Coords) (r0 : Memref sig .tc .vmem S8x256x512 .bf16) (h0 : r0.IsWhole) (r1 : Memref sig .tc .vmem S8x256x512 .bf16) (h1 : r1.IsWhole) (r2 : Memref sig .tc .vmem S1x256x512 .f32) (h2 : r2.IsWhole) (r3 : Memref sig .tc .vmem S1x256x512 .f32) (h3 : r3.IsWhole) (r4 : Memref sig .tc .vmem S1x256x512 .f32) (h4 : r4.IsWhole) (r5 : Memref sig .tc .vmem S1x256x512 .f32) (h5 : r5.IsWhole) (r6 : Memref sig .tc .vmem S1x256x512 .f32) (h6 : r6.IsWhole) (r7 : Memref sig .tc .vmem S1x256x512 .f32) (h7 : r7.IsWhole) (r8 : Memref sig .tc .vmem S1x256x512 .f32) (h8 : r8.IsWhole)
    (hc0 : cond0_0 i) (hc1 : ¬cond0_1 i) (x0 x1 : Vec Ideal S8x256x512 .bf16) (x2 x3 x4 : Vec Ideal S1x256x512 .f32) (y : S1x256x512.Idx) :
    out0_A_8 (F := Ideal) c i r0 h0 r1 h1 r2 h2 r3 h3 r4 h4 r5 h5 r6 h6 r7 h7 r8 h8 hc0 hc1 x0 x1 x2 x3 x4 y = second (total x0 y) (x4 y) := by
  unfold out0_A_8
  rw [View.read_writes_eq_canon _ _ _ (cover0_A_8 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x256x512) (funext fun a => by fin_cases a <;> rfl)]
  simp only [View.readAt_eq_ld, h0.read_unread, h1.read_unread, h2.read_unread, h3.read_unread, h4.read_unread]
  pointwise [k0_pay3, k0_pay5, k0_pay6, k0_pay9, total, first, second, change, Fin.sum_univ_eight]
  simp only [here y]

/-- At a point of the second layer the body stores the gradient. -/
theorem grad_B (c : Dev nD) (i : grid0.Coords) (r0 : Memref sig .tc .vmem S8x256x512 .bf16) (h0 : r0.IsWhole) (r1 : Memref sig .tc .vmem S8x256x512 .bf16) (h1 : r1.IsWhole) (r2 : Memref sig .tc .vmem S1x256x512 .f32) (h2 : r2.IsWhole) (r3 : Memref sig .tc .vmem S1x256x512 .f32) (h3 : r3.IsWhole) (r4 : Memref sig .tc .vmem S1x256x512 .f32) (h4 : r4.IsWhole) (r5 : Memref sig .tc .vmem S1x256x512 .f32) (h5 : r5.IsWhole) (r6 : Memref sig .tc .vmem S1x256x512 .f32) (h6 : r6.IsWhole) (r7 : Memref sig .tc .vmem S1x256x512 .f32) (h7 : r7.IsWhole) (r8 : Memref sig .tc .vmem S1x256x512 .f32) (h8 : r8.IsWhole)
    (hc0 : ¬cond0_0 i) (hc1 : cond0_1 i) (x0 x1 : Vec Ideal S8x256x512 .bf16) (x2 x3 x4 : Vec Ideal S1x256x512 .f32) (y : S1x256x512.Idx) :
    out0_B_5 (F := Ideal) c i r0 h0 r1 h1 r2 h2 r3 h3 r4 h4 r5 h5 r6 h6 r7 h7 r8 h8 hc0 hc1 x0 x1 x2 x3 x4 y = total x1 y := by
  unfold out0_B_5
  rw [View.read_writes_eq_canon _ _ _ (cover0_B_5 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x256x512) (funext fun a => by fin_cases a <;> rfl)]
  simp only [View.readAt_eq_ld, h0.read_unread, h1.read_unread, h2.read_unread, h3.read_unread, h4.read_unread]
  pointwise [k0_pay12, k0_pay16, total, first, second, change, Fin.sum_univ_eight]

/-- At a point of the second layer the body stores the weight's change. -/
theorem delta_B (c : Dev nD) (i : grid0.Coords) (r0 : Memref sig .tc .vmem S8x256x512 .bf16) (h0 : r0.IsWhole) (r1 : Memref sig .tc .vmem S8x256x512 .bf16) (h1 : r1.IsWhole) (r2 : Memref sig .tc .vmem S1x256x512 .f32) (h2 : r2.IsWhole) (r3 : Memref sig .tc .vmem S1x256x512 .f32) (h3 : r3.IsWhole) (r4 : Memref sig .tc .vmem S1x256x512 .f32) (h4 : r4.IsWhole) (r5 : Memref sig .tc .vmem S1x256x512 .f32) (h5 : r5.IsWhole) (r6 : Memref sig .tc .vmem S1x256x512 .f32) (h6 : r6.IsWhole) (r7 : Memref sig .tc .vmem S1x256x512 .f32) (h7 : r7.IsWhole) (r8 : Memref sig .tc .vmem S1x256x512 .f32) (h8 : r8.IsWhole)
    (hc0 : ¬cond0_0 i) (hc1 : cond0_1 i) (x0 x1 : Vec Ideal S8x256x512 .bf16) (x2 x3 x4 : Vec Ideal S1x256x512 .f32) (y : S1x256x512.Idx) :
    out0_B_6 (F := Ideal) c i r0 h0 r1 h1 r2 h2 r3 h3 r4 h4 r5 h5 r6 h6 r7 h7 r8 h8 hc0 hc1 x0 x1 x2 x3 x4 y = change (x2 y) (first (total x1 y) (x3 y)) (second (total x1 y) (x4 y)) := by
  unfold out0_B_6
  rw [View.read_writes_eq_canon _ _ _ (cover0_B_6 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x256x512) (funext fun a => by fin_cases a <;> rfl)]
  simp only [View.readAt_eq_ld, h0.read_unread, h1.read_unread, h2.read_unread, h3.read_unread, h4.read_unread]
  pointwise [k0_pay2, k0_pay12, k0_pay13, k0_pay14, k0_pay15, k0_pay19, k0_pay20, total, first, second, change, Fin.sum_univ_eight]
  simp only [named1, named2, mul_inv1, mul_inv2, here y]

/-- At a point of the second layer the body stores the new first moment. -/
theorem moment1_B (c : Dev nD) (i : grid0.Coords) (r0 : Memref sig .tc .vmem S8x256x512 .bf16) (h0 : r0.IsWhole) (r1 : Memref sig .tc .vmem S8x256x512 .bf16) (h1 : r1.IsWhole) (r2 : Memref sig .tc .vmem S1x256x512 .f32) (h2 : r2.IsWhole) (r3 : Memref sig .tc .vmem S1x256x512 .f32) (h3 : r3.IsWhole) (r4 : Memref sig .tc .vmem S1x256x512 .f32) (h4 : r4.IsWhole) (r5 : Memref sig .tc .vmem S1x256x512 .f32) (h5 : r5.IsWhole) (r6 : Memref sig .tc .vmem S1x256x512 .f32) (h6 : r6.IsWhole) (r7 : Memref sig .tc .vmem S1x256x512 .f32) (h7 : r7.IsWhole) (r8 : Memref sig .tc .vmem S1x256x512 .f32) (h8 : r8.IsWhole)
    (hc0 : ¬cond0_0 i) (hc1 : cond0_1 i) (x0 x1 : Vec Ideal S8x256x512 .bf16) (x2 x3 x4 : Vec Ideal S1x256x512 .f32) (y : S1x256x512.Idx) :
    out0_B_7 (F := Ideal) c i r0 h0 r1 h1 r2 h2 r3 h3 r4 h4 r5 h5 r6 h6 r7 h7 r8 h8 hc0 hc1 x0 x1 x2 x3 x4 y = first (total x1 y) (x3 y) := by
  unfold out0_B_7
  rw [View.read_writes_eq_canon _ _ _ (cover0_B_7 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x256x512) (funext fun a => by fin_cases a <;> rfl)]
  simp only [View.readAt_eq_ld, h0.read_unread, h1.read_unread, h2.read_unread, h3.read_unread, h4.read_unread]
  pointwise [k0_pay12, k0_pay13, k0_pay14, k0_pay15, k0_pay17, total, first, second, change, Fin.sum_univ_eight]
  simp only [here y]

/-- At a point of the second layer the body stores the new second moment. -/
theorem moment2_B (c : Dev nD) (i : grid0.Coords) (r0 : Memref sig .tc .vmem S8x256x512 .bf16) (h0 : r0.IsWhole) (r1 : Memref sig .tc .vmem S8x256x512 .bf16) (h1 : r1.IsWhole) (r2 : Memref sig .tc .vmem S1x256x512 .f32) (h2 : r2.IsWhole) (r3 : Memref sig .tc .vmem S1x256x512 .f32) (h3 : r3.IsWhole) (r4 : Memref sig .tc .vmem S1x256x512 .f32) (h4 : r4.IsWhole) (r5 : Memref sig .tc .vmem S1x256x512 .f32) (h5 : r5.IsWhole) (r6 : Memref sig .tc .vmem S1x256x512 .f32) (h6 : r6.IsWhole) (r7 : Memref sig .tc .vmem S1x256x512 .f32) (h7 : r7.IsWhole) (r8 : Memref sig .tc .vmem S1x256x512 .f32) (h8 : r8.IsWhole)
    (hc0 : ¬cond0_0 i) (hc1 : cond0_1 i) (x0 x1 : Vec Ideal S8x256x512 .bf16) (x2 x3 x4 : Vec Ideal S1x256x512 .f32) (y : S1x256x512.Idx) :
    out0_B_8 (F := Ideal) c i r0 h0 r1 h1 r2 h2 r3 h3 r4 h4 r5 h5 r6 h6 r7 h7 r8 h8 hc0 hc1 x0 x1 x2 x3 x4 y = second (total x1 y) (x4 y) := by
  unfold out0_B_8
  rw [View.read_writes_eq_canon _ _ _ (cover0_B_8 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x256x512) (funext fun a => by fin_cases a <;> rfl)]
  simp only [View.readAt_eq_ld, h0.read_unread, h1.read_unread, h2.read_unread, h3.read_unread, h4.read_unread]
  pointwise [k0_pay12, k0_pay14, k0_pay15, k0_pay18, total, first, second, change, Fin.sum_univ_eight]
  simp only [here y]

/-! ## What the arrays end at -/

/-- The parts' blocks move with the results' rows in their own layer; the other arrays' blocks are the results'. -/
theorem blocks_move : ∀ t : Fin cfg0.N, (t.val < 8 → win0_0.index t = ![0, win0_5.index t 1, 0] ∧ win0_5.index t 0 = 0)
    ∧ (¬t.val < 8 → win0_1.index t = ![0, win0_5.index t 1, 0] ∧ win0_5.index t 0 = 1) ∧ win0_5.index t 2 = 0 :=
  (by decide +kernel : ∀ t : Fin grid0.N, _)

/-- Where an index of a point's block stands in an array. -/
def place (t : Fin cfg0.N) (y : S1x256x512.Idx) : S2x2048x512.Idx := ((cfg0.win 5).blk t).view.emb y

/-- In the first layer a block's sum is the gradient. -/
theorem total_A (c : Dev nD) (t : Fin cfg0.N) (h : t.val < 8) (y : S1x256x512.Idx) :
    total (iblk m c 0 t) y = gradient (V m c main_arg0) (V m c main_arg1) (place t y) := by
  obtain ⟨e0, e1⟩ := (blocks_move t).1 h
  have e2 := (blocks_move t).2.2
  have hy : (y 0).val < 1 := (y 0).isLt
  have hl : (place t y 0).val = 0 := by
    show win0_5.index t 0 * 1 + 1 * (y 0).val = 0
    rw [e1]; omega
  unfold total gradient
  rw [if_pos (by rw [hl])]
  refine Finset.sum_congr rfl fun s _ => ?_
  show V m c main_arg0 (((cfg0.win 0).blk t).view.emb _) = V m c main_arg0 _
  refine congrArg _ (funext fun a => Fin.ext ?_)
  match a with
  | ⟨0, _⟩ =>
    show win0_0.index t 0 * 8 + 1 * s.val = s.val
    rw [e0]; show 0 * 8 + 1 * s.val = s.val; omega
  | ⟨1, _⟩ =>
    show win0_0.index t 1 * 256 + 1 * (y 1).val = win0_5.index t 1 * 256 + 1 * (y 1).val
    rw [e0]; rfl
  | ⟨2, _⟩ =>
    show win0_0.index t 2 * 512 + 1 * (y 2).val = win0_5.index t 2 * 512 + 1 * (y 2).val
    rw [e0, e2]; rfl

/-- In the second layer a block's sum is the gradient. -/
theorem total_B (c : Dev nD) (t : Fin cfg0.N) (h : ¬t.val < 8) (y : S1x256x512.Idx) :
    total (iblk m c 1 t) y = gradient (V m c main_arg0) (V m c main_arg1) (place t y) := by
  obtain ⟨e0, e1⟩ := (blocks_move t).2.1 h
  have e2 := (blocks_move t).2.2
  have hy : (y 0).val < 1 := (y 0).isLt
  have hl : (place t y 0).val = 1 := by
    show win0_5.index t 0 * 1 + 1 * (y 0).val = 1
    rw [e1]; omega
  unfold total gradient
  rw [if_neg (by rw [hl]; decide)]
  refine Finset.sum_congr rfl fun s _ => ?_
  show V m c main_arg1 (((cfg0.win 1).blk t).view.emb _) = V m c main_arg1 _
  refine congrArg _ (funext fun a => Fin.ext ?_)
  match a with
  | ⟨0, _⟩ =>
    show win0_1.index t 0 * 8 + 1 * s.val = s.val
    rw [e0]; show 0 * 8 + 1 * s.val = s.val; omega
  | ⟨1, _⟩ =>
    show win0_1.index t 1 * 256 + 1 * (y 1).val = win0_5.index t 1 * 256 + 1 * (y 1).val
    rw [e0]; rfl
  | ⟨2, _⟩ =>
    show win0_1.index t 2 * 512 + 1 * (y 2).val = win0_5.index t 2 * 512 + 1 * (y 2).val
    rw [e0, e2]; rfl

/-- What a point writes back is its block of the gradient. -/
theorem written5 (c : Dev nD) (t : Fin cfg0.N) : (dats (F := Ideal) m 0 c).flushed 5 t
    = ((cfg0.win 5).blk t).view.read (Elt Ideal) (gradient (V m c main_arg0) (V m c main_arg1)) := by
  have key : ∀ (b : S1x256x512.Idx → EReal) (p : S2x2048x512.Idx → EReal), (∀ y : S1x256x512.Idx, b y = p (((cfg0.win 5).blk t).view.emb y))
      → (cfg0.win 5).cut (grid0.coords t) b = ((cfg0.win 5).blk t).view.read (Elt Ideal) p :=
    fun b p hp => funext hp
  by_cases h : t.val < 8
  · rw [flushed5_A m c t h (by omega)]
    refine key _ _ fun y => ?_
    rw [grad_A]
    show total (iblk m c 0 t) y = gradient (V m c main_arg0) (V m c main_arg1) (place t y)
    rw [total_A m c t h y]
  · rw [flushed5_B m c t h (by omega)]
    refine key _ _ fun y => ?_
    rw [grad_B]
    show total (iblk m c 1 t) y = gradient (V m c main_arg0) (V m c main_arg1) (place t y)
    rw [total_B m c t h y]

theorem blocks_onto5 : ∀ (q0 : Fin 2) (q1 : Fin 8), ∃ t : Fin cfg0.N, (cfg0.win 5).flush t = true ∧ win0_5.index t = ![q0.val, q1.val, 0] :=
  (by decide +kernel : ∀ (q0 : Fin 2) (q1 : Fin 8), ∃ t : Fin grid0.N, win0_5.flush t = true ∧ win0_5.index t = ![q0.val, q1.val, 0])

theorem mem_block5 (t : Fin cfg0.N) (i : S2x2048x512.Idx) : i ∈ ((cfg0.win 5).blk t).view.set
    ↔ ∀ a : Fin 3, win0_5.index t a * S1x256x512.size a ≤ (i a).val ∧ (i a).val < win0_5.index t a * S1x256x512.size a + S1x256x512.size a := by
  show i ∈ ((View.whole main_v0_0).slice (win0_5.rect t)).set ↔ _
  rw [View.set_slice_whole, Rect.mem_set_unit]
  exact Iff.rfl

/-- After the run the array holds the gradient. -/
theorem final5 (c : Dev nD) : (dats (F := Ideal) m 0 c).arrAt 5 cfg0.N = gradient (V m c main_arg0) (V m c main_arg1) :=
  (dats m 0 c).arrAt_eq_of_cover 5 _ (fun t _ => written5 m c t) (fun i => by
    have h0 : (i 0).val < 2 := (i 0).isLt
    have h1 : (i 1).val < 2048 := (i 1).isLt
    have h2 : (i 2).val < 512 := (i 2).isLt
    obtain ⟨t, hf, ht⟩ := blocks_onto5 ⟨(i 0).val, by omega⟩ ⟨(i 1).val / 256, by omega⟩
    have q0 : win0_5.index t (0 : Fin 3) = (i 0).val := congrFun ht 0
    have q1 : win0_5.index t (1 : Fin 3) = (i 1).val / 256 := congrFun ht 1
    have q2 : win0_5.index t (2 : Fin 3) = 0 := congrFun ht 2
    refine ⟨t, hf, ?_⟩
    rw [mem_block5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 256 ≤ (i 1).val ∧ (i 1).val < win0_5.index t (1 : Fin 3) * 256 + 256; omega
    | ⟨2, _⟩ => show win0_5.index t (2 : Fin 3) * 512 ≤ (i 2).val ∧ (i 2).val < win0_5.index t (2 : Fin 3) * 512 + 512; omega)

/-- What a point writes back is its block of the weight's change. -/
theorem written6 (c : Dev nD) (t : Fin cfg0.N) : (dats (F := Ideal) m 0 c).flushed 6 t
    = ((cfg0.win 6).blk t).view.read (Elt Ideal) (delta (V m c main_arg0) (V m c main_arg1) (V m c main_arg2) (V m c main_arg3) (V m c main_arg4)) := by
  have key : ∀ (b : S1x256x512.Idx → EReal) (p : S2x2048x512.Idx → EReal), (∀ y : S1x256x512.Idx, b y = p (((cfg0.win 6).blk t).view.emb y))
      → (cfg0.win 6).cut (grid0.coords t) b = ((cfg0.win 6).blk t).view.read (Elt Ideal) p :=
    fun b p hp => funext hp
  by_cases h : t.val < 8
  · rw [flushed6_A m c t h (by omega)]
    refine key _ _ fun y => ?_
    rw [delta_A]
    show change (V m c main_arg2 (place t y)) (first (total (iblk m c 0 t) y) (V m c main_arg3 (place t y))) (second (total (iblk m c 0 t) y) (V m c main_arg4 (place t y))) = delta (V m c main_arg0) (V m c main_arg1) (V m c main_arg2) (V m c main_arg3) (V m c main_arg4) (place t y)
    rw [total_A m c t h y]; rfl
  · rw [flushed6_B m c t h (by omega)]
    refine key _ _ fun y => ?_
    rw [delta_B]
    show change (V m c main_arg2 (place t y)) (first (total (iblk m c 1 t) y) (V m c main_arg3 (place t y))) (second (total (iblk m c 1 t) y) (V m c main_arg4 (place t y))) = delta (V m c main_arg0) (V m c main_arg1) (V m c main_arg2) (V m c main_arg3) (V m c main_arg4) (place t y)
    rw [total_B m c t h y]; rfl

theorem blocks_onto6 : ∀ (q0 : Fin 2) (q1 : Fin 8), ∃ t : Fin cfg0.N, (cfg0.win 6).flush t = true ∧ win0_6.index t = ![q0.val, q1.val, 0] :=
  (by decide +kernel : ∀ (q0 : Fin 2) (q1 : Fin 8), ∃ t : Fin grid0.N, win0_6.flush t = true ∧ win0_6.index t = ![q0.val, q1.val, 0])

theorem mem_block6 (t : Fin cfg0.N) (i : S2x2048x512.Idx) : i ∈ ((cfg0.win 6).blk t).view.set
    ↔ ∀ a : Fin 3, win0_6.index t a * S1x256x512.size a ≤ (i a).val ∧ (i a).val < win0_6.index t a * S1x256x512.size a + S1x256x512.size a := by
  show i ∈ ((View.whole main_v0_1).slice (win0_6.rect t)).set ↔ _
  rw [View.set_slice_whole, Rect.mem_set_unit]
  exact Iff.rfl

/-- After the run the array holds the weight's change. -/
theorem final6 (c : Dev nD) : (dats (F := Ideal) m 0 c).arrAt 6 cfg0.N = delta (V m c main_arg0) (V m c main_arg1) (V m c main_arg2) (V m c main_arg3) (V m c main_arg4) :=
  (dats m 0 c).arrAt_eq_of_cover 6 _ (fun t _ => written6 m c t) (fun i => by
    have h0 : (i 0).val < 2 := (i 0).isLt
    have h1 : (i 1).val < 2048 := (i 1).isLt
    have h2 : (i 2).val < 512 := (i 2).isLt
    obtain ⟨t, hf, ht⟩ := blocks_onto6 ⟨(i 0).val, by omega⟩ ⟨(i 1).val / 256, by omega⟩
    have q0 : win0_6.index t (0 : Fin 3) = (i 0).val := congrFun ht 0
    have q1 : win0_6.index t (1 : Fin 3) = (i 1).val / 256 := congrFun ht 1
    have q2 : win0_6.index t (2 : Fin 3) = 0 := congrFun ht 2
    refine ⟨t, hf, ?_⟩
    rw [mem_block6]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 256 ≤ (i 1).val ∧ (i 1).val < win0_6.index t (1 : Fin 3) * 256 + 256; omega
    | ⟨2, _⟩ => show win0_6.index t (2 : Fin 3) * 512 ≤ (i 2).val ∧ (i 2).val < win0_6.index t (2 : Fin 3) * 512 + 512; omega)

/-- What a point writes back is its block of the new first moment. -/
theorem written7 (c : Dev nD) (t : Fin cfg0.N) : (dats (F := Ideal) m 0 c).flushed 7 t
    = ((cfg0.win 7).blk t).view.read (Elt Ideal) (moment1 (V m c main_arg0) (V m c main_arg1) (V m c main_arg3)) := by
  have key : ∀ (b : S1x256x512.Idx → EReal) (p : S2x2048x512.Idx → EReal), (∀ y : S1x256x512.Idx, b y = p (((cfg0.win 7).blk t).view.emb y))
      → (cfg0.win 7).cut (grid0.coords t) b = ((cfg0.win 7).blk t).view.read (Elt Ideal) p :=
    fun b p hp => funext hp
  by_cases h : t.val < 8
  · rw [flushed7_A m c t h (by omega)]
    refine key _ _ fun y => ?_
    rw [moment1_A]
    show first (total (iblk m c 0 t) y) (V m c main_arg3 (place t y)) = moment1 (V m c main_arg0) (V m c main_arg1) (V m c main_arg3) (place t y)
    rw [total_A m c t h y]; rfl
  · rw [flushed7_B m c t h (by omega)]
    refine key _ _ fun y => ?_
    rw [moment1_B]
    show first (total (iblk m c 1 t) y) (V m c main_arg3 (place t y)) = moment1 (V m c main_arg0) (V m c main_arg1) (V m c main_arg3) (place t y)
    rw [total_B m c t h y]; rfl

theorem blocks_onto7 : ∀ (q0 : Fin 2) (q1 : Fin 8), ∃ t : Fin cfg0.N, (cfg0.win 7).flush t = true ∧ win0_7.index t = ![q0.val, q1.val, 0] :=
  (by decide +kernel : ∀ (q0 : Fin 2) (q1 : Fin 8), ∃ t : Fin grid0.N, win0_7.flush t = true ∧ win0_7.index t = ![q0.val, q1.val, 0])

theorem mem_block7 (t : Fin cfg0.N) (i : S2x2048x512.Idx) : i ∈ ((cfg0.win 7).blk t).view.set
    ↔ ∀ a : Fin 3, win0_7.index t a * S1x256x512.size a ≤ (i a).val ∧ (i a).val < win0_7.index t a * S1x256x512.size a + S1x256x512.size a := by
  show i ∈ ((View.whole main_v0_2).slice (win0_7.rect t)).set ↔ _
  rw [View.set_slice_whole, Rect.mem_set_unit]
  exact Iff.rfl

/-- After the run the array holds the new first moment. -/
theorem final7 (c : Dev nD) : (dats (F := Ideal) m 0 c).arrAt 7 cfg0.N = moment1 (V m c main_arg0) (V m c main_arg1) (V m c main_arg3) :=
  (dats m 0 c).arrAt_eq_of_cover 7 _ (fun t _ => written7 m c t) (fun i => by
    have h0 : (i 0).val < 2 := (i 0).isLt
    have h1 : (i 1).val < 2048 := (i 1).isLt
    have h2 : (i 2).val < 512 := (i 2).isLt
    obtain ⟨t, hf, ht⟩ := blocks_onto7 ⟨(i 0).val, by omega⟩ ⟨(i 1).val / 256, by omega⟩
    have q0 : win0_7.index t (0 : Fin 3) = (i 0).val := congrFun ht 0
    have q1 : win0_7.index t (1 : Fin 3) = (i 1).val / 256 := congrFun ht 1
    have q2 : win0_7.index t (2 : Fin 3) = 0 := congrFun ht 2
    refine ⟨t, hf, ?_⟩
    rw [mem_block7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 256 ≤ (i 1).val ∧ (i 1).val < win0_7.index t (1 : Fin 3) * 256 + 256; omega
    | ⟨2, _⟩ => show win0_7.index t (2 : Fin 3) * 512 ≤ (i 2).val ∧ (i 2).val < win0_7.index t (2 : Fin 3) * 512 + 512; omega)

/-- What a point writes back is its block of the new second moment. -/
theorem written8 (c : Dev nD) (t : Fin cfg0.N) : (dats (F := Ideal) m 0 c).flushed 8 t
    = ((cfg0.win 8).blk t).view.read (Elt Ideal) (moment2 (V m c main_arg0) (V m c main_arg1) (V m c main_arg4)) := by
  have key : ∀ (b : S1x256x512.Idx → EReal) (p : S2x2048x512.Idx → EReal), (∀ y : S1x256x512.Idx, b y = p (((cfg0.win 8).blk t).view.emb y))
      → (cfg0.win 8).cut (grid0.coords t) b = ((cfg0.win 8).blk t).view.read (Elt Ideal) p :=
    fun b p hp => funext hp
  by_cases h : t.val < 8
  · rw [flushed8_A m c t h (by omega)]
    refine key _ _ fun y => ?_
    rw [moment2_A]
    show second (total (iblk m c 0 t) y) (V m c main_arg4 (place t y)) = moment2 (V m c main_arg0) (V m c main_arg1) (V m c main_arg4) (place t y)
    rw [total_A m c t h y]; rfl
  · rw [flushed8_B m c t h (by omega)]
    refine key _ _ fun y => ?_
    rw [moment2_B]
    show second (total (iblk m c 1 t) y) (V m c main_arg4 (place t y)) = moment2 (V m c main_arg0) (V m c main_arg1) (V m c main_arg4) (place t y)
    rw [total_B m c t h y]; rfl

theorem blocks_onto8 : ∀ (q0 : Fin 2) (q1 : Fin 8), ∃ t : Fin cfg0.N, (cfg0.win 8).flush t = true ∧ win0_8.index t = ![q0.val, q1.val, 0] :=
  (by decide +kernel : ∀ (q0 : Fin 2) (q1 : Fin 8), ∃ t : Fin grid0.N, win0_8.flush t = true ∧ win0_8.index t = ![q0.val, q1.val, 0])

theorem mem_block8 (t : Fin cfg0.N) (i : S2x2048x512.Idx) : i ∈ ((cfg0.win 8).blk t).view.set
    ↔ ∀ a : Fin 3, win0_8.index t a * S1x256x512.size a ≤ (i a).val ∧ (i a).val < win0_8.index t a * S1x256x512.size a + S1x256x512.size a := by
  show i ∈ ((View.whole main_v0_3).slice (win0_8.rect t)).set ↔ _
  rw [View.set_slice_whole, Rect.mem_set_unit]
  exact Iff.rfl

/-- After the run the array holds the new second moment. -/
theorem final8 (c : Dev nD) : (dats (F := Ideal) m 0 c).arrAt 8 cfg0.N = moment2 (V m c main_arg0) (V m c main_arg1) (V m c main_arg4) :=
  (dats m 0 c).arrAt_eq_of_cover 8 _ (fun t _ => written8 m c t) (fun i => by
    have h0 : (i 0).val < 2 := (i 0).isLt
    have h1 : (i 1).val < 2048 := (i 1).isLt
    have h2 : (i 2).val < 512 := (i 2).isLt
    obtain ⟨t, hf, ht⟩ := blocks_onto8 ⟨(i 0).val, by omega⟩ ⟨(i 1).val / 256, by omega⟩
    have q0 : win0_8.index t (0 : Fin 3) = (i 0).val := congrFun ht 0
    have q1 : win0_8.index t (1 : Fin 3) = (i 1).val / 256 := congrFun ht 1
    have q2 : win0_8.index t (2 : Fin 3) = 0 := congrFun ht 2
    refine ⟨t, hf, ?_⟩
    rw [mem_block8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 256 ≤ (i 1).val ∧ (i 1).val < win0_8.index t (1 : Fin 3) * 256 + 256; omega
    | ⟨2, _⟩ => show win0_8.index t (2 : Fin 3) * 512 ≤ (i 2).val ∧ (i 2).val < win0_8.index t (2 : Fin 3) * 512 + 512; omega)

/-! ## The reference -/

/-- The reference's first result is the gradient. -/
theorem reference_grad (p0 p1 : FVec Ideal S8x2048x512 .bf16) (h : FTy.bits .bf16 < FTy.bits .f32) (hb : Cert.AdamLruInRefIdeal.S2048x512.BroadcastsInDim Cert.AdamLruInRefIdeal.S1x2048x512 ![1, 2])
    (hr : Shape.ReducesTo S8x2048x512 [0] Cert.AdamLruInRefIdeal.S2048x512) (hs : 0 < Cert.AdamLruInRefIdeal.S_.numel) (hc : Shape.Concatenates [Cert.AdamLruInRefIdeal.S1x2048x512, Cert.AdamLruInRefIdeal.S1x2048x512] S2x2048x512 0) :
    concatenate S2x2048x512 0 [⟨Cert.AdamLruInRefIdeal.S1x2048x512, broadcastInDim Cert.AdamLruInRefIdeal.S1x2048x512 ![1, 2] hb (Host.reduceAdd (extf .f32 p0 h) (constant Cert.AdamLruInRefIdeal.S_ .f32 0x00000000#32) hr hs)⟩,
      ⟨Cert.AdamLruInRefIdeal.S1x2048x512, broadcastInDim Cert.AdamLruInRefIdeal.S1x2048x512 ![1, 2] hb (Host.reduceAdd (extf .f32 p1 h) (constant Cert.AdamLruInRefIdeal.S_ .f32 0x00000000#32) hr hs)⟩] hc = gradient p0 p1 := by
  funext i
  unfold gradient
  pointwise
  simp only [Nat.lt_one_iff, dite_eq_ite]

/-- Kernel and reference end at the same arrays. -/
theorem algebraic : Cert.algebraic_AdamLruInIdeal_AdamLruInRefIdeal := by
  intro m ρ m' ρ' _ hagree
  refine ⟨fun c => gradient (m ((c : Thread nD τ).loc main_arg0)) (m ((c : Thread nD τ).loc main_arg1)),
    fun c => delta (m ((c : Thread nD τ).loc main_arg0)) (m ((c : Thread nD τ).loc main_arg1)) (m ((c : Thread nD τ).loc main_arg2)) (m ((c : Thread nD τ).loc main_arg3)) (m ((c : Thread nD τ).loc main_arg4)),
    fun c => moment1 (m ((c : Thread nD τ).loc main_arg0)) (m ((c : Thread nD τ).loc main_arg1)) (m ((c : Thread nD τ).loc main_arg3)),
    fun c => moment2 (m ((c : Thread nD τ).loc main_arg0)) (m ((c : Thread nD τ).loc main_arg1)) (m ((c : Thread nD τ).loc main_arg4)), ?_, ?_⟩
  · exact (θ_run Cert.AdamLruInIdeal.defs _ _).mono (fun r h c => ⟨(h c).1.trans (final5 m c), (h c).2.1.trans (final6 m c), (h c).2.2.1.trans (final7 m c),
      (h c).2.2.2.1.trans (final8 m c), (h c).2.2.2.2⟩) (run_blocks (F := Ideal) m ρ)
  · refine (θ_run Cert.AdamLruInRefIdeal.defs _ _).mono (fun r h c => ⟨(h c).1.trans ?_, (h c).2.1.trans ?_, (h c).2.2.1.trans ?_, (h c).2.2.2.1.trans ?_, (h c).2.2.2.2⟩)
      (Cert.AdamLruInRefIdeal.Value.run (F := Ideal) m' ρ')
    all_goals rw [(hagree c).1, (hagree c).2.1]
    · exact reference_grad _ _ _ _ _ _ _
    · rw [(hagree c).2.2.1, (hagree c).2.2.2.1, (hagree c).2.2.2.2, reference_grad]
      rfl
    · rw [(hagree c).2.2.2.1, reference_grad]
      rfl
    · rw [(hagree c).2.2.2.2, reference_grad]
      rfl

/-- The two constants that were given a name. -/
theorem preserves : Cert.preserves_AdamLruIn_AdamLruInIdeal :=
  ⟨IdealRules.named_const.statement Cert.AdamLruInIdeal.κ "c1" .f32 0x3FC48605#32 (((5463681 / 8388608)⁻¹ : ℝ) : EReal) rfl,
    IdealRules.named_const.statement Cert.AdamLruInIdeal.κ "c2" .f32 0x42C8E6D3#32 (((2672307 / 268435456)⁻¹ : ℝ) : EReal) rfl⟩

/-- The reference runs and leaves its arguments as they were. -/
theorem reference_frame : Cert.quiescent_AdamLruInRefIdeal := fun m ρ _ =>
  (θ_run Cert.AdamLruInRefIdeal.defs _ _).mono (fun r h => ⟨fun c => (h c).2.2.2.2, sem_eq_zero_of_no_sems (by decide) r.2⟩)
    (Cert.AdamLruInRefIdeal.Value.run (F := Ideal) m ρ)

end Cert.Optimiser.AdamLruIn

end
-- ==== Proof.Optimiser.AdamGate.lean ====
/- The optimiser's step for the recurrent layers' gate weights: what the kernel's blocks hold, what its arrays end at, what the reference computes, and the
   equation. -/
module

public import proofs.«01_k».proof.Defs
public import proofs.«01_k».proof.Proof.Gen.AdamGateIdeal.Value
public import proofs.«01_k».proof.Proof.Gen.AdamGateRefIdeal.Run
public import proofs.«01_k».proof.Proof.Optimiser.Step
public import Idealize.ShloMosaic.Lib.Pointwise

@[expose] public section

noncomputable section

namespace Cert.Optimiser.AdamGate

open Cert.AdamGateIdeal Cert.AdamGateIdeal.Gen Cert.AdamGateIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The function -/

/-- A layer's gradient: the sum of the eight devices' parts. -/
def gradient (p0 p1 : S8x256x256.Idx → EReal) : S2x256x256.Idx → EReal := fun i =>
  if (i 0).val = 0 then ∑ s : Fin 8, p0 (ix3 s (i 1) (i 2)) else ∑ s : Fin 8, p1 (ix3 s (i 1) (i 2))

/-- The new first moment. -/
def moment1 (p0 p1 : S8x256x256.Idx → EReal) (u : S2x256x256.Idx → EReal) : S2x256x256.Idx → EReal := fun i => first (gradient p0 p1 i) (u i)

/-- The new second moment. -/
def moment2 (p0 p1 : S8x256x256.Idx → EReal) (v : S2x256x256.Idx → EReal) : S2x256x256.Idx → EReal := fun i => second (gradient p0 p1 i) (v i)

/-- The weight's change. -/
def delta (p0 p1 : S8x256x256.Idx → EReal) (w u v : S2x256x256.Idx → EReal) : S2x256x256.Idx → EReal := fun i =>
  change (w i) (moment1 p0 p1 u i) (moment2 p0 p1 v i)

/-! ## What one point computes -/

/-- The sum of a block's eight parts. -/
def total (x : S8x256x256.Idx → EReal) (y : S1x256x256.Idx) : EReal := ∑ s : Fin 8, x (ix3 s (y 1) (y 2))

/-- The index of a block is its row and its column. -/
theorem here (y : S1x256x256.Idx) : (ix3 0 (y 1) (y 2) : S1x256x256.Idx) = y := by
  funext a
  match a with
  | ⟨0, _⟩ => exact (Fin.ext (by have : (y 0).val < 1 := (y 0).isLt; show 0 = (y 0).val; omega))
  | ⟨1, _⟩ => rfl
  | ⟨2, _⟩ => rfl

theorem named1 : (Named.named (F := Ideal) κ "c1" 0x3FC48605#32 : Ideal .f32) = (((5463681 / 8388608)⁻¹ : ℝ) : EReal) :=
  IdealRules.named_const.ideal_named_scalar κ "c1" _ _ rfl

theorem named2 : (Named.named (F := Ideal) κ "c2" 0x42C8E6D3#32 : Ideal .f32) = (((2672307 / 268435456)⁻¹ : ℝ) : EReal) :=
  IdealRules.named_const.ideal_named_scalar κ "c2" _ _ rfl

/-- At a point of the first layer the body stores the gradient. -/
theorem grad_A (c : Dev nD) (i : grid0.Coords) (r0 : Memref sig .tc .vmem S8x256x256 .f32) (h0 : r0.IsWhole) (r1 : Memref sig .tc .vmem S8x256x256 .f32) (h1 : r1.IsWhole) (r2 : Memref sig .tc .vmem S1x256x256 .f32) (h2 : r2.IsWhole) (r3 : Memref sig .tc .vmem S1x256x256 .f32) (h3 : r3.IsWhole) (r4 : Memref sig .tc .vmem S1x256x256 .f32) (h4 : r4.IsWhole) (r5 : Memref sig .tc .vmem S1x256x256 .f32) (h5 : r5.IsWhole) (r6 : Memref sig .tc .vmem S1x256x256 .f32) (h6 : r6.IsWhole) (r7 : Memref sig .tc .vmem S1x256x256 .f32) (h7 : r7.IsWhole) (r8 : Memref sig .tc .vmem S1x256x256 .f32) (h8 : r8.IsWhole)
    (hc0 : cond0_0 i) (hc1 : ¬cond0_1 i) (x0 x1 : Vec Ideal S8x256x256 .f32) (x2 x3 x4 : Vec Ideal S1x256x256 .f32) (y : S1x256x256.Idx) :
    out0_A_5 (F := Ideal) c i r0 h0 r1 h1 r2 h2 r3 h3 r4 h4 r5 h5 r6 h6 r7 h7 r8 h8 hc0 hc1 x0 x1 x2 x3 x4 y = total x0 y := by
  unfold out0_A_5
  rw [View.read_writes_eq_canon _ _ _ (cover0_A_5 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x256x256) (funext fun a => by fin_cases a <;> rfl)]
  simp only [View.readAt_eq_ld, h0.read_unread, h1.read_unread, h2.read_unread, h3.read_unread, h4.read_unread]
  pointwise [k0_pay1, k0_pay2, k0_pay3, k0_pay4, k0_pay5, k0_pay6, k0_pay7, k0_pay8, k0_pay9, k0_pay10, k0_pay11, k0_pay12, k0_pay13, k0_pay14, k0_pay15, k0_pay16, total, first, second, change, Fin.sum_univ_eight]

/-- At a point of the first layer the body stores the weight's change. -/
theorem delta_A (c : Dev nD) (i : grid0.Coords) (r0 : Memref sig .tc .vmem S8x256x256 .f32) (h0 : r0.IsWhole) (r1 : Memref sig .tc .vmem S8x256x256 .f32) (h1 : r1.IsWhole) (r2 : Memref sig .tc .vmem S1x256x256 .f32) (h2 : r2.IsWhole) (r3 : Memref sig .tc .vmem S1x256x256 .f32) (h3 : r3.IsWhole) (r4 : Memref sig .tc .vmem S1x256x256 .f32) (h4 : r4.IsWhole) (r5 : Memref sig .tc .vmem S1x256x256 .f32) (h5 : r5.IsWhole) (r6 : Memref sig .tc .vmem S1x256x256 .f32) (h6 : r6.IsWhole) (r7 : Memref sig .tc .vmem S1x256x256 .f32) (h7 : r7.IsWhole) (r8 : Memref sig .tc .vmem S1x256x256 .f32) (h8 : r8.IsWhole)
    (hc0 : cond0_0 i) (hc1 : ¬cond0_1 i) (x0 x1 : Vec Ideal S8x256x256 .f32) (x2 x3 x4 : Vec Ideal S1x256x256 .f32) (y : S1x256x256.Idx) :
    out0_A_6 (F := Ideal) c i r0 h0 r1 h1 r2 h2 r3 h3 r4 h4 r5 h5 r6 h6 r7 h7 r8 h8 hc0 hc1 x0 x1 x2 x3 x4 y = change (x2 y) (first (total x0 y) (x3 y)) (second (total x0 y) (x4 y)) := by
  unfold out0_A_6
  rw [View.read_writes_eq_canon _ _ _ (cover0_A_6 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x256x256) (funext fun a => by fin_cases a <;> rfl)]
  simp only [View.readAt_eq_ld, h0.read_unread, h1.read_unread, h2.read_unread, h3.read_unread, h4.read_unread]
  pointwise [k0_pay1, k0_pay2, k0_pay3, k0_pay4, k0_pay5, k0_pay6, k0_pay7, k0_pay8, k0_pay9, k0_pay10, k0_pay11, k0_pay12, k0_pay13, k0_pay14, k0_pay15, k0_pay16, total, first, second, change, Fin.sum_univ_eight]
  simp only [named1, named2, mul_inv1, mul_inv2, here y]

/-- At a point of the first layer the body stores the new first moment. -/
theorem moment1_A (c : Dev nD) (i : grid0.Coords) (r0 : Memref sig .tc .vmem S8x256x256 .f32) (h0 : r0.IsWhole) (r1 : Memref sig .tc .vmem S8x256x256 .f32) (h1 : r1.IsWhole) (r2 : Memref sig .tc .vmem S1x256x256 .f32) (h2 : r2.IsWhole) (r3 : Memref sig .tc .vmem S1x256x256 .f32) (h3 : r3.IsWhole) (r4 : Memref sig .tc .vmem S1x256x256 .f32) (h4 : r4.IsWhole) (r5 : Memref sig .tc .vmem S1x256x256 .f32) (h5 : r5.IsWhole) (r6 : Memref sig .tc .vmem S1x256x256 .f32) (h6 : r6.IsWhole) (r7 : Memref sig .tc .vmem S1x256x256 .f32) (h7 : r7.IsWhole) (r8 : Memref sig .tc .vmem S1x256x256 .f32) (h8 : r8.IsWhole)
    (hc0 : cond0_0 i) (hc1 : ¬cond0_1 i) (x0 x1 : Vec Ideal S8x256x256 .f32) (x2 x3 x4 : Vec Ideal S1x256x256 .f32) (y : S1x256x256.Idx) :
    out0_A_7 (F := Ideal) c i r0 h0 r1 h1 r2 h2 r3 h3 r4 h4 r5 h5 r6 h6 r7 h7 r8 h8 hc0 hc1 x0 x1 x2 x3 x4 y = first (total x0 y) (x3 y) := by
  unfold out0_A_7
  rw [View.read_writes_eq_canon _ _ _ (cover0_A_7 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x256x256) (funext fun a => by fin_cases a <;> rfl)]
  simp only [View.readAt_eq_ld, h0.read_unread, h1.read_unread, h2.read_unread, h3.read_unread, h4.read_unread]
  pointwise [k0_pay1, k0_pay2, k0_pay3, k0_pay4, k0_pay5, k0_pay6, k0_pay7, k0_pay8, k0_pay9, k0_pay10, k0_pay11, k0_pay12, k0_pay13, k0_pay14, k0_pay15, k0_pay16, total, first, second, change, Fin.sum_univ_eight]
  simp only [here y]

/-- At a point of the first layer the body stores the new second moment. -/
theorem moment2_A (c : Dev nD) (i : grid0.Coords) (r0 : Memref sig .tc .vmem S8x256x256 .f32) (h0 : r0.IsWhole) (r1 : Memref sig .tc .vmem S8x256x256 .f32) (h1 : r1.IsWhole) (r2 : Memref sig .tc .vmem S1x256x256 .f32) (h2 : r2.IsWhole) (r3 : Memref sig .tc .vmem S1x256x256 .f32) (h3 : r3.IsWhole) (r4 : Memref sig .tc .vmem S1x256x256 .f32) (h4 : r4.IsWhole) (r5 : Memref sig .tc .vmem S1x256x256 .f32) (h5 : r5.IsWhole) (r6 : Memref sig .tc .vmem S1x256x256 .f32) (h6 : r6.IsWhole) (r7 : Memref sig .tc .vmem S1x256x256 .f32) (h7 : r7.IsWhole) (r8 : Memref sig .tc .vmem S1x256x256 .f32) (h8 : r8.IsWhole)
    (hc0 : cond0_0 i) (hc1 : ¬cond0_1 i) (x0 x1 : Vec Ideal S8x256x256 .f32) (x2 x3 x4 : Vec Ideal S1x256x256 .f32) (y : S1x256x256.Idx) :
    out0_A_8 (F := Ideal) c i r0 h0 r1 h1 r2 h2 r3 h3 r4 h4 r5 h5 r6 h6 r7 h7 r8 h8 hc0 hc1 x0 x1 x2 x3 x4 y = second (total x0 y) (x4 y) := by
  unfold out0_A_8
  rw [View.read_writes_eq_canon _ _ _ (cover0_A_8 c i r0 h0 r1 h1 r2 h2 r3 h3 r4 h4 r5 h5 r6 h6 r7 h7 r8 h8 hc0 hc1 x0 x1 x2 x3 x4)]
  unfold kernelRun0_A
  dsimp only
  sl_unfold_words
  rw [View.canon_unit_zero (S := S1x256x256) (funext fun a => by fin_cases a <;> rfl)]
  simp only [View.readAt_eq_ld, h0.read_unread, h1.read_unread, h2.read_unread, h3.read_unread, h4.read_unread]
  pointwise [k0_pay1, k0_pay2, k0_pay3, k0_pay4, k0_pay5, k0_pay6, k0_pay7, k0_pay8, k0_pay9, k0_pay10, k0_pay11, k0_pay12, k0_pay13, k0_pay14, k0_pay15, k0_pay16, total, first, second, change, Fin.sum_univ_eight]
  simp only [here y]

/-- At a point of the second layer the body stores the gradient. -/
theorem grad_B (c : Dev nD) (i : grid0.Coords) (r0 : Memref sig .tc .vmem S8x256x256 .f32) (h0 : r0.IsWhole) (r1 : Memref sig .tc .vmem S8x256x256 .f32) (h1 : r1.IsWhole) (r2 : Memref sig .tc .vmem S1x256x256 .f32) (h2 : r2.IsWhole) (r3 : Memref sig .tc .vmem S1x256x256 .f32) (h3 : r3.IsWhole) (r4 : Memref sig .tc .vmem S1x256x256 .f32) (h4 : r4.IsWhole) (r5 : Memref sig .tc .vmem S1x256x256 .f32) (h5 : r5.IsWhole) (r6 : Memref sig .tc .vmem S1x256x256 .f32) (h6 : r6.IsWhole) (r7 : Memref sig .tc .vmem S1x256x256 .f32) (h7 : r7.IsWhole) (r8 : Memref sig .tc .vmem S1x256x256 .f32) (h8 : r8.IsWhole)
    (hc0 : ¬cond0_0 i) (hc1 : cond0_1 i) (x0 x1 : Vec Ideal S8x256x256 .f32) (x2 x3 x4 : Vec Ideal S1x256x256 .f32) (y : S1x256x256.Idx) :
    out0_B_5 (F := Ideal) c i r0 h0 r1 h1 r2 h2 r3 h3 r4 h4 r5 h5 r6 h6 r7 h7 r8 h8 hc0 hc1 x0 x1 x2 x3 x4 y = total x1 y := by
  unfold out0_B_5
  rw [View.read_writes_eq_canon _ _ _ (cover0_B_5 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x256x256) (funext fun a => by fin_cases a <;> rfl)]
  simp only [View.readAt_eq_ld, h0.read_unread, h1.read_unread, h2.read_unread, h3.read_unread, h4.read_unread]
  pointwise [k0_pay1, k0_pay2, k0_pay3, k0_pay4, k0_pay5, k0_pay6, k0_pay7, k0_pay8, k0_pay9, k0_pay10, k0_pay11, k0_pay12, k0_pay13, k0_pay14, k0_pay15, k0_pay16, total, first, second, change, Fin.sum_univ_eight]

/-- At a point of the second layer the body stores the weight's change. -/
theorem delta_B (c : Dev nD) (i : grid0.Coords) (r0 : Memref sig .tc .vmem S8x256x256 .f32) (h0 : r0.IsWhole) (r1 : Memref sig .tc .vmem S8x256x256 .f32) (h1 : r1.IsWhole) (r2 : Memref sig .tc .vmem S1x256x256 .f32) (h2 : r2.IsWhole) (r3 : Memref sig .tc .vmem S1x256x256 .f32) (h3 : r3.IsWhole) (r4 : Memref sig .tc .vmem S1x256x256 .f32) (h4 : r4.IsWhole) (r5 : Memref sig .tc .vmem S1x256x256 .f32) (h5 : r5.IsWhole) (r6 : Memref sig .tc .vmem S1x256x256 .f32) (h6 : r6.IsWhole) (r7 : Memref sig .tc .vmem S1x256x256 .f32) (h7 : r7.IsWhole) (r8 : Memref sig .tc .vmem S1x256x256 .f32) (h8 : r8.IsWhole)
    (hc0 : ¬cond0_0 i) (hc1 : cond0_1 i) (x0 x1 : Vec Ideal S8x256x256 .f32) (x2 x3 x4 : Vec Ideal S1x256x256 .f32) (y : S1x256x256.Idx) :
    out0_B_6 (F := Ideal) c i r0 h0 r1 h1 r2 h2 r3 h3 r4 h4 r5 h5 r6 h6 r7 h7 r8 h8 hc0 hc1 x0 x1 x2 x3 x4 y = change (x2 y) (first (total x1 y) (x3 y)) (second (total x1 y) (x4 y)) := by
  unfold out0_B_6
  rw [View.read_writes_eq_canon _ _ _ (cover0_B_6 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x256x256) (funext fun a => by fin_cases a <;> rfl)]
  simp only [View.readAt_eq_ld, h0.read_unread, h1.read_unread, h2.read_unread, h3.read_unread, h4.read_unread]
  pointwise [k0_pay1, k0_pay2, k0_pay3, k0_pay4, k0_pay5, k0_pay6, k0_pay7, k0_pay8, k0_pay9, k0_pay10, k0_pay11, k0_pay12, k0_pay13, k0_pay14, k0_pay15, k0_pay16, total, first, second, change, Fin.sum_univ_eight]
  simp only [named1, named2, mul_inv1, mul_inv2, here y]

/-- At a point of the second layer the body stores the new first moment. -/
theorem moment1_B (c : Dev nD) (i : grid0.Coords) (r0 : Memref sig .tc .vmem S8x256x256 .f32) (h0 : r0.IsWhole) (r1 : Memref sig .tc .vmem S8x256x256 .f32) (h1 : r1.IsWhole) (r2 : Memref sig .tc .vmem S1x256x256 .f32) (h2 : r2.IsWhole) (r3 : Memref sig .tc .vmem S1x256x256 .f32) (h3 : r3.IsWhole) (r4 : Memref sig .tc .vmem S1x256x256 .f32) (h4 : r4.IsWhole) (r5 : Memref sig .tc .vmem S1x256x256 .f32) (h5 : r5.IsWhole) (r6 : Memref sig .tc .vmem S1x256x256 .f32) (h6 : r6.IsWhole) (r7 : Memref sig .tc .vmem S1x256x256 .f32) (h7 : r7.IsWhole) (r8 : Memref sig .tc .vmem S1x256x256 .f32) (h8 : r8.IsWhole)
    (hc0 : ¬cond0_0 i) (hc1 : cond0_1 i) (x0 x1 : Vec Ideal S8x256x256 .f32) (x2 x3 x4 : Vec Ideal S1x256x256 .f32) (y : S1x256x256.Idx) :
    out0_B_7 (F := Ideal) c i r0 h0 r1 h1 r2 h2 r3 h3 r4 h4 r5 h5 r6 h6 r7 h7 r8 h8 hc0 hc1 x0 x1 x2 x3 x4 y = first (total x1 y) (x3 y) := by
  unfold out0_B_7
  rw [View.read_writes_eq_canon _ _ _ (cover0_B_7 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x256x256) (funext fun a => by fin_cases a <;> rfl)]
  simp only [View.readAt_eq_ld, h0.read_unread, h1.read_unread, h2.read_unread, h3.read_unread, h4.read_unread]
  pointwise [k0_pay1, k0_pay2, k0_pay3, k0_pay4, k0_pay5, k0_pay6, k0_pay7, k0_pay8, k0_pay9, k0_pay10, k0_pay11, k0_pay12, k0_pay13, k0_pay14, k0_pay15, k0_pay16, total, first, second, change, Fin.sum_univ_eight]
  simp only [here y]

/-- At a point of the second layer the body stores the new second moment. -/
theorem moment2_B (c : Dev nD) (i : grid0.Coords) (r0 : Memref sig .tc .vmem S8x256x256 .f32) (h0 : r0.IsWhole) (r1 : Memref sig .tc .vmem S8x256x256 .f32) (h1 : r1.IsWhole) (r2 : Memref sig .tc .vmem S1x256x256 .f32) (h2 : r2.IsWhole) (r3 : Memref sig .tc .vmem S1x256x256 .f32) (h3 : r3.IsWhole) (r4 : Memref sig .tc .vmem S1x256x256 .f32) (h4 : r4.IsWhole) (r5 : Memref sig .tc .vmem S1x256x256 .f32) (h5 : r5.IsWhole) (r6 : Memref sig .tc .vmem S1x256x256 .f32) (h6 : r6.IsWhole) (r7 : Memref sig .tc .vmem S1x256x256 .f32) (h7 : r7.IsWhole) (r8 : Memref sig .tc .vmem S1x256x256 .f32) (h8 : r8.IsWhole)
    (hc0 : ¬cond0_0 i) (hc1 : cond0_1 i) (x0 x1 : Vec Ideal S8x256x256 .f32) (x2 x3 x4 : Vec Ideal S1x256x256 .f32) (y : S1x256x256.Idx) :
    out0_B_8 (F := Ideal) c i r0 h0 r1 h1 r2 h2 r3 h3 r4 h4 r5 h5 r6 h6 r7 h7 r8 h8 hc0 hc1 x0 x1 x2 x3 x4 y = second (total x1 y) (x4 y) := by
  unfold out0_B_8
  rw [View.read_writes_eq_canon _ _ _ (cover0_B_8 c i r0 h0 r1 h1 r2 h2 r3 h3 r4 h4 r5 h5 r6 h6 r7 h7 r8 h8 hc0 hc1 x0 x1 x2 x3 x4)]
  unfold kernelRun0_B
  dsimp only
  sl_unfold_words
  rw [View.canon_unit_zero (S := S1x256x256) (funext fun a => by fin_cases a <;> rfl)]
  simp only [View.readAt_eq_ld, h0.read_unread, h1.read_unread, h2.read_unread, h3.read_unread, h4.read_unread]
  pointwise [k0_pay1, k0_pay2, k0_pay3, k0_pay4, k0_pay5, k0_pay6, k0_pay7, k0_pay8, k0_pay9, k0_pay10, k0_pay11, k0_pay12, k0_pay13, k0_pay14, k0_pay15, k0_pay16, total, first, second, change, Fin.sum_univ_eight]
  simp only [here y]

/-! ## What the arrays end at -/

/-- The parts' blocks move with the results' rows in their own layer; the other arrays' blocks are the results'. -/
theorem blocks_move : ∀ t : Fin cfg0.N, (t.val % 2 = 0 → win0_0.index t = ![0, win0_5.index t 1, 0] ∧ win0_5.index t 0 = 0)
    ∧ (¬t.val % 2 = 0 → win0_1.index t = ![0, win0_5.index t 1, 0] ∧ win0_5.index t 0 = 1) ∧ win0_5.index t 2 = 0 :=
  (by decide +kernel : ∀ t : Fin grid0.N, _)

/-- Where an index of a point's block stands in an array. -/
def place (t : Fin cfg0.N) (y : S1x256x256.Idx) : S2x256x256.Idx := ((cfg0.win 5).blk t).view.emb y

/-- In the first layer a block's sum is the gradient. -/
theorem total_A (c : Dev nD) (t : Fin cfg0.N) (h : t.val % 2 = 0) (y : S1x256x256.Idx) :
    total (iblk m c 0 t) y = gradient (V m c main_arg0) (V m c main_arg1) (place t y) := by
  obtain ⟨e0, e1⟩ := (blocks_move t).1 h
  have e2 := (blocks_move t).2.2
  have hy : (y 0).val < 1 := (y 0).isLt
  have hl : (place t y 0).val = 0 := by
    show win0_5.index t 0 * 1 + 1 * (y 0).val = 0
    rw [e1]; omega
  unfold total gradient
  rw [if_pos (by rw [hl])]
  refine Finset.sum_congr rfl fun s _ => ?_
  show V m c main_arg0 (((cfg0.win 0).blk t).view.emb _) = V m c main_arg0 _
  refine congrArg _ (funext fun a => Fin.ext ?_)
  match a with
  | ⟨0, _⟩ =>
    show win0_0.index t 0 * 8 + 1 * s.val = s.val
    rw [e0]; show 0 * 8 + 1 * s.val = s.val; omega
  | ⟨1, _⟩ =>
    show win0_0.index t 1 * 256 + 1 * (y 1).val = win0_5.index t 1 * 256 + 1 * (y 1).val
    rw [e0]; rfl
  | ⟨2, _⟩ =>
    show win0_0.index t 2 * 256 + 1 * (y 2).val = win0_5.index t 2 * 256 + 1 * (y 2).val
    rw [e0, e2]; rfl

/-- In the second layer a block's sum is the gradient. -/
theorem total_B (c : Dev nD) (t : Fin cfg0.N) (h : ¬t.val % 2 = 0) (y : S1x256x256.Idx) :
    total (iblk m c 1 t) y = gradient (V m c main_arg0) (V m c main_arg1) (place t y) := by
  obtain ⟨e0, e1⟩ := (blocks_move t).2.1 h
  have e2 := (blocks_move t).2.2
  have hy : (y 0).val < 1 := (y 0).isLt
  have hl : (place t y 0).val = 1 := by
    show win0_5.index t 0 * 1 + 1 * (y 0).val = 1
    rw [e1]; omega
  unfold total gradient
  rw [if_neg (by rw [hl]; decide)]
  refine Finset.sum_congr rfl fun s _ => ?_
  show V m c main_arg1 (((cfg0.win 1).blk t).view.emb _) = V m c main_arg1 _
  refine congrArg _ (funext fun a => Fin.ext ?_)
  match a with
  | ⟨0, _⟩ =>
    show win0_1.index t 0 * 8 + 1 * s.val = s.val
    rw [e0]; show 0 * 8 + 1 * s.val = s.val; omega
  | ⟨1, _⟩ =>
    show win0_1.index t 1 * 256 + 1 * (y 1).val = win0_5.index t 1 * 256 + 1 * (y 1).val
    rw [e0]; rfl
  | ⟨2, _⟩ =>
    show win0_1.index t 2 * 256 + 1 * (y 2).val = win0_5.index t 2 * 256 + 1 * (y 2).val
    rw [e0, e2]; rfl

/-- What a point writes back is its block of the gradient. -/
theorem written5 (c : Dev nD) (t : Fin cfg0.N) : (dats (F := Ideal) m 0 c).flushed 5 t
    = ((cfg0.win 5).blk t).view.read (Elt Ideal) (gradient (V m c main_arg0) (V m c main_arg1)) := by
  have key : ∀ (b : S1x256x256.Idx → EReal) (p : S2x256x256.Idx → EReal), (∀ y : S1x256x256.Idx, b y = p (((cfg0.win 5).blk t).view.emb y))
      → (cfg0.win 5).cut (grid0.coords t) b = ((cfg0.win 5).blk t).view.read (Elt Ideal) p :=
    fun b p hp => funext hp
  by_cases h : t.val % 2 = 0
  · rw [flushed5_A m c t h (by omega)]
    refine key _ _ fun y => ?_
    rw [grad_A]
    show total (iblk m c 0 t) y = gradient (V m c main_arg0) (V m c main_arg1) (place t y)
    rw [total_A m c t h y]
  · rw [flushed5_B m c t h (by omega)]
    refine key _ _ fun y => ?_
    rw [grad_B]
    show total (iblk m c 1 t) y = gradient (V m c main_arg0) (V m c main_arg1) (place t y)
    rw [total_B m c t h y]

theorem blocks_onto5 : ∀ (q0 : Fin 2) (q1 : Fin 1), ∃ t : Fin cfg0.N, (cfg0.win 5).flush t = true ∧ win0_5.index t = ![q0.val, q1.val, 0] :=
  (by decide +kernel : ∀ (q0 : Fin 2) (q1 : Fin 1), ∃ t : Fin grid0.N, win0_5.flush t = true ∧ win0_5.index t = ![q0.val, q1.val, 0])

theorem mem_block5 (t : Fin cfg0.N) (i : S2x256x256.Idx) : i ∈ ((cfg0.win 5).blk t).view.set
    ↔ ∀ a : Fin 3, win0_5.index t a * S1x256x256.size a ≤ (i a).val ∧ (i a).val < win0_5.index t a * S1x256x256.size a + S1x256x256.size a := by
  show i ∈ ((View.whole main_v0_0).slice (win0_5.rect t)).set ↔ _
  rw [View.set_slice_whole, Rect.mem_set_unit]
  exact Iff.rfl

/-- After the run the array holds the gradient. -/
theorem final5 (c : Dev nD) : (dats (F := Ideal) m 0 c).arrAt 5 cfg0.N = gradient (V m c main_arg0) (V m c main_arg1) :=
  (dats m 0 c).arrAt_eq_of_cover 5 _ (fun t _ => written5 m c t) (fun i => by
    have h0 : (i 0).val < 2 := (i 0).isLt
    have h1 : (i 1).val < 256 := (i 1).isLt
    have h2 : (i 2).val < 256 := (i 2).isLt
    obtain ⟨t, hf, ht⟩ := blocks_onto5 ⟨(i 0).val, by omega⟩ ⟨(i 1).val / 256, by omega⟩
    have q0 : win0_5.index t (0 : Fin 3) = (i 0).val := congrFun ht 0
    have q1 : win0_5.index t (1 : Fin 3) = (i 1).val / 256 := congrFun ht 1
    have q2 : win0_5.index t (2 : Fin 3) = 0 := congrFun ht 2
    refine ⟨t, hf, ?_⟩
    rw [mem_block5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 256 ≤ (i 1).val ∧ (i 1).val < win0_5.index t (1 : Fin 3) * 256 + 256; omega
    | ⟨2, _⟩ => show win0_5.index t (2 : Fin 3) * 256 ≤ (i 2).val ∧ (i 2).val < win0_5.index t (2 : Fin 3) * 256 + 256; omega)

/-- What a point writes back is its block of the weight's change. -/
theorem written6 (c : Dev nD) (t : Fin cfg0.N) : (dats (F := Ideal) m 0 c).flushed 6 t
    = ((cfg0.win 6).blk t).view.read (Elt Ideal) (delta (V m c main_arg0) (V m c main_arg1) (V m c main_arg2) (V m c main_arg3) (V m c main_arg4)) := by
  have key : ∀ (b : S1x256x256.Idx → EReal) (p : S2x256x256.Idx → EReal), (∀ y : S1x256x256.Idx, b y = p (((cfg0.win 6).blk t).view.emb y))
      → (cfg0.win 6).cut (grid0.coords t) b = ((cfg0.win 6).blk t).view.read (Elt Ideal) p :=
    fun b p hp => funext hp
  by_cases h : t.val % 2 = 0
  · rw [flushed6_A m c t h (by omega)]
    refine key _ _ fun y => ?_
    rw [delta_A]
    show change (V m c main_arg2 (place t y)) (first (total (iblk m c 0 t) y) (V m c main_arg3 (place t y))) (second (total (iblk m c 0 t) y) (V m c main_arg4 (place t y))) = delta (V m c main_arg0) (V m c main_arg1) (V m c main_arg2) (V m c main_arg3) (V m c main_arg4) (place t y)
    rw [total_A m c t h y]; rfl
  · rw [flushed6_B m c t h (by omega)]
    refine key _ _ fun y => ?_
    rw [delta_B]
    show change (V m c main_arg2 (place t y)) (first (total (iblk m c 1 t) y) (V m c main_arg3 (place t y))) (second (total (iblk m c 1 t) y) (V m c main_arg4 (place t y))) = delta (V m c main_arg0) (V m c main_arg1) (V m c main_arg2) (V m c main_arg3) (V m c main_arg4) (place t y)
    rw [total_B m c t h y]; rfl

theorem blocks_onto6 : ∀ (q0 : Fin 2) (q1 : Fin 1), ∃ t : Fin cfg0.N, (cfg0.win 6).flush t = true ∧ win0_6.index t = ![q0.val, q1.val, 0] :=
  (by decide +kernel : ∀ (q0 : Fin 2) (q1 : Fin 1), ∃ t : Fin grid0.N, win0_6.flush t = true ∧ win0_6.index t = ![q0.val, q1.val, 0])

theorem mem_block6 (t : Fin cfg0.N) (i : S2x256x256.Idx) : i ∈ ((cfg0.win 6).blk t).view.set
    ↔ ∀ a : Fin 3, win0_6.index t a * S1x256x256.size a ≤ (i a).val ∧ (i a).val < win0_6.index t a * S1x256x256.size a + S1x256x256.size a := by
  show i ∈ ((View.whole main_v0_1).slice (win0_6.rect t)).set ↔ _
  rw [View.set_slice_whole, Rect.mem_set_unit]
  exact Iff.rfl

/-- After the run the array holds the weight's change. -/
theorem final6 (c : Dev nD) : (dats (F := Ideal) m 0 c).arrAt 6 cfg0.N = delta (V m c main_arg0) (V m c main_arg1) (V m c main_arg2) (V m c main_arg3) (V m c main_arg4) :=
  (dats m 0 c).arrAt_eq_of_cover 6 _ (fun t _ => written6 m c t) (fun i => by
    have h0 : (i 0).val < 2 := (i 0).isLt
    have h1 : (i 1).val < 256 := (i 1).isLt
    have h2 : (i 2).val < 256 := (i 2).isLt
    obtain ⟨t, hf, ht⟩ := blocks_onto6 ⟨(i 0).val, by omega⟩ ⟨(i 1).val / 256, by omega⟩
    have q0 : win0_6.index t (0 : Fin 3) = (i 0).val := congrFun ht 0
    have q1 : win0_6.index t (1 : Fin 3) = (i 1).val / 256 := congrFun ht 1
    have q2 : win0_6.index t (2 : Fin 3) = 0 := congrFun ht 2
    refine ⟨t, hf, ?_⟩
    rw [mem_block6]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 256 ≤ (i 1).val ∧ (i 1).val < win0_6.index t (1 : Fin 3) * 256 + 256; omega
    | ⟨2, _⟩ => show win0_6.index t (2 : Fin 3) * 256 ≤ (i 2).val ∧ (i 2).val < win0_6.index t (2 : Fin 3) * 256 + 256; omega)

/-- What a point writes back is its block of the new first moment. -/
theorem written7 (c : Dev nD) (t : Fin cfg0.N) : (dats (F := Ideal) m 0 c).flushed 7 t
    = ((cfg0.win 7).blk t).view.read (Elt Ideal) (moment1 (V m c main_arg0) (V m c main_arg1) (V m c main_arg3)) := by
  have key : ∀ (b : S1x256x256.Idx → EReal) (p : S2x256x256.Idx → EReal), (∀ y : S1x256x256.Idx, b y = p (((cfg0.win 7).blk t).view.emb y))
      → (cfg0.win 7).cut (grid0.coords t) b = ((cfg0.win 7).blk t).view.read (Elt Ideal) p :=
    fun b p hp => funext hp
  by_cases h : t.val % 2 = 0
  · rw [flushed7_A m c t h (by omega)]
    refine key _ _ fun y => ?_
    rw [moment1_A]
    show first (total (iblk m c 0 t) y) (V m c main_arg3 (place t y)) = moment1 (V m c main_arg0) (V m c main_arg1) (V m c main_arg3) (place t y)
    rw [total_A m c t h y]; rfl
  · rw [flushed7_B m c t h (by omega)]
    refine key _ _ fun y => ?_
    rw [moment1_B]
    show first (total (iblk m c 1 t) y) (V m c main_arg3 (place t y)) = moment1 (V m c main_arg0) (V m c main_arg1) (V m c main_arg3) (place t y)
    rw [total_B m c t h y]; rfl

theorem blocks_onto7 : ∀ (q0 : Fin 2) (q1 : Fin 1), ∃ t : Fin cfg0.N, (cfg0.win 7).flush t = true ∧ win0_7.index t = ![q0.val, q1.val, 0] :=
  (by decide +kernel : ∀ (q0 : Fin 2) (q1 : Fin 1), ∃ t : Fin grid0.N, win0_7.flush t = true ∧ win0_7.index t = ![q0.val, q1.val, 0])

theorem mem_block7 (t : Fin cfg0.N) (i : S2x256x256.Idx) : i ∈ ((cfg0.win 7).blk t).view.set
    ↔ ∀ a : Fin 3, win0_7.index t a * S1x256x256.size a ≤ (i a).val ∧ (i a).val < win0_7.index t a * S1x256x256.size a + S1x256x256.size a := by
  show i ∈ ((View.whole main_v0_2).slice (win0_7.rect t)).set ↔ _
  rw [View.set_slice_whole, Rect.mem_set_unit]
  exact Iff.rfl

/-- After the run the array holds the new first moment. -/
theorem final7 (c : Dev nD) : (dats (F := Ideal) m 0 c).arrAt 7 cfg0.N = moment1 (V m c main_arg0) (V m c main_arg1) (V m c main_arg3) :=
  (dats m 0 c).arrAt_eq_of_cover 7 _ (fun t _ => written7 m c t) (fun i => by
    have h0 : (i 0).val < 2 := (i 0).isLt
    have h1 : (i 1).val < 256 := (i 1).isLt
    have h2 : (i 2).val < 256 := (i 2).isLt
    obtain ⟨t, hf, ht⟩ := blocks_onto7 ⟨(i 0).val, by omega⟩ ⟨(i 1).val / 256, by omega⟩
    have q0 : win0_7.index t (0 : Fin 3) = (i 0).val := congrFun ht 0
    have q1 : win0_7.index t (1 : Fin 3) = (i 1).val / 256 := congrFun ht 1
    have q2 : win0_7.index t (2 : Fin 3) = 0 := congrFun ht 2
    refine ⟨t, hf, ?_⟩
    rw [mem_block7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 256 ≤ (i 1).val ∧ (i 1).val < win0_7.index t (1 : Fin 3) * 256 + 256; omega
    | ⟨2, _⟩ => show win0_7.index t (2 : Fin 3) * 256 ≤ (i 2).val ∧ (i 2).val < win0_7.index t (2 : Fin 3) * 256 + 256; omega)

/-- What a point writes back is its block of the new second moment. -/
theorem written8 (c : Dev nD) (t : Fin cfg0.N) : (dats (F := Ideal) m 0 c).flushed 8 t
    = ((cfg0.win 8).blk t).view.read (Elt Ideal) (moment2 (V m c main_arg0) (V m c main_arg1) (V m c main_arg4)) := by
  have key : ∀ (b : S1x256x256.Idx → EReal) (p : S2x256x256.Idx → EReal), (∀ y : S1x256x256.Idx, b y = p (((cfg0.win 8).blk t).view.emb y))
      → (cfg0.win 8).cut (grid0.coords t) b = ((cfg0.win 8).blk t).view.read (Elt Ideal) p :=
    fun b p hp => funext hp
  by_cases h : t.val % 2 = 0
  · rw [flushed8_A m c t h (by omega)]
    refine key _ _ fun y => ?_
    rw [moment2_A]
    show second (total (iblk m c 0 t) y) (V m c main_arg4 (place t y)) = moment2 (V m c main_arg0) (V m c main_arg1) (V m c main_arg4) (place t y)
    rw [total_A m c t h y]; rfl
  · rw [flushed8_B m c t h (by omega)]
    refine key _ _ fun y => ?_
    rw [moment2_B]
    show second (total (iblk m c 1 t) y) (V m c main_arg4 (place t y)) = moment2 (V m c main_arg0) (V m c main_arg1) (V m c main_arg4) (place t y)
    rw [total_B m c t h y]; rfl

theorem blocks_onto8 : ∀ (q0 : Fin 2) (q1 : Fin 1), ∃ t : Fin cfg0.N, (cfg0.win 8).flush t = true ∧ win0_8.index t = ![q0.val, q1.val, 0] :=
  (by decide +kernel : ∀ (q0 : Fin 2) (q1 : Fin 1), ∃ t : Fin grid0.N, win0_8.flush t = true ∧ win0_8.index t = ![q0.val, q1.val, 0])

theorem mem_block8 (t : Fin cfg0.N) (i : S2x256x256.Idx) : i ∈ ((cfg0.win 8).blk t).view.set
    ↔ ∀ a : Fin 3, win0_8.index t a * S1x256x256.size a ≤ (i a).val ∧ (i a).val < win0_8.index t a * S1x256x256.size a + S1x256x256.size a := by
  show i ∈ ((View.whole main_v0_3).slice (win0_8.rect t)).set ↔ _
  rw [View.set_slice_whole, Rect.mem_set_unit]
  exact Iff.rfl

/-- After the run the array holds the new second moment. -/
theorem final8 (c : Dev nD) : (dats (F := Ideal) m 0 c).arrAt 8 cfg0.N = moment2 (V m c main_arg0) (V m c main_arg1) (V m c main_arg4) :=
  (dats m 0 c).arrAt_eq_of_cover 8 _ (fun t _ => written8 m c t) (fun i => by
    have h0 : (i 0).val < 2 := (i 0).isLt
    have h1 : (i 1).val < 256 := (i 1).isLt
    have h2 : (i 2).val < 256 := (i 2).isLt
    obtain ⟨t, hf, ht⟩ := blocks_onto8 ⟨(i 0).val, by omega⟩ ⟨(i 1).val / 256, by omega⟩
    have q0 : win0_8.index t (0 : Fin 3) = (i 0).val := congrFun ht 0
    have q1 : win0_8.index t (1 : Fin 3) = (i 1).val / 256 := congrFun ht 1
    have q2 : win0_8.index t (2 : Fin 3) = 0 := congrFun ht 2
    refine ⟨t, hf, ?_⟩
    rw [mem_block8]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 256 ≤ (i 1).val ∧ (i 1).val < win0_8.index t (1 : Fin 3) * 256 + 256; omega
    | ⟨2, _⟩ => show win0_8.index t (2 : Fin 3) * 256 ≤ (i 2).val ∧ (i 2).val < win0_8.index t (2 : Fin 3) * 256 + 256; omega)

/-! ## The reference -/

/-- The reference's first result is the gradient. -/
theorem reference_grad (p0 p1 : FVec Ideal S8x256x256 .f32) (hb : Cert.AdamGateRefIdeal.S256x256.BroadcastsInDim Cert.AdamGateRefIdeal.S1x256x256 ![1, 2])
    (hr : Shape.ReducesTo S8x256x256 [0] Cert.AdamGateRefIdeal.S256x256) (hs : 0 < Cert.AdamGateRefIdeal.S_.numel) (hc : Shape.Concatenates [Cert.AdamGateRefIdeal.S1x256x256, Cert.AdamGateRefIdeal.S1x256x256] S2x256x256 0) :
    concatenate S2x256x256 0 [⟨Cert.AdamGateRefIdeal.S1x256x256, broadcastInDim Cert.AdamGateRefIdeal.S1x256x256 ![1, 2] hb (Host.reduceAdd p0 (constant Cert.AdamGateRefIdeal.S_ .f32 0x00000000#32) hr hs)⟩,
      ⟨Cert.AdamGateRefIdeal.S1x256x256, broadcastInDim Cert.AdamGateRefIdeal.S1x256x256 ![1, 2] hb (Host.reduceAdd p1 (constant Cert.AdamGateRefIdeal.S_ .f32 0x00000000#32) hr hs)⟩] hc = gradient p0 p1 := by
  funext i
  unfold gradient
  pointwise
  simp only [Nat.lt_one_iff, dite_eq_ite]

/-- Kernel and reference end at the same arrays. -/
theorem algebraic : Cert.algebraic_AdamGateIdeal_AdamGateRefIdeal := by
  intro m ρ m' ρ' _ hagree
  refine ⟨fun c => gradient (m ((c : Thread nD τ).loc main_arg0)) (m ((c : Thread nD τ).loc main_arg1)),
    fun c => delta (m ((c : Thread nD τ).loc main_arg0)) (m ((c : Thread nD τ).loc main_arg1)) (m ((c : Thread nD τ).loc main_arg2)) (m ((c : Thread nD τ).loc main_arg3)) (m ((c : Thread nD τ).loc main_arg4)),
    fun c => moment1 (m ((c : Thread nD τ).loc main_arg0)) (m ((c : Thread nD τ).loc main_arg1)) (m ((c : Thread nD τ).loc main_arg3)),
    fun c => moment2 (m ((c : Thread nD τ).loc main_arg0)) (m ((c : Thread nD τ).loc main_arg1)) (m ((c : Thread nD τ).loc main_arg4)), ?_, ?_⟩
  · exact (θ_run Cert.AdamGateIdeal.defs _ _).mono (fun r h c => ⟨(h c).1.trans (final5 m c), (h c).2.1.trans (final6 m c), (h c).2.2.1.trans (final7 m c),
      (h c).2.2.2.1.trans (final8 m c), (h c).2.2.2.2⟩) (run_blocks (F := Ideal) m ρ)
  · refine (θ_run Cert.AdamGateRefIdeal.defs _ _).mono (fun r h c => ⟨(h c).1.trans ?_, (h c).2.1.trans ?_, (h c).2.2.1.trans ?_, (h c).2.2.2.1.trans ?_, (h c).2.2.2.2⟩)
      (Cert.AdamGateRefIdeal.Value.run (F := Ideal) m' ρ')
    all_goals rw [(hagree c).1, (hagree c).2.1]
    · exact reference_grad _ _ _ _ _ _
    · rw [(hagree c).2.2.1, (hagree c).2.2.2.1, (hagree c).2.2.2.2, reference_grad]
      rfl
    · rw [(hagree c).2.2.2.1, reference_grad]
      rfl
    · rw [(hagree c).2.2.2.2, reference_grad]
      rfl

/-- The two constants that were given a name. -/
theorem preserves : Cert.preserves_AdamGate_AdamGateIdeal :=
  ⟨IdealRules.named_const.statement Cert.AdamGateIdeal.κ "c1" .f32 0x3FC48605#32 (((5463681 / 8388608)⁻¹ : ℝ) : EReal) rfl,
    IdealRules.named_const.statement Cert.AdamGateIdeal.κ "c2" .f32 0x42C8E6D3#32 (((2672307 / 268435456)⁻¹ : ℝ) : EReal) rfl⟩

/-- The reference runs and leaves its arguments as they were. -/
theorem reference_frame : Cert.quiescent_AdamGateRefIdeal := fun m ρ _ =>
  (θ_run Cert.AdamGateRefIdeal.defs _ _).mono (fun r h => ⟨fun c => (h c).2.2.2.2, sem_eq_zero_of_no_sems (by decide) r.2⟩)
    (Cert.AdamGateRefIdeal.Value.run (F := Ideal) m ρ)

end Cert.Optimiser.AdamGate

end
-- ==== Proof.Optimiser.AdamSmall.lean ====
/- The optimiser's step for the small weights and the loss, packed into one array: what the kernel's block holds, what
   its arrays end at, what the reference computes, and the equation. -/
module

public import proofs.«01_k».proof.Defs
public import proofs.«01_k».proof.Proof.Gen.AdamSmallIdeal.Value
public import proofs.«01_k».proof.Proof.Gen.AdamSmallRefIdeal.Run
public import proofs.«01_k».proof.Proof.Optimiser.Step
public import Idealize.ShloMosaic.Lib.Pointwise

@[expose] public section

noncomputable section

namespace Cert.Optimiser.AdamSmall

open Cert.AdamSmallIdeal Cert.AdamSmallIdeal.Gen Cert.AdamSmallIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The function -/

/-- The gradient: the sum of the eight devices' parts. -/
def gradient (p : S8x24x1024.Idx → EReal) : S1x24x1024.Idx → EReal := fun i => ∑ s : Fin 8, p (ix3 s (i 1) (i 2))

/-- The new first moment. -/
def moment1 (p : S8x24x1024.Idx → EReal) (u : S1x24x1024.Idx → EReal) : S1x24x1024.Idx → EReal := fun i => first (gradient p i) (u i)

/-- The new second moment. -/
def moment2 (p : S8x24x1024.Idx → EReal) (v : S1x24x1024.Idx → EReal) : S1x24x1024.Idx → EReal := fun i => second (gradient p i) (v i)

/-- The weight's change. -/
def delta (p : S8x24x1024.Idx → EReal) (w u v : S1x24x1024.Idx → EReal) : S1x24x1024.Idx → EReal := fun i =>
  change (w i) (moment1 p u i) (moment2 p v i)

/-! ## What the point computes -/

/-- The array's one layer. -/
theorem here (y : S1x24x1024.Idx) : (ix3 0 (y 1) (y 2) : S1x24x1024.Idx) = y := by
  funext a
  match a with
  | ⟨0, _⟩ => exact (Fin.ext (by have : (y 0).val < 1 := (y 0).isLt; show 0 = (y 0).val; omega))
  | ⟨1, _⟩ => rfl
  | ⟨2, _⟩ => rfl

theorem named1 : (Named.named (F := Ideal) κ "c1" 0x3FC48605#32 : Ideal .f32) = (((5463681 / 8388608)⁻¹ : ℝ) : EReal) :=
  IdealRules.named_const.ideal_named_scalar κ "c1" _ _ rfl

theorem named2 : (Named.named (F := Ideal) κ "c2" 0x42C8E6D3#32 : Ideal .f32) = (((2672307 / 268435456)⁻¹ : ℝ) : EReal) :=
  IdealRules.named_const.ideal_named_scalar κ "c2" _ _ rfl

/-- The body stores the gradient. -/
theorem body_grad (c : Dev nD) (i : grid0.Coords) (r0 : Memref sig .tc .vmem S8x24x1024 .f32) (h0 : r0.IsWhole) (r1 : Memref sig .tc .vmem S1x24x1024 .f32) (h1 : r1.IsWhole) (r2 : Memref sig .tc .vmem S1x24x1024 .f32) (h2 : r2.IsWhole) (r3 : Memref sig .tc .vmem S1x24x1024 .f32) (h3 : r3.IsWhole) (r4 : Memref sig .tc .vmem S1x24x1024 .f32) (h4 : r4.IsWhole) (r5 : Memref sig .tc .vmem S1x24x1024 .f32) (h5 : r5.IsWhole) (r6 : Memref sig .tc .vmem S1x24x1024 .f32) (h6 : r6.IsWhole) (r7 : Memref sig .tc .vmem S1x24x1024 .f32) (h7 : r7.IsWhole)
    (hc0 : cond0_0 i) (x0 : Vec Ideal S8x24x1024 .f32) (x1 x2 x3 : Vec Ideal S1x24x1024 .f32) (y : S1x24x1024.Idx) :
    out0_A_4 (F := Ideal) c i r0 h0 r1 h1 r2 h2 r3 h3 r4 h4 r5 h5 r6 h6 r7 h7 hc0 x0 x1 x2 x3 y = gradient x0 y := by
  unfold out0_A_4
  rw [View.read_writes_eq_canon _ _ _ (cover0_A_4 c i r0 h0 r1 h1 r2 h2 r3 h3 r4 h4 r5 h5 r6 h6 r7 h7 hc0 x0 x1 x2 x3)]
  unfold kernelRun0_A
  dsimp only
  sl_unfold_words
  rw [View.canon_unit_zero (S := S1x24x1024) (funext fun a => by fin_cases a <;> rfl)]
  simp only [View.readAt_eq_ld, h0.read_unread, h1.read_unread, h2.read_unread, h3.read_unread]
  pointwise [k0_pay1, k0_pay2, k0_pay3, k0_pay4, k0_pay5, k0_pay6, k0_pay7, k0_pay8, gradient, delta, moment1, moment2, first, second, change, Fin.sum_univ_eight]

/-- The body stores the weight's change. -/
theorem body_delta (c : Dev nD) (i : grid0.Coords) (r0 : Memref sig .tc .vmem S8x24x1024 .f32) (h0 : r0.IsWhole) (r1 : Memref sig .tc .vmem S1x24x1024 .f32) (h1 : r1.IsWhole) (r2 : Memref sig .tc .vmem S1x24x1024 .f32) (h2 : r2.IsWhole) (r3 : Memref sig .tc .vmem S1x24x1024 .f32) (h3 : r3.IsWhole) (r4 : Memref sig .tc .vmem S1x24x1024 .f32) (h4 : r4.IsWhole) (r5 : Memref sig .tc .vmem S1x24x1024 .f32) (h5 : r5.IsWhole) (r6 : Memref sig .tc .vmem S1x24x1024 .f32) (h6 : r6.IsWhole) (r7 : Memref sig .tc .vmem S1x24x1024 .f32) (h7 : r7.IsWhole)
    (hc0 : cond0_0 i) (x0 : Vec Ideal S8x24x1024 .f32) (x1 x2 x3 : Vec Ideal S1x24x1024 .f32) (y : S1x24x1024.Idx) :
    out0_A_5 (F := Ideal) c i r0 h0 r1 h1 r2 h2 r3 h3 r4 h4 r5 h5 r6 h6 r7 h7 hc0 x0 x1 x2 x3 y = delta x0 x1 x2 x3 y := by
  unfold out0_A_5
  rw [View.read_writes_eq_canon _ _ _ (cover0_A_5 c i r0 h0 r1 h1 r2 h2 r3 h3 r4 h4 r5 h5 r6 h6 r7 h7 hc0 x0 x1 x2 x3)]
  unfold kernelRun0_A
  dsimp only
  sl_unfold_words
  rw [View.canon_unit_zero (S := S1x24x1024) (funext fun a => by fin_cases a <;> rfl)]
  simp only [View.readAt_eq_ld, h0.read_unread, h1.read_unread, h2.read_unread, h3.read_unread]
  pointwise [k0_pay1, k0_pay2, k0_pay3, k0_pay4, k0_pay5, k0_pay6, k0_pay7, k0_pay8, gradient, delta, moment1, moment2, first, second, change, Fin.sum_univ_eight]
  simp only [named1, named2, mul_inv1, mul_inv2, here y]

/-- The body stores the new first moment. -/
theorem body_moment1 (c : Dev nD) (i : grid0.Coords) (r0 : Memref sig .tc .vmem S8x24x1024 .f32) (h0 : r0.IsWhole) (r1 : Memref sig .tc .vmem S1x24x1024 .f32) (h1 : r1.IsWhole) (r2 : Memref sig .tc .vmem S1x24x1024 .f32) (h2 : r2.IsWhole) (r3 : Memref sig .tc .vmem S1x24x1024 .f32) (h3 : r3.IsWhole) (r4 : Memref sig .tc .vmem S1x24x1024 .f32) (h4 : r4.IsWhole) (r5 : Memref sig .tc .vmem S1x24x1024 .f32) (h5 : r5.IsWhole) (r6 : Memref sig .tc .vmem S1x24x1024 .f32) (h6 : r6.IsWhole) (r7 : Memref sig .tc .vmem S1x24x1024 .f32) (h7 : r7.IsWhole)
    (hc0 : cond0_0 i) (x0 : Vec Ideal S8x24x1024 .f32) (x1 x2 x3 : Vec Ideal S1x24x1024 .f32) (y : S1x24x1024.Idx) :
    out0_A_6 (F := Ideal) c i r0 h0 r1 h1 r2 h2 r3 h3 r4 h4 r5 h5 r6 h6 r7 h7 hc0 x0 x1 x2 x3 y = moment1 x0 x2 y := by
  unfold out0_A_6
  rw [View.read_writes_eq_canon _ _ _ (cover0_A_6 c i r0 h0 r1 h1 r2 h2 r3 h3 r4 h4 r5 h5 r6 h6 r7 h7 hc0 x0 x1 x2 x3)]
  unfold kernelRun0_A
  dsimp only
  sl_unfold_words
  rw [View.canon_unit_zero (S := S1x24x1024) (funext fun a => by fin_cases a <;> rfl)]
  simp only [View.readAt_eq_ld, h0.read_unread, h1.read_unread, h2.read_unread, h3.read_unread]
  pointwise [k0_pay1, k0_pay2, k0_pay3, k0_pay4, k0_pay5, k0_pay6, k0_pay7, k0_pay8, gradient, delta, moment1, moment2, first, second, change, Fin.sum_univ_eight]
  simp only [here y]

/-- The body stores the new second moment. -/
theorem body_moment2 (c : Dev nD) (i : grid0.Coords) (r0 : Memref sig .tc .vmem S8x24x1024 .f32) (h0 : r0.IsWhole) (r1 : Memref sig .tc .vmem S1x24x1024 .f32) (h1 : r1.IsWhole) (r2 : Memref sig .tc .vmem S1x24x1024 .f32) (h2 : r2.IsWhole) (r3 : Memref sig .tc .vmem S1x24x1024 .f32) (h3 : r3.IsWhole) (r4 : Memref sig .tc .vmem S1x24x1024 .f32) (h4 : r4.IsWhole) (r5 : Memref sig .tc .vmem S1x24x1024 .f32) (h5 : r5.IsWhole) (r6 : Memref sig .tc .vmem S1x24x1024 .f32) (h6 : r6.IsWhole) (r7 : Memref sig .tc .vmem S1x24x1024 .f32) (h7 : r7.IsWhole)
    (hc0 : cond0_0 i) (x0 : Vec Ideal S8x24x1024 .f32) (x1 x2 x3 : Vec Ideal S1x24x1024 .f32) (y : S1x24x1024.Idx) :
    out0_A_7 (F := Ideal) c i r0 h0 r1 h1 r2 h2 r3 h3 r4 h4 r5 h5 r6 h6 r7 h7 hc0 x0 x1 x2 x3 y = moment2 x0 x3 y := by
  unfold out0_A_7
  rw [View.read_writes_eq_canon _ _ _ (cover0_A_7 c i r0 h0 r1 h1 r2 h2 r3 h3 r4 h4 r5 h5 r6 h6 r7 h7 hc0 x0 x1 x2 x3)]
  unfold kernelRun0_A
  dsimp only
  sl_unfold_words
  rw [View.canon_unit_zero (S := S1x24x1024) (funext fun a => by fin_cases a <;> rfl)]
  simp only [View.readAt_eq_ld, h0.read_unread, h1.read_unread, h2.read_unread, h3.read_unread]
  pointwise [k0_pay1, k0_pay2, k0_pay3, k0_pay4, k0_pay5, k0_pay6, k0_pay7, k0_pay8, gradient, delta, moment1, moment2, first, second, change, Fin.sum_univ_eight]
  simp only [here y]

/-! ## What the arrays end at -/

/-- Every block is the whole array. -/
theorem blocks_start : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-- The grid's one point. -/
def first_point : Fin cfg0.N := ⟨0, (by decide : 0 < grid0.N)⟩

theorem emb0 (t : Fin cfg0.N) (y : S8x24x1024.Idx) : ((cfg0.win 0).blk t).view.emb y = y := by
  have e := (blocks_start t).1
  funext a
  refine Fin.ext ?_
  match a with
  | ⟨0, _⟩ => show win0_0.index t 0 * 8 + 1 * (y 0).val = (y 0).val; rw [e]; show 0 * 8 + 1 * (y 0).val = (y 0).val; omega
  | ⟨1, _⟩ => show win0_0.index t 1 * 24 + 1 * (y 1).val = (y 1).val; rw [e]; show 0 * 24 + 1 * (y 1).val = (y 1).val; omega
  | ⟨2, _⟩ => show win0_0.index t 2 * 1024 + 1 * (y 2).val = (y 2).val; rw [e]; show 0 * 1024 + 1 * (y 2).val = (y 2).val; omega

theorem emb1 (t : Fin cfg0.N) (y : S1x24x1024.Idx) : ((cfg0.win 1).blk t).view.emb y = y := by
  have e := (blocks_start t).2.1
  funext a
  refine Fin.ext ?_
  match a with
  | ⟨0, _⟩ => show win0_1.index t 0 * 1 + 1 * (y 0).val = (y 0).val; rw [e]; show 0 * 1 + 1 * (y 0).val = (y 0).val; omega
  | ⟨1, _⟩ => show win0_1.index t 1 * 24 + 1 * (y 1).val = (y 1).val; rw [e]; show 0 * 24 + 1 * (y 1).val = (y 1).val; omega
  | ⟨2, _⟩ => show win0_1.index t 2 * 1024 + 1 * (y 2).val = (y 2).val; rw [e]; show 0 * 1024 + 1 * (y 2).val = (y 2).val; omega

theorem emb2 (t : Fin cfg0.N) (y : S1x24x1024.Idx) : ((cfg0.win 2).blk t).view.emb y = y := by
  have e := (blocks_start t).2.2.1
  funext a
  refine Fin.ext ?_
  match a with
  | ⟨0, _⟩ => show win0_2.index t 0 * 1 + 1 * (y 0).val = (y 0).val; rw [e]; show 0 * 1 + 1 * (y 0).val = (y 0).val; omega
  | ⟨1, _⟩ => show win0_2.index t 1 * 24 + 1 * (y 1).val = (y 1).val; rw [e]; show 0 * 24 + 1 * (y 1).val = (y 1).val; omega
  | ⟨2, _⟩ => show win0_2.index t 2 * 1024 + 1 * (y 2).val = (y 2).val; rw [e]; show 0 * 1024 + 1 * (y 2).val = (y 2).val; omega

theorem emb3 (t : Fin cfg0.N) (y : S1x24x1024.Idx) : ((cfg0.win 3).blk t).view.emb y = y := by
  have e := (blocks_start t).2.2.2.1
  funext a
  refine Fin.ext ?_
  match a with
  | ⟨0, _⟩ => show win0_3.index t 0 * 1 + 1 * (y 0).val = (y 0).val; rw [e]; show 0 * 1 + 1 * (y 0).val = (y 0).val; omega
  | ⟨1, _⟩ => show win0_3.index t 1 * 24 + 1 * (y 1).val = (y 1).val; rw [e]; show 0 * 24 + 1 * (y 1).val = (y 1).val; omega
  | ⟨2, _⟩ => show win0_3.index t 2 * 1024 + 1 * (y 2).val = (y 2).val; rw [e]; show 0 * 1024 + 1 * (y 2).val = (y 2).val; omega

theorem emb4 (t : Fin cfg0.N) (y : S1x24x1024.Idx) : ((cfg0.win 4).blk t).view.emb y = y := by
  have e := (blocks_start t).2.2.2.2.1
  funext a
  refine Fin.ext ?_
  match a with
  | ⟨0, _⟩ => show win0_4.index t 0 * 1 + 1 * (y 0).val = (y 0).val; rw [e]; show 0 * 1 + 1 * (y 0).val = (y 0).val; omega
  | ⟨1, _⟩ => show win0_4.index t 1 * 24 + 1 * (y 1).val = (y 1).val; rw [e]; show 0 * 24 + 1 * (y 1).val = (y 1).val; omega
  | ⟨2, _⟩ => show win0_4.index t 2 * 1024 + 1 * (y 2).val = (y 2).val; rw [e]; show 0 * 1024 + 1 * (y 2).val = (y 2).val; omega

theorem emb5 (t : Fin cfg0.N) (y : S1x24x1024.Idx) : ((cfg0.win 5).blk t).view.emb y = y := by
  have e := (blocks_start t).2.2.2.2.2.1
  funext a
  refine Fin.ext ?_
  match a with
  | ⟨0, _⟩ => show win0_5.index t 0 * 1 + 1 * (y 0).val = (y 0).val; rw [e]; show 0 * 1 + 1 * (y 0).val = (y 0).val; omega
  | ⟨1, _⟩ => show win0_5.index t 1 * 24 + 1 * (y 1).val = (y 1).val; rw [e]; show 0 * 24 + 1 * (y 1).val = (y 1).val; omega
  | ⟨2, _⟩ => show win0_5.index t 2 * 1024 + 1 * (y 2).val = (y 2).val; rw [e]; show 0 * 1024 + 1 * (y 2).val = (y 2).val; omega

theorem emb6 (t : Fin cfg0.N) (y : S1x24x1024.Idx) : ((cfg0.win 6).blk t).view.emb y = y := by
  have e := (blocks_start t).2.2.2.2.2.2.1
  funext a
  refine Fin.ext ?_
  match a with
  | ⟨0, _⟩ => show win0_6.index t 0 * 1 + 1 * (y 0).val = (y 0).val; rw [e]; show 0 * 1 + 1 * (y 0).val = (y 0).val; omega
  | ⟨1, _⟩ => show win0_6.index t 1 * 24 + 1 * (y 1).val = (y 1).val; rw [e]; show 0 * 24 + 1 * (y 1).val = (y 1).val; omega
  | ⟨2, _⟩ => show win0_6.index t 2 * 1024 + 1 * (y 2).val = (y 2).val; rw [e]; show 0 * 1024 + 1 * (y 2).val = (y 2).val; omega

theorem emb7 (t : Fin cfg0.N) (y : S1x24x1024.Idx) : ((cfg0.win 7).blk t).view.emb y = y := by
  have e := (blocks_start t).2.2.2.2.2.2.2
  funext a
  refine Fin.ext ?_
  match a with
  | ⟨0, _⟩ => show win0_7.index t 0 * 1 + 1 * (y 0).val = (y 0).val; rw [e]; show 0 * 1 + 1 * (y 0).val = (y 0).val; omega
  | ⟨1, _⟩ => show win0_7.index t 1 * 24 + 1 * (y 1).val = (y 1).val; rw [e]; show 0 * 24 + 1 * (y 1).val = (y 1).val; omega
  | ⟨2, _⟩ => show win0_7.index t 2 * 1024 + 1 * (y 2).val = (y 2).val; rw [e]; show 0 * 1024 + 1 * (y 2).val = (y 2).val; omega

theorem block0 (c : Dev nD) (t : Fin cfg0.N) : iblk m c 0 t = V m c main_arg0 :=
  funext fun y => congrArg (V m c main_arg0) (emb0 t y)

theorem block1 (c : Dev nD) (t : Fin cfg0.N) : iblk m c 1 t = V m c main_arg1 :=
  funext fun y => congrArg (V m c main_arg1) (emb1 t y)

theorem block2 (c : Dev nD) (t : Fin cfg0.N) : iblk m c 2 t = V m c main_arg2 :=
  funext fun y => congrArg (V m c main_arg2) (emb2 t y)

theorem block3 (c : Dev nD) (t : Fin cfg0.N) : iblk m c 3 t = V m c main_arg3 :=
  funext fun y => congrArg (V m c main_arg3) (emb3 t y)

/-- What the point writes back is the gradient. -/
theorem written4 (c : Dev nD) (t : Fin cfg0.N) : (dats (F := Ideal) m 0 c).flushed 4 t
    = ((cfg0.win 4).blk t).view.read (Elt Ideal) (gradient (V m c main_arg0)) := by
  have key : ∀ (b p : S1x24x1024.Idx → EReal), (∀ y : S1x24x1024.Idx, b y = p (((cfg0.win 4).blk t).view.emb y))
      → (cfg0.win 4).cut (grid0.coords t) b = ((cfg0.win 4).blk t).view.read (Elt Ideal) p :=
    fun b p hp => funext hp
  rw [flushed4_A m c t]
  refine key _ _ fun y => ?_
  rw [body_grad, block0]
  exact congrArg _ (emb4 t y).symm

theorem covered4 (i : S1x24x1024.Idx) : i ∈ ((cfg0.win 4).blk first_point).view.set := by
  show i ∈ ((View.whole main_v0_0).slice (win0_4.rect first_point)).set
  rw [View.set_slice_whole, Rect.mem_set_unit]
  have e := blocks_start first_point
  have h0 : (i 0).val < 1 := (i 0).isLt
  have h1 : (i 1).val < 24 := (i 1).isLt
  have h2 : (i 2).val < 1024 := (i 2).isLt
  intro a
  show win0_4.index first_point a * S1x24x1024.size a ≤ (i a).val ∧ (i a).val < win0_4.index first_point a * S1x24x1024.size a + S1x24x1024.size a
  rw [e.2.2.2.2.1]
  match a with
  | ⟨0, _⟩ => show 0 * 1 ≤ (i 0).val ∧ (i 0).val < 0 * 1 + 1; omega
  | ⟨1, _⟩ => show 0 * 24 ≤ (i 1).val ∧ (i 1).val < 0 * 24 + 24; omega
  | ⟨2, _⟩ => show 0 * 1024 ≤ (i 2).val ∧ (i 2).val < 0 * 1024 + 1024; omega

/-- After the run the array holds the gradient. -/
theorem final4 (c : Dev nD) : (dats (F := Ideal) m 0 c).arrAt 4 cfg0.N = gradient (V m c main_arg0) :=
  (dats m 0 c).arrAt_eq_of_cover 4 _ (fun t _ => written4 m c t) (fun i =>
    ⟨first_point, (by decide +kernel : win0_4.flush first_point = true), covered4 i⟩)

/-- What the point writes back is the weight's change. -/
theorem written5 (c : Dev nD) (t : Fin cfg0.N) : (dats (F := Ideal) m 0 c).flushed 5 t
    = ((cfg0.win 5).blk t).view.read (Elt Ideal) (delta (V m c main_arg0) (V m c main_arg1) (V m c main_arg2) (V m c main_arg3)) := by
  have key : ∀ (b p : S1x24x1024.Idx → EReal), (∀ y : S1x24x1024.Idx, b y = p (((cfg0.win 5).blk t).view.emb y))
      → (cfg0.win 5).cut (grid0.coords t) b = ((cfg0.win 5).blk t).view.read (Elt Ideal) p :=
    fun b p hp => funext hp
  rw [flushed5_A m c t]
  refine key _ _ fun y => ?_
  rw [body_delta, block0, block1, block2, block3]
  exact congrArg _ (emb5 t y).symm

theorem covered5 (i : S1x24x1024.Idx) : i ∈ ((cfg0.win 5).blk first_point).view.set := by
  show i ∈ ((View.whole main_v0_1).slice (win0_5.rect first_point)).set
  rw [View.set_slice_whole, Rect.mem_set_unit]
  have e := blocks_start first_point
  have h0 : (i 0).val < 1 := (i 0).isLt
  have h1 : (i 1).val < 24 := (i 1).isLt
  have h2 : (i 2).val < 1024 := (i 2).isLt
  intro a
  show win0_5.index first_point a * S1x24x1024.size a ≤ (i a).val ∧ (i a).val < win0_5.index first_point a * S1x24x1024.size a + S1x24x1024.size a
  rw [e.2.2.2.2.2.1]
  match a with
  | ⟨0, _⟩ => show 0 * 1 ≤ (i 0).val ∧ (i 0).val < 0 * 1 + 1; omega
  | ⟨1, _⟩ => show 0 * 24 ≤ (i 1).val ∧ (i 1).val < 0 * 24 + 24; omega
  | ⟨2, _⟩ => show 0 * 1024 ≤ (i 2).val ∧ (i 2).val < 0 * 1024 + 1024; omega

/-- After the run the array holds the weight's change. -/
theorem final5 (c : Dev nD) : (dats (F := Ideal) m 0 c).arrAt 5 cfg0.N = delta (V m c main_arg0) (V m c main_arg1) (V m c main_arg2) (V m c main_arg3) :=
  (dats m 0 c).arrAt_eq_of_cover 5 _ (fun t _ => written5 m c t) (fun i =>
    ⟨first_point, (by decide +kernel : win0_5.flush first_point = true), covered5 i⟩)

/-- What the point writes back is the new first moment. -/
theorem written6 (c : Dev nD) (t : Fin cfg0.N) : (dats (F := Ideal) m 0 c).flushed 6 t
    = ((cfg0.win 6).blk t).view.read (Elt Ideal) (moment1 (V m c main_arg0) (V m c main_arg2)) := by
  have key : ∀ (b p : S1x24x1024.Idx → EReal), (∀ y : S1x24x1024.Idx, b y = p (((cfg0.win 6).blk t).view.emb y))
      → (cfg0.win 6).cut (grid0.coords t) b = ((cfg0.win 6).blk t).view.read (Elt Ideal) p :=
    fun b p hp => funext hp
  rw [flushed6_A m c t]
  refine key _ _ fun y => ?_
  rw [body_moment1, block0, block2]
  exact congrArg _ (emb6 t y).symm

theorem covered6 (i : S1x24x1024.Idx) : i ∈ ((cfg0.win 6).blk first_point).view.set := by
  show i ∈ ((View.whole main_v0_2).slice (win0_6.rect first_point)).set
  rw [View.set_slice_whole, Rect.mem_set_unit]
  have e := blocks_start first_point
  have h0 : (i 0).val < 1 := (i 0).isLt
  have h1 : (i 1).val < 24 := (i 1).isLt
  have h2 : (i 2).val < 1024 := (i 2).isLt
  intro a
  show win0_6.index first_point a * S1x24x1024.size a ≤ (i a).val ∧ (i a).val < win0_6.index first_point a * S1x24x1024.size a + S1x24x1024.size a
  rw [e.2.2.2.2.2.2.1]
  match a with
  | ⟨0, _⟩ => show 0 * 1 ≤ (i 0).val ∧ (i 0).val < 0 * 1 + 1; omega
  | ⟨1, _⟩ => show 0 * 24 ≤ (i 1).val ∧ (i 1).val < 0 * 24 + 24; omega
  | ⟨2, _⟩ => show 0 * 1024 ≤ (i 2).val ∧ (i 2).val < 0 * 1024 + 1024; omega

/-- After the run the array holds the new first moment. -/
theorem final6 (c : Dev nD) : (dats (F := Ideal) m 0 c).arrAt 6 cfg0.N = moment1 (V m c main_arg0) (V m c main_arg2) :=
  (dats m 0 c).arrAt_eq_of_cover 6 _ (fun t _ => written6 m c t) (fun i =>
    ⟨first_point, (by decide +kernel : win0_6.flush first_point = true), covered6 i⟩)

/-- What the point writes back is the new second moment. -/
theorem written7 (c : Dev nD) (t : Fin cfg0.N) : (dats (F := Ideal) m 0 c).flushed 7 t
    = ((cfg0.win 7).blk t).view.read (Elt Ideal) (moment2 (V m c main_arg0) (V m c main_arg3)) := by
  have key : ∀ (b p : S1x24x1024.Idx → EReal), (∀ y : S1x24x1024.Idx, b y = p (((cfg0.win 7).blk t).view.emb y))
      → (cfg0.win 7).cut (grid0.coords t) b = ((cfg0.win 7).blk t).view.read (Elt Ideal) p :=
    fun b p hp => funext hp
  rw [flushed7_A m c t]
  refine key _ _ fun y => ?_
  rw [body_moment2, block0, block3]
  exact congrArg _ (emb7 t y).symm

theorem covered7 (i : S1x24x1024.Idx) : i ∈ ((cfg0.win 7).blk first_point).view.set := by
  show i ∈ ((View.whole main_v0_3).slice (win0_7.rect first_point)).set
  rw [View.set_slice_whole, Rect.mem_set_unit]
  have e := blocks_start first_point
  have h0 : (i 0).val < 1 := (i 0).isLt
  have h1 : (i 1).val < 24 := (i 1).isLt
  have h2 : (i 2).val < 1024 := (i 2).isLt
  intro a
  show win0_7.index first_point a * S1x24x1024.size a ≤ (i a).val ∧ (i a).val < win0_7.index first_point a * S1x24x1024.size a + S1x24x1024.size a
  rw [e.2.2.2.2.2.2.2]
  match a with
  | ⟨0, _⟩ => show 0 * 1 ≤ (i 0).val ∧ (i 0).val < 0 * 1 + 1; omega
  | ⟨1, _⟩ => show 0 * 24 ≤ (i 1).val ∧ (i 1).val < 0 * 24 + 24; omega
  | ⟨2, _⟩ => show 0 * 1024 ≤ (i 2).val ∧ (i 2).val < 0 * 1024 + 1024; omega

/-- After the run the array holds the new second moment. -/
theorem final7 (c : Dev nD) : (dats (F := Ideal) m 0 c).arrAt 7 cfg0.N = moment2 (V m c main_arg0) (V m c main_arg3) :=
  (dats m 0 c).arrAt_eq_of_cover 7 _ (fun t _ => written7 m c t) (fun i =>
    ⟨first_point, (by decide +kernel : win0_7.flush first_point = true), covered7 i⟩)

/-! ## The reference -/

/-- The reference's first result is the gradient. -/
theorem reference_grad (p : FVec Ideal S8x24x1024 .f32) (hb : Cert.AdamSmallRefIdeal.S24x1024.BroadcastsInDim S1x24x1024 ![1, 2])
    (hr : Shape.ReducesTo S8x24x1024 [0] Cert.AdamSmallRefIdeal.S24x1024) (hs : 0 < Cert.AdamSmallRefIdeal.S_.numel) :
    broadcastInDim S1x24x1024 ![1, 2] hb (Host.reduceAdd p (constant Cert.AdamSmallRefIdeal.S_ .f32 0x00000000#32) hr hs) = gradient p := by
  funext i
  unfold gradient
  pointwise

/-- Kernel and reference end at the same arrays. -/
theorem algebraic : Cert.algebraic_AdamSmallIdeal_AdamSmallRefIdeal := by
  intro m ρ m' ρ' _ hagree
  refine ⟨fun c => gradient (m ((c : Thread nD τ).loc main_arg0)),
    fun c => delta (m ((c : Thread nD τ).loc main_arg0)) (m ((c : Thread nD τ).loc main_arg1)) (m ((c : Thread nD τ).loc main_arg2)) (m ((c : Thread nD τ).loc main_arg3)),
    fun c => moment1 (m ((c : Thread nD τ).loc main_arg0)) (m ((c : Thread nD τ).loc main_arg2)),
    fun c => moment2 (m ((c : Thread nD τ).loc main_arg0)) (m ((c : Thread nD τ).loc main_arg3)), ?_, ?_⟩
  · exact (θ_run Cert.AdamSmallIdeal.defs _ _).mono (fun r h c => ⟨(h c).1.trans (final4 m c), (h c).2.1.trans (final5 m c), (h c).2.2.1.trans (final6 m c),
      (h c).2.2.2.1.trans (final7 m c), (h c).2.2.2.2⟩) (run_blocks (F := Ideal) m ρ)
  · refine (θ_run Cert.AdamSmallRefIdeal.defs _ _).mono (fun r h c => ⟨(h c).1.trans ?_, (h c).2.1.trans ?_, (h c).2.2.1.trans ?_, (h c).2.2.2.1.trans ?_, (h c).2.2.2.2⟩)
      (Cert.AdamSmallRefIdeal.Value.run (F := Ideal) m' ρ')
    all_goals rw [(hagree c).1]
    · exact reference_grad _ _ _ _
    · rw [(hagree c).2.1, (hagree c).2.2.1, (hagree c).2.2.2, reference_grad]
      rfl
    · rw [(hagree c).2.2.1, reference_grad]
      rfl
    · rw [(hagree c).2.2.2, reference_grad]
      rfl

/-- The two constants that were given a name. -/
theorem preserves : Cert.preserves_AdamSmall_AdamSmallIdeal :=
  ⟨IdealRules.named_const.statement Cert.AdamSmallIdeal.κ "c1" .f32 0x3FC48605#32 (((5463681 / 8388608)⁻¹ : ℝ) : EReal) rfl,
    IdealRules.named_const.statement Cert.AdamSmallIdeal.κ "c2" .f32 0x42C8E6D3#32 (((2672307 / 268435456)⁻¹ : ℝ) : EReal) rfl⟩

/-- The reference runs and leaves its arguments as they were. -/
theorem reference_frame : Cert.quiescent_AdamSmallRefIdeal := fun m ρ _ =>
  (θ_run Cert.AdamSmallRefIdeal.defs _ _).mono (fun r h => ⟨fun c => (h c).2.2.2.2, sem_eq_zero_of_no_sems (by decide) r.2⟩)
    (Cert.AdamSmallRefIdeal.Value.run (F := Ideal) m ρ)

end Cert.Optimiser.AdamSmall

end
-- ==== Proof.Norms.Row.lean ====
/- The root-mean-square norm of one row, over the extended reals: its factor, its gradient as the kernels compute it and
   as the reference does, and their equality. -/
module

public import Idealize.ShloMosaic.PureOps.Ideal

@[expose] public section

noncomputable section

namespace Cert.Norms

open Idealize.ShloMosaic

/-- The number that a float32 word is. -/
abbrev lit (b : BitVec 32) : EReal := Ideal.ofBits .f32 b

theorem lit_length : lit 0x45000000#32 = ((2048 : ℝ) : EReal) := by
  simp [lit, Ideal.ofBits, Ideal.ieee, -EReal.coe_mul]
  norm_num

theorem lit_half : lit 0xBF000000#32 = ((-(1 / 2) : ℝ) : EReal) := by
  simp [lit, Ideal.ofBits, Ideal.ieee, -EReal.coe_mul]
  norm_num

theorem lit_eps : lit 0x358637BD#32 = ((8796093 / 8796093022208 : ℝ) : EReal) := by
  simp [lit, Ideal.ofBits, Ideal.ieee, -EReal.coe_mul]
  norm_num

/-- The mean of a row's squares, with the small number added. -/
def square (x : Fin 2048 → EReal) : EReal := Ideal.div (∑ k, x k * x k) (lit 0x45000000#32) + lit 0x358637BD#32

/-- The norm's factor. -/
def root (x : Fin 2048 → EReal) : EReal := Ideal.rsqrt (square x)

/-- The gradient of a row's norm at entry `j`, as the kernels compute it: `x` is the row, `u` the gradient of the norm's
    result times the weight. -/
def rowGrad (x u : Fin 2048 → EReal) (j : Fin 2048) : EReal :=
  root x * (u j - x j * root x * Ideal.div (∑ k, u k * (x k * root x)) (lit 0x45000000#32))

/-- What the reference's derivative of the factor hands to the squares. -/
def meanGrad (x u : Fin 2048 → EReal) : EReal :=
  Ideal.div ((∑ k, x k * u k) * (lit 0xBF000000#32 * Ideal.div (root x) (square x))) (lit 0x45000000#32)

/-- A sum of squares is infinite where an entry is. -/
theorem sum_square_top (x : Fin 2048 → EReal) (j : Fin 2048) (h : x j * x j = ⊤) : ∑ k, x k * x k = ⊤ := by
  have nonneg : ∀ k, 0 ≤ x k * x k := fun k => by
    induction x k using EReal.rec with
    | bot => simp
    | coe r => exact_mod_cast mul_self_nonneg r
    | top => simp
  exact top_le_iff.mp (h ▸ Finset.single_le_sum (f := fun k => x k * x k) (fun k _ => nonneg k) (Finset.mem_univ j))

/-- A nonnegative real factor goes into a sum. -/
theorem sum_mul_coe {ι : Type} (s : Finset ι) (f : ι → EReal) {r : ℝ} (hr : 0 ≤ r) : (∑ k ∈ s, f k) * (r : EReal) = ∑ k ∈ s, f k * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- A sum of reals is a real. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A product with a real, twice. -/
theorem mul_coe_twice (t : EReal) (a : ℝ) : t * (a : EReal) + t * (a : EReal) = t * ((a + a : ℝ) : EReal) := by
  induction t using EReal.rec with
  | coe r => norm_cast; ring
  | bot =>
    rcases lt_trichotomy a 0 with h | h | h
    · rw [EReal.bot_mul_coe_of_neg h, EReal.bot_mul_coe_of_neg (by linarith)]; rfl
    · subst h; simp
    · rw [EReal.bot_mul_coe_of_pos h, EReal.bot_mul_coe_of_pos (by linarith)]; rfl
  | top =>
    rcases lt_trichotomy a 0 with h | h | h
    · rw [EReal.top_mul_coe_of_neg h, EReal.top_mul_coe_of_neg (by linarith)]; rfl
    · subst h; simp
    · rw [EReal.top_mul_coe_of_pos h, EReal.top_mul_coe_of_pos (by linarith)]; rfl

/-- Where a row has an infinite entry, both gradients are zero. -/
theorem rowGrad_infinite (x u : Fin 2048 → EReal) (i j : Fin 2048) (h : x i * x i = ⊤) :
    rowGrad x u j = u j * root x + x j * meanGrad x u + meanGrad x u * x j := by
  have hs : square x = ⊤ := by
    rw [square, sum_square_top x i h, lit_length, lit_eps, Ideal.div_coe (by norm_num), EReal.top_mul_coe_of_pos (by norm_num)]
    rfl
  have hr : root x = 0 := by rw [root, hs]; rfl
  have hm : meanGrad x u = 0 := by
    rw [meanGrad, hr, hs, lit_length, Ideal.div_coe (by norm_num)]
    simp [Ideal.div]
  rw [rowGrad, hr, hm]
  simp

/-- The two gradients of a row whose entries are reals. -/
theorem rowGrad_real (y : Fin 2048 → ℝ) (u : Fin 2048 → EReal) (j : Fin 2048) :
    rowGrad (fun k => (y k : EReal)) u j
      = u j * root (fun k => (y k : EReal)) + (y j : EReal) * meanGrad (fun k => (y k : EReal)) u + meanGrad (fun k => (y k : EReal)) u * (y j : EReal) := by
  obtain ⟨σ, hσ, hs⟩ : ∃ σ : ℝ, 0 < σ ∧ square (fun k => (y k : EReal)) = (σ : EReal) := by
    refine ⟨(∑ k, y k * y k) * (1 / 2048) + 8796093 / 8796093022208, ?_, ?_⟩
    · have : 0 ≤ ∑ k, y k * y k := Finset.sum_nonneg fun k _ => mul_self_nonneg _
      positivity
    · have e : (∑ k, ((y k : EReal) * (y k : EReal))) = ((∑ k, y k * y k : ℝ) : EReal) := by
        rw [coe_sum]
        exact Finset.sum_congr rfl fun k _ => (EReal.coe_mul _ _).symm
      rw [square, e, lit_length, lit_eps, Ideal.div_coe (by norm_num), ← EReal.coe_mul, ← EReal.coe_add]
  have hr : root (fun k => (y k : EReal)) = (((Real.sqrt σ)⁻¹ : ℝ) : EReal) := by
    rw [root, hs, Ideal.rsqrt_coe, if_neg (not_lt.mpr hσ.le), if_neg hσ.ne']
  obtain ⟨ρ, hρ, eρ⟩ : ∃ ρ : ℝ, 0 < ρ ∧ ρ = (Real.sqrt σ)⁻¹ := ⟨_, inv_pos.mpr (Real.sqrt_pos.mpr hσ), rfl⟩
  have hsq : 1 / σ = ρ * ρ := by
    rw [eρ, ← mul_inv, Real.mul_self_sqrt hσ.le, one_div]
  rw [← eρ] at hr
  have hsum : ∑ k, u k * ((y k : EReal) * (ρ : EReal)) = (∑ k, (y k : EReal) * u k) * (ρ : EReal) := by
    rw [sum_mul_coe _ _ hρ.le]
    exact Finset.sum_congr rfl fun k _ => by rw [← mul_assoc, mul_comm (u k)]
  have hm : meanGrad (fun k => (y k : EReal)) u = (∑ k, (y k : EReal) * u k) * ((-(1 / 2) * (ρ * (1 / σ)) * (1 / 2048) : ℝ) : EReal) := by
    rw [meanGrad, hr, hs, lit_length, lit_half, Ideal.div_coe (by norm_num), Ideal.div_coe hσ.ne', mul_assoc]
    push_cast
    rfl
  rw [rowGrad, hm, hr, hsum, lit_length, Ideal.div_coe (by norm_num)]
  generalize (∑ k, (y k : EReal) * u k) = t
  have e1 : (y j : EReal) * (ρ : EReal) * (t * (ρ : EReal) * ((1 / 2048 : ℝ) : EReal)) = t * ((y j * ρ * (ρ * (1 / 2048)) : ℝ) : EReal) := by
    simp only [EReal.coe_mul]
    ac_rfl
  have e2 : (y j : EReal) * (t * ((-(1 / 2) * (ρ * (1 / σ)) * (1 / 2048) : ℝ) : EReal)) = t * ((y j * (-(1 / 2) * (ρ * (1 / σ)) * (1 / 2048)) : ℝ) : EReal) := by
    rw [EReal.coe_mul (y j), mul_left_comm]
  rw [mul_comm (t * _) (y j : EReal), e1, e2, add_assoc, mul_coe_twice, sub_eq_add_neg, ← mul_neg, ← EReal.coe_neg,
    EReal.left_distrib_of_nonneg_of_ne_top (by exact_mod_cast hρ.le) (EReal.coe_ne_top ρ), mul_comm (ρ : EReal) (u j), mul_left_comm, ← EReal.coe_mul]
  congr 3
  rw [hsq]
  ring

/-- The gradient of a row's norm is the same in both forms, whatever the row holds. -/
theorem rowGrad_eq (x u : Fin 2048 → EReal) (j : Fin 2048) :
    rowGrad x u j = u j * root x + x j * meanGrad x u + meanGrad x u * x j := by
  by_cases h : ∃ i, x i * x i = ⊤
  · obtain ⟨i, hi⟩ := h
    exact rowGrad_infinite x u i j hi
  · have real : ∀ k, ∃ r : ℝ, x k = (r : EReal) := fun k => by
      have hk : x k * x k ≠ ⊤ := fun e => h ⟨k, e⟩
      induction hx : x k using EReal.rec with
      | bot => rw [hx] at hk; exact absurd (by simp) hk
      | coe r => exact ⟨r, rfl⟩
      | top => rw [hx] at hk; exact absurd (by simp) hk
    choose y hy using real
    obtain rfl : x = fun k => (y k : EReal) := funext hy
    exact rowGrad_real y u j

end Cert.Norms

end
-- ==== Proof.Norms.PreFwd.lean ====
/- The norm before the first layer's mixer: what the kernel's blocks hold, what its arrays end at, what the reference computes, and the equation. -/
module

public import proofs.«01_k».proof.Defs
public import proofs.«01_k».proof.Proof.Gen.PreFwdIdeal.Value
public import proofs.«01_k».proof.Proof.Gen.PreFwdRefIdeal.Run
public import proofs.«01_k».proof.Proof.Norms.Row
public import Idealize.ShloMosaic.Lib.Pointwise
public import Idealize.ShloMosaic.Lib.Pipeline.ValueKit.Basic

@[expose] public section

noncomputable section

namespace Cert.Norms.PreFwd

open Cert.PreFwdIdeal Cert.PreFwdIdeal.Gen Cert.PreFwdIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The function -/

/-- The norm of the rows of `x`, times the weight. -/
def normed (x : S8192x2048.Idx → EReal) (g : S1x2048.Idx → EReal) : S8192x2048.Idx → EReal := fun i =>
  x i * root (fun k => x (ix2 (i 0) k)) * g (ix2 0 (i 1))

/-! ## What a point computes -/

theorem zero2 (a : Fin 2) : (![0, 0] : Fin 2 → ℕ) a = 0 := by
  fin_cases a <;> rfl

/-- The block that the body stores. -/
theorem stored (x0 : Vec Ideal S512x2048 .f32) (x1 : Vec Ideal S1x2048 .f32) (y : S512x2048.Idx) :
    out0_2 x0 x1 y = x0 y * root (fun k => x0 (ix2 (y 0) k)) * x1 (ix2 0 (y 1)) := by
  unfold out0_2
  rw [View.canon_cons_unit_lit (S := S512x2048) _ _ _ zero2, View.ld_unit_lit (S := S512x2048) _ x0 zero2, View.ld_unit_lit (S := S1x2048) _ x1 zero2]
  pointwise [k0_pay1, root, square]

/-! ## Where the blocks lie -/

theorem points : grid0.N = 16 := by decide

theorem blocks_start : ∀ t : Fin cfg0.N, win0_0.index t = ![t.val, 0] ∧ win0_1.index t = ![0, 0] ∧ win0_2.index t = ![t.val, 0] :=
  (by decide +kernel : ∀ t : Fin grid0.N, _)

/-- The array's row that row `q` of block `t` is. -/
def rowOf (t : ℕ) (q : Fin 512) : Fin 8192 := ⟨(t * 512 + q.val) % 8192, Nat.mod_lt _ (by norm_num)⟩

theorem rowOf_val (t : Fin cfg0.N) (q : Fin 512) : (rowOf t.val q).val = t.val * 512 + q.val := by
  have h : t.val < 16 := lt_of_lt_of_eq t.isLt points
  have hq := q.isLt
  exact Nat.mod_eq_of_lt (by omega)

theorem emb0 (t : Fin cfg0.N) (y : S512x2048.Idx) : ((cfg0.win 0).blk t).view.emb y = ix2 (rowOf t.val (y 0)) (y 1) := by
  have e := (blocks_start t).1
  have r := rowOf_val t (y 0)
  funext a
  refine Fin.ext ?_
  match a with
  | ⟨0, _⟩ => show win0_0.index t 0 * 512 + 1 * (y 0).val = (rowOf t.val (y 0)).val; rw [e, r]; show t.val * 512 + 1 * (y 0).val = _; omega
  | ⟨1, _⟩ => show win0_0.index t 1 * 2048 + 1 * (y 1).val = (y 1).val; rw [e]; show 0 * 2048 + 1 * (y 1).val = (y 1).val; omega

theorem emb1 (t : Fin cfg0.N) (y : S1x2048.Idx) : ((cfg0.win 1).blk t).view.emb y = y := by
  have e := (blocks_start t).2.1
  funext a
  refine Fin.ext ?_
  match a with
  | ⟨0, _⟩ => show win0_1.index t 0 * 1 + 1 * (y 0).val = (y 0).val; rw [e]; show 0 * 1 + 1 * (y 0).val = (y 0).val; omega
  | ⟨1, _⟩ => show win0_1.index t 1 * 2048 + 1 * (y 1).val = (y 1).val; rw [e]; show 0 * 2048 + 1 * (y 1).val = (y 1).val; omega

theorem emb2 (t : Fin cfg0.N) (y : S512x2048.Idx) : ((cfg0.win 2).blk t).view.emb y = ix2 (rowOf t.val (y 0)) (y 1) := by
  have e := (blocks_start t).2.2
  have r := rowOf_val t (y 0)
  funext a
  refine Fin.ext ?_
  match a with
  | ⟨0, _⟩ => show win0_2.index t 0 * 512 + 1 * (y 0).val = (rowOf t.val (y 0)).val; rw [e, r]; show t.val * 512 + 1 * (y 0).val = _; omega
  | ⟨1, _⟩ => show win0_2.index t 1 * 2048 + 1 * (y 1).val = (y 1).val; rw [e]; show 0 * 2048 + 1 * (y 1).val = (y 1).val; omega

theorem block0 (c : Dev nD) (t : Fin cfg0.N) (y : S512x2048.Idx) : iblk m c 0 t y = V m c main_arg0 (ix2 (rowOf t.val (y 0)) (y 1)) :=
  congrArg (V m c main_arg0) (emb0 t y)

theorem block1 (c : Dev nD) (t : Fin cfg0.N) : iblk m c 1 t = V m c main_arg1 :=
  funext fun y => congrArg (V m c main_arg1) (emb1 t y)

/-! ## What the array ends at -/

theorem left (c : Dev nD) (t : Fin cfg0.N) (y : S512x2048.Idx) :
    out0_2 (F := Ideal) (iblk m c 0 t) (iblk m c 1 t) y = normed (V m c main_arg0) (V m c main_arg1) (ix2 (rowOf t.val (y 0)) (y 1)) := by
  rw [stored, block1]
  simp only [block0]
  rfl

theorem written2 (c : Dev nD) (t : Fin cfg0.N) : (dats (F := Ideal) m 0 c).flushed 2 t
    = ((cfg0.win 2).blk t).view.read (Elt Ideal) (normed (V m c main_arg0) (V m c main_arg1)) := by
  have key : ∀ (b : S512x2048.Idx → EReal) (p : S8192x2048.Idx → EReal), (∀ y : S512x2048.Idx, b y = p (((cfg0.win 2).blk t).view.emb y))
      → (cfg0.win 2).cut (grid0.coords t) b = ((cfg0.win 2).blk t).view.read (Elt Ideal) p :=
    fun b p hp => funext hp
  rw [flushed2]
  exact key _ _ fun y => (left m c t y).trans (congrArg _ (emb2 t y).symm)

/-- The point that writes entry `i`. -/
def pointOf (i : S8192x2048.Idx) : Fin cfg0.N := ⟨(i 0).val / 512, by
  have h : (i 0).val < 8192 := (i 0).isLt
  exact lt_of_lt_of_eq (by omega : (i 0).val / 512 < 16) points.symm⟩

theorem covered2 (i : S8192x2048.Idx) : i ∈ ((cfg0.win 2).blk (pointOf i)).view.set := by
  show i ∈ ((View.whole main_v0).slice (win0_2.rect (pointOf i))).set
  rw [View.set_slice_whole, Rect.mem_set_unit]
  have e := (blocks_start (pointOf i)).2.2
  have h0 : (i 0).val < 8192 := (i 0).isLt
  have h1 : (i 1).val < 2048 := (i 1).isLt
  intro a
  show win0_2.index (pointOf i) a * S512x2048.size a ≤ (i a).val ∧ (i a).val < win0_2.index (pointOf i) a * S512x2048.size a + S512x2048.size a
  rw [e]
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

/-- After the run the array holds the norm. -/
theorem final2 (c : Dev nD) : (dats (F := Ideal) m 0 c).arrAt 2 cfg0.N = normed (V m c main_arg0) (V m c main_arg1) :=
  (dats m 0 c).arrAt_eq_of_cover 2 _ (fun t _ => written2 m c t) (fun i => ⟨pointOf i, flush0_2 _, covered2 i⟩)

/-! ## The reference -/

section Arrays

variable (hr : Shape.ReducesTo S8192x2048 [1] Cert.PreFwdRefIdeal.S8192) (hs : 0 < Cert.PreFwdRefIdeal.S_.numel)
  (h1 : Cert.PreFwdRefIdeal.S8192.BroadcastsInDim Cert.PreFwdRefIdeal.S8192x1 ![0])
  (hc : Cert.PreFwdRefIdeal.S_.BroadcastsInDim Cert.PreFwdRefIdeal.S8192x1 ![])

/-- The reference's means of squares. -/
theorem reference_square (x : FVec Ideal S8192x2048 .f32) :
    addf (Host.divf (broadcastInDim Cert.PreFwdRefIdeal.S8192x1 ![0] h1 (Host.reduceAdd (mulf x x) (constant Cert.PreFwdRefIdeal.S_ .f32 0x00000000#32) hr hs))
        (broadcastInDim Cert.PreFwdRefIdeal.S8192x1 ![] hc (constant Cert.PreFwdRefIdeal.S_ .f32 0x45000000#32)))
      (broadcastInDim Cert.PreFwdRefIdeal.S8192x1 ![] hc (constant Cert.PreFwdRefIdeal.S_ .f32 0x358637BD#32))
      = (fun i => square fun k => x (ix2 (i 0) k) : FVec Ideal Cert.PreFwdRefIdeal.S8192x1 .f32) := by
  funext i
  pointwise [square]

/-- The reference's norm. -/
theorem reference_norm (x : FVec Ideal S8192x2048 .f32) (g : FVec Ideal S1x2048 .f32) (hg : S1x2048.ShapeCasts Cert.PreFwdRefIdeal.S2048)
    (hb : Cert.PreFwdRefIdeal.S2048.BroadcastsInDim S1x2048 ![1]) (hb' : S1x2048.BroadcastsInDim S8192x2048 ![0, 1])
    (hd : Cert.PreFwdRefIdeal.S8192x1.BroadcastsInDim S8192x2048 ![0, 1]) :
    mulf (mulf x (broadcastInDim S8192x2048 ![0, 1] hd (Host.rsqrt (fun i => square fun k => x (ix2 (i 0) k) : FVec Ideal Cert.PreFwdRefIdeal.S8192x1 .f32))))
        (broadcastInDim S8192x2048 ![0, 1] hb' (broadcastInDim S1x2048 ![1] hb (shapeCast Cert.PreFwdRefIdeal.S2048 g hg)))
      = (normed x g : FVec Ideal S8192x2048 .f32) := by
  funext i
  pointwise [normed, root]

end Arrays

/-- Kernel and reference end at the same array. -/
theorem algebraic : Cert.algebraic_PreFwdIdeal_PreFwdRefIdeal := by
  intro m ρ m' ρ' _ hagree
  refine ⟨fun c => normed (m ((c : Thread nD τ).loc main_arg0)) (m ((c : Thread nD τ).loc main_arg1)), ?_, ?_⟩
  · exact (θ_run Cert.PreFwdIdeal.defs _ _).mono (fun r h c => ⟨(h c).1.trans (final2 m c), (h c).2⟩) (run_blocks (F := Ideal) m ρ)
  · refine (θ_run Cert.PreFwdRefIdeal.defs _ _).mono (fun r h c => ⟨(h c).1.trans ?_, (h c).2⟩)
      (Cert.PreFwdRefIdeal.Value.run (F := Ideal) m' ρ')
    rw [(hagree c).1, (hagree c).2, reference_square, reference_norm]
    rfl

/-- Nothing was replaced. -/
theorem preserves : Cert.preserves_PreFwd_PreFwdIdeal := by
  trivial

/-- The reference runs and leaves its arguments as they were. -/
theorem reference_frame : Cert.quiescent_PreFwdRefIdeal := fun m ρ _ =>
  (θ_run Cert.PreFwdRefIdeal.defs _ _).mono (fun r h => ⟨fun c => (h c).2, sem_eq_zero_of_no_sems (by decide) r.2⟩)
    (Cert.PreFwdRefIdeal.Value.run (F := Ideal) m ρ)

end Cert.Norms.PreFwd

end
-- ==== Proof.Norms.PostFwd.lean ====
/- The call between two layers, with the norm after the lower mixer and the norm before the upper one: what the kernel's blocks hold, what its arrays end at, what the reference computes, and the equation. -/
module

public import proofs.«01_k».proof.Defs
public import proofs.«01_k».proof.Proof.Gen.PostFwdIdeal.Value
public import proofs.«01_k».proof.Proof.Gen.PostFwdRefIdeal.Run
public import proofs.«01_k».proof.Proof.Norms.Row
public import Idealize.ShloMosaic.Lib.Pointwise
public import Idealize.ShloMosaic.Lib.Pipeline.ValueKit.Basic

@[expose] public section

noncomputable section

namespace Cert.Norms.PostFwd

open Cert.PostFwdIdeal Cert.PostFwdIdeal.Gen Cert.PostFwdIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The function -/

/-- The norm of the rows of `x`, times the weight. -/
def normed (x : S8192x2048.Idx → EReal) (g : S1x2048.Idx → EReal) : S8192x2048.Idx → EReal := fun i =>
  x i * root (fun k => x (ix2 (i 0) k)) * g (ix2 0 (i 1))

/-- The residual stream after the layer. -/
def stream (x : S8192x2048.Idx → EReal) (g : S1x2048.Idx → EReal) (h : S8192x2048.Idx → EReal) : S8192x2048.Idx → EReal := fun i => h i + normed x g i

/-! ## What a point computes -/

theorem zero2 (a : Fin 2) : (![0, 0] : Fin 2 → ℕ) a = 0 := by
  fin_cases a <;> rfl

/-- A block of the residual stream. -/
def blockStream (x0 : Vec Ideal S512x2048 .f32) (x1 : Vec Ideal S1x2048 .f32) (x2 : Vec Ideal S512x2048 .f32) (y : S512x2048.Idx) : EReal :=
  x2 y + x0 y * root (fun k => x0 (ix2 (y 0) k)) * x1 (ix2 0 (y 1))

theorem pay_stream (x0 : Vec Ideal S512x2048 .f32) (x1 : Vec Ideal S1x2048 .f32) (x2 : Vec Ideal S512x2048 .f32) :
    k0_pay1 x0 x2 x1 = blockStream x0 x1 x2 := by
  funext y
  pointwise [k0_pay1, blockStream, root, square]

/-- The block of the residual stream that the body stores. -/
theorem stored_stream (x0 : Vec Ideal S512x2048 .f32) (x1 : Vec Ideal S1x2048 .f32) (x2 : Vec Ideal S512x2048 .f32) (x3 : Vec Ideal S1x2048 .f32) (y : S512x2048.Idx) :
    out0_4 x0 x1 x2 x3 y = blockStream x0 x1 x2 y := by
  unfold out0_4
  rw [View.canon_cons_unit_lit (S := S512x2048) _ _ _ zero2, View.ld_unit_lit (S := S512x2048) _ x0 zero2, View.ld_unit_lit (S := S1x2048) _ x1 zero2,
    View.ld_unit_lit (S := S512x2048) _ x2 zero2, pay_stream]

/-- The block of the next norm that the body stores. -/
theorem stored_norm (x0 : Vec Ideal S512x2048 .f32) (x1 : Vec Ideal S1x2048 .f32) (x2 : Vec Ideal S512x2048 .f32) (x3 : Vec Ideal S1x2048 .f32) (y : S512x2048.Idx) :
    out0_5 x0 x1 x2 x3 y = blockStream x0 x1 x2 y * root (fun k => blockStream x0 x1 x2 (ix2 (y 0) k)) * x3 (ix2 0 (y 1)) := by
  unfold out0_5
  rw [View.canon_cons_unit_lit (S := S512x2048) _ _ _ zero2, View.ld_unit_lit (S := S512x2048) _ x0 zero2, View.ld_unit_lit (S := S1x2048) _ x1 zero2,
    View.ld_unit_lit (S := S512x2048) _ x2 zero2, View.ld_unit_lit (S := S1x2048) _ x3 zero2]
  unfold k0_pay2
  rw [pay_stream]
  pointwise [root, square]

/-! ## Where the blocks lie -/

theorem points : grid0.N = 16 := by decide

theorem blocks_start : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- The array's row that row `q` of block `t` is. -/
def rowOf (t : ℕ) (q : Fin 512) : Fin 8192 := ⟨(t * 512 + q.val) % 8192, Nat.mod_lt _ (by norm_num)⟩

theorem rowOf_val (t : Fin cfg0.N) (q : Fin 512) : (rowOf t.val q).val = t.val * 512 + q.val := by
  have h : t.val < 16 := lt_of_lt_of_eq t.isLt points
  have hq := q.isLt
  exact Nat.mod_eq_of_lt (by omega)

theorem emb0 (t : Fin cfg0.N) (y : S512x2048.Idx) : ((cfg0.win 0).blk t).view.emb y = ix2 (rowOf t.val (y 0)) (y 1) := by
  have e := (blocks_start t).1
  have r := rowOf_val t (y 0)
  funext a
  refine Fin.ext ?_
  match a with
  | ⟨0, _⟩ => show win0_0.index t 0 * 512 + 1 * (y 0).val = (rowOf t.val (y 0)).val; rw [e, r]; show t.val * 512 + 1 * (y 0).val = _; omega
  | ⟨1, _⟩ => show win0_0.index t 1 * 2048 + 1 * (y 1).val = (y 1).val; rw [e]; show 0 * 2048 + 1 * (y 1).val = (y 1).val; omega

theorem emb1 (t : Fin cfg0.N) (y : S1x2048.Idx) : ((cfg0.win 1).blk t).view.emb y = y := by
  have e := (blocks_start t).2.1
  funext a
  refine Fin.ext ?_
  match a with
  | ⟨0, _⟩ => show win0_1.index t 0 * 1 + 1 * (y 0).val = (y 0).val; rw [e]; show 0 * 1 + 1 * (y 0).val = (y 0).val; omega
  | ⟨1, _⟩ => show win0_1.index t 1 * 2048 + 1 * (y 1).val = (y 1).val; rw [e]; show 0 * 2048 + 1 * (y 1).val = (y 1).val; omega

theorem emb2 (t : Fin cfg0.N) (y : S512x2048.Idx) : ((cfg0.win 2).blk t).view.emb y = ix2 (rowOf t.val (y 0)) (y 1) := by
  have e := (blocks_start t).2.2.1
  have r := rowOf_val t (y 0)
  funext a
  refine Fin.ext ?_
  match a with
  | ⟨0, _⟩ => show win0_2.index t 0 * 512 + 1 * (y 0).val = (rowOf t.val (y 0)).val; rw [e, r]; show t.val * 512 + 1 * (y 0).val = _; omega
  | ⟨1, _⟩ => show win0_2.index t 1 * 2048 + 1 * (y 1).val = (y 1).val; rw [e]; show 0 * 2048 + 1 * (y 1).val = (y 1).val; omega

theorem emb3 (t : Fin cfg0.N) (y : S1x2048.Idx) : ((cfg0.win 3).blk t).view.emb y = y := by
  have e := (blocks_start t).2.2.2.1
  funext a
  refine Fin.ext ?_
  match a with
  | ⟨0, _⟩ => show win0_3.index t 0 * 1 + 1 * (y 0).val = (y 0).val; rw [e]; show 0 * 1 + 1 * (y 0).val = (y 0).val; omega
  | ⟨1, _⟩ => show win0_3.index t 1 * 2048 + 1 * (y 1).val = (y 1).val; rw [e]; show 0 * 2048 + 1 * (y 1).val = (y 1).val; omega

theorem emb4 (t : Fin cfg0.N) (y : S512x2048.Idx) : ((cfg0.win 4).blk t).view.emb y = ix2 (rowOf t.val (y 0)) (y 1) := by
  have e := (blocks_start t).2.2.2.2.1
  have r := rowOf_val t (y 0)
  funext a
  refine Fin.ext ?_
  match a with
  | ⟨0, _⟩ => show win0_4.index t 0 * 512 + 1 * (y 0).val = (rowOf t.val (y 0)).val; rw [e, r]; show t.val * 512 + 1 * (y 0).val = _; omega
  | ⟨1, _⟩ => show win0_4.index t 1 * 2048 + 1 * (y 1).val = (y 1).val; rw [e]; show 0 * 2048 + 1 * (y 1).val = (y 1).val; omega

theorem emb5 (t : Fin cfg0.N) (y : S512x2048.Idx) : ((cfg0.win 5).blk t).view.emb y = ix2 (rowOf t.val (y 0)) (y 1) := by
  have e := (blocks_start t).2.2.2.2.2
  have r := rowOf_val t (y 0)
  funext a
  refine Fin.ext ?_
  match a with
  | ⟨0, _⟩ => show win0_5.index t 0 * 512 + 1 * (y 0).val = (rowOf t.val (y 0)).val; rw [e, r]; show t.val * 512 + 1 * (y 0).val = _; omega
  | ⟨1, _⟩ => show win0_5.index t 1 * 2048 + 1 * (y 1).val = (y 1).val; rw [e]; show 0 * 2048 + 1 * (y 1).val = (y 1).val; omega

theorem block0 (c : Dev nD) (t : Fin cfg0.N) (y : S512x2048.Idx) : iblk m c 0 t y = V m c main_arg0 (ix2 (rowOf t.val (y 0)) (y 1)) :=
  congrArg (V m c main_arg0) (emb0 t y)

theorem block1 (c : Dev nD) (t : Fin cfg0.N) : iblk m c 1 t = V m c main_arg1 :=
  funext fun y => congrArg (V m c main_arg1) (emb1 t y)

theorem block2 (c : Dev nD) (t : Fin cfg0.N) (y : S512x2048.Idx) : iblk m c 2 t y = V m c main_arg2 (ix2 (rowOf t.val (y 0)) (y 1)) :=
  congrArg (V m c main_arg2) (emb2 t y)

theorem block3 (c : Dev nD) (t : Fin cfg0.N) : iblk m c 3 t = V m c main_arg3 :=
  funext fun y => congrArg (V m c main_arg3) (emb3 t y)

/-! ## What the arrays end at -/

theorem stream_block (c : Dev nD) (t : Fin cfg0.N) (y : S512x2048.Idx) :
    blockStream (iblk m c 0 t) (iblk m c 1 t) (iblk m c 2 t) y = stream (V m c main_arg0) (V m c main_arg1) (V m c main_arg2) (ix2 (rowOf t.val (y 0)) (y 1)) := by
  unfold blockStream
  rw [block1, block2]
  simp only [block0]
  rfl

theorem left_stream (c : Dev nD) (t : Fin cfg0.N) (y : S512x2048.Idx) :
    out0_4 (F := Ideal) (iblk m c 0 t) (iblk m c 1 t) (iblk m c 2 t) (iblk m c 3 t) y = stream (V m c main_arg0) (V m c main_arg1) (V m c main_arg2) (ix2 (rowOf t.val (y 0)) (y 1)) := by
  rw [stored_stream, stream_block]

theorem left_norm (c : Dev nD) (t : Fin cfg0.N) (y : S512x2048.Idx) :
    out0_5 (F := Ideal) (iblk m c 0 t) (iblk m c 1 t) (iblk m c 2 t) (iblk m c 3 t) y = normed (stream (V m c main_arg0) (V m c main_arg1) (V m c main_arg2)) (V m c main_arg3) (ix2 (rowOf t.val (y 0)) (y 1)) := by
  rw [stored_norm, block3]
  simp only [stream_block]
  rfl

/-- The point that writes entry `i`. -/
def pointOf (i : S8192x2048.Idx) : Fin cfg0.N := ⟨(i 0).val / 512, by
  have h : (i 0).val < 8192 := (i 0).isLt
  exact lt_of_lt_of_eq (by omega : (i 0).val / 512 < 16) points.symm⟩

theorem written4 (c : Dev nD) (t : Fin cfg0.N) : (dats (F := Ideal) m 0 c).flushed 4 t
    = ((cfg0.win 4).blk t).view.read (Elt Ideal) (stream (V m c main_arg0) (V m c main_arg1) (V m c main_arg2)) := by
  have key : ∀ (b : S512x2048.Idx → EReal) (p : S8192x2048.Idx → EReal), (∀ y : S512x2048.Idx, b y = p (((cfg0.win 4).blk t).view.emb y))
      → (cfg0.win 4).cut (grid0.coords t) b = ((cfg0.win 4).blk t).view.read (Elt Ideal) p :=
    fun b p hp => funext hp
  rw [flushed4]
  exact key _ _ fun y => (left_stream m c t y).trans (congrArg _ (emb4 t y).symm)

theorem covered4 (i : S8192x2048.Idx) : i ∈ ((cfg0.win 4).blk (pointOf i)).view.set := by
  show i ∈ ((View.whole main_v0_0).slice (win0_4.rect (pointOf i))).set
  rw [View.set_slice_whole, Rect.mem_set_unit]
  have e := (blocks_start (pointOf i)).2.2.2.2.1
  have h0 : (i 0).val < 8192 := (i 0).isLt
  have h1 : (i 1).val < 2048 := (i 1).isLt
  intro a
  show win0_4.index (pointOf i) a * S512x2048.size a ≤ (i a).val ∧ (i a).val < win0_4.index (pointOf i) a * S512x2048.size a + S512x2048.size a
  rw [e]
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

/-- After the run the first array holds the residual stream. -/
theorem final4 (c : Dev nD) : (dats (F := Ideal) m 0 c).arrAt 4 cfg0.N = stream (V m c main_arg0) (V m c main_arg1) (V m c main_arg2) :=
  (dats m 0 c).arrAt_eq_of_cover 4 _ (fun t _ => written4 m c t) (fun i => ⟨pointOf i, flush0_4 _, covered4 i⟩)

theorem written5 (c : Dev nD) (t : Fin cfg0.N) : (dats (F := Ideal) m 0 c).flushed 5 t
    = ((cfg0.win 5).blk t).view.read (Elt Ideal) (normed (stream (V m c main_arg0) (V m c main_arg1) (V m c main_arg2)) (V m c main_arg3)) := by
  have key : ∀ (b : S512x2048.Idx → EReal) (p : S8192x2048.Idx → EReal), (∀ y : S512x2048.Idx, b y = p (((cfg0.win 5).blk t).view.emb y))
      → (cfg0.win 5).cut (grid0.coords t) b = ((cfg0.win 5).blk t).view.read (Elt Ideal) p :=
    fun b p hp => funext hp
  rw [flushed5]
  exact key _ _ fun y => (left_norm m c t y).trans (congrArg _ (emb5 t y).symm)

theorem covered5 (i : S8192x2048.Idx) : i ∈ ((cfg0.win 5).blk (pointOf i)).view.set := by
  show i ∈ ((View.whole main_v0_1).slice (win0_5.rect (pointOf i))).set
  rw [View.set_slice_whole, Rect.mem_set_unit]
  have e := (blocks_start (pointOf i)).2.2.2.2.2
  have h0 : (i 0).val < 8192 := (i 0).isLt
  have h1 : (i 1).val < 2048 := (i 1).isLt
  intro a
  show win0_5.index (pointOf i) a * S512x2048.size a ≤ (i a).val ∧ (i a).val < win0_5.index (pointOf i) a * S512x2048.size a + S512x2048.size a
  rw [e]
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

/-- After the run the second array holds its norm. -/
theorem final5 (c : Dev nD) : (dats (F := Ideal) m 0 c).arrAt 5 cfg0.N = normed (stream (V m c main_arg0) (V m c main_arg1) (V m c main_arg2)) (V m c main_arg3) :=
  (dats m 0 c).arrAt_eq_of_cover 5 _ (fun t _ => written5 m c t) (fun i => ⟨pointOf i, flush0_5 _, covered5 i⟩)

/-! ## The reference -/

section Arrays

variable (hr : Shape.ReducesTo S8192x2048 [1] Cert.PostFwdRefIdeal.S8192) (hs : 0 < Cert.PostFwdRefIdeal.S_.numel)
  (h1 : Cert.PostFwdRefIdeal.S8192.BroadcastsInDim Cert.PostFwdRefIdeal.S8192x1 ![0])
  (hc : Cert.PostFwdRefIdeal.S_.BroadcastsInDim Cert.PostFwdRefIdeal.S8192x1 ![])

/-- The reference's means of squares. -/
theorem reference_square (x : FVec Ideal S8192x2048 .f32) :
    addf (Host.divf (broadcastInDim Cert.PostFwdRefIdeal.S8192x1 ![0] h1 (Host.reduceAdd (mulf x x) (constant Cert.PostFwdRefIdeal.S_ .f32 0x00000000#32) hr hs))
        (broadcastInDim Cert.PostFwdRefIdeal.S8192x1 ![] hc (constant Cert.PostFwdRefIdeal.S_ .f32 0x45000000#32)))
      (broadcastInDim Cert.PostFwdRefIdeal.S8192x1 ![] hc (constant Cert.PostFwdRefIdeal.S_ .f32 0x358637BD#32))
      = (fun i => square fun k => x (ix2 (i 0) k) : FVec Ideal Cert.PostFwdRefIdeal.S8192x1 .f32) := by
  funext i
  pointwise [square]

/-- The reference's norm. -/
theorem reference_norm (x : FVec Ideal S8192x2048 .f32) (g : FVec Ideal S1x2048 .f32) (hg : S1x2048.ShapeCasts Cert.PostFwdRefIdeal.S2048)
    (hb : Cert.PostFwdRefIdeal.S2048.BroadcastsInDim S1x2048 ![1]) (hb' : S1x2048.BroadcastsInDim S8192x2048 ![0, 1])
    (hd : Cert.PostFwdRefIdeal.S8192x1.BroadcastsInDim S8192x2048 ![0, 1]) :
    mulf (mulf x (broadcastInDim S8192x2048 ![0, 1] hd (Host.rsqrt (fun i => square fun k => x (ix2 (i 0) k) : FVec Ideal Cert.PostFwdRefIdeal.S8192x1 .f32))))
        (broadcastInDim S8192x2048 ![0, 1] hb' (broadcastInDim S1x2048 ![1] hb (shapeCast Cert.PostFwdRefIdeal.S2048 g hg)))
      = (normed x g : FVec Ideal S8192x2048 .f32) := by
  funext i
  pointwise [normed, root]

end Arrays

/-- Kernel and reference end at the same arrays. -/
theorem algebraic : Cert.algebraic_PostFwdIdeal_PostFwdRefIdeal := by
  intro m ρ m' ρ' _ hagree
  refine ⟨fun c => stream (m ((c : Thread nD τ).loc main_arg0)) (m ((c : Thread nD τ).loc main_arg1)) (m ((c : Thread nD τ).loc main_arg2)), fun c => normed (stream (m ((c : Thread nD τ).loc main_arg0)) (m ((c : Thread nD τ).loc main_arg1)) (m ((c : Thread nD τ).loc main_arg2))) (m ((c : Thread nD τ).loc main_arg3)), ?_, ?_⟩
  · exact (θ_run Cert.PostFwdIdeal.defs _ _).mono (fun r h c => ⟨(h c).1.trans (final4 m c), (h c).2.1.trans (final5 m c), (h c).2.2⟩) (run_blocks (F := Ideal) m ρ)
  · refine (θ_run Cert.PostFwdRefIdeal.defs _ _).mono (fun r h c => ⟨(h c).1.trans ?_, (h c).2.1.trans ?_, (h c).2.2⟩)
      (Cert.PostFwdRefIdeal.Value.run (F := Ideal) m' ρ')
    · rw [(hagree c).1, (hagree c).2.1, (hagree c).2.2.1, reference_square, reference_norm]
      rfl
    · rw [(hagree c).1, (hagree c).2.1, (hagree c).2.2.1, (hagree c).2.2.2, reference_square, reference_norm]
      rw [reference_square, reference_norm]
      rfl

/-- Nothing was replaced. -/
theorem preserves : Cert.preserves_PostFwd_PostFwdIdeal := by
  trivial

/-- The reference runs and leaves its arguments as they were. -/
theorem reference_frame : Cert.quiescent_PostFwdRefIdeal := fun m ρ _ =>
  (θ_run Cert.PostFwdRefIdeal.defs _ _).mono (fun r h => ⟨fun c => (h c).2.2, sem_eq_zero_of_no_sems (by decide) r.2⟩)
    (Cert.PostFwdRefIdeal.Value.run (F := Ideal) m ρ)

end Cert.Norms.PostFwd

end
-- ==== Proof.Norms.PostLoss.lean ====
/- The call after the last layer, with the loss and its gradient: what the kernel's blocks hold, what its arrays end at, what the reference computes, and the equation. -/
module

public import proofs.«01_k».proof.Defs
public import proofs.«01_k».proof.Proof.Gen.PostLossIdeal.Value
public import proofs.«01_k».proof.Proof.Gen.PostLossRefIdeal.Run
public import proofs.«01_k».proof.Proof.Norms.Row
public import Idealize.ShloMosaic.Lib.Pointwise
public import Idealize.ShloMosaic.Lib.Pipeline.ValueKit.Basic

@[expose] public section

noncomputable section

namespace Cert.Norms.PostLoss

open Cert.PostLossIdeal Cert.PostLossIdeal.Gen Cert.PostLossIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The function -/

/-- The norm of the rows of `x`, times the weight. -/
def normed (x : S8192x2048.Idx → EReal) (g : S1x2048.Idx → EReal) : S8192x2048.Idx → EReal := fun i =>
  x i * root (fun k => x (ix2 (i 0) k)) * g (ix2 0 (i 1))

/-- How far the residual stream after the layer is from the target. -/
def miss (x : S8192x2048.Idx → EReal) (g : S1x2048.Idx → EReal) (h t : S8192x2048.Idx → EReal) : S8192x2048.Idx → EReal := fun i => h i + normed x g i - t i

/-- The gradient of the loss. -/
def lossGrad (x : S8192x2048.Idx → EReal) (g : S1x2048.Idx → EReal) (h t : S8192x2048.Idx → EReal) : S8192x2048.Idx → EReal := fun i =>
  miss x g h t i * lit 0x3A000000#32

/-- What row `p` gives to the loss. -/
def rowLoss (e : S8192x2048.Idx → EReal) (p : Fin 8192) : EReal := (∑ k : Fin 2048, e (ix2 p k) * e (ix2 p k)) * lit 0x39800000#32

/-- The loss: the sum of the rows' parts. -/
def loss (x : S8192x2048.Idx → EReal) (g : S1x2048.Idx → EReal) (h t : S8192x2048.Idx → EReal) : S1x1.Idx → EReal := fun _ =>
  ∑ p : Fin 8192, rowLoss (miss x g h t) p

theorem lit_inverse : lit 0x3A000000#32 = ((1 / 2048 : ℝ) : EReal) := by
  simp [lit, Ideal.ofBits, Ideal.ieee, -EReal.coe_mul]
  norm_num

theorem lit_half_inverse : lit 0x39800000#32 = ((1 / 4096 : ℝ) : EReal) := by
  simp [lit, Ideal.ofBits, Ideal.ieee, -EReal.coe_mul]
  norm_num

theorem lit_positive_half : lit 0x3F000000#32 = ((1 / 2 : ℝ) : EReal) := by
  simp [lit, Ideal.ofBits, Ideal.ieee, -EReal.coe_mul]
  norm_num

theorem lit_two : lit 0x40000000#32 = ((2 : ℝ) : EReal) := by
  simp [lit, Ideal.ofBits, Ideal.ieee, -EReal.coe_mul]
  norm_num

theorem lit_one : lit 0x3F800000#32 = ((1 : ℝ) : EReal) := by
  simp [lit, Ideal.ofBits, Ideal.ieee, -EReal.coe_mul]
  norm_num

/-- The reference's factors of the gradient are the kernel's one. -/
theorem grad_factor (e : EReal) : Ideal.div (lit 0x3F000000#32 * lit 0x3F800000#32) (lit 0x45000000#32) * (lit 0x40000000#32 * e) = e * lit 0x3A000000#32 := by
  rw [lit_positive_half, lit_one, lit_length, lit_two, lit_inverse, Ideal.div_coe (by norm_num), ← mul_assoc, mul_comm e, ← EReal.coe_mul, ← EReal.coe_mul, ← EReal.coe_mul]
  congr 2
  norm_num

/-- The reference's half of the sum of the rows' means is the kernel's sum. -/
theorem loss_factor (f : Fin 8192 → EReal) : lit 0x3F000000#32 * ∑ p, Ideal.div (f p) (lit 0x45000000#32) = ∑ p, f p * lit 0x39800000#32 := by
  rw [lit_positive_half, mul_comm, sum_mul_coe _ _ (by norm_num)]
  refine Finset.sum_congr rfl fun p _ => ?_
  rw [lit_length, Ideal.div_coe (by norm_num), lit_half_inverse, mul_assoc, ← EReal.coe_mul]
  congr 2
  norm_num

/-! ## What a point computes -/

theorem zero2 (a : Fin 2) : (![0, 0] : Fin 2 → ℕ) a = 0 := by
  fin_cases a <;> rfl

/-- A block of the misses. -/
def blockMiss (x0 : Vec Ideal S512x2048 .f32) (x1 : Vec Ideal S1x2048 .f32) (x2 x3 : Vec Ideal S512x2048 .f32) (y : S512x2048.Idx) : EReal :=
  x2 y + x0 y * root (fun k => x0 (ix2 (y 0) k)) * x1 (ix2 0 (y 1)) - x3 y

theorem pay_miss (x0 : Vec Ideal S512x2048 .f32) (x1 : Vec Ideal S1x2048 .f32) (x2 x3 : Vec Ideal S512x2048 .f32) :
    k0_pay2 x0 x2 x1 x3 = blockMiss x0 x1 x2 x3 := by
  funext y
  pointwise [k0_pay2, blockMiss, root, square]

theorem pay_grad (x0 : Vec Ideal S512x2048 .f32) (x1 : Vec Ideal S1x2048 .f32) (x2 x3 : Vec Ideal S512x2048 .f32) (y : S512x2048.Idx) :
    k0_pay3 x0 x2 x1 x3 y = blockMiss x0 x1 x2 x3 y * lit 0x3A000000#32 := by
  unfold k0_pay3
  rw [pay_miss]
  pointwise

theorem pay_loss (x0 : Vec Ideal S512x2048 .f32) (x1 : Vec Ideal S1x2048 .f32) (x2 x3 : Vec Ideal S512x2048 .f32) (v : Vec Ideal S1x1 .f32) (y : S1x1.Idx) :
    k0_pay4 x0 x2 x1 x3 v y = v y + ∑ q : Fin 512, (∑ k : Fin 2048, blockMiss x0 x1 x2 x3 (ix2 q k) * blockMiss x0 x1 x2 x3 (ix2 q k)) * lit 0x39800000#32 := by
  unfold k0_pay4
  rw [pay_miss]
  pointwise

theorem pay_start (y : S1x1.Idx) : k0_pay1 (F := Ideal) y = 0 := by
  pointwise [k0_pay1]

/-- At the first point the body stores the block of the gradient. -/
theorem first_gradient (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x1 .f32) (h5 : r5.IsWhole)
    (hc0 : cond0_0 i) (x0 : Vec Ideal S512x2048 .f32) (x1 : Vec Ideal S1x2048 .f32) (x2 x3 : Vec Ideal S512x2048 .f32) (y : S512x2048.Idx) :
    out0_A_4 (F := Ideal) c i r0 h0 r1 h1 r2 h2 r3 h3 r4 h4 r5 h5 hc0 x0 x1 x2 x3 y = blockMiss x0 x1 x2 x3 y * lit 0x3A000000#32 := by
  unfold out0_A_4
  rw [View.read_writes_eq_canon _ _ _ (cover0_A_4 c i r0 h0 r1 h1 r2 h2 r3 h3 r4 h4 r5 h5 hc0 x0 x1 x2 x3)]
  unfold kernelRun0_A
  dsimp only
  sl_unfold_words
  rw [View.canon_cons_unit_lit (S := S512x2048) _ _ _ zero2]
  simp only [View.readAt_eq_ld, h0.read_unread, h1.read_unread, h2.read_unread, h3.read_unread]
  rw [View.ld_unit_lit (S := S512x2048) _ x0 zero2, View.ld_unit_lit (S := S1x2048) _ x1 zero2, View.ld_unit_lit (S := S512x2048) _ x2 zero2, View.ld_unit_lit (S := S512x2048) _ x3 zero2, pay_grad]

/-- At the first point the body stores its rows' part of the loss. -/
theorem first_loss (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x1 .f32) (h5 : r5.IsWhole)
    (hc0 : cond0_0 i) (x0 : Vec Ideal S512x2048 .f32) (x1 : Vec Ideal S1x2048 .f32) (x2 x3 : Vec Ideal S512x2048 .f32) (y : S1x1.Idx) :
    out0_A_5 (F := Ideal) c i r0 h0 r1 h1 r2 h2 r3 h3 r4 h4 r5 h5 hc0 x0 x1 x2 x3 y = ∑ q : Fin 512, (∑ k : Fin 2048, blockMiss x0 x1 x2 x3 (ix2 q k) * blockMiss x0 x1 x2 x3 (ix2 q k)) * lit 0x39800000#32 := by
  unfold out0_A_5
  rw [View.read_writes_eq_canon _ _ _ (cover0_A_5 c i r0 h0 r1 h1 r2 h2 r3 h3 r4 h4 r5 h5 hc0 x0 x1 x2 x3)]
  unfold kernelRun0_A
  dsimp only
  sl_unfold_words
  rw [View.canon_cons_unit_lit (S := S1x1) _ _ _ zero2]
  simp only [View.readAt_eq_ld, h0.read_unread, h1.read_unread, h2.read_unread, h3.read_unread]
  rw [View.ld_unit_lit (S := S512x2048) _ x0 zero2, View.ld_unit_lit (S := S1x2048) _ x1 zero2, View.ld_unit_lit (S := S512x2048) _ x2 zero2, View.ld_unit_lit (S := S512x2048) _ x3 zero2, View.readCov_unit_lit (S := S1x1) _ _ _ zero2, pay_loss, pay_start, zero_add]

/-- At a later point the body stores the block of the gradient. -/
theorem later_gradient (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x1 .f32) (h5 : r5.IsWhole)
    (hc0 : ¬cond0_0 i) (x0 : Vec Ideal S512x2048 .f32) (x1 : Vec Ideal S1x2048 .f32) (x2 x3 : Vec Ideal S512x2048 .f32) (xo : Vec Ideal S1x1 .f32) (y : S512x2048.Idx) :
    out0_B_4 (F := Ideal) c i r0 h0 r1 h1 r2 h2 r3 h3 r4 h4 r5 h5 hc0 x0 x1 x2 x3 xo y = blockMiss x0 x1 x2 x3 y * lit 0x3A000000#32 := by
  unfold out0_B_4
  rw [View.read_writes_eq_canon _ _ _ (cover0_B_4 c i r0 h0 r1 h1 r2 h2 r3 h3 r4 h4 r5 h5 hc0 x0 x1 x2 x3 xo)]
  unfold kernelRun0_B
  dsimp only
  sl_unfold_words
  rw [View.canon_cons_unit_lit (S := S512x2048) _ _ _ zero2]
  simp only [View.readAt_eq_ld, h0.read_unread, h1.read_unread, h2.read_unread, h3.read_unread, h5.read_unread]
  rw [View.ld_unit_lit (S := S512x2048) _ x0 zero2, View.ld_unit_lit (S := S1x2048) _ x1 zero2, View.ld_unit_lit (S := S512x2048) _ x2 zero2, View.ld_unit_lit (S := S512x2048) _ x3 zero2, pay_grad]

/-- At a later point the body adds its rows' part of the loss. -/
theorem later_loss (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x1 .f32) (h5 : r5.IsWhole)
    (hc0 : ¬cond0_0 i) (x0 : Vec Ideal S512x2048 .f32) (x1 : Vec Ideal S1x2048 .f32) (x2 x3 : Vec Ideal S512x2048 .f32) (xo : Vec Ideal S1x1 .f32) (y : S1x1.Idx) :
    out0_B_5 (F := Ideal) c i r0 h0 r1 h1 r2 h2 r3 h3 r4 h4 r5 h5 hc0 x0 x1 x2 x3 xo y = xo y + ∑ q : Fin 512, (∑ k : Fin 2048, blockMiss x0 x1 x2 x3 (ix2 q k) * blockMiss x0 x1 x2 x3 (ix2 q k)) * lit 0x39800000#32 := by
  unfold out0_B_5
  rw [View.read_writes_eq_canon _ _ _ (cover0_B_5 c i r0 h0 r1 h1 r2 h2 r3 h3 r4 h4 r5 h5 hc0 x0 x1 x2 x3 xo)]
  unfold kernelRun0_B
  dsimp only
  sl_unfold_words
  rw [View.canon_cons_unit_lit (S := S1x1) _ _ _ zero2]
  simp only [View.readAt_eq_ld, h0.read_unread, h1.read_unread, h2.read_unread, h3.read_unread, h5.read_unread]
  rw [View.ld_unit_lit (S := S512x2048) _ x0 zero2, View.ld_unit_lit (S := S1x2048) _ x1 zero2, View.ld_unit_lit (S := S512x2048) _ x2 zero2, View.ld_unit_lit (S := S512x2048) _ x3 zero2, View.ld_unit_lit (S := S1x1) _ xo zero2, pay_loss]

/-! ## Where the blocks lie -/

theorem points : grid0.N = 16 := by decide

theorem blocks_start : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, _)

/-- The array's row that row `q` of block `t` is. -/
def rowOf (t : ℕ) (q : Fin 512) : Fin 8192 := ⟨(t * 512 + q.val) % 8192, Nat.mod_lt _ (by norm_num)⟩

theorem rowOf_val (t : Fin cfg0.N) (q : Fin 512) : (rowOf t.val q).val = t.val * 512 + q.val := by
  have h : t.val < 16 := lt_of_lt_of_eq t.isLt points
  have hq := q.isLt
  exact Nat.mod_eq_of_lt (by omega)

theorem emb0 (t : Fin cfg0.N) (y : S512x2048.Idx) : ((cfg0.win 0).blk t).view.emb y = ix2 (rowOf t.val (y 0)) (y 1) := by
  have e := (blocks_start t).1
  have r := rowOf_val t (y 0)
  funext a
  refine Fin.ext ?_
  match a with
  | ⟨0, _⟩ => show win0_0.index t 0 * 512 + 1 * (y 0).val = (rowOf t.val (y 0)).val; rw [e, r]; show t.val * 512 + 1 * (y 0).val = _; omega
  | ⟨1, _⟩ => show win0_0.index t 1 * 2048 + 1 * (y 1).val = (y 1).val; rw [e]; show 0 * 2048 + 1 * (y 1).val = (y 1).val; omega

theorem emb1 (t : Fin cfg0.N) (y : S1x2048.Idx) : ((cfg0.win 1).blk t).view.emb y = y := by
  have e := (blocks_start t).2.1
  funext a
  refine Fin.ext ?_
  match a with
  | ⟨0, _⟩ => show win0_1.index t 0 * 1 + 1 * (y 0).val = (y 0).val; rw [e]; show 0 * 1 + 1 * (y 0).val = (y 0).val; omega
  | ⟨1, _⟩ => show win0_1.index t 1 * 2048 + 1 * (y 1).val = (y 1).val; rw [e]; show 0 * 2048 + 1 * (y 1).val = (y 1).val; omega

theorem emb2 (t : Fin cfg0.N) (y : S512x2048.Idx) : ((cfg0.win 2).blk t).view.emb y = ix2 (rowOf t.val (y 0)) (y 1) := by
  have e := (blocks_start t).2.2.1
  have r := rowOf_val t (y 0)
  funext a
  refine Fin.ext ?_
  match a with
  | ⟨0, _⟩ => show win0_2.index t 0 * 512 + 1 * (y 0).val = (rowOf t.val (y 0)).val; rw [e, r]; show t.val * 512 + 1 * (y 0).val = _; omega
  | ⟨1, _⟩ => show win0_2.index t 1 * 2048 + 1 * (y 1).val = (y 1).val; rw [e]; show 0 * 2048 + 1 * (y 1).val = (y 1).val; omega

theorem emb3 (t : Fin cfg0.N) (y : S512x2048.Idx) : ((cfg0.win 3).blk t).view.emb y = ix2 (rowOf t.val (y 0)) (y 1) := by
  have e := (blocks_start t).2.2.2.1
  have r := rowOf_val t (y 0)
  funext a
  refine Fin.ext ?_
  match a with
  | ⟨0, _⟩ => show win0_3.index t 0 * 512 + 1 * (y 0).val = (rowOf t.val (y 0)).val; rw [e, r]; show t.val * 512 + 1 * (y 0).val = _; omega
  | ⟨1, _⟩ => show win0_3.index t 1 * 2048 + 1 * (y 1).val = (y 1).val; rw [e]; show 0 * 2048 + 1 * (y 1).val = (y 1).val; omega

theorem emb4 (t : Fin cfg0.N) (y : S512x2048.Idx) : ((cfg0.win 4).blk t).view.emb y = ix2 (rowOf t.val (y 0)) (y 1) := by
  have e := (blocks_start t).2.2.2.2.1
  have r := rowOf_val t (y 0)
  funext a
  refine Fin.ext ?_
  match a with
  | ⟨0, _⟩ => show win0_4.index t 0 * 512 + 1 * (y 0).val = (rowOf t.val (y 0)).val; rw [e, r]; show t.val * 512 + 1 * (y 0).val = _; omega
  | ⟨1, _⟩ => show win0_4.index t 1 * 2048 + 1 * (y 1).val = (y 1).val; rw [e]; show 0 * 2048 + 1 * (y 1).val = (y 1).val; omega

theorem emb5 (t : Fin cfg0.N) (y : S1x1.Idx) : ((cfg0.win 5).blk t).view.emb y = y := by
  have e := (blocks_start t).2.2.2.2.2
  funext a
  refine Fin.ext ?_
  match a with
  | ⟨0, _⟩ => show win0_5.index t 0 * 1 + 1 * (y 0).val = (y 0).val; rw [e]; show 0 * 1 + 1 * (y 0).val = (y 0).val; omega
  | ⟨1, _⟩ => show win0_5.index t 1 * 1 + 1 * (y 1).val = (y 1).val; rw [e]; show 0 * 1 + 1 * (y 1).val = (y 1).val; omega

theorem block0 (c : Dev nD) (t : Fin cfg0.N) (y : S512x2048.Idx) : iblk m c 0 t y = V m c main_arg0 (ix2 (rowOf t.val (y 0)) (y 1)) :=
  congrArg (V m c main_arg0) (emb0 t y)

theorem block1 (c : Dev nD) (t : Fin cfg0.N) : iblk m c 1 t = V m c main_arg1 :=
  funext fun y => congrArg (V m c main_arg1) (emb1 t y)

theorem block2 (c : Dev nD) (t : Fin cfg0.N) (y : S512x2048.Idx) : iblk m c 2 t y = V m c main_arg2 (ix2 (rowOf t.val (y 0)) (y 1)) :=
  congrArg (V m c main_arg2) (emb2 t y)

theorem block3 (c : Dev nD) (t : Fin cfg0.N) (y : S512x2048.Idx) : iblk m c 3 t y = V m c main_arg3 (ix2 (rowOf t.val (y 0)) (y 1)) :=
  congrArg (V m c main_arg3) (emb3 t y)

/-! ## What the arrays end at -/

theorem miss_block (c : Dev nD) (t : Fin cfg0.N) (y : S512x2048.Idx) :
    blockMiss (iblk m c 0 t) (iblk m c 1 t) (iblk m c 2 t) (iblk m c 3 t) y = miss (V m c main_arg0) (V m c main_arg1) (V m c main_arg2) (V m c main_arg3) (ix2 (rowOf t.val (y 0)) (y 1)) := by
  unfold blockMiss
  rw [block1, block2, block3]
  simp only [block0]
  rfl

/-- What point `t` leaves in the block of the gradient. -/
theorem left_gradient (c : Dev nD) (t : Fin cfg0.N) (y : S512x2048.Idx) : (outsAt0 (F := Ideal) m c t.val t.isLt).1 y
    = lossGrad (V m c main_arg0) (V m c main_arg1) (V m c main_arg2) (V m c main_arg3) (ix2 (rowOf t.val (y 0)) (y 1)) := by
  by_cases h : t.val % 16 = 0
  · rw [outsAt0_A m c t h]
    dsimp only
    rw [first_gradient, miss_block]
    rfl
  · rw [outsAt0_B m c t h]
    dsimp only
    rw [later_gradient, miss_block]
    rfl

/-- What the rows of block `t` give to the loss. -/
def blockPart (e : S8192x2048.Idx → EReal) (t : ℕ) : EReal := ∑ q : Fin 512, rowLoss e (rowOf t q)

/-- After point `n` the loss's buffer holds the parts of the blocks so far. -/
theorem left_loss (c : Dev nD) (n : ℕ) (hn : n < cfg0.N) (y : S1x1.Idx) : (outsAt0 (F := Ideal) m c n hn).2 y
    = ∑ t ∈ Finset.range (n + 1), blockPart (miss (V m c main_arg0) (V m c main_arg1) (V m c main_arg2) (V m c main_arg3)) t := by
  induction n with
  | zero =>
    rw [outsAt0_A m c ⟨0, hn⟩ (Nat.zero_mod _)]
    dsimp only
    rw [first_loss, Finset.sum_range_one]
    simp only [miss_block]
    rfl
  | succ n ih =>
    have h16 : n + 1 < 16 := lt_of_lt_of_eq hn points
    rw [outsAt0_B m c ⟨n + 1, hn⟩ (by show ¬(n + 1) % 16 = 0; omega)]
    dsimp only
    rw [later_loss, Finset.sum_range_succ]
    simp only [miss_block]
    exact congrArg (· + _) (ih (by omega))

/-- The sixteen blocks' parts are the whole loss. -/
theorem loss_eq (e : S8192x2048.Idx → EReal) : ∑ t ∈ Finset.range 16, blockPart e t = ∑ p : Fin 8192, rowLoss e p := by
  unfold blockPart
  rw [Finset.sum_range, Fin.sum_univ_tiles 16 512 rfl]
  refine Finset.sum_congr rfl fun t _ => Finset.sum_congr rfl fun q _ => congrArg _ (Fin.ext ?_)
  have ht := t.isLt
  have hq := q.isLt
  exact Nat.mod_eq_of_lt (by omega)

theorem written4 (c : Dev nD) (t : Fin cfg0.N) : (dats (F := Ideal) m 0 c).flushed 4 t
    = ((cfg0.win 4).blk t).view.read (Elt Ideal) (lossGrad (V m c main_arg0) (V m c main_arg1) (V m c main_arg2) (V m c main_arg3)) := by
  have key : ∀ (b : S512x2048.Idx → EReal) (p : S8192x2048.Idx → EReal), (∀ y : S512x2048.Idx, b y = p (((cfg0.win 4).blk t).view.emb y))
      → (cfg0.win 4).cut (grid0.coords t) b = ((cfg0.win 4).blk t).view.read (Elt Ideal) p :=
    fun b p hp => funext hp
  rw [flushed4]
  exact key _ _ fun y => (left_gradient m c t y).trans (congrArg _ (emb4 t y).symm)

/-- The point that writes entry `i`. -/
def pointOf (i : S8192x2048.Idx) : Fin cfg0.N := ⟨(i 0).val / 512, by
  have h : (i 0).val < 8192 := (i 0).isLt
  exact lt_of_lt_of_eq (by omega : (i 0).val / 512 < 16) points.symm⟩

theorem covered4 (i : S8192x2048.Idx) : i ∈ ((cfg0.win 4).blk (pointOf i)).view.set := by
  show i ∈ ((View.whole main_v0_0).slice (win0_4.rect (pointOf i))).set
  rw [View.set_slice_whole, Rect.mem_set_unit]
  have e := (blocks_start (pointOf i)).2.2.2.2.1
  have h0 : (i 0).val < 8192 := (i 0).isLt
  have h1 : (i 1).val < 2048 := (i 1).isLt
  intro a
  show win0_4.index (pointOf i) a * S512x2048.size a ≤ (i a).val ∧ (i a).val < win0_4.index (pointOf i) a * S512x2048.size a + S512x2048.size a
  rw [e]
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

/-- After the run the first array holds the gradient of the loss. -/
theorem final4 (c : Dev nD) : (dats (F := Ideal) m 0 c).arrAt 4 cfg0.N = lossGrad (V m c main_arg0) (V m c main_arg1) (V m c main_arg2) (V m c main_arg3) :=
  (dats m 0 c).arrAt_eq_of_cover 4 _ (fun t _ => written4 m c t) (fun i => ⟨pointOf i, flush0_4 _, covered4 i⟩)

theorem written5 (c : Dev nD) (t : Fin cfg0.N) (hf : (cfg0.win 5).flush t = true) : (dats (F := Ideal) m 0 c).flushed 5 t
    = ((cfg0.win 5).blk t).view.read (Elt Ideal) (loss (V m c main_arg0) (V m c main_arg1) (V m c main_arg2) (V m c main_arg3)) := by
  have key : ∀ (b p : S1x1.Idx → EReal), (∀ y : S1x1.Idx, b y = p (((cfg0.win 5).blk t).view.emb y))
      → (cfg0.win 5).cut (grid0.coords t) b = ((cfg0.win 5).blk t).view.read (Elt Ideal) p :=
    fun b p hp => funext hp
  have ht : t.val + 1 = 16 := by
    have h : t.val < 16 := lt_of_lt_of_eq t.isLt points
    have := (flush0_5 t).mp hf
    omega
  rw [flushed5]
  refine key _ _ fun y => (left_loss m c t.val t.isLt y).trans ?_
  rw [ht, loss_eq]
  rfl

/-- The grid's last point. -/
def last_point : Fin cfg0.N := ⟨15, (by decide : 15 < grid0.N)⟩

theorem covered5 (i : S1x1.Idx) : i ∈ ((cfg0.win 5).blk last_point).view.set := by
  show i ∈ ((View.whole main_v0_1).slice (win0_5.rect last_point)).set
  rw [View.set_slice_whole, Rect.mem_set_unit]
  have e := (blocks_start last_point).2.2.2.2.2
  have h0 : (i 0).val < 1 := (i 0).isLt
  have h1 : (i 1).val < 1 := (i 1).isLt
  intro a
  show win0_5.index last_point a * S1x1.size a ≤ (i a).val ∧ (i a).val < win0_5.index last_point a * S1x1.size a + S1x1.size a
  rw [e]
  match a with
  | ⟨0, _⟩ => show 0 * 1 ≤ (i 0).val ∧ (i 0).val < 0 * 1 + 1; omega
  | ⟨1, _⟩ => show 0 * 1 ≤ (i 1).val ∧ (i 1).val < 0 * 1 + 1; omega

/-- After the run the second array holds the loss. -/
theorem final5 (c : Dev nD) : (dats (F := Ideal) m 0 c).arrAt 5 cfg0.N = loss (V m c main_arg0) (V m c main_arg1) (V m c main_arg2) (V m c main_arg3) :=
  (dats m 0 c).arrAt_eq_of_cover 5 _ (written5 m c) (fun i => ⟨last_point, (flush0_5 last_point).mpr rfl, covered5 i⟩)

/-! ## The reference -/

section Arrays

variable (hr : Shape.ReducesTo S8192x2048 [1] Cert.PostLossRefIdeal.S8192) (hs : 0 < Cert.PostLossRefIdeal.S_.numel)
  (h1 : Cert.PostLossRefIdeal.S8192.BroadcastsInDim Cert.PostLossRefIdeal.S8192x1 ![0])
  (hc : Cert.PostLossRefIdeal.S_.BroadcastsInDim Cert.PostLossRefIdeal.S8192x1 ![])

/-- The reference's means of squares. -/
theorem reference_square (x : FVec Ideal S8192x2048 .f32) :
    addf (Host.divf (broadcastInDim Cert.PostLossRefIdeal.S8192x1 ![0] h1 (Host.reduceAdd (mulf x x) (constant Cert.PostLossRefIdeal.S_ .f32 0x00000000#32) hr hs))
        (broadcastInDim Cert.PostLossRefIdeal.S8192x1 ![] hc (constant Cert.PostLossRefIdeal.S_ .f32 0x45000000#32)))
      (broadcastInDim Cert.PostLossRefIdeal.S8192x1 ![] hc (constant Cert.PostLossRefIdeal.S_ .f32 0x358637BD#32))
      = (fun i => square fun k => x (ix2 (i 0) k) : FVec Ideal Cert.PostLossRefIdeal.S8192x1 .f32) := by
  funext i
  pointwise [square]

/-- The reference's norm. -/
theorem reference_norm (x : FVec Ideal S8192x2048 .f32) (g : FVec Ideal S1x2048 .f32) (hg : S1x2048.ShapeCasts Cert.PostLossRefIdeal.S2048)
    (hb : Cert.PostLossRefIdeal.S2048.BroadcastsInDim S1x2048 ![1]) (hb' : S1x2048.BroadcastsInDim S8192x2048 ![0, 1])
    (hd : Cert.PostLossRefIdeal.S8192x1.BroadcastsInDim S8192x2048 ![0, 1]) :
    mulf (mulf x (broadcastInDim S8192x2048 ![0, 1] hd (Host.rsqrt (fun i => square fun k => x (ix2 (i 0) k) : FVec Ideal Cert.PostLossRefIdeal.S8192x1 .f32))))
        (broadcastInDim S8192x2048 ![0, 1] hb' (broadcastInDim S1x2048 ![1] hb (shapeCast Cert.PostLossRefIdeal.S2048 g hg)))
      = (normed x g : FVec Ideal S8192x2048 .f32) := by
  funext i
  pointwise [normed, root]

/-- The reference's misses. -/
theorem reference_miss (x : FVec Ideal S8192x2048 .f32) (g : FVec Ideal S1x2048 .f32) (h t : FVec Ideal S8192x2048 .f32) :
    subf (addf h (normed x g : FVec Ideal S8192x2048 .f32)) t = (miss x g h t : FVec Ideal S8192x2048 .f32) := rfl

/-- The reference's gradient of the loss. -/
theorem reference_gradient (e : FVec Ideal S8192x2048 .f32) (i : S8192x2048.Idx) (hb : Cert.PostLossRefIdeal.S_.BroadcastsInDim Cert.PostLossRefIdeal.S8192 ![])
    (hb' : Cert.PostLossRefIdeal.S8192.BroadcastsInDim S8192x2048 ![0]) (hb'' : Cert.PostLossRefIdeal.S_.BroadcastsInDim S8192x2048 ![]) :
    mulf (broadcastInDim S8192x2048 ![0] hb' (Host.divf (broadcastInDim Cert.PostLossRefIdeal.S8192 ![] hb (mulf (constant Cert.PostLossRefIdeal.S_ .f32 0x3F000000#32) (constant Cert.PostLossRefIdeal.S_ .f32 0x3F800000#32)))
        (broadcastInDim Cert.PostLossRefIdeal.S8192 ![] hb (constant Cert.PostLossRefIdeal.S_ .f32 0x45000000#32))))
      (mulf (broadcastInDim S8192x2048 ![] hb'' (constant Cert.PostLossRefIdeal.S_ .f32 0x40000000#32)) e) i = e i * lit 0x3A000000#32 := by
  rw [← grad_factor]
  pointwise

/-- The reference's loss. -/
theorem reference_loss (e : FVec Ideal S8192x2048 .f32) (i : S1x1.Idx) (hb : Cert.PostLossRefIdeal.S_.BroadcastsInDim Cert.PostLossRefIdeal.S8192 ![])
    (hq : Shape.ReducesTo Cert.PostLossRefIdeal.S8192 [0] Cert.PostLossRefIdeal.S_) (hg : Cert.PostLossRefIdeal.S_.ShapeCasts S1x1) :
    shapeCast S1x1 (mulf (constant Cert.PostLossRefIdeal.S_ .f32 0x3F000000#32) (Host.reduceAdd (Host.divf (Host.reduceAdd (mulf e e) (constant Cert.PostLossRefIdeal.S_ .f32 0x00000000#32) hr hs)
        (broadcastInDim Cert.PostLossRefIdeal.S8192 ![] hb (constant Cert.PostLossRefIdeal.S_ .f32 0x45000000#32))) (constant Cert.PostLossRefIdeal.S_ .f32 0x00000000#32) hq hs)) hg i
      = ∑ p : Fin 8192, rowLoss e p := by
  unfold rowLoss
  rw [← loss_factor]
  pointwise

end Arrays

/-- Kernel and reference end at the same arrays. -/
theorem algebraic : Cert.algebraic_PostLossIdeal_PostLossRefIdeal := by
  intro m ρ m' ρ' _ hagree
  refine ⟨fun c => lossGrad (m ((c : Thread nD τ).loc main_arg0)) (m ((c : Thread nD τ).loc main_arg1)) (m ((c : Thread nD τ).loc main_arg2)) (m ((c : Thread nD τ).loc main_arg3)), fun c => loss (m ((c : Thread nD τ).loc main_arg0)) (m ((c : Thread nD τ).loc main_arg1)) (m ((c : Thread nD τ).loc main_arg2)) (m ((c : Thread nD τ).loc main_arg3)), ?_, ?_⟩
  · exact (θ_run Cert.PostLossIdeal.defs _ _).mono (fun r h c => ⟨(h c).1.trans (final4 m c), (h c).2.1.trans (final5 m c), (h c).2.2⟩) (run_blocks (F := Ideal) m ρ)
  · refine (θ_run Cert.PostLossRefIdeal.defs _ _).mono (fun r h c => ⟨(h c).1.trans ?_, (h c).2.1.trans ?_, (h c).2.2⟩)
      (Cert.PostLossRefIdeal.Value.run (F := Ideal) m' ρ')
    · rw [(hagree c).1, (hagree c).2.1, (hagree c).2.2.1, (hagree c).2.2.2, reference_square, reference_norm, reference_miss]
      exact funext fun i => reference_gradient _ i _ _ _
    · rw [(hagree c).1, (hagree c).2.1, (hagree c).2.2.1, (hagree c).2.2.2, reference_square, reference_norm, reference_miss]
      exact funext fun i => reference_loss _ _ _ i _ _ _

/-- Nothing was replaced. -/
theorem preserves : Cert.preserves_PostLoss_PostLossIdeal := by
  trivial

/-- The reference runs and leaves its arguments as they were. -/
theorem reference_frame : Cert.quiescent_PostLossRefIdeal := fun m ρ _ =>
  (θ_run Cert.PostLossRefIdeal.defs _ _).mono (fun r h => ⟨fun c => (h c).2.2, sem_eq_zero_of_no_sems (by decide) r.2⟩)
    (Cert.PostLossRefIdeal.Value.run (F := Ideal) m ρ)

end Cert.Norms.PostLoss

end
-- ==== Proof.Norms.PostBwd.lean ====
/- The gradient of the norm after the last layer's mixer: what the kernel's blocks hold, what its arrays end at, what
   the reference computes, and the equation. -/
module

public import proofs.«01_k».proof.Defs
public import proofs.«01_k».proof.Proof.Gen.PostBwdIdeal.Value
public import proofs.«01_k».proof.Proof.Gen.PostBwdRefIdeal.Run
public import proofs.«01_k».proof.Proof.Norms.Row
public import Idealize.ShloMosaic.Lib.Pointwise
public import Idealize.ShloMosaic.Lib.Pipeline.ValueKit.Basic

@[expose] public section

noncomputable section

namespace Cert.Norms.PostBwd

open Cert.PostBwdIdeal Cert.PostBwdIdeal.Gen Cert.PostBwdIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The function -/

/-- The gradient of the mixer's output at entry `i`. -/
def gradient (x : S8192x2048.Idx → EReal) (g : S1x2048.Idx → EReal) (z : S8192x2048.Idx → EReal) : S8192x2048.Idx → EReal := fun i =>
  rowGrad (fun k => x (ix2 (i 0) k)) (fun k => z (ix2 (i 0) k) * g (ix2 0 k)) (i 1)

/-- The part of the weight's gradient that one row gives. -/
def rowPart (x z : S8192x2048.Idx → EReal) (j : Fin 2048) (p : Fin 8192) : EReal :=
  z (ix2 p j) * (x (ix2 p j) * root fun k => x (ix2 p k))

/-- The weight's gradient. -/
def weight (x z : S8192x2048.Idx → EReal) : S1x2048.Idx → EReal := fun i => ∑ p : Fin 8192, rowPart x z (i 1) p

/-! ## What a point computes -/

theorem zero2 (a : Fin 2) : (![0, 0] : Fin 2 → ℕ) a = 0 := by
  fin_cases a <;> rfl

/-- The block of the gradient, from the blocks of the arguments. -/
theorem pay_gradient (x0 : Vec Ideal S512x2048 .f32) (x1 : Vec Ideal S1x2048 .f32) (x2 : Vec Ideal S512x2048 .f32) (y : S512x2048.Idx) :
    k0_pay5 x0 x1 x2 y = rowGrad (fun k => x0 (ix2 (y 0) k)) (fun k => x2 (ix2 (y 0) k) * x1 (ix2 0 k)) (y 1) := by
  pointwise [k0_pay2, k0_pay3, k0_pay5, rowGrad, root, square]

theorem pay_weight (x0 x2 : Vec Ideal S512x2048 .f32) (v : Vec Ideal S1x2048 .f32) (y : S1x2048.Idx) :
    k0_pay4 x0 x2 v y = v y + ∑ q : Fin 512, x2 (ix2 q (y 1)) * (x0 (ix2 q (y 1)) * root fun k => x0 (ix2 q k)) := by
  pointwise [k0_pay2, k0_pay3, k0_pay4, root, square]

theorem pay_start (y : S1x2048.Idx) : k0_pay1 (F := Ideal) y = 0 := by
  pointwise [k0_pay1]

/-- At the first point the body stores the block of the gradient. -/
theorem first_gradient (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .bf16) (h3 : r3.IsWhole) (r4 : Memref sig .tc .vmem S1x2048 .f32) (h4 : r4.IsWhole)
    (hc0 : cond0_0 i) (x0 : Vec Ideal S512x2048 .f32) (x1 : Vec Ideal S1x2048 .f32) (x2 : Vec Ideal S512x2048 .f32) (y : S512x2048.Idx) :
    out0_A_3 (F := Ideal) c i r0 h0 r1 h1 r2 h2 r3 h3 r4 h4 hc0 x0 x1 x2 y = rowGrad (fun k => x0 (ix2 (y 0) k)) (fun k => x2 (ix2 (y 0) k) * x1 (ix2 0 k)) (y 1) := by
  unfold out0_A_3
  rw [View.read_writes_eq_canon _ _ _ (cover0_A_3 c i r0 h0 r1 h1 r2 h2 r3 h3 r4 h4 hc0 x0 x1 x2)]
  unfold kernelRun0_A
  dsimp only
  sl_unfold_words
  rw [View.canon_cons_unit_lit (S := S512x2048) _ _ _ zero2]
  simp only [View.readAt_eq_ld, h0.read_unread, h1.read_unread, h2.read_unread]
  rw [View.ld_unit_lit (S := S512x2048) _ x0 zero2, View.ld_unit_lit (S := S512x2048) _ x2 zero2, View.ld_unit_lit (S := S1x2048) _ x1 zero2, pay_gradient]

/-- At a later point the body stores the block of the gradient. -/
theorem later_gradient (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .bf16) (h3 : r3.IsWhole) (r4 : Memref sig .tc .vmem S1x2048 .f32) (h4 : r4.IsWhole)
    (hc0 : ¬cond0_0 i) (x0 : Vec Ideal S512x2048 .f32) (x1 : Vec Ideal S1x2048 .f32) (x2 : Vec Ideal S512x2048 .f32) (xo : Vec Ideal S1x2048 .f32) (y : S512x2048.Idx) :
    out0_B_3 (F := Ideal) c i r0 h0 r1 h1 r2 h2 r3 h3 r4 h4 hc0 x0 x1 x2 xo y = rowGrad (fun k => x0 (ix2 (y 0) k)) (fun k => x2 (ix2 (y 0) k) * x1 (ix2 0 k)) (y 1) := by
  unfold out0_B_3
  rw [View.read_writes_eq_canon _ _ _ (cover0_B_3 c i r0 h0 r1 h1 r2 h2 r3 h3 r4 h4 hc0 x0 x1 x2 xo)]
  unfold kernelRun0_B
  dsimp only
  sl_unfold_words
  rw [View.canon_cons_unit_lit (S := S512x2048) _ _ _ zero2]
  simp only [View.readAt_eq_ld, h0.read_unread, h1.read_unread, h2.read_unread, h4.read_unread]
  rw [View.ld_unit_lit (S := S512x2048) _ x0 zero2, View.ld_unit_lit (S := S512x2048) _ x2 zero2, View.ld_unit_lit (S := S1x2048) _ x1 zero2, pay_gradient]

/-- At the first point the body stores its rows' part of the weight's gradient. -/
theorem first_weight (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .bf16) (h3 : r3.IsWhole) (r4 : Memref sig .tc .vmem S1x2048 .f32) (h4 : r4.IsWhole)
    (hc0 : cond0_0 i) (x0 : Vec Ideal S512x2048 .f32) (x1 : Vec Ideal S1x2048 .f32) (x2 : Vec Ideal S512x2048 .f32) (y : S1x2048.Idx) :
    out0_A_4 (F := Ideal) c i r0 h0 r1 h1 r2 h2 r3 h3 r4 h4 hc0 x0 x1 x2 y = ∑ q : Fin 512, x2 (ix2 q (y 1)) * (x0 (ix2 q (y 1)) * root fun k => x0 (ix2 q k)) := by
  unfold out0_A_4
  rw [View.read_writes_eq_canon _ _ _ (cover0_A_4 c i r0 h0 r1 h1 r2 h2 r3 h3 r4 h4 hc0 x0 x1 x2)]
  unfold kernelRun0_A
  dsimp only
  sl_unfold_words
  rw [View.canon_cons_unit_lit (S := S1x2048) _ _ _ zero2]
  simp only [View.readAt_eq_ld, h0.read_unread, h1.read_unread, h2.read_unread]
  rw [View.ld_unit_lit (S := S512x2048) _ x0 zero2, View.ld_unit_lit (S := S512x2048) _ x2 zero2, View.readCov_unit_lit (S := S1x2048) _ _ _ zero2, pay_weight, pay_start, zero_add]

/-- At a later point the body adds its rows' part of the weight's gradient. -/
theorem later_weight (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .bf16) (h3 : r3.IsWhole) (r4 : Memref sig .tc .vmem S1x2048 .f32) (h4 : r4.IsWhole)
    (hc0 : ¬cond0_0 i) (x0 : Vec Ideal S512x2048 .f32) (x1 : Vec Ideal S1x2048 .f32) (x2 : Vec Ideal S512x2048 .f32) (xo : Vec Ideal S1x2048 .f32) (y : S1x2048.Idx) :
    out0_B_4 (F := Ideal) c i r0 h0 r1 h1 r2 h2 r3 h3 r4 h4 hc0 x0 x1 x2 xo y = xo y + ∑ q : Fin 512, x2 (ix2 q (y 1)) * (x0 (ix2 q (y 1)) * root fun k => x0 (ix2 q k)) := by
  unfold out0_B_4
  rw [View.read_writes_eq_canon _ _ _ (cover0_B_4 c i r0 h0 r1 h1 r2 h2 r3 h3 r4 h4 hc0 x0 x1 x2 xo)]
  unfold kernelRun0_B
  dsimp only
  sl_unfold_words
  rw [View.canon_cons_unit_lit (S := S1x2048) _ _ _ zero2]
  simp only [View.readAt_eq_ld, h0.read_unread, h1.read_unread, h2.read_unread, h4.read_unread]
  rw [View.ld_unit_lit (S := S512x2048) _ x0 zero2, View.ld_unit_lit (S := S512x2048) _ x2 zero2, View.ld_unit_lit (S := S1x2048) _ xo zero2, pay_weight]

/-! ## Where the blocks lie -/

theorem points : grid0.N = 16 := by decide

theorem blocks_start : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The array's row that row `q` of block `t` is. -/
def rowOf (t : ℕ) (q : Fin 512) : Fin 8192 := ⟨(t * 512 + q.val) % 8192, Nat.mod_lt _ (by norm_num)⟩

theorem rowOf_val (t : Fin cfg0.N) (q : Fin 512) : (rowOf t.val q).val = t.val * 512 + q.val := by
  have h : t.val < 16 := lt_of_lt_of_eq t.isLt points
  have hq := q.isLt
  exact Nat.mod_eq_of_lt (by omega)

theorem emb0 (t : Fin cfg0.N) (y : S512x2048.Idx) : ((cfg0.win 0).blk t).view.emb y = ix2 (rowOf t.val (y 0)) (y 1) := by
  have e := (blocks_start t).1
  have r := rowOf_val t (y 0)
  funext a
  refine Fin.ext ?_
  match a with
  | ⟨0, _⟩ => show win0_0.index t 0 * 512 + 1 * (y 0).val = (rowOf t.val (y 0)).val; rw [e, r]; show t.val * 512 + 1 * (y 0).val = _; omega
  | ⟨1, _⟩ => show win0_0.index t 1 * 2048 + 1 * (y 1).val = (y 1).val; rw [e]; show 0 * 2048 + 1 * (y 1).val = (y 1).val; omega

theorem emb1 (t : Fin cfg0.N) (y : S1x2048.Idx) : ((cfg0.win 1).blk t).view.emb y = y := by
  have e := (blocks_start t).2.1
  funext a
  refine Fin.ext ?_
  match a with
  | ⟨0, _⟩ => show win0_1.index t 0 * 1 + 1 * (y 0).val = (y 0).val; rw [e]; show 0 * 1 + 1 * (y 0).val = (y 0).val; omega
  | ⟨1, _⟩ => show win0_1.index t 1 * 2048 + 1 * (y 1).val = (y 1).val; rw [e]; show 0 * 2048 + 1 * (y 1).val = (y 1).val; omega

theorem emb2 (t : Fin cfg0.N) (y : S512x2048.Idx) : ((cfg0.win 2).blk t).view.emb y = ix2 (rowOf t.val (y 0)) (y 1) := by
  have e := (blocks_start t).2.2.1
  have r := rowOf_val t (y 0)
  funext a
  refine Fin.ext ?_
  match a with
  | ⟨0, _⟩ => show win0_2.index t 0 * 512 + 1 * (y 0).val = (rowOf t.val (y 0)).val; rw [e, r]; show t.val * 512 + 1 * (y 0).val = _; omega
  | ⟨1, _⟩ => show win0_2.index t 1 * 2048 + 1 * (y 1).val = (y 1).val; rw [e]; show 0 * 2048 + 1 * (y 1).val = (y 1).val; omega

theorem emb3 (t : Fin cfg0.N) (y : S512x2048.Idx) : ((cfg0.win 3).blk t).view.emb y = ix2 (rowOf t.val (y 0)) (y 1) := by
  have e := (blocks_start t).2.2.2.1
  have r := rowOf_val t (y 0)
  funext a
  refine Fin.ext ?_
  match a with
  | ⟨0, _⟩ => show win0_3.index t 0 * 512 + 1 * (y 0).val = (rowOf t.val (y 0)).val; rw [e, r]; show t.val * 512 + 1 * (y 0).val = _; omega
  | ⟨1, _⟩ => show win0_3.index t 1 * 2048 + 1 * (y 1).val = (y 1).val; rw [e]; show 0 * 2048 + 1 * (y 1).val = (y 1).val; omega

theorem emb4 (t : Fin cfg0.N) (y : S1x2048.Idx) : ((cfg0.win 4).blk t).view.emb y = y := by
  have e := (blocks_start t).2.2.2.2
  funext a
  refine Fin.ext ?_
  match a with
  | ⟨0, _⟩ => show win0_4.index t 0 * 1 + 1 * (y 0).val = (y 0).val; rw [e]; show 0 * 1 + 1 * (y 0).val = (y 0).val; omega
  | ⟨1, _⟩ => show win0_4.index t 1 * 2048 + 1 * (y 1).val = (y 1).val; rw [e]; show 0 * 2048 + 1 * (y 1).val = (y 1).val; omega

theorem block0 (c : Dev nD) (t : Fin cfg0.N) (y : S512x2048.Idx) : iblk m c 0 t y = V m c main_arg0 (ix2 (rowOf t.val (y 0)) (y 1)) :=
  congrArg (V m c main_arg0) (emb0 t y)

theorem block2 (c : Dev nD) (t : Fin cfg0.N) (y : S512x2048.Idx) : iblk m c 2 t y = V m c main_arg2 (ix2 (rowOf t.val (y 0)) (y 1)) :=
  congrArg (V m c main_arg2) (emb2 t y)

theorem block1 (c : Dev nD) (t : Fin cfg0.N) : iblk m c 1 t = V m c main_arg1 :=
  funext fun y => congrArg (V m c main_arg1) (emb1 t y)

/-! ## What the arrays end at -/

/-- What point `t` leaves in the block of the gradient. -/
theorem left_gradient (c : Dev nD) (t : Fin cfg0.N) (y : S512x2048.Idx) : (outsAt0 (F := Ideal) m c t.val t.isLt).1 y
    = gradient (V m c main_arg0) (V m c main_arg1) (V m c main_arg2) (ix2 (rowOf t.val (y 0)) (y 1)) := by
  by_cases h : t.val % 16 = 0
  · rw [outsAt0_A m c t h]
    dsimp only
    rw [first_gradient, block1]
    simp only [block0, block2]
    rfl
  · rw [outsAt0_B m c t h]
    dsimp only
    rw [later_gradient, block1]
    simp only [block0, block2]
    rfl

/-- What the rows of block `t` give to the weight's gradient. -/
def blockPart (x z : S8192x2048.Idx → EReal) (j : Fin 2048) (t : ℕ) : EReal := ∑ q : Fin 512, rowPart x z j (rowOf t q)

/-- After point `n` the weight's block holds the parts of the blocks so far. -/
theorem left_weight (c : Dev nD) (n : ℕ) (hn : n < cfg0.N) (y : S1x2048.Idx) : (outsAt0 (F := Ideal) m c n hn).2 y
    = ∑ t ∈ Finset.range (n + 1), blockPart (V m c main_arg0) (V m c main_arg2) (y 1) t := by
  induction n with
  | zero =>
    rw [outsAt0_A m c ⟨0, hn⟩ (Nat.zero_mod _)]
    dsimp only
    rw [first_weight, Finset.sum_range_one]
    simp only [block0, block2]
    rfl
  | succ n ih =>
    have h16 : n + 1 < 16 := lt_of_lt_of_eq hn points
    rw [outsAt0_B m c ⟨n + 1, hn⟩ (by show ¬(n + 1) % 16 = 0; omega)]
    dsimp only
    rw [later_weight, Finset.sum_range_succ]
    simp only [block0, block2]
    exact congrArg (· + _) (ih (by omega))

/-- The sixteen blocks' parts are the whole gradient of the weight. -/
theorem weight_eq (x z : S8192x2048.Idx → EReal) (y : S1x2048.Idx) : ∑ t ∈ Finset.range 16, blockPart x z (y 1) t = weight x z y := by
  unfold weight blockPart
  rw [Finset.sum_range, Fin.sum_univ_tiles 16 512 rfl]
  refine Finset.sum_congr rfl fun t _ => Finset.sum_congr rfl fun q _ => congrArg _ (Fin.ext ?_)
  have ht := t.isLt
  have hq := q.isLt
  exact Nat.mod_eq_of_lt (by omega)

theorem written3 (c : Dev nD) (t : Fin cfg0.N) : (dats (F := Ideal) m 0 c).flushed 3 t
    = ((cfg0.win 3).blk t).view.read (Elt Ideal) (gradient (V m c main_arg0) (V m c main_arg1) (V m c main_arg2)) := by
  have key : ∀ (b : S512x2048.Idx → EReal) (p : S8192x2048.Idx → EReal), (∀ y : S512x2048.Idx, b y = p (((cfg0.win 3).blk t).view.emb y))
      → (cfg0.win 3).cut (grid0.coords t) b = ((cfg0.win 3).blk t).view.read (Elt Ideal) p :=
    fun b p hp => funext hp
  rw [flushed3]
  exact key _ _ fun y => (left_gradient m c t y).trans (congrArg _ (emb3 t y).symm)

/-- The point that writes entry `i`. -/
def pointOf (i : S8192x2048.Idx) : Fin cfg0.N := ⟨(i 0).val / 512, by
  have h : (i 0).val < 8192 := (i 0).isLt
  exact lt_of_lt_of_eq (by omega : (i 0).val / 512 < 16) points.symm⟩

theorem covered3 (i : S8192x2048.Idx) : i ∈ ((cfg0.win 3).blk (pointOf i)).view.set := by
  show i ∈ ((View.whole main_v0_0).slice (win0_3.rect (pointOf i))).set
  rw [View.set_slice_whole, Rect.mem_set_unit]
  have e := (blocks_start (pointOf i)).2.2.2.1
  have h0 : (i 0).val < 8192 := (i 0).isLt
  have h1 : (i 1).val < 2048 := (i 1).isLt
  intro a
  show win0_3.index (pointOf i) a * S512x2048.size a ≤ (i a).val ∧ (i a).val < win0_3.index (pointOf i) a * S512x2048.size a + S512x2048.size a
  rw [e]
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

/-- After the run the first array holds the gradient of the mixer's output. -/
theorem final3 (c : Dev nD) : (dats (F := Ideal) m 0 c).arrAt 3 cfg0.N = gradient (V m c main_arg0) (V m c main_arg1) (V m c main_arg2) :=
  (dats m 0 c).arrAt_eq_of_cover 3 _ (fun t _ => written3 m c t) (fun i => ⟨pointOf i, flush0_3 _, covered3 i⟩)

theorem written4 (c : Dev nD) (t : Fin cfg0.N) (hf : (cfg0.win 4).flush t = true) : (dats (F := Ideal) m 0 c).flushed 4 t
    = ((cfg0.win 4).blk t).view.read (Elt Ideal) (weight (V m c main_arg0) (V m c main_arg2)) := by
  have key : ∀ (b p : S1x2048.Idx → EReal), (∀ y : S1x2048.Idx, b y = p (((cfg0.win 4).blk t).view.emb y))
      → (cfg0.win 4).cut (grid0.coords t) b = ((cfg0.win 4).blk t).view.read (Elt Ideal) p :=
    fun b p hp => funext hp
  have ht : t.val + 1 = 16 := by
    have h : t.val < 16 := lt_of_lt_of_eq t.isLt points
    have := (flush0_4 t).mp hf
    omega
  rw [flushed4]
  refine key _ _ fun y => (left_weight m c t.val t.isLt y).trans ?_
  rw [emb4, ht, weight_eq]

/-- The grid's last point. -/
def last_point : Fin cfg0.N := ⟨15, (by decide : 15 < grid0.N)⟩

theorem covered4 (i : S1x2048.Idx) : i ∈ ((cfg0.win 4).blk last_point).view.set := by
  show i ∈ ((View.whole main_v0_1).slice (win0_4.rect last_point)).set
  rw [View.set_slice_whole, Rect.mem_set_unit]
  have e := (blocks_start last_point).2.2.2.2
  have h0 : (i 0).val < 1 := (i 0).isLt
  have h1 : (i 1).val < 2048 := (i 1).isLt
  intro a
  show win0_4.index last_point a * S1x2048.size a ≤ (i a).val ∧ (i a).val < win0_4.index last_point a * S1x2048.size a + S1x2048.size a
  rw [e]
  match a with
  | ⟨0, _⟩ => show 0 * 1 ≤ (i 0).val ∧ (i 0).val < 0 * 1 + 1; omega
  | ⟨1, _⟩ => show 0 * 2048 ≤ (i 1).val ∧ (i 1).val < 0 * 2048 + 2048; omega

/-- After the run the second array holds the gradient of the weight. -/
theorem final4 (c : Dev nD) : (dats (F := Ideal) m 0 c).arrAt 4 cfg0.N = weight (V m c main_arg0) (V m c main_arg2) :=
  (dats m 0 c).arrAt_eq_of_cover 4 _ (written4 m c) (fun i => ⟨last_point, (flush0_4 last_point).mpr rfl, covered4 i⟩)

/-! ## The reference -/

/-- The gradient in the reference's form. -/
theorem gradient_eq (x : S8192x2048.Idx → EReal) (g : S1x2048.Idx → EReal) (z : S8192x2048.Idx → EReal) (i : S8192x2048.Idx) :
    gradient x g z i = z i * g (ix2 0 (i 1)) * root (fun k => x (ix2 (i 0) k))
      + x i * meanGrad (fun k => x (ix2 (i 0) k)) (fun k => z (ix2 (i 0) k) * g (ix2 0 k))
      + meanGrad (fun k => x (ix2 (i 0) k)) (fun k => z (ix2 (i 0) k) * g (ix2 0 k)) * x i := by
  have hi : (ix2 (i 0) (i 1) : S8192x2048.Idx) = i := by
    funext a
    match a with
    | ⟨0, _⟩ => rfl
    | ⟨1, _⟩ => rfl
  have h := rowGrad_eq (fun k => x (ix2 (i 0) k)) (fun k => z (ix2 (i 0) k) * g (ix2 0 k)) (i 1)
  have hx : x (ix2 (i 0) (i 1)) = x i := congrArg x hi
  have hz : z (ix2 (i 0) (i 1)) = z i := congrArg z hi
  refine h.trans ?_
  rw [hx, hz]

section Arrays

variable (hr : Shape.ReducesTo S8192x2048 [1] Cert.PostBwdRefIdeal.S8192) (hs : 0 < Cert.PostBwdRefIdeal.S_.numel)
  (h1 : Cert.PostBwdRefIdeal.S8192.BroadcastsInDim Cert.PostBwdRefIdeal.S8192x1 ![0])
  (hc : Cert.PostBwdRefIdeal.S_.BroadcastsInDim Cert.PostBwdRefIdeal.S8192x1 ![])

/-- The reference's means of squares. -/
theorem reference_square (x : FVec Ideal S8192x2048 .f32) :
    addf (Host.divf (broadcastInDim Cert.PostBwdRefIdeal.S8192x1 ![0] h1 (Host.reduceAdd (mulf x x) (constant Cert.PostBwdRefIdeal.S_ .f32 0x00000000#32) hr hs))
        (broadcastInDim Cert.PostBwdRefIdeal.S8192x1 ![] hc (constant Cert.PostBwdRefIdeal.S_ .f32 0x45000000#32)))
      (broadcastInDim Cert.PostBwdRefIdeal.S8192x1 ![] hc (constant Cert.PostBwdRefIdeal.S_ .f32 0x358637BD#32))
      = (fun i => square fun k => x (ix2 (i 0) k) : FVec Ideal Cert.PostBwdRefIdeal.S8192x1 .f32) := by
  funext i
  pointwise [square]

/-- The reference's gradient of the norm's result times the weight. -/
theorem reference_scaled (g : FVec Ideal S1x2048 .f32) (z : FVec Ideal S8192x2048 .f32) (hg : S1x2048.ShapeCasts Cert.PostBwdRefIdeal.S2048)
    (hb : Cert.PostBwdRefIdeal.S2048.BroadcastsInDim S1x2048 ![1]) (hb' : S1x2048.BroadcastsInDim S8192x2048 ![0, 1]) :
    mulf z (broadcastInDim S8192x2048 ![0, 1] hb' (broadcastInDim S1x2048 ![1] hb (shapeCast Cert.PostBwdRefIdeal.S2048 g hg)))
      = (fun i => z i * g (ix2 0 (i 1)) : FVec Ideal S8192x2048 .f32) := by
  funext i
  pointwise

/-- What the reference hands to the squares. -/
theorem reference_mean (x u : FVec Ideal S8192x2048 .f32) (hg : Cert.PostBwdRefIdeal.S8192.ShapeCasts Cert.PostBwdRefIdeal.S8192x1)
    (hr' : Shape.ReducesTo Cert.PostBwdRefIdeal.S8192x1 [1] Cert.PostBwdRefIdeal.S8192) :
    Host.reduceAdd (Host.divf (mulf (shapeCast Cert.PostBwdRefIdeal.S8192x1 (Host.reduceAdd (mulf x u) (constant Cert.PostBwdRefIdeal.S_ .f32 0x00000000#32) hr hs) hg)
          (mulf (broadcastInDim Cert.PostBwdRefIdeal.S8192x1 ![] hc (constant Cert.PostBwdRefIdeal.S_ .f32 0xBF000000#32))
            (Host.divf (Host.rsqrt (fun i => square fun k => x (ix2 (i 0) k) : FVec Ideal Cert.PostBwdRefIdeal.S8192x1 .f32))
              (fun i => square fun k => x (ix2 (i 0) k) : FVec Ideal Cert.PostBwdRefIdeal.S8192x1 .f32))))
        (broadcastInDim Cert.PostBwdRefIdeal.S8192x1 ![] hc (constant Cert.PostBwdRefIdeal.S_ .f32 0x45000000#32)))
      (constant Cert.PostBwdRefIdeal.S_ .f32 0x00000000#32) hr' hs
      = (fun i => meanGrad (fun k => x (ix2 (i 0) k)) (fun k => u (ix2 (i 0) k)) : FVec Ideal Cert.PostBwdRefIdeal.S8192 .f32) := by
  funext i
  pointwise [meanGrad, root, Fin.sum_univ_one]

/-- The reference's gradient of the mixer's output, from those. -/
theorem reference_sum (x : FVec Ideal S8192x2048 .f32) (g : FVec Ideal S1x2048 .f32) (z : FVec Ideal S8192x2048 .f32)
    (hb : Cert.PostBwdRefIdeal.S8192x1.BroadcastsInDim S8192x2048 ![0, 1]) (hb' : Cert.PostBwdRefIdeal.S8192.BroadcastsInDim S8192x2048 ![0]) (hw : FTy.bits .bf16 < FTy.bits .f32) :
    truncf .bf16 (addf (addf (mulf (fun i => z i * g (ix2 0 (i 1)) : FVec Ideal S8192x2048 .f32)
          (broadcastInDim S8192x2048 ![0, 1] hb (Host.rsqrt (fun i => square fun k => x (ix2 (i 0) k) : FVec Ideal Cert.PostBwdRefIdeal.S8192x1 .f32))))
        (mulf x (broadcastInDim S8192x2048 ![0] hb' (fun i => meanGrad (fun k => x (ix2 (i 0) k)) (fun k => z (ix2 (i 0) k) * g (ix2 0 k)) : FVec Ideal Cert.PostBwdRefIdeal.S8192 .f32))))
      (mulf (broadcastInDim S8192x2048 ![0] hb' (fun i => meanGrad (fun k => x (ix2 (i 0) k)) (fun k => z (ix2 (i 0) k) * g (ix2 0 k)) : FVec Ideal Cert.PostBwdRefIdeal.S8192 .f32)) x)) hw
      = gradient x g z := by
  funext i
  rw [gradient_eq]
  pointwise [root]

/-- The reference's gradient of the weight. -/
theorem reference_weight (x z : FVec Ideal S8192x2048 .f32) (hb : Cert.PostBwdRefIdeal.S8192x1.BroadcastsInDim S8192x2048 ![0, 1])
    (hq : Shape.ReducesTo S8192x2048 [0] Cert.PostBwdRefIdeal.S2048) (hg : Cert.PostBwdRefIdeal.S2048.ShapeCasts S1x2048)
    (hq' : Shape.ReducesTo S1x2048 [0] Cert.PostBwdRefIdeal.S2048) (ho : Cert.PostBwdRefIdeal.S2048.BroadcastsInDim S1x2048 ![1]) :
    broadcastInDim S1x2048 ![1] ho (Host.reduceAdd (shapeCast S1x2048 (Host.reduceAdd (mulf (mulf x (broadcastInDim S8192x2048 ![0, 1] hb
        (Host.rsqrt (fun i => square fun k => x (ix2 (i 0) k) : FVec Ideal Cert.PostBwdRefIdeal.S8192x1 .f32)))) z)
        (constant Cert.PostBwdRefIdeal.S_ .f32 0x00000000#32) hq hs) hg) (constant Cert.PostBwdRefIdeal.S_ .f32 0x00000000#32) hq' hs) = weight x z := by
  funext i
  pointwise [weight, rowPart, root, Fin.sum_univ_one]
  exact Finset.sum_congr rfl fun p _ => mul_comm _ _

end Arrays

/-- Kernel and reference end at the same arrays. -/
theorem algebraic : Cert.algebraic_PostBwdIdeal_PostBwdRefIdeal := by
  intro m ρ m' ρ' _ hagree
  refine ⟨fun c => gradient (m ((c : Thread nD τ).loc main_arg0)) (m ((c : Thread nD τ).loc main_arg1)) (m ((c : Thread nD τ).loc main_arg2)),
    fun c => weight (m ((c : Thread nD τ).loc main_arg0)) (m ((c : Thread nD τ).loc main_arg2)), ?_, ?_⟩
  · exact (θ_run Cert.PostBwdIdeal.defs _ _).mono (fun r h c => ⟨(h c).1.trans (final3 m c), (h c).2.1.trans (final4 m c), (h c).2.2⟩) (run_blocks (F := Ideal) m ρ)
  · refine (θ_run Cert.PostBwdRefIdeal.defs _ _).mono (fun r h c => ⟨(h c).1.trans ?_, (h c).2.1.trans ?_, (h c).2.2⟩)
      (Cert.PostBwdRefIdeal.Value.run (F := Ideal) m' ρ')
    · unfold Cert.PostBwdRefIdeal.Value.res_main_v38
      rw [(hagree c).1, (hagree c).2.1, (hagree c).2.2, reference_square, reference_scaled, reference_mean]
      exact reference_sum _ _ _ _ _ _
    · rw [(hagree c).1, (hagree c).2.2, reference_square]
      exact reference_weight _ _ _ _ _ _ _ _

/-- Nothing was replaced. -/
theorem preserves : Cert.preserves_PostBwd_PostBwdIdeal := by
  trivial

/-- The reference runs and leaves its arguments as they were. -/
theorem reference_frame : Cert.quiescent_PostBwdRefIdeal := fun m ρ _ =>
  (θ_run Cert.PostBwdRefIdeal.defs _ _).mono (fun r h => ⟨fun c => (h c).2.2, sem_eq_zero_of_no_sems (by decide) r.2⟩)
    (Cert.PostBwdRefIdeal.Value.run (F := Ideal) m ρ)

end Cert.Norms.PostBwd

end
-- ==== Proof.Norms.PrePostBwd.lean ====
/- The call between two layers in the backward pass, with the gradients of the norm before the upper mixer and of the norm
   after the lower one: what the kernel's blocks hold, what its arrays end at, what the reference computes, and the equation. -/
module

public import proofs.«01_k».proof.Defs
public import proofs.«01_k».proof.Proof.Gen.PrePostBwdIdeal.Value
public import proofs.«01_k».proof.Proof.Gen.PrePostBwdRefIdeal.Run
public import proofs.«01_k».proof.Proof.Norms.Row
public import Idealize.ShloMosaic.Lib.Pointwise
public import Idealize.ShloMosaic.Lib.Pipeline.ValueKit.Basic

@[expose] public section

noncomputable section

namespace Cert.Norms.PrePostBwd

open Cert.PrePostBwdIdeal Cert.PrePostBwdIdeal.Gen Cert.PrePostBwdIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The function -/

/-- The gradient of the residual stream at entry `i`: what comes past the upper norm, and what comes through it. -/
def gradient (x : S8192x2048.Idx → EReal) (g : S1x2048.Idx → EReal) (z d : S8192x2048.Idx → EReal) : S8192x2048.Idx → EReal := fun i =>
  d i + rowGrad (fun k => x (ix2 (i 0) k)) (fun k => z (ix2 (i 0) k) * g (ix2 0 k)) (i 1)

/-- The gradient of the lower mixer's output. -/
def below (x : S8192x2048.Idx → EReal) (g : S1x2048.Idx → EReal) (z : S8192x2048.Idx → EReal) : S8192x2048.Idx → EReal := fun i =>
  rowGrad (fun k => x (ix2 (i 0) k)) (fun k => z (ix2 (i 0) k) * g (ix2 0 k)) (i 1)

/-- The part of a weight's gradient that one row gives. -/
def rowPart (x z : S8192x2048.Idx → EReal) (j : Fin 2048) (p : Fin 8192) : EReal :=
  z (ix2 p j) * (x (ix2 p j) * root fun k => x (ix2 p k))

/-- A weight's gradient. -/
def weight (x z : S8192x2048.Idx → EReal) : S1x2048.Idx → EReal := fun i => ∑ p : Fin 8192, rowPart x z (i 1) p

/-! ## What a point computes -/

theorem zero2 (a : Fin 2) : (![0, 0] : Fin 2 → ℕ) a = 0 := by
  fin_cases a <;> rfl

/-- A block of the gradient of the residual stream. -/
def blockGradient (x0 : Vec Ideal S512x2048 .f32) (x1 : Vec Ideal S1x2048 .f32) (x2 x3 : Vec Ideal S512x2048 .f32) (y : S512x2048.Idx) : EReal :=
  x3 y + rowGrad (fun k => x0 (ix2 (y 0) k)) (fun k => x2 (ix2 (y 0) k) * x1 (ix2 0 k)) (y 1)

/-- The part of a weight's gradient that a block gives. -/
def blockWeight (x z : S512x2048.Idx → EReal) (y : S1x2048.Idx) : EReal := ∑ q : Fin 512, z (ix2 q (y 1)) * (x (ix2 q (y 1)) * root fun k => x (ix2 q k))

theorem pay_gradient (x0 : Vec Ideal S512x2048 .f32) (x1 : Vec Ideal S1x2048 .f32) (x2 x3 : Vec Ideal S512x2048 .f32) :
    k0_pay9 x0 x1 x2 x3 = blockGradient x0 x1 x2 x3 := by
  funext y
  pointwise [k0_pay7, k0_pay8, k0_pay9, blockGradient, rowGrad, root, square]

theorem pay_below (z : FVec Ideal S512x2048 .f32) (x4 : Vec Ideal S512x2048 .f32) (x5 : Vec Ideal S1x2048 .f32) (y : S512x2048.Idx) :
    k0_pay3 z x4 x5 y = rowGrad (fun k => x4 (ix2 (y 0) k)) (fun k => z (ix2 (y 0) k) * x5 (ix2 0 k)) (y 1) := by
  pointwise [k0_pay1, k0_pay2, k0_pay3, rowGrad, root, square]

theorem pay_weight (x0 x2 : Vec Ideal S512x2048 .f32) (v : Vec Ideal S1x2048 .f32) (y : S1x2048.Idx) :
    k0_pay10 x0 x2 v y = v y + blockWeight x0 x2 y := by
  pointwise [k0_pay7, k0_pay8, k0_pay10, blockWeight, root, square]

theorem pay_weight_below (z : FVec Ideal S512x2048 .f32) (x4 : Vec Ideal S512x2048 .f32) (v : Vec Ideal S1x2048 .f32) (y : S1x2048.Idx) :
    k0_pay4 z x4 v y = v y + blockWeight x4 z y := by
  pointwise [k0_pay1, k0_pay2, k0_pay4, blockWeight, root, square]

theorem pay_start (y : S1x2048.Idx) : k0_pay5 (F := Ideal) y = 0 := by
  pointwise [k0_pay5]

theorem pay_start_below (y : S1x2048.Idx) : k0_pay6 (F := Ideal) y = 0 := by
  pointwise [k0_pay6]

/-- At the first point the body stores the block of the gradient of the residual stream. -/
theorem first_gradient (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x2048 .f32) (h5 : r5.IsWhole) (r6 : Memref sig .tc .vmem S512x2048 .f32) (h6 : r6.IsWhole) (r7 : Memref sig .tc .vmem S512x2048 .bf16) (h7 : r7.IsWhole) (r8 : Memref sig .tc .vmem S1x2048 .f32) (h8 : r8.IsWhole) (r9 : Memref sig .tc .vmem S1x2048 .f32) (h9 : r9.IsWhole)
    (hc0 : cond0_0 i) (x0 : Vec Ideal S512x2048 .f32) (x1 : Vec Ideal S1x2048 .f32) (x2 x3 x4 : Vec Ideal S512x2048 .f32) (x5 : Vec Ideal S1x2048 .f32) (y : S512x2048.Idx) :
    out0_A_6 (F := Ideal) c i r0 h0 r1 h1 r2 h2 r3 h3 r4 h4 r5 h5 r6 h6 r7 h7 r8 h8 r9 h9 hc0 x0 x1 x2 x3 x4 x5 y = blockGradient x0 x1 x2 x3 y := by
  unfold out0_A_6
  rw [View.read_writes_eq_canon _ _ _ (cover0_A_6 c i r0 h0 r1 h1 r2 h2 r3 h3 r4 h4 r5 h5 r6 h6 r7 h7 r8 h8 r9 h9 hc0 x0 x1 x2 x3 x4 x5)]
  unfold kernelRun0_A
  dsimp only
  sl_unfold_words
  rw [View.canon_cons_unit_lit (S := S512x2048) _ _ _ zero2]
  simp only [View.readAt_eq_ld, h0.read_unread, h1.read_unread, h2.read_unread, h3.read_unread, h4.read_unread, h5.read_unread]
  rw [View.ld_unit_lit (S := S512x2048) _ x0 zero2, View.ld_unit_lit (S := S1x2048) _ x1 zero2, View.ld_unit_lit (S := S512x2048) _ x2 zero2, View.ld_unit_lit (S := S512x2048) _ x3 zero2, pay_gradient]

/-- At the first point the body stores the block of the gradient of the lower mixer's output. -/
theorem first_below (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x2048 .f32) (h5 : r5.IsWhole) (r6 : Memref sig .tc .vmem S512x2048 .f32) (h6 : r6.IsWhole) (r7 : Memref sig .tc .vmem S512x2048 .bf16) (h7 : r7.IsWhole) (r8 : Memref sig .tc .vmem S1x2048 .f32) (h8 : r8.IsWhole) (r9 : Memref sig .tc .vmem S1x2048 .f32) (h9 : r9.IsWhole)
    (hc0 : cond0_0 i) (x0 : Vec Ideal S512x2048 .f32) (x1 : Vec Ideal S1x2048 .f32) (x2 x3 x4 : Vec Ideal S512x2048 .f32) (x5 : Vec Ideal S1x2048 .f32) (y : S512x2048.Idx) :
    out0_A_7 (F := Ideal) c i r0 h0 r1 h1 r2 h2 r3 h3 r4 h4 r5 h5 r6 h6 r7 h7 r8 h8 r9 h9 hc0 x0 x1 x2 x3 x4 x5 y = rowGrad (fun k => x4 (ix2 (y 0) k)) (fun k => blockGradient x0 x1 x2 x3 (ix2 (y 0) k) * x5 (ix2 0 k)) (y 1) := by
  unfold out0_A_7
  rw [View.read_writes_eq_canon _ _ _ (cover0_A_7 c i r0 h0 r1 h1 r2 h2 r3 h3 r4 h4 r5 h5 r6 h6 r7 h7 r8 h8 r9 h9 hc0 x0 x1 x2 x3 x4 x5)]
  unfold kernelRun0_A
  dsimp only
  sl_unfold_words
  rw [View.canon_cons_unit_lit (S := S512x2048) _ _ _ zero2]
  simp only [View.readAt_eq_ld, h0.read_unread, h1.read_unread, h2.read_unread, h3.read_unread, h4.read_unread, h5.read_unread]
  rw [View.ld_unit_lit (S := S512x2048) _ x0 zero2, View.ld_unit_lit (S := S1x2048) _ x1 zero2, View.ld_unit_lit (S := S512x2048) _ x2 zero2, View.ld_unit_lit (S := S512x2048) _ x3 zero2, View.ld_unit_lit (S := S512x2048) _ x4 zero2, View.ld_unit_lit (S := S1x2048) _ x5 zero2, pay_gradient, pay_below]

/-- At the first point the body stores its rows' part of the upper norm's weight. -/
theorem first_weight (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x2048 .f32) (h5 : r5.IsWhole) (r6 : Memref sig .tc .vmem S512x2048 .f32) (h6 : r6.IsWhole) (r7 : Memref sig .tc .vmem S512x2048 .bf16) (h7 : r7.IsWhole) (r8 : Memref sig .tc .vmem S1x2048 .f32) (h8 : r8.IsWhole) (r9 : Memref sig .tc .vmem S1x2048 .f32) (h9 : r9.IsWhole)
    (hc0 : cond0_0 i) (x0 : Vec Ideal S512x2048 .f32) (x1 : Vec Ideal S1x2048 .f32) (x2 x3 x4 : Vec Ideal S512x2048 .f32) (x5 : Vec Ideal S1x2048 .f32) (y : S1x2048.Idx) :
    out0_A_8 (F := Ideal) c i r0 h0 r1 h1 r2 h2 r3 h3 r4 h4 r5 h5 r6 h6 r7 h7 r8 h8 r9 h9 hc0 x0 x1 x2 x3 x4 x5 y = blockWeight x0 x2 y := by
  unfold out0_A_8
  rw [View.read_writes_eq_canon _ _ _ (cover0_A_8 c i r0 h0 r1 h1 r2 h2 r3 h3 r4 h4 r5 h5 r6 h6 r7 h7 r8 h8 r9 h9 hc0 x0 x1 x2 x3 x4 x5)]
  unfold kernelRun0_A
  dsimp only
  sl_unfold_words
  rw [View.canon_cons_unit_lit (S := S1x2048) _ _ _ zero2]
  simp only [View.readAt_eq_ld, h0.read_unread, h1.read_unread, h2.read_unread, h3.read_unread, h4.read_unread, h5.read_unread]
  rw [View.ld_unit_lit (S := S512x2048) _ x0 zero2, View.ld_unit_lit (S := S512x2048) _ x2 zero2, View.readCov_unit_lit (S := S1x2048) _ _ _ zero2, pay_weight, pay_start, zero_add]

/-- At the first point the body stores its rows' part of the lower norm's weight. -/
theorem first_weight_below (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x2048 .f32) (h5 : r5.IsWhole) (r6 : Memref sig .tc .vmem S512x2048 .f32) (h6 : r6.IsWhole) (r7 : Memref sig .tc .vmem S512x2048 .bf16) (h7 : r7.IsWhole) (r8 : Memref sig .tc .vmem S1x2048 .f32) (h8 : r8.IsWhole) (r9 : Memref sig .tc .vmem S1x2048 .f32) (h9 : r9.IsWhole)
    (hc0 : cond0_0 i) (x0 : Vec Ideal S512x2048 .f32) (x1 : Vec Ideal S1x2048 .f32) (x2 x3 x4 : Vec Ideal S512x2048 .f32) (x5 : Vec Ideal S1x2048 .f32) (y : S1x2048.Idx) :
    out0_A_9 (F := Ideal) c i r0 h0 r1 h1 r2 h2 r3 h3 r4 h4 r5 h5 r6 h6 r7 h7 r8 h8 r9 h9 hc0 x0 x1 x2 x3 x4 x5 y = blockWeight x4 (blockGradient x0 x1 x2 x3) y := by
  unfold out0_A_9
  rw [View.read_writes_eq_canon _ _ _ (cover0_A_9 c i r0 h0 r1 h1 r2 h2 r3 h3 r4 h4 r5 h5 r6 h6 r7 h7 r8 h8 r9 h9 hc0 x0 x1 x2 x3 x4 x5)]
  unfold kernelRun0_A
  dsimp only
  sl_unfold_words
  rw [View.canon_cons_unit_lit (S := S1x2048) _ _ _ zero2]
  simp only [View.readAt_eq_ld, h0.read_unread, h1.read_unread, h2.read_unread, h3.read_unread, h4.read_unread, h5.read_unread]
  rw [View.ld_unit_lit (S := S512x2048) _ x0 zero2, View.ld_unit_lit (S := S1x2048) _ x1 zero2, View.ld_unit_lit (S := S512x2048) _ x2 zero2, View.ld_unit_lit (S := S512x2048) _ x3 zero2, View.ld_unit_lit (S := S512x2048) _ x4 zero2, pay_gradient, View.readCov_unit_lit (S := S1x2048) _ _ _ zero2, pay_weight_below, pay_start_below, zero_add]

/-- At a later point the body stores the block of the gradient of the residual stream. -/
theorem later_gradient (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x2048 .f32) (h5 : r5.IsWhole) (r6 : Memref sig .tc .vmem S512x2048 .f32) (h6 : r6.IsWhole) (r7 : Memref sig .tc .vmem S512x2048 .bf16) (h7 : r7.IsWhole) (r8 : Memref sig .tc .vmem S1x2048 .f32) (h8 : r8.IsWhole) (r9 : Memref sig .tc .vmem S1x2048 .f32) (h9 : r9.IsWhole)
    (hc0 : ¬cond0_0 i) (x0 : Vec Ideal S512x2048 .f32) (x1 : Vec Ideal S1x2048 .f32) (x2 x3 x4 : Vec Ideal S512x2048 .f32) (x5 : Vec Ideal S1x2048 .f32) (xo8 xo9 : Vec Ideal S1x2048 .f32) (y : S512x2048.Idx) :
    out0_B_6 (F := Ideal) c i r0 h0 r1 h1 r2 h2 r3 h3 r4 h4 r5 h5 r6 h6 r7 h7 r8 h8 r9 h9 hc0 x0 x1 x2 x3 x4 x5 xo8 xo9 y = blockGradient x0 x1 x2 x3 y := by
  unfold out0_B_6
  rw [View.read_writes_eq_canon _ _ _ (cover0_B_6 c i r0 h0 r1 h1 r2 h2 r3 h3 r4 h4 r5 h5 r6 h6 r7 h7 r8 h8 r9 h9 hc0 x0 x1 x2 x3 x4 x5 xo8 xo9)]
  unfold kernelRun0_B
  dsimp only
  sl_unfold_words
  rw [View.canon_cons_unit_lit (S := S512x2048) _ _ _ zero2]
  simp only [View.readAt_eq_ld, h0.read_unread, h1.read_unread, h2.read_unread, h3.read_unread, h4.read_unread, h5.read_unread, h8.read_unread, h9.read_unread]
  rw [View.ld_unit_lit (S := S512x2048) _ x0 zero2, View.ld_unit_lit (S := S1x2048) _ x1 zero2, View.ld_unit_lit (S := S512x2048) _ x2 zero2, View.ld_unit_lit (S := S512x2048) _ x3 zero2, pay_gradient]

/-- At a later point the body stores the block of the gradient of the lower mixer's output. -/
theorem later_below (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x2048 .f32) (h5 : r5.IsWhole) (r6 : Memref sig .tc .vmem S512x2048 .f32) (h6 : r6.IsWhole) (r7 : Memref sig .tc .vmem S512x2048 .bf16) (h7 : r7.IsWhole) (r8 : Memref sig .tc .vmem S1x2048 .f32) (h8 : r8.IsWhole) (r9 : Memref sig .tc .vmem S1x2048 .f32) (h9 : r9.IsWhole)
    (hc0 : ¬cond0_0 i) (x0 : Vec Ideal S512x2048 .f32) (x1 : Vec Ideal S1x2048 .f32) (x2 x3 x4 : Vec Ideal S512x2048 .f32) (x5 : Vec Ideal S1x2048 .f32) (xo8 xo9 : Vec Ideal S1x2048 .f32) (y : S512x2048.Idx) :
    out0_B_7 (F := Ideal) c i r0 h0 r1 h1 r2 h2 r3 h3 r4 h4 r5 h5 r6 h6 r7 h7 r8 h8 r9 h9 hc0 x0 x1 x2 x3 x4 x5 xo8 xo9 y = rowGrad (fun k => x4 (ix2 (y 0) k)) (fun k => blockGradient x0 x1 x2 x3 (ix2 (y 0) k) * x5 (ix2 0 k)) (y 1) := by
  unfold out0_B_7
  rw [View.read_writes_eq_canon _ _ _ (cover0_B_7 c i r0 h0 r1 h1 r2 h2 r3 h3 r4 h4 r5 h5 r6 h6 r7 h7 r8 h8 r9 h9 hc0 x0 x1 x2 x3 x4 x5 xo8 xo9)]
  unfold kernelRun0_B
  dsimp only
  sl_unfold_words
  rw [View.canon_cons_unit_lit (S := S512x2048) _ _ _ zero2]
  simp only [View.readAt_eq_ld, h0.read_unread, h1.read_unread, h2.read_unread, h3.read_unread, h4.read_unread, h5.read_unread, h8.read_unread, h9.read_unread]
  rw [View.ld_unit_lit (S := S512x2048) _ x0 zero2, View.ld_unit_lit (S := S1x2048) _ x1 zero2, View.ld_unit_lit (S := S512x2048) _ x2 zero2, View.ld_unit_lit (S := S512x2048) _ x3 zero2, View.ld_unit_lit (S := S512x2048) _ x4 zero2, View.ld_unit_lit (S := S1x2048) _ x5 zero2, pay_gradient, pay_below]

/-- At a later point the body adds its rows' part of the upper norm's weight. -/
theorem later_weight (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x2048 .f32) (h5 : r5.IsWhole) (r6 : Memref sig .tc .vmem S512x2048 .f32) (h6 : r6.IsWhole) (r7 : Memref sig .tc .vmem S512x2048 .bf16) (h7 : r7.IsWhole) (r8 : Memref sig .tc .vmem S1x2048 .f32) (h8 : r8.IsWhole) (r9 : Memref sig .tc .vmem S1x2048 .f32) (h9 : r9.IsWhole)
    (hc0 : ¬cond0_0 i) (x0 : Vec Ideal S512x2048 .f32) (x1 : Vec Ideal S1x2048 .f32) (x2 x3 x4 : Vec Ideal S512x2048 .f32) (x5 : Vec Ideal S1x2048 .f32) (xo8 xo9 : Vec Ideal S1x2048 .f32) (y : S1x2048.Idx) :
    out0_B_8 (F := Ideal) c i r0 h0 r1 h1 r2 h2 r3 h3 r4 h4 r5 h5 r6 h6 r7 h7 r8 h8 r9 h9 hc0 x0 x1 x2 x3 x4 x5 xo8 xo9 y = xo8 y + blockWeight x0 x2 y := by
  unfold out0_B_8
  rw [View.read_writes_eq_canon _ _ _ (cover0_B_8 c i r0 h0 r1 h1 r2 h2 r3 h3 r4 h4 r5 h5 r6 h6 r7 h7 r8 h8 r9 h9 hc0 x0 x1 x2 x3 x4 x5 xo8 xo9)]
  unfold kernelRun0_B
  dsimp only
  sl_unfold_words
  rw [View.canon_cons_unit_lit (S := S1x2048) _ _ _ zero2]
  simp only [View.readAt_eq_ld, h0.read_unread, h1.read_unread, h2.read_unread, h3.read_unread, h4.read_unread, h5.read_unread, h8.read_unread, h9.read_unread]
  rw [View.ld_unit_lit (S := S512x2048) _ x0 zero2, View.ld_unit_lit (S := S512x2048) _ x2 zero2, View.ld_unit_lit (S := S1x2048) _ xo8 zero2, pay_weight]

/-- At a later point the body adds its rows' part of the lower norm's weight. -/
theorem later_weight_below (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x2048 .f32) (h5 : r5.IsWhole) (r6 : Memref sig .tc .vmem S512x2048 .f32) (h6 : r6.IsWhole) (r7 : Memref sig .tc .vmem S512x2048 .bf16) (h7 : r7.IsWhole) (r8 : Memref sig .tc .vmem S1x2048 .f32) (h8 : r8.IsWhole) (r9 : Memref sig .tc .vmem S1x2048 .f32) (h9 : r9.IsWhole)
    (hc0 : ¬cond0_0 i) (x0 : Vec Ideal S512x2048 .f32) (x1 : Vec Ideal S1x2048 .f32) (x2 x3 x4 : Vec Ideal S512x2048 .f32) (x5 : Vec Ideal S1x2048 .f32) (xo8 xo9 : Vec Ideal S1x2048 .f32) (y : S1x2048.Idx) :
    out0_B_9 (F := Ideal) c i r0 h0 r1 h1 r2 h2 r3 h3 r4 h4 r5 h5 r6 h6 r7 h7 r8 h8 r9 h9 hc0 x0 x1 x2 x3 x4 x5 xo8 xo9 y = xo9 y + blockWeight x4 (blockGradient x0 x1 x2 x3) y := by
  unfold out0_B_9
  rw [View.read_writes_eq_canon _ _ _ (cover0_B_9 c i r0 h0 r1 h1 r2 h2 r3 h3 r4 h4 r5 h5 r6 h6 r7 h7 r8 h8 r9 h9 hc0 x0 x1 x2 x3 x4 x5 xo8 xo9)]
  unfold kernelRun0_B
  dsimp only
  sl_unfold_words
  rw [View.canon_cons_unit_lit (S := S1x2048) _ _ _ zero2]
  simp only [View.readAt_eq_ld, h0.read_unread, h1.read_unread, h2.read_unread, h3.read_unread, h4.read_unread, h5.read_unread, h8.read_unread, h9.read_unread]
  rw [View.ld_unit_lit (S := S512x2048) _ x0 zero2, View.ld_unit_lit (S := S1x2048) _ x1 zero2, View.ld_unit_lit (S := S512x2048) _ x2 zero2, View.ld_unit_lit (S := S512x2048) _ x3 zero2, View.ld_unit_lit (S := S512x2048) _ x4 zero2, pay_gradient, View.ld_unit_lit (S := S1x2048) _ xo9 zero2, pay_weight_below]

/-! ## Where the blocks lie -/

theorem points : grid0.N = 16 := by decide

theorem blocks_start : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] ∧ win0_6.index t = ![t.val, 0] ∧ win0_7.index t = ![t.val, 0]
    ∧ win0_8.index t = ![0, 0] ∧ win0_9.index t = ![0, 0] :=
  (by decide +kernel : ∀ t : Fin grid0.N, _)

/-- The array's row that row `q` of block `t` is. -/
def rowOf (t : ℕ) (q : Fin 512) : Fin 8192 := ⟨(t * 512 + q.val) % 8192, Nat.mod_lt _ (by norm_num)⟩

theorem rowOf_val (t : Fin cfg0.N) (q : Fin 512) : (rowOf t.val q).val = t.val * 512 + q.val := by
  have h : t.val < 16 := lt_of_lt_of_eq t.isLt points
  have hq := q.isLt
  exact Nat.mod_eq_of_lt (by omega)

theorem emb0 (t : Fin cfg0.N) (y : S512x2048.Idx) : ((cfg0.win 0).blk t).view.emb y = ix2 (rowOf t.val (y 0)) (y 1) := by
  have e := (blocks_start t).1
  have r := rowOf_val t (y 0)
  funext a
  refine Fin.ext ?_
  match a with
  | ⟨0, _⟩ => show win0_0.index t 0 * 512 + 1 * (y 0).val = (rowOf t.val (y 0)).val; rw [e, r]; show t.val * 512 + 1 * (y 0).val = _; omega
  | ⟨1, _⟩ => show win0_0.index t 1 * 2048 + 1 * (y 1).val = (y 1).val; rw [e]; show 0 * 2048 + 1 * (y 1).val = (y 1).val; omega

theorem emb1 (t : Fin cfg0.N) (y : S1x2048.Idx) : ((cfg0.win 1).blk t).view.emb y = y := by
  have e := (blocks_start t).2.1
  funext a
  refine Fin.ext ?_
  match a with
  | ⟨0, _⟩ => show win0_1.index t 0 * 1 + 1 * (y 0).val = (y 0).val; rw [e]; show 0 * 1 + 1 * (y 0).val = (y 0).val; omega
  | ⟨1, _⟩ => show win0_1.index t 1 * 2048 + 1 * (y 1).val = (y 1).val; rw [e]; show 0 * 2048 + 1 * (y 1).val = (y 1).val; omega

theorem emb2 (t : Fin cfg0.N) (y : S512x2048.Idx) : ((cfg0.win 2).blk t).view.emb y = ix2 (rowOf t.val (y 0)) (y 1) := by
  have e := (blocks_start t).2.2.1
  have r := rowOf_val t (y 0)
  funext a
  refine Fin.ext ?_
  match a with
  | ⟨0, _⟩ => show win0_2.index t 0 * 512 + 1 * (y 0).val = (rowOf t.val (y 0)).val; rw [e, r]; show t.val * 512 + 1 * (y 0).val = _; omega
  | ⟨1, _⟩ => show win0_2.index t 1 * 2048 + 1 * (y 1).val = (y 1).val; rw [e]; show 0 * 2048 + 1 * (y 1).val = (y 1).val; omega

theorem emb3 (t : Fin cfg0.N) (y : S512x2048.Idx) : ((cfg0.win 3).blk t).view.emb y = ix2 (rowOf t.val (y 0)) (y 1) := by
  have e := (blocks_start t).2.2.2.1
  have r := rowOf_val t (y 0)
  funext a
  refine Fin.ext ?_
  match a with
  | ⟨0, _⟩ => show win0_3.index t 0 * 512 + 1 * (y 0).val = (rowOf t.val (y 0)).val; rw [e, r]; show t.val * 512 + 1 * (y 0).val = _; omega
  | ⟨1, _⟩ => show win0_3.index t 1 * 2048 + 1 * (y 1).val = (y 1).val; rw [e]; show 0 * 2048 + 1 * (y 1).val = (y 1).val; omega

theorem emb4 (t : Fin cfg0.N) (y : S512x2048.Idx) : ((cfg0.win 4).blk t).view.emb y = ix2 (rowOf t.val (y 0)) (y 1) := by
  have e := (blocks_start t).2.2.2.2.1
  have r := rowOf_val t (y 0)
  funext a
  refine Fin.ext ?_
  match a with
  | ⟨0, _⟩ => show win0_4.index t 0 * 512 + 1 * (y 0).val = (rowOf t.val (y 0)).val; rw [e, r]; show t.val * 512 + 1 * (y 0).val = _; omega
  | ⟨1, _⟩ => show win0_4.index t 1 * 2048 + 1 * (y 1).val = (y 1).val; rw [e]; show 0 * 2048 + 1 * (y 1).val = (y 1).val; omega

theorem emb5 (t : Fin cfg0.N) (y : S1x2048.Idx) : ((cfg0.win 5).blk t).view.emb y = y := by
  have e := (blocks_start t).2.2.2.2.2.1
  funext a
  refine Fin.ext ?_
  match a with
  | ⟨0, _⟩ => show win0_5.index t 0 * 1 + 1 * (y 0).val = (y 0).val; rw [e]; show 0 * 1 + 1 * (y 0).val = (y 0).val; omega
  | ⟨1, _⟩ => show win0_5.index t 1 * 2048 + 1 * (y 1).val = (y 1).val; rw [e]; show 0 * 2048 + 1 * (y 1).val = (y 1).val; omega

theorem emb6 (t : Fin cfg0.N) (y : S512x2048.Idx) : ((cfg0.win 6).blk t).view.emb y = ix2 (rowOf t.val (y 0)) (y 1) := by
  have e := (blocks_start t).2.2.2.2.2.2.1
  have r := rowOf_val t (y 0)
  funext a
  refine Fin.ext ?_
  match a with
  | ⟨0, _⟩ => show win0_6.index t 0 * 512 + 1 * (y 0).val = (rowOf t.val (y 0)).val; rw [e, r]; show t.val * 512 + 1 * (y 0).val = _; omega
  | ⟨1, _⟩ => show win0_6.index t 1 * 2048 + 1 * (y 1).val = (y 1).val; rw [e]; show 0 * 2048 + 1 * (y 1).val = (y 1).val; omega

theorem emb7 (t : Fin cfg0.N) (y : S512x2048.Idx) : ((cfg0.win 7).blk t).view.emb y = ix2 (rowOf t.val (y 0)) (y 1) := by
  have e := (blocks_start t).2.2.2.2.2.2.2.1
  have r := rowOf_val t (y 0)
  funext a
  refine Fin.ext ?_
  match a with
  | ⟨0, _⟩ => show win0_7.index t 0 * 512 + 1 * (y 0).val = (rowOf t.val (y 0)).val; rw [e, r]; show t.val * 512 + 1 * (y 0).val = _; omega
  | ⟨1, _⟩ => show win0_7.index t 1 * 2048 + 1 * (y 1).val = (y 1).val; rw [e]; show 0 * 2048 + 1 * (y 1).val = (y 1).val; omega

theorem emb8 (t : Fin cfg0.N) (y : S1x2048.Idx) : ((cfg0.win 8).blk t).view.emb y = y := by
  have e := (blocks_start t).2.2.2.2.2.2.2.2.1
  funext a
  refine Fin.ext ?_
  match a with
  | ⟨0, _⟩ => show win0_8.index t 0 * 1 + 1 * (y 0).val = (y 0).val; rw [e]; show 0 * 1 + 1 * (y 0).val = (y 0).val; omega
  | ⟨1, _⟩ => show win0_8.index t 1 * 2048 + 1 * (y 1).val = (y 1).val; rw [e]; show 0 * 2048 + 1 * (y 1).val = (y 1).val; omega

theorem emb9 (t : Fin cfg0.N) (y : S1x2048.Idx) : ((cfg0.win 9).blk t).view.emb y = y := by
  have e := (blocks_start t).2.2.2.2.2.2.2.2.2
  funext a
  refine Fin.ext ?_
  match a with
  | ⟨0, _⟩ => show win0_9.index t 0 * 1 + 1 * (y 0).val = (y 0).val; rw [e]; show 0 * 1 + 1 * (y 0).val = (y 0).val; omega
  | ⟨1, _⟩ => show win0_9.index t 1 * 2048 + 1 * (y 1).val = (y 1).val; rw [e]; show 0 * 2048 + 1 * (y 1).val = (y 1).val; omega

theorem block0 (c : Dev nD) (t : Fin cfg0.N) (y : S512x2048.Idx) : iblk m c 0 t y = V m c main_arg0 (ix2 (rowOf t.val (y 0)) (y 1)) :=
  congrArg (V m c main_arg0) (emb0 t y)

theorem block1 (c : Dev nD) (t : Fin cfg0.N) : iblk m c 1 t = V m c main_arg1 :=
  funext fun y => congrArg (V m c main_arg1) (emb1 t y)

theorem block2 (c : Dev nD) (t : Fin cfg0.N) (y : S512x2048.Idx) : iblk m c 2 t y = V m c main_arg2 (ix2 (rowOf t.val (y 0)) (y 1)) :=
  congrArg (V m c main_arg2) (emb2 t y)

theorem block3 (c : Dev nD) (t : Fin cfg0.N) (y : S512x2048.Idx) : iblk m c 3 t y = V m c main_arg3 (ix2 (rowOf t.val (y 0)) (y 1)) :=
  congrArg (V m c main_arg3) (emb3 t y)

theorem block4 (c : Dev nD) (t : Fin cfg0.N) (y : S512x2048.Idx) : iblk m c 4 t y = V m c main_arg4 (ix2 (rowOf t.val (y 0)) (y 1)) :=
  congrArg (V m c main_arg4) (emb4 t y)

theorem block5 (c : Dev nD) (t : Fin cfg0.N) : iblk m c 5 t = V m c main_arg5 :=
  funext fun y => congrArg (V m c main_arg5) (emb5 t y)

/-! ## What the arrays end at -/

theorem gradient_block (c : Dev nD) (t : Fin cfg0.N) (y : S512x2048.Idx) :
    blockGradient (iblk m c 0 t) (iblk m c 1 t) (iblk m c 2 t) (iblk m c 3 t) y = gradient (V m c main_arg0) (V m c main_arg1) (V m c main_arg2) (V m c main_arg3) (ix2 (rowOf t.val (y 0)) (y 1)) := by
  unfold blockGradient
  rw [block1, block3]
  simp only [block0, block2]
  rfl

/-- What point `t` leaves in the block of the gradient of the residual stream. -/
theorem left_gradient (c : Dev nD) (t : Fin cfg0.N) (y : S512x2048.Idx) : (outsAt0 (F := Ideal) m c t.val t.isLt).1 y
    = gradient (V m c main_arg0) (V m c main_arg1) (V m c main_arg2) (V m c main_arg3) (ix2 (rowOf t.val (y 0)) (y 1)) := by
  by_cases h : t.val % 16 = 0
  · rw [outsAt0_A m c t h]
    dsimp only
    rw [first_gradient, gradient_block]
  · rw [outsAt0_B m c t h]
    dsimp only
    rw [later_gradient, gradient_block]

/-- What point `t` leaves in the block of the gradient of the lower mixer's output. -/
theorem left_below (c : Dev nD) (t : Fin cfg0.N) (y : S512x2048.Idx) : (outsAt0 (F := Ideal) m c t.val t.isLt).2.1 y
    = below (V m c main_arg4) (V m c main_arg5) (gradient (V m c main_arg0) (V m c main_arg1) (V m c main_arg2) (V m c main_arg3)) (ix2 (rowOf t.val (y 0)) (y 1)) := by
  by_cases h : t.val % 16 = 0
  · rw [outsAt0_A m c t h]
    dsimp only
    rw [first_below, block5]
    simp only [block4, gradient_block]
    rfl
  · rw [outsAt0_B m c t h]
    dsimp only
    rw [later_below, block5]
    simp only [block4, gradient_block]
    rfl

/-- What the rows of block `t` give to a weight's gradient. -/
def blockPart (x z : S8192x2048.Idx → EReal) (j : Fin 2048) (t : ℕ) : EReal := ∑ q : Fin 512, rowPart x z j (rowOf t q)

/-- After point `n` the upper weight's block holds the parts of the blocks so far. -/
theorem left_weight (c : Dev nD) (n : ℕ) (hn : n < cfg0.N) (y : S1x2048.Idx) : (outsAt0 (F := Ideal) m c n hn).2.2.1 y
    = ∑ t ∈ Finset.range (n + 1), blockPart (V m c main_arg0) (V m c main_arg2) (y 1) t := by
  induction n with
  | zero =>
    rw [outsAt0_A m c ⟨0, hn⟩ (Nat.zero_mod _)]
    dsimp only
    rw [first_weight, Finset.sum_range_one]
    unfold blockWeight
    simp only [block0, block2]
    rfl
  | succ n ih =>
    have h16 : n + 1 < 16 := lt_of_lt_of_eq hn points
    rw [outsAt0_B m c ⟨n + 1, hn⟩ (by show ¬(n + 1) % 16 = 0; omega)]
    dsimp only
    rw [later_weight, Finset.sum_range_succ]
    unfold blockWeight
    simp only [block0, block2]
    exact congrArg (· + _) (ih (by omega))

/-- After point `n` the lower weight's block holds the parts of the blocks so far. -/
theorem left_weight_below (c : Dev nD) (n : ℕ) (hn : n < cfg0.N) (y : S1x2048.Idx) : (outsAt0 (F := Ideal) m c n hn).2.2.2 y
    = ∑ t ∈ Finset.range (n + 1), blockPart (V m c main_arg4) (gradient (V m c main_arg0) (V m c main_arg1) (V m c main_arg2) (V m c main_arg3)) (y 1) t := by
  induction n with
  | zero =>
    rw [outsAt0_A m c ⟨0, hn⟩ (Nat.zero_mod _)]
    dsimp only
    rw [first_weight_below, Finset.sum_range_one]
    unfold blockWeight
    simp only [block4, gradient_block]
    rfl
  | succ n ih =>
    have h16 : n + 1 < 16 := lt_of_lt_of_eq hn points
    rw [outsAt0_B m c ⟨n + 1, hn⟩ (by show ¬(n + 1) % 16 = 0; omega)]
    dsimp only
    rw [later_weight_below, Finset.sum_range_succ]
    unfold blockWeight
    simp only [block4, gradient_block]
    exact congrArg (· + _) (ih (by omega))

/-- The sixteen blocks' parts are the whole gradient of the weight. -/
theorem weight_eq (x z : S8192x2048.Idx → EReal) (y : S1x2048.Idx) : ∑ t ∈ Finset.range 16, blockPart x z (y 1) t = weight x z y := by
  unfold weight blockPart
  rw [Finset.sum_range, Fin.sum_univ_tiles 16 512 rfl]
  refine Finset.sum_congr rfl fun t _ => Finset.sum_congr rfl fun q _ => congrArg _ (Fin.ext ?_)
  have ht := t.isLt
  have hq := q.isLt
  exact Nat.mod_eq_of_lt (by omega)

/-- The point that writes entry `i`. -/
def pointOf (i : S8192x2048.Idx) : Fin cfg0.N := ⟨(i 0).val / 512, by
  have h : (i 0).val < 8192 := (i 0).isLt
  exact lt_of_lt_of_eq (by omega : (i 0).val / 512 < 16) points.symm⟩

theorem written6 (c : Dev nD) (t : Fin cfg0.N) : (dats (F := Ideal) m 0 c).flushed 6 t
    = ((cfg0.win 6).blk t).view.read (Elt Ideal) (gradient (V m c main_arg0) (V m c main_arg1) (V m c main_arg2) (V m c main_arg3)) := by
  have key : ∀ (b : S512x2048.Idx → EReal) (p : S8192x2048.Idx → EReal), (∀ y : S512x2048.Idx, b y = p (((cfg0.win 6).blk t).view.emb y))
      → (cfg0.win 6).cut (grid0.coords t) b = ((cfg0.win 6).blk t).view.read (Elt Ideal) p :=
    fun b p hp => funext hp
  rw [flushed6]
  exact key _ _ fun y => (left_gradient m c t y).trans (congrArg _ (emb6 t y).symm)

theorem covered6 (i : S8192x2048.Idx) : i ∈ ((cfg0.win 6).blk (pointOf i)).view.set := by
  show i ∈ ((View.whole main_v0_0).slice (win0_6.rect (pointOf i))).set
  rw [View.set_slice_whole, Rect.mem_set_unit]
  have e := (blocks_start (pointOf i)).2.2.2.2.2.2.1
  have h0 : (i 0).val < 8192 := (i 0).isLt
  have h1 : (i 1).val < 2048 := (i 1).isLt
  intro a
  show win0_6.index (pointOf i) a * S512x2048.size a ≤ (i a).val ∧ (i a).val < win0_6.index (pointOf i) a * S512x2048.size a + S512x2048.size a
  rw [e]
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

/-- After the run the first array holds the gradient of the residual stream. -/
theorem final6 (c : Dev nD) : (dats (F := Ideal) m 0 c).arrAt 6 cfg0.N = gradient (V m c main_arg0) (V m c main_arg1) (V m c main_arg2) (V m c main_arg3) :=
  (dats m 0 c).arrAt_eq_of_cover 6 _ (fun t _ => written6 m c t) (fun i => ⟨pointOf i, flush0_6 _, covered6 i⟩)

theorem written7 (c : Dev nD) (t : Fin cfg0.N) : (dats (F := Ideal) m 0 c).flushed 7 t
    = ((cfg0.win 7).blk t).view.read (Elt Ideal) (below (V m c main_arg4) (V m c main_arg5) (gradient (V m c main_arg0) (V m c main_arg1) (V m c main_arg2) (V m c main_arg3))) := by
  have key : ∀ (b : S512x2048.Idx → EReal) (p : S8192x2048.Idx → EReal), (∀ y : S512x2048.Idx, b y = p (((cfg0.win 7).blk t).view.emb y))
      → (cfg0.win 7).cut (grid0.coords t) b = ((cfg0.win 7).blk t).view.read (Elt Ideal) p :=
    fun b p hp => funext hp
  rw [flushed7]
  exact key _ _ fun y => (left_below m c t y).trans (congrArg _ (emb7 t y).symm)

theorem covered7 (i : S8192x2048.Idx) : i ∈ ((cfg0.win 7).blk (pointOf i)).view.set := by
  show i ∈ ((View.whole main_v0_1).slice (win0_7.rect (pointOf i))).set
  rw [View.set_slice_whole, Rect.mem_set_unit]
  have e := (blocks_start (pointOf i)).2.2.2.2.2.2.2.1
  have h0 : (i 0).val < 8192 := (i 0).isLt
  have h1 : (i 1).val < 2048 := (i 1).isLt
  intro a
  show win0_7.index (pointOf i) a * S512x2048.size a ≤ (i a).val ∧ (i a).val < win0_7.index (pointOf i) a * S512x2048.size a + S512x2048.size a
  rw [e]
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

/-- After the run the second array holds the gradient of the lower mixer's output. -/
theorem final7 (c : Dev nD) : (dats (F := Ideal) m 0 c).arrAt 7 cfg0.N = below (V m c main_arg4) (V m c main_arg5) (gradient (V m c main_arg0) (V m c main_arg1) (V m c main_arg2) (V m c main_arg3)) :=
  (dats m 0 c).arrAt_eq_of_cover 7 _ (fun t _ => written7 m c t) (fun i => ⟨pointOf i, flush0_7 _, covered7 i⟩)

/-- The grid's last point. -/
def last_point : Fin cfg0.N := ⟨15, (by decide : 15 < grid0.N)⟩

theorem written8 (c : Dev nD) (t : Fin cfg0.N) (hf : (cfg0.win 8).flush t = true) : (dats (F := Ideal) m 0 c).flushed 8 t
    = ((cfg0.win 8).blk t).view.read (Elt Ideal) (weight (V m c main_arg0) (V m c main_arg2)) := by
  have key : ∀ (b p : S1x2048.Idx → EReal), (∀ y : S1x2048.Idx, b y = p (((cfg0.win 8).blk t).view.emb y))
      → (cfg0.win 8).cut (grid0.coords t) b = ((cfg0.win 8).blk t).view.read (Elt Ideal) p :=
    fun b p hp => funext hp
  have ht : t.val + 1 = 16 := by
    have h : t.val < 16 := lt_of_lt_of_eq t.isLt points
    have := (flush0_8 t).mp hf
    omega
  rw [flushed8]
  refine key _ _ fun y => (left_weight m c t.val t.isLt y).trans ?_
  rw [emb8, ht, weight_eq]

theorem covered8 (i : S1x2048.Idx) : i ∈ ((cfg0.win 8).blk last_point).view.set := by
  show i ∈ ((View.whole main_v0_2).slice (win0_8.rect last_point)).set
  rw [View.set_slice_whole, Rect.mem_set_unit]
  have e := (blocks_start last_point).2.2.2.2.2.2.2.2.1
  have h0 : (i 0).val < 1 := (i 0).isLt
  have h1 : (i 1).val < 2048 := (i 1).isLt
  intro a
  show win0_8.index last_point a * S1x2048.size a ≤ (i a).val ∧ (i a).val < win0_8.index last_point a * S1x2048.size a + S1x2048.size a
  rw [e]
  match a with
  | ⟨0, _⟩ => show 0 * 1 ≤ (i 0).val ∧ (i 0).val < 0 * 1 + 1; omega
  | ⟨1, _⟩ => show 0 * 2048 ≤ (i 1).val ∧ (i 1).val < 0 * 2048 + 2048; omega

/-- After the run the third array holds the gradient of the upper norm's weight. -/
theorem final8 (c : Dev nD) : (dats (F := Ideal) m 0 c).arrAt 8 cfg0.N = weight (V m c main_arg0) (V m c main_arg2) :=
  (dats m 0 c).arrAt_eq_of_cover 8 _ (written8 m c) (fun i => ⟨last_point, (flush0_8 last_point).mpr rfl, covered8 i⟩)

theorem written9 (c : Dev nD) (t : Fin cfg0.N) (hf : (cfg0.win 9).flush t = true) : (dats (F := Ideal) m 0 c).flushed 9 t
    = ((cfg0.win 9).blk t).view.read (Elt Ideal) (weight (V m c main_arg4) (gradient (V m c main_arg0) (V m c main_arg1) (V m c main_arg2) (V m c main_arg3))) := by
  have key : ∀ (b p : S1x2048.Idx → EReal), (∀ y : S1x2048.Idx, b y = p (((cfg0.win 9).blk t).view.emb y))
      → (cfg0.win 9).cut (grid0.coords t) b = ((cfg0.win 9).blk t).view.read (Elt Ideal) p :=
    fun b p hp => funext hp
  have ht : t.val + 1 = 16 := by
    have h : t.val < 16 := lt_of_lt_of_eq t.isLt points
    have := (flush0_9 t).mp hf
    omega
  rw [flushed9]
  refine key _ _ fun y => (left_weight_below m c t.val t.isLt y).trans ?_
  rw [emb9, ht, weight_eq]

theorem covered9 (i : S1x2048.Idx) : i ∈ ((cfg0.win 9).blk last_point).view.set := by
  show i ∈ ((View.whole main_v0_3).slice (win0_9.rect last_point)).set
  rw [View.set_slice_whole, Rect.mem_set_unit]
  have e := (blocks_start last_point).2.2.2.2.2.2.2.2.2
  have h0 : (i 0).val < 1 := (i 0).isLt
  have h1 : (i 1).val < 2048 := (i 1).isLt
  intro a
  show win0_9.index last_point a * S1x2048.size a ≤ (i a).val ∧ (i a).val < win0_9.index last_point a * S1x2048.size a + S1x2048.size a
  rw [e]
  match a with
  | ⟨0, _⟩ => show 0 * 1 ≤ (i 0).val ∧ (i 0).val < 0 * 1 + 1; omega
  | ⟨1, _⟩ => show 0 * 2048 ≤ (i 1).val ∧ (i 1).val < 0 * 2048 + 2048; omega

/-- After the run the fourth array holds the gradient of the lower norm's weight. -/
theorem final9 (c : Dev nD) : (dats (F := Ideal) m 0 c).arrAt 9 cfg0.N = weight (V m c main_arg4) (gradient (V m c main_arg0) (V m c main_arg1) (V m c main_arg2) (V m c main_arg3)) :=
  (dats m 0 c).arrAt_eq_of_cover 9 _ (written9 m c) (fun i => ⟨last_point, (flush0_9 last_point).mpr rfl, covered9 i⟩)

/-! ## The reference -/

/-- The gradient in the reference's form. -/
theorem gradient_eq (x : S8192x2048.Idx → EReal) (g : S1x2048.Idx → EReal) (z d : S8192x2048.Idx → EReal) (i : S8192x2048.Idx) :
    gradient x g z d i = d i + z i * g (ix2 0 (i 1)) * root (fun k => x (ix2 (i 0) k))
      + x i * meanGrad (fun k => x (ix2 (i 0) k)) (fun k => z (ix2 (i 0) k) * g (ix2 0 k))
      + meanGrad (fun k => x (ix2 (i 0) k)) (fun k => z (ix2 (i 0) k) * g (ix2 0 k)) * x i := by
  have hi : (ix2 (i 0) (i 1) : S8192x2048.Idx) = i := by
    funext a
    match a with
    | ⟨0, _⟩ => rfl
    | ⟨1, _⟩ => rfl
  have h := rowGrad_eq (fun k => x (ix2 (i 0) k)) (fun k => z (ix2 (i 0) k) * g (ix2 0 k)) (i 1)
  have hx : x (ix2 (i 0) (i 1)) = x i := congrArg x hi
  have hz : z (ix2 (i 0) (i 1)) = z i := congrArg z hi
  refine (congrArg (d i + ·) h).trans ?_
  rw [hx, hz, add_assoc, add_assoc, add_assoc]

/-- The gradient of the lower mixer's output in the reference's form. -/
theorem below_eq (x : S8192x2048.Idx → EReal) (g : S1x2048.Idx → EReal) (z : S8192x2048.Idx → EReal) (i : S8192x2048.Idx) :
    below x g z i = z i * g (ix2 0 (i 1)) * root (fun k => x (ix2 (i 0) k))
      + x i * meanGrad (fun k => x (ix2 (i 0) k)) (fun k => z (ix2 (i 0) k) * g (ix2 0 k))
      + meanGrad (fun k => x (ix2 (i 0) k)) (fun k => z (ix2 (i 0) k) * g (ix2 0 k)) * x i := by
  have hi : (ix2 (i 0) (i 1) : S8192x2048.Idx) = i := by
    funext a
    match a with
    | ⟨0, _⟩ => rfl
    | ⟨1, _⟩ => rfl
  have h := rowGrad_eq (fun k => x (ix2 (i 0) k)) (fun k => z (ix2 (i 0) k) * g (ix2 0 k)) (i 1)
  have hx : x (ix2 (i 0) (i 1)) = x i := congrArg x hi
  have hz : z (ix2 (i 0) (i 1)) = z i := congrArg z hi
  refine h.trans ?_
  rw [hx, hz]

section Arrays

variable (hr : Shape.ReducesTo S8192x2048 [1] Cert.PrePostBwdRefIdeal.S8192) (hs : 0 < Cert.PrePostBwdRefIdeal.S_.numel)
  (h1 : Cert.PrePostBwdRefIdeal.S8192.BroadcastsInDim Cert.PrePostBwdRefIdeal.S8192x1 ![0])
  (hc : Cert.PrePostBwdRefIdeal.S_.BroadcastsInDim Cert.PrePostBwdRefIdeal.S8192x1 ![])

/-- The reference's means of squares. -/
theorem reference_square (x : FVec Ideal S8192x2048 .f32) :
    addf (Host.divf (broadcastInDim Cert.PrePostBwdRefIdeal.S8192x1 ![0] h1 (Host.reduceAdd (mulf x x) (constant Cert.PrePostBwdRefIdeal.S_ .f32 0x00000000#32) hr hs))
        (broadcastInDim Cert.PrePostBwdRefIdeal.S8192x1 ![] hc (constant Cert.PrePostBwdRefIdeal.S_ .f32 0x45000000#32)))
      (broadcastInDim Cert.PrePostBwdRefIdeal.S8192x1 ![] hc (constant Cert.PrePostBwdRefIdeal.S_ .f32 0x358637BD#32))
      = (fun i => square fun k => x (ix2 (i 0) k) : FVec Ideal Cert.PrePostBwdRefIdeal.S8192x1 .f32) := by
  funext i
  pointwise [square]

/-- The reference's gradient of the norm's result times the weight. -/
theorem reference_scaled (g : FVec Ideal S1x2048 .f32) (z : FVec Ideal S8192x2048 .f32) (hg : S1x2048.ShapeCasts Cert.PrePostBwdRefIdeal.S2048)
    (hb : Cert.PrePostBwdRefIdeal.S2048.BroadcastsInDim S1x2048 ![1]) (hb' : S1x2048.BroadcastsInDim S8192x2048 ![0, 1]) :
    mulf z (broadcastInDim S8192x2048 ![0, 1] hb' (broadcastInDim S1x2048 ![1] hb (shapeCast Cert.PrePostBwdRefIdeal.S2048 g hg)))
      = (fun i => z i * g (ix2 0 (i 1)) : FVec Ideal S8192x2048 .f32) := by
  funext i
  pointwise

/-- What the reference hands to the squares. -/
theorem reference_mean (x u : FVec Ideal S8192x2048 .f32) (hg : Cert.PrePostBwdRefIdeal.S8192.ShapeCasts Cert.PrePostBwdRefIdeal.S8192x1)
    (hr' : Shape.ReducesTo Cert.PrePostBwdRefIdeal.S8192x1 [1] Cert.PrePostBwdRefIdeal.S8192) :
    Host.reduceAdd (Host.divf (mulf (shapeCast Cert.PrePostBwdRefIdeal.S8192x1 (Host.reduceAdd (mulf x u) (constant Cert.PrePostBwdRefIdeal.S_ .f32 0x00000000#32) hr hs) hg)
          (mulf (broadcastInDim Cert.PrePostBwdRefIdeal.S8192x1 ![] hc (constant Cert.PrePostBwdRefIdeal.S_ .f32 0xBF000000#32))
            (Host.divf (Host.rsqrt (fun i => square fun k => x (ix2 (i 0) k) : FVec Ideal Cert.PrePostBwdRefIdeal.S8192x1 .f32))
              (fun i => square fun k => x (ix2 (i 0) k) : FVec Ideal Cert.PrePostBwdRefIdeal.S8192x1 .f32))))
        (broadcastInDim Cert.PrePostBwdRefIdeal.S8192x1 ![] hc (constant Cert.PrePostBwdRefIdeal.S_ .f32 0x45000000#32)))
      (constant Cert.PrePostBwdRefIdeal.S_ .f32 0x00000000#32) hr' hs
      = (fun i => meanGrad (fun k => x (ix2 (i 0) k)) (fun k => u (ix2 (i 0) k)) : FVec Ideal Cert.PrePostBwdRefIdeal.S8192 .f32) := by
  funext i
  pointwise [meanGrad, root, Fin.sum_univ_one]

/-- The reference's gradient of the residual stream, from those. -/
theorem reference_sum (x : FVec Ideal S8192x2048 .f32) (g : FVec Ideal S1x2048 .f32) (z d : FVec Ideal S8192x2048 .f32)
    (hb : Cert.PrePostBwdRefIdeal.S8192x1.BroadcastsInDim S8192x2048 ![0, 1]) (hb' : Cert.PrePostBwdRefIdeal.S8192.BroadcastsInDim S8192x2048 ![0]) :
    addf (addf (addf d (mulf (fun i => z i * g (ix2 0 (i 1)) : FVec Ideal S8192x2048 .f32)
          (broadcastInDim S8192x2048 ![0, 1] hb (Host.rsqrt (fun i => square fun k => x (ix2 (i 0) k) : FVec Ideal Cert.PrePostBwdRefIdeal.S8192x1 .f32)))))
        (mulf x (broadcastInDim S8192x2048 ![0] hb' (fun i => meanGrad (fun k => x (ix2 (i 0) k)) (fun k => z (ix2 (i 0) k) * g (ix2 0 k)) : FVec Ideal Cert.PrePostBwdRefIdeal.S8192 .f32))))
      (mulf (broadcastInDim S8192x2048 ![0] hb' (fun i => meanGrad (fun k => x (ix2 (i 0) k)) (fun k => z (ix2 (i 0) k) * g (ix2 0 k)) : FVec Ideal Cert.PrePostBwdRefIdeal.S8192 .f32)) x)
      = gradient x g z d := by
  funext i
  rw [gradient_eq]
  pointwise [root]

/-- The reference's gradient of the lower mixer's output, from those. -/
theorem reference_below (x : FVec Ideal S8192x2048 .f32) (g : FVec Ideal S1x2048 .f32) (z : FVec Ideal S8192x2048 .f32)
    (hb : Cert.PrePostBwdRefIdeal.S8192x1.BroadcastsInDim S8192x2048 ![0, 1]) (hb' : Cert.PrePostBwdRefIdeal.S8192.BroadcastsInDim S8192x2048 ![0]) (hw : FTy.bits .bf16 < FTy.bits .f32) :
    truncf .bf16 (addf (addf (mulf (fun i => z i * g (ix2 0 (i 1)) : FVec Ideal S8192x2048 .f32)
          (broadcastInDim S8192x2048 ![0, 1] hb (Host.rsqrt (fun i => square fun k => x (ix2 (i 0) k) : FVec Ideal Cert.PrePostBwdRefIdeal.S8192x1 .f32))))
        (mulf x (broadcastInDim S8192x2048 ![0] hb' (fun i => meanGrad (fun k => x (ix2 (i 0) k)) (fun k => z (ix2 (i 0) k) * g (ix2 0 k)) : FVec Ideal Cert.PrePostBwdRefIdeal.S8192 .f32))))
      (mulf (broadcastInDim S8192x2048 ![0] hb' (fun i => meanGrad (fun k => x (ix2 (i 0) k)) (fun k => z (ix2 (i 0) k) * g (ix2 0 k)) : FVec Ideal Cert.PrePostBwdRefIdeal.S8192 .f32)) x)) hw
      = below x g z := by
  funext i
  rw [below_eq]
  pointwise [root]

/-- The reference's gradient of the weight. -/
theorem reference_weight (x z : FVec Ideal S8192x2048 .f32) (hb : Cert.PrePostBwdRefIdeal.S8192x1.BroadcastsInDim S8192x2048 ![0, 1])
    (hq : Shape.ReducesTo S8192x2048 [0] Cert.PrePostBwdRefIdeal.S2048) (hg : Cert.PrePostBwdRefIdeal.S2048.ShapeCasts S1x2048)
    (hq' : Shape.ReducesTo S1x2048 [0] Cert.PrePostBwdRefIdeal.S2048) (ho : Cert.PrePostBwdRefIdeal.S2048.BroadcastsInDim S1x2048 ![1]) :
    broadcastInDim S1x2048 ![1] ho (Host.reduceAdd (shapeCast S1x2048 (Host.reduceAdd (mulf (mulf x (broadcastInDim S8192x2048 ![0, 1] hb
        (Host.rsqrt (fun i => square fun k => x (ix2 (i 0) k) : FVec Ideal Cert.PrePostBwdRefIdeal.S8192x1 .f32)))) z)
        (constant Cert.PrePostBwdRefIdeal.S_ .f32 0x00000000#32) hq hs) hg) (constant Cert.PrePostBwdRefIdeal.S_ .f32 0x00000000#32) hq' hs) = weight x z := by
  funext i
  pointwise [weight, rowPart, root, Fin.sum_univ_one]
  exact Finset.sum_congr rfl fun p _ => mul_comm _ _

end Arrays

/-- Kernel and reference end at the same arrays. -/
theorem algebraic : Cert.algebraic_PrePostBwdIdeal_PrePostBwdRefIdeal := by
  intro m ρ m' ρ' _ hagree
  refine ⟨fun c => gradient (m ((c : Thread nD τ).loc main_arg0)) (m ((c : Thread nD τ).loc main_arg1)) (m ((c : Thread nD τ).loc main_arg2)) (m ((c : Thread nD τ).loc main_arg3)), fun c => below (m ((c : Thread nD τ).loc main_arg4)) (m ((c : Thread nD τ).loc main_arg5)) (gradient (m ((c : Thread nD τ).loc main_arg0)) (m ((c : Thread nD τ).loc main_arg1)) (m ((c : Thread nD τ).loc main_arg2)) (m ((c : Thread nD τ).loc main_arg3))), fun c => weight (m ((c : Thread nD τ).loc main_arg0)) (m ((c : Thread nD τ).loc main_arg2)), fun c => weight (m ((c : Thread nD τ).loc main_arg4)) (gradient (m ((c : Thread nD τ).loc main_arg0)) (m ((c : Thread nD τ).loc main_arg1)) (m ((c : Thread nD τ).loc main_arg2)) (m ((c : Thread nD τ).loc main_arg3))), ?_, ?_⟩
  · exact (θ_run Cert.PrePostBwdIdeal.defs _ _).mono (fun r h c => ⟨(h c).1.trans (final6 m c), (h c).2.1.trans (final7 m c), (h c).2.2.1.trans (final8 m c),
      (h c).2.2.2.1.trans (final9 m c), (h c).2.2.2.2⟩) (run_blocks (F := Ideal) m ρ)
  · have stream : ∀ c : Dev nD, (Cert.PrePostBwdRefIdeal.Value.res_main_v37 m' c : FVec Ideal S8192x2048 .f32) = gradient (m ((c : Thread nD τ).loc main_arg0)) (m ((c : Thread nD τ).loc main_arg1)) (m ((c : Thread nD τ).loc main_arg2)) (m ((c : Thread nD τ).loc main_arg3)) := fun c => by
      unfold Cert.PrePostBwdRefIdeal.Value.res_main_v37
      rw [(hagree c).1, (hagree c).2.1, (hagree c).2.2.1, (hagree c).2.2.2.1, reference_square, reference_scaled, reference_mean]
      exact reference_sum _ _ _ _ _ _
    refine (θ_run Cert.PrePostBwdRefIdeal.defs _ _).mono (fun r h c => ⟨(h c).1.trans (stream c), (h c).2.1.trans ?_, (h c).2.2.1.trans ?_,
      (h c).2.2.2.1.trans ?_, (h c).2.2.2.2⟩) (Cert.PrePostBwdRefIdeal.Value.run (F := Ideal) m' ρ')
    · have e := stream c
      unfold Cert.PrePostBwdRefIdeal.Value.res_main_v37 at e
      unfold Cert.PrePostBwdRefIdeal.Value.res_main_v77
      rw [e, (hagree c).2.2.2.2.1, (hagree c).2.2.2.2.2, reference_square, reference_scaled, reference_mean]
      exact reference_below _ _ _ _ _ _
    · rw [(hagree c).1, (hagree c).2.2.1, reference_square]
      exact reference_weight _ _ _ _ _ _ _ _
    · have e := stream c
      unfold Cert.PrePostBwdRefIdeal.Value.res_main_v37 at e
      unfold Cert.PrePostBwdRefIdeal.Value.res_main_v76
      rw [e, (hagree c).2.2.2.2.1, reference_square]
      exact reference_weight _ _ _ _ _ _ _ _

/-- Nothing was replaced. -/
theorem preserves : Cert.preserves_PrePostBwd_PrePostBwdIdeal := by
  trivial

/-- The reference runs and leaves its arguments as they were. -/
theorem reference_frame : Cert.quiescent_PrePostBwdRefIdeal := fun m ρ _ =>
  (θ_run Cert.PrePostBwdRefIdeal.defs _ _).mono (fun r h => ⟨fun c => (h c).2.2.2.2, sem_eq_zero_of_no_sems (by decide) r.2⟩)
    (Cert.PrePostBwdRefIdeal.Value.run (F := Ideal) m ρ)

end Cert.Norms.PrePostBwd

end
-- ==== Proof.Norms.PreBwd.lean ====
/- The gradient of the norm before the first layer's mixer: what the kernel's blocks hold, what its arrays end at, what
   the reference computes, and the equation. -/
module

public import proofs.«01_k».proof.Defs
public import proofs.«01_k».proof.Proof.Gen.PreBwdIdeal.Value
public import proofs.«01_k».proof.Proof.Gen.PreBwdRefIdeal.Run
public import proofs.«01_k».proof.Proof.Norms.Row
public import Idealize.ShloMosaic.Lib.Pointwise
public import Idealize.ShloMosaic.Lib.Pipeline.ValueKit.Basic

@[expose] public section

noncomputable section

namespace Cert.Norms.PreBwd

open Cert.PreBwdIdeal Cert.PreBwdIdeal.Gen Cert.PreBwdIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The function -/

/-- The gradient of the residual stream at entry `i`: what comes past the norm, and what comes through it. -/
def gradient (x : S8192x2048.Idx → EReal) (g : S1x2048.Idx → EReal) (z d : S8192x2048.Idx → EReal) : S8192x2048.Idx → EReal := fun i =>
  rowGrad (fun k => x (ix2 (i 0) k)) (fun k => z (ix2 (i 0) k) * g (ix2 0 k)) (i 1) + d i

/-- The part of the weight's gradient that one row gives. -/
def rowPart (x z : S8192x2048.Idx → EReal) (j : Fin 2048) (p : Fin 8192) : EReal :=
  z (ix2 p j) * (x (ix2 p j) * root fun k => x (ix2 p k))

/-- The weight's gradient. -/
def weight (x z : S8192x2048.Idx → EReal) : S1x2048.Idx → EReal := fun i => ∑ p : Fin 8192, rowPart x z (i 1) p

/-! ## What a point computes -/

theorem zero2 (a : Fin 2) : (![0, 0] : Fin 2 → ℕ) a = 0 := by
  fin_cases a <;> rfl

/-- The block of the gradient, from the blocks of the arguments. -/
theorem pay_gradient (x0 : Vec Ideal S512x2048 .f32) (x1 : Vec Ideal S1x2048 .f32) (x2 x3 : Vec Ideal S512x2048 .f32) (y : S512x2048.Idx) :
    k0_pay5 x0 x1 x2 x3 y = rowGrad (fun k => x0 (ix2 (y 0) k)) (fun k => x2 (ix2 (y 0) k) * x1 (ix2 0 k)) (y 1) + x3 y := by
  pointwise [k0_pay2, k0_pay3, k0_pay5, rowGrad, root, square]

theorem pay_weight (x0 x2 : Vec Ideal S512x2048 .f32) (v : Vec Ideal S1x2048 .f32) (y : S1x2048.Idx) :
    k0_pay4 x0 x2 v y = v y + ∑ q : Fin 512, x2 (ix2 q (y 1)) * (x0 (ix2 q (y 1)) * root fun k => x0 (ix2 q k)) := by
  pointwise [k0_pay2, k0_pay3, k0_pay4, root, square]

theorem pay_start (y : S1x2048.Idx) : k0_pay1 (F := Ideal) y = 0 := by
  pointwise [k0_pay1]

/-- At the first point the body stores the block of the gradient. -/
theorem first_gradient (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x2048 .f32) (h5 : r5.IsWhole)
    (hc0 : cond0_0 i) (x0 : Vec Ideal S512x2048 .f32) (x1 : Vec Ideal S1x2048 .f32) (x2 x3 : Vec Ideal S512x2048 .f32) (y : S512x2048.Idx) :
    out0_A_4 (F := Ideal) c i r0 h0 r1 h1 r2 h2 r3 h3 r4 h4 r5 h5 hc0 x0 x1 x2 x3 y = rowGrad (fun k => x0 (ix2 (y 0) k)) (fun k => x2 (ix2 (y 0) k) * x1 (ix2 0 k)) (y 1) + x3 y := by
  unfold out0_A_4
  rw [View.read_writes_eq_canon _ _ _ (cover0_A_4 c i r0 h0 r1 h1 r2 h2 r3 h3 r4 h4 r5 h5 hc0 x0 x1 x2 x3)]
  unfold kernelRun0_A
  dsimp only
  sl_unfold_words
  rw [View.canon_cons_unit_lit (S := S512x2048) _ _ _ zero2]
  simp only [View.readAt_eq_ld, h0.read_unread, h1.read_unread, h2.read_unread, h3.read_unread]
  rw [View.ld_unit_lit (S := S512x2048) _ x0 zero2, View.ld_unit_lit (S := S512x2048) _ x2 zero2, View.ld_unit_lit (S := S1x2048) _ x1 zero2, View.ld_unit_lit (S := S512x2048) _ x3 zero2, pay_gradient]

/-- At a later point the body stores the block of the gradient. -/
theorem later_gradient (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x2048 .f32) (h5 : r5.IsWhole)
    (hc0 : ¬cond0_0 i) (x0 : Vec Ideal S512x2048 .f32) (x1 : Vec Ideal S1x2048 .f32) (x2 x3 : Vec Ideal S512x2048 .f32) (xo : Vec Ideal S1x2048 .f32) (y : S512x2048.Idx) :
    out0_B_4 (F := Ideal) c i r0 h0 r1 h1 r2 h2 r3 h3 r4 h4 r5 h5 hc0 x0 x1 x2 x3 xo y = rowGrad (fun k => x0 (ix2 (y 0) k)) (fun k => x2 (ix2 (y 0) k) * x1 (ix2 0 k)) (y 1) + x3 y := by
  unfold out0_B_4
  rw [View.read_writes_eq_canon _ _ _ (cover0_B_4 c i r0 h0 r1 h1 r2 h2 r3 h3 r4 h4 r5 h5 hc0 x0 x1 x2 x3 xo)]
  unfold kernelRun0_B
  dsimp only
  sl_unfold_words
  rw [View.canon_cons_unit_lit (S := S512x2048) _ _ _ zero2]
  simp only [View.readAt_eq_ld, h0.read_unread, h1.read_unread, h2.read_unread, h3.read_unread, h5.read_unread]
  rw [View.ld_unit_lit (S := S512x2048) _ x0 zero2, View.ld_unit_lit (S := S512x2048) _ x2 zero2, View.ld_unit_lit (S := S1x2048) _ x1 zero2, View.ld_unit_lit (S := S512x2048) _ x3 zero2, pay_gradient]

/-- At the first point the body stores its rows' part of the weight's gradient. -/
theorem first_weight (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x2048 .f32) (h5 : r5.IsWhole)
    (hc0 : cond0_0 i) (x0 : Vec Ideal S512x2048 .f32) (x1 : Vec Ideal S1x2048 .f32) (x2 x3 : Vec Ideal S512x2048 .f32) (y : S1x2048.Idx) :
    out0_A_5 (F := Ideal) c i r0 h0 r1 h1 r2 h2 r3 h3 r4 h4 r5 h5 hc0 x0 x1 x2 x3 y = ∑ q : Fin 512, x2 (ix2 q (y 1)) * (x0 (ix2 q (y 1)) * root fun k => x0 (ix2 q k)) := by
  unfold out0_A_5
  rw [View.read_writes_eq_canon _ _ _ (cover0_A_5 c i r0 h0 r1 h1 r2 h2 r3 h3 r4 h4 r5 h5 hc0 x0 x1 x2 x3)]
  unfold kernelRun0_A
  dsimp only
  sl_unfold_words
  rw [View.canon_cons_unit_lit (S := S1x2048) _ _ _ zero2]
  simp only [View.readAt_eq_ld, h0.read_unread, h1.read_unread, h2.read_unread, h3.read_unread]
  rw [View.ld_unit_lit (S := S512x2048) _ x0 zero2, View.ld_unit_lit (S := S512x2048) _ x2 zero2, View.readCov_unit_lit (S := S1x2048) _ _ _ zero2, pay_weight, pay_start, zero_add]

/-- At a later point the body adds its rows' part of the weight's gradient. -/
theorem later_weight (c : Dev nD) (i : grid0.Coords) (r0 : Memref sig .tc .vmem S512x2048 .f32) (h0 : r0.IsWhole) (r1 : Memref sig .tc .vmem S1x2048 .f32) (h1 : r1.IsWhole) (r2 : Memref sig .tc .vmem S512x2048 .f32) (h2 : r2.IsWhole) (r3 : Memref sig .tc .vmem S512x2048 .f32) (h3 : r3.IsWhole) (r4 : Memref sig .tc .vmem S512x2048 .f32) (h4 : r4.IsWhole) (r5 : Memref sig .tc .vmem S1x2048 .f32) (h5 : r5.IsWhole)
    (hc0 : ¬cond0_0 i) (x0 : Vec Ideal S512x2048 .f32) (x1 : Vec Ideal S1x2048 .f32) (x2 x3 : Vec Ideal S512x2048 .f32) (xo : Vec Ideal S1x2048 .f32) (y : S1x2048.Idx) :
    out0_B_5 (F := Ideal) c i r0 h0 r1 h1 r2 h2 r3 h3 r4 h4 r5 h5 hc0 x0 x1 x2 x3 xo y = xo y + ∑ q : Fin 512, x2 (ix2 q (y 1)) * (x0 (ix2 q (y 1)) * root fun k => x0 (ix2 q k)) := by
  unfold out0_B_5
  rw [View.read_writes_eq_canon _ _ _ (cover0_B_5 c i r0 h0 r1 h1 r2 h2 r3 h3 r4 h4 r5 h5 hc0 x0 x1 x2 x3 xo)]
  unfold kernelRun0_B
  dsimp only
  sl_unfold_words
  rw [View.canon_cons_unit_lit (S := S1x2048) _ _ _ zero2]
  simp only [View.readAt_eq_ld, h0.read_unread, h1.read_unread, h2.read_unread, h3.read_unread, h5.read_unread]
  rw [View.ld_unit_lit (S := S512x2048) _ x0 zero2, View.ld_unit_lit (S := S512x2048) _ x2 zero2, View.ld_unit_lit (S := S1x2048) _ xo zero2, pay_weight]

/-! ## Where the blocks lie -/

theorem points : grid0.N = 16 := by decide

theorem blocks_start : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, _)

/-- The array's row that row `q` of block `t` is. -/
def rowOf (t : ℕ) (q : Fin 512) : Fin 8192 := ⟨(t * 512 + q.val) % 8192, Nat.mod_lt _ (by norm_num)⟩

theorem rowOf_val (t : Fin cfg0.N) (q : Fin 512) : (rowOf t.val q).val = t.val * 512 + q.val := by
  have h : t.val < 16 := lt_of_lt_of_eq t.isLt points
  have hq := q.isLt
  exact Nat.mod_eq_of_lt (by omega)

theorem emb0 (t : Fin cfg0.N) (y : S512x2048.Idx) : ((cfg0.win 0).blk t).view.emb y = ix2 (rowOf t.val (y 0)) (y 1) := by
  have e := (blocks_start t).1
  have r := rowOf_val t (y 0)
  funext a
  refine Fin.ext ?_
  match a with
  | ⟨0, _⟩ => show win0_0.index t 0 * 512 + 1 * (y 0).val = (rowOf t.val (y 0)).val; rw [e, r]; show t.val * 512 + 1 * (y 0).val = _; omega
  | ⟨1, _⟩ => show win0_0.index t 1 * 2048 + 1 * (y 1).val = (y 1).val; rw [e]; show 0 * 2048 + 1 * (y 1).val = (y 1).val; omega

theorem emb1 (t : Fin cfg0.N) (y : S1x2048.Idx) : ((cfg0.win 1).blk t).view.emb y = y := by
  have e := (blocks_start t).2.1
  funext a
  refine Fin.ext ?_
  match a with
  | ⟨0, _⟩ => show win0_1.index t 0 * 1 + 1 * (y 0).val = (y 0).val; rw [e]; show 0 * 1 + 1 * (y 0).val = (y 0).val; omega
  | ⟨1, _⟩ => show win0_1.index t 1 * 2048 + 1 * (y 1).val = (y 1).val; rw [e]; show 0 * 2048 + 1 * (y 1).val = (y 1).val; omega

theorem emb2 (t : Fin cfg0.N) (y : S512x2048.Idx) : ((cfg0.win 2).blk t).view.emb y = ix2 (rowOf t.val (y 0)) (y 1) := by
  have e := (blocks_start t).2.2.1
  have r := rowOf_val t (y 0)
  funext a
  refine Fin.ext ?_
  match a with
  | ⟨0, _⟩ => show win0_2.index t 0 * 512 + 1 * (y 0).val = (rowOf t.val (y 0)).val; rw [e, r]; show t.val * 512 + 1 * (y 0).val = _; omega
  | ⟨1, _⟩ => show win0_2.index t 1 * 2048 + 1 * (y 1).val = (y 1).val; rw [e]; show 0 * 2048 + 1 * (y 1).val = (y 1).val; omega

theorem emb3 (t : Fin cfg0.N) (y : S512x2048.Idx) : ((cfg0.win 3).blk t).view.emb y = ix2 (rowOf t.val (y 0)) (y 1) := by
  have e := (blocks_start t).2.2.2.1
  have r := rowOf_val t (y 0)
  funext a
  refine Fin.ext ?_
  match a with
  | ⟨0, _⟩ => show win0_3.index t 0 * 512 + 1 * (y 0).val = (rowOf t.val (y 0)).val; rw [e, r]; show t.val * 512 + 1 * (y 0).val = _; omega
  | ⟨1, _⟩ => show win0_3.index t 1 * 2048 + 1 * (y 1).val = (y 1).val; rw [e]; show 0 * 2048 + 1 * (y 1).val = (y 1).val; omega

theorem emb4 (t : Fin cfg0.N) (y : S512x2048.Idx) : ((cfg0.win 4).blk t).view.emb y = ix2 (rowOf t.val (y 0)) (y 1) := by
  have e := (blocks_start t).2.2.2.2.1
  have r := rowOf_val t (y 0)
  funext a
  refine Fin.ext ?_
  match a with
  | ⟨0, _⟩ => show win0_4.index t 0 * 512 + 1 * (y 0).val = (rowOf t.val (y 0)).val; rw [e, r]; show t.val * 512 + 1 * (y 0).val = _; omega
  | ⟨1, _⟩ => show win0_4.index t 1 * 2048 + 1 * (y 1).val = (y 1).val; rw [e]; show 0 * 2048 + 1 * (y 1).val = (y 1).val; omega

theorem emb5 (t : Fin cfg0.N) (y : S1x2048.Idx) : ((cfg0.win 5).blk t).view.emb y = y := by
  have e := (blocks_start t).2.2.2.2.2
  funext a
  refine Fin.ext ?_
  match a with
  | ⟨0, _⟩ => show win0_5.index t 0 * 1 + 1 * (y 0).val = (y 0).val; rw [e]; show 0 * 1 + 1 * (y 0).val = (y 0).val; omega
  | ⟨1, _⟩ => show win0_5.index t 1 * 2048 + 1 * (y 1).val = (y 1).val; rw [e]; show 0 * 2048 + 1 * (y 1).val = (y 1).val; omega

theorem block0 (c : Dev nD) (t : Fin cfg0.N) (y : S512x2048.Idx) : iblk m c 0 t y = V m c main_arg0 (ix2 (rowOf t.val (y 0)) (y 1)) :=
  congrArg (V m c main_arg0) (emb0 t y)

theorem block2 (c : Dev nD) (t : Fin cfg0.N) (y : S512x2048.Idx) : iblk m c 2 t y = V m c main_arg2 (ix2 (rowOf t.val (y 0)) (y 1)) :=
  congrArg (V m c main_arg2) (emb2 t y)

theorem block3 (c : Dev nD) (t : Fin cfg0.N) (y : S512x2048.Idx) : iblk m c 3 t y = V m c main_arg3 (ix2 (rowOf t.val (y 0)) (y 1)) :=
  congrArg (V m c main_arg3) (emb3 t y)

theorem block1 (c : Dev nD) (t : Fin cfg0.N) : iblk m c 1 t = V m c main_arg1 :=
  funext fun y => congrArg (V m c main_arg1) (emb1 t y)

/-! ## What the arrays end at -/

/-- What point `t` leaves in the block of the gradient. -/
theorem left_gradient (c : Dev nD) (t : Fin cfg0.N) (y : S512x2048.Idx) : (outsAt0 (F := Ideal) m c t.val t.isLt).1 y
    = gradient (V m c main_arg0) (V m c main_arg1) (V m c main_arg2) (V m c main_arg3) (ix2 (rowOf t.val (y 0)) (y 1)) := by
  by_cases h : t.val % 16 = 0
  · rw [outsAt0_A m c t h]
    dsimp only
    rw [first_gradient, block1, block3]
    simp only [block0, block2]
    rfl
  · rw [outsAt0_B m c t h]
    dsimp only
    rw [later_gradient, block1, block3]
    simp only [block0, block2]
    rfl

/-- What the rows of block `t` give to the weight's gradient. -/
def blockPart (x z : S8192x2048.Idx → EReal) (j : Fin 2048) (t : ℕ) : EReal := ∑ q : Fin 512, rowPart x z j (rowOf t q)

/-- After point `n` the weight's block holds the parts of the blocks so far. -/
theorem left_weight (c : Dev nD) (n : ℕ) (hn : n < cfg0.N) (y : S1x2048.Idx) : (outsAt0 (F := Ideal) m c n hn).2 y
    = ∑ t ∈ Finset.range (n + 1), blockPart (V m c main_arg0) (V m c main_arg2) (y 1) t := by
  induction n with
  | zero =>
    rw [outsAt0_A m c ⟨0, hn⟩ (Nat.zero_mod _)]
    dsimp only
    rw [first_weight, Finset.sum_range_one]
    simp only [block0, block2]
    rfl
  | succ n ih =>
    have h16 : n + 1 < 16 := lt_of_lt_of_eq hn points
    rw [outsAt0_B m c ⟨n + 1, hn⟩ (by show ¬(n + 1) % 16 = 0; omega)]
    dsimp only
    rw [later_weight, Finset.sum_range_succ]
    simp only [block0, block2]
    exact congrArg (· + _) (ih (by omega))

/-- The sixteen blocks' parts are the whole gradient of the weight. -/
theorem weight_eq (x z : S8192x2048.Idx → EReal) (y : S1x2048.Idx) : ∑ t ∈ Finset.range 16, blockPart x z (y 1) t = weight x z y := by
  unfold weight blockPart
  rw [Finset.sum_range, Fin.sum_univ_tiles 16 512 rfl]
  refine Finset.sum_congr rfl fun t _ => Finset.sum_congr rfl fun q _ => congrArg _ (Fin.ext ?_)
  have ht := t.isLt
  have hq := q.isLt
  exact Nat.mod_eq_of_lt (by omega)

theorem written4 (c : Dev nD) (t : Fin cfg0.N) : (dats (F := Ideal) m 0 c).flushed 4 t
    = ((cfg0.win 4).blk t).view.read (Elt Ideal) (gradient (V m c main_arg0) (V m c main_arg1) (V m c main_arg2) (V m c main_arg3)) := by
  have key : ∀ (b : S512x2048.Idx → EReal) (p : S8192x2048.Idx → EReal), (∀ y : S512x2048.Idx, b y = p (((cfg0.win 4).blk t).view.emb y))
      → (cfg0.win 4).cut (grid0.coords t) b = ((cfg0.win 4).blk t).view.read (Elt Ideal) p :=
    fun b p hp => funext hp
  rw [flushed4]
  exact key _ _ fun y => (left_gradient m c t y).trans (congrArg _ (emb4 t y).symm)

/-- The point that writes entry `i`. -/
def pointOf (i : S8192x2048.Idx) : Fin cfg0.N := ⟨(i 0).val / 512, by
  have h : (i 0).val < 8192 := (i 0).isLt
  exact lt_of_lt_of_eq (by omega : (i 0).val / 512 < 16) points.symm⟩

theorem covered4 (i : S8192x2048.Idx) : i ∈ ((cfg0.win 4).blk (pointOf i)).view.set := by
  show i ∈ ((View.whole main_v0_0).slice (win0_4.rect (pointOf i))).set
  rw [View.set_slice_whole, Rect.mem_set_unit]
  have e := (blocks_start (pointOf i)).2.2.2.2.1
  have h0 : (i 0).val < 8192 := (i 0).isLt
  have h1 : (i 1).val < 2048 := (i 1).isLt
  intro a
  show win0_4.index (pointOf i) a * S512x2048.size a ≤ (i a).val ∧ (i a).val < win0_4.index (pointOf i) a * S512x2048.size a + S512x2048.size a
  rw [e]
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

/-- After the run the first array holds the gradient of the residual stream. -/
theorem final4 (c : Dev nD) : (dats (F := Ideal) m 0 c).arrAt 4 cfg0.N = gradient (V m c main_arg0) (V m c main_arg1) (V m c main_arg2) (V m c main_arg3) :=
  (dats m 0 c).arrAt_eq_of_cover 4 _ (fun t _ => written4 m c t) (fun i => ⟨pointOf i, flush0_4 _, covered4 i⟩)

theorem written5 (c : Dev nD) (t : Fin cfg0.N) (hf : (cfg0.win 5).flush t = true) : (dats (F := Ideal) m 0 c).flushed 5 t
    = ((cfg0.win 5).blk t).view.read (Elt Ideal) (weight (V m c main_arg0) (V m c main_arg2)) := by
  have key : ∀ (b p : S1x2048.Idx → EReal), (∀ y : S1x2048.Idx, b y = p (((cfg0.win 5).blk t).view.emb y))
      → (cfg0.win 5).cut (grid0.coords t) b = ((cfg0.win 5).blk t).view.read (Elt Ideal) p :=
    fun b p hp => funext hp
  have ht : t.val + 1 = 16 := by
    have h : t.val < 16 := lt_of_lt_of_eq t.isLt points
    have := (flush0_5 t).mp hf
    omega
  rw [flushed5]
  refine key _ _ fun y => (left_weight m c t.val t.isLt y).trans ?_
  rw [emb5, ht, weight_eq]

/-- The grid's last point. -/
def last_point : Fin cfg0.N := ⟨15, (by decide : 15 < grid0.N)⟩

theorem covered5 (i : S1x2048.Idx) : i ∈ ((cfg0.win 5).blk last_point).view.set := by
  show i ∈ ((View.whole main_v0_1).slice (win0_5.rect last_point)).set
  rw [View.set_slice_whole, Rect.mem_set_unit]
  have e := (blocks_start last_point).2.2.2.2.2
  have h0 : (i 0).val < 1 := (i 0).isLt
  have h1 : (i 1).val < 2048 := (i 1).isLt
  intro a
  show win0_5.index last_point a * S1x2048.size a ≤ (i a).val ∧ (i a).val < win0_5.index last_point a * S1x2048.size a + S1x2048.size a
  rw [e]
  match a with
  | ⟨0, _⟩ => show 0 * 1 ≤ (i 0).val ∧ (i 0).val < 0 * 1 + 1; omega
  | ⟨1, _⟩ => show 0 * 2048 ≤ (i 1).val ∧ (i 1).val < 0 * 2048 + 2048; omega

/-- After the run the second array holds the gradient of the weight. -/
theorem final5 (c : Dev nD) : (dats (F := Ideal) m 0 c).arrAt 5 cfg0.N = weight (V m c main_arg0) (V m c main_arg2) :=
  (dats m 0 c).arrAt_eq_of_cover 5 _ (written5 m c) (fun i => ⟨last_point, (flush0_5 last_point).mpr rfl, covered5 i⟩)

/-! ## The reference -/

/-- The gradient in the reference's form. -/
theorem gradient_eq (x : S8192x2048.Idx → EReal) (g : S1x2048.Idx → EReal) (z d : S8192x2048.Idx → EReal) (i : S8192x2048.Idx) :
    gradient x g z d i = d i + z i * g (ix2 0 (i 1)) * root (fun k => x (ix2 (i 0) k))
      + x i * meanGrad (fun k => x (ix2 (i 0) k)) (fun k => z (ix2 (i 0) k) * g (ix2 0 k))
      + meanGrad (fun k => x (ix2 (i 0) k)) (fun k => z (ix2 (i 0) k) * g (ix2 0 k)) * x i := by
  have hi : (ix2 (i 0) (i 1) : S8192x2048.Idx) = i := by
    funext a
    match a with
    | ⟨0, _⟩ => rfl
    | ⟨1, _⟩ => rfl
  have h := rowGrad_eq (fun k => x (ix2 (i 0) k)) (fun k => z (ix2 (i 0) k) * g (ix2 0 k)) (i 1)
  have hx : x (ix2 (i 0) (i 1)) = x i := congrArg x hi
  have hz : z (ix2 (i 0) (i 1)) = z i := congrArg z hi
  refine (congrArg (· + d i) h).trans ?_
  rw [hx, hz, add_comm _ (d i), add_assoc, add_assoc, add_assoc]

section Arrays

variable (hr : Shape.ReducesTo S8192x2048 [1] Cert.PreBwdRefIdeal.S8192) (hs : 0 < Cert.PreBwdRefIdeal.S_.numel)
  (h1 : Cert.PreBwdRefIdeal.S8192.BroadcastsInDim Cert.PreBwdRefIdeal.S8192x1 ![0])
  (hc : Cert.PreBwdRefIdeal.S_.BroadcastsInDim Cert.PreBwdRefIdeal.S8192x1 ![])

/-- The reference's means of squares. -/
theorem reference_square (x : FVec Ideal S8192x2048 .f32) :
    addf (Host.divf (broadcastInDim Cert.PreBwdRefIdeal.S8192x1 ![0] h1 (Host.reduceAdd (mulf x x) (constant Cert.PreBwdRefIdeal.S_ .f32 0x00000000#32) hr hs))
        (broadcastInDim Cert.PreBwdRefIdeal.S8192x1 ![] hc (constant Cert.PreBwdRefIdeal.S_ .f32 0x45000000#32)))
      (broadcastInDim Cert.PreBwdRefIdeal.S8192x1 ![] hc (constant Cert.PreBwdRefIdeal.S_ .f32 0x358637BD#32))
      = (fun i => square fun k => x (ix2 (i 0) k) : FVec Ideal Cert.PreBwdRefIdeal.S8192x1 .f32) := by
  funext i
  pointwise [square]

/-- The reference's gradient of the norm's result times the weight. -/
theorem reference_scaled (g : FVec Ideal S1x2048 .f32) (z : FVec Ideal S8192x2048 .f32) (hg : S1x2048.ShapeCasts Cert.PreBwdRefIdeal.S2048)
    (hb : Cert.PreBwdRefIdeal.S2048.BroadcastsInDim S1x2048 ![1]) (hb' : S1x2048.BroadcastsInDim S8192x2048 ![0, 1]) :
    mulf z (broadcastInDim S8192x2048 ![0, 1] hb' (broadcastInDim S1x2048 ![1] hb (shapeCast Cert.PreBwdRefIdeal.S2048 g hg)))
      = (fun i => z i * g (ix2 0 (i 1)) : FVec Ideal S8192x2048 .f32) := by
  funext i
  pointwise

/-- What the reference hands to the squares. -/
theorem reference_mean (x u : FVec Ideal S8192x2048 .f32) (hg : Cert.PreBwdRefIdeal.S8192.ShapeCasts Cert.PreBwdRefIdeal.S8192x1)
    (hr' : Shape.ReducesTo Cert.PreBwdRefIdeal.S8192x1 [1] Cert.PreBwdRefIdeal.S8192) :
    Host.reduceAdd (Host.divf (mulf (shapeCast Cert.PreBwdRefIdeal.S8192x1 (Host.reduceAdd (mulf x u) (constant Cert.PreBwdRefIdeal.S_ .f32 0x00000000#32) hr hs) hg)
          (mulf (broadcastInDim Cert.PreBwdRefIdeal.S8192x1 ![] hc (constant Cert.PreBwdRefIdeal.S_ .f32 0xBF000000#32))
            (Host.divf (Host.rsqrt (fun i => square fun k => x (ix2 (i 0) k) : FVec Ideal Cert.PreBwdRefIdeal.S8192x1 .f32))
              (fun i => square fun k => x (ix2 (i 0) k) : FVec Ideal Cert.PreBwdRefIdeal.S8192x1 .f32))))
        (broadcastInDim Cert.PreBwdRefIdeal.S8192x1 ![] hc (constant Cert.PreBwdRefIdeal.S_ .f32 0x45000000#32)))
      (constant Cert.PreBwdRefIdeal.S_ .f32 0x00000000#32) hr' hs
      = (fun i => meanGrad (fun k => x (ix2 (i 0) k)) (fun k => u (ix2 (i 0) k)) : FVec Ideal Cert.PreBwdRefIdeal.S8192 .f32) := by
  funext i
  pointwise [meanGrad, root, Fin.sum_univ_one]

/-- The reference's gradient of the residual stream, from those. -/
theorem reference_sum (x : FVec Ideal S8192x2048 .f32) (g : FVec Ideal S1x2048 .f32) (z d : FVec Ideal S8192x2048 .f32)
    (hb : Cert.PreBwdRefIdeal.S8192x1.BroadcastsInDim S8192x2048 ![0, 1]) (hb' : Cert.PreBwdRefIdeal.S8192.BroadcastsInDim S8192x2048 ![0]) :
    addf (addf (addf d (mulf (fun i => z i * g (ix2 0 (i 1)) : FVec Ideal S8192x2048 .f32)
          (broadcastInDim S8192x2048 ![0, 1] hb (Host.rsqrt (fun i => square fun k => x (ix2 (i 0) k) : FVec Ideal Cert.PreBwdRefIdeal.S8192x1 .f32)))))
        (mulf x (broadcastInDim S8192x2048 ![0] hb' (fun i => meanGrad (fun k => x (ix2 (i 0) k)) (fun k => z (ix2 (i 0) k) * g (ix2 0 k)) : FVec Ideal Cert.PreBwdRefIdeal.S8192 .f32))))
      (mulf (broadcastInDim S8192x2048 ![0] hb' (fun i => meanGrad (fun k => x (ix2 (i 0) k)) (fun k => z (ix2 (i 0) k) * g (ix2 0 k)) : FVec Ideal Cert.PreBwdRefIdeal.S8192 .f32)) x)
      = gradient x g z d := by
  funext i
  rw [gradient_eq]
  pointwise [root]

/-- The reference's gradient of the weight. -/
theorem reference_weight (x z : FVec Ideal S8192x2048 .f32) (hb : Cert.PreBwdRefIdeal.S8192x1.BroadcastsInDim S8192x2048 ![0, 1])
    (hq : Shape.ReducesTo S8192x2048 [0] Cert.PreBwdRefIdeal.S2048) (hg : Cert.PreBwdRefIdeal.S2048.ShapeCasts S1x2048)
    (hq' : Shape.ReducesTo S1x2048 [0] Cert.PreBwdRefIdeal.S2048) (ho : Cert.PreBwdRefIdeal.S2048.BroadcastsInDim S1x2048 ![1]) :
    broadcastInDim S1x2048 ![1] ho (Host.reduceAdd (shapeCast S1x2048 (Host.reduceAdd (mulf (mulf x (broadcastInDim S8192x2048 ![0, 1] hb
        (Host.rsqrt (fun i => square fun k => x (ix2 (i 0) k) : FVec Ideal Cert.PreBwdRefIdeal.S8192x1 .f32)))) z)
        (constant Cert.PreBwdRefIdeal.S_ .f32 0x00000000#32) hq hs) hg) (constant Cert.PreBwdRefIdeal.S_ .f32 0x00000000#32) hq' hs) = weight x z := by
  funext i
  pointwise [weight, rowPart, root, Fin.sum_univ_one]
  exact Finset.sum_congr rfl fun p _ => mul_comm _ _

end Arrays

/-- Kernel and reference end at the same arrays. -/
theorem algebraic : Cert.algebraic_PreBwdIdeal_PreBwdRefIdeal := by
  intro m ρ m' ρ' _ hagree
  refine ⟨fun c => gradient (m ((c : Thread nD τ).loc main_arg0)) (m ((c : Thread nD τ).loc main_arg1)) (m ((c : Thread nD τ).loc main_arg2)) (m ((c : Thread nD τ).loc main_arg3)),
    fun c => weight (m ((c : Thread nD τ).loc main_arg0)) (m ((c : Thread nD τ).loc main_arg2)), ?_, ?_⟩
  · exact (θ_run Cert.PreBwdIdeal.defs _ _).mono (fun r h c => ⟨(h c).1.trans (final4 m c), (h c).2.1.trans (final5 m c), (h c).2.2⟩) (run_blocks (F := Ideal) m ρ)
  · refine (θ_run Cert.PreBwdRefIdeal.defs _ _).mono (fun r h c => ⟨(h c).1.trans ?_, (h c).2.1.trans ?_, (h c).2.2⟩)
      (Cert.PreBwdRefIdeal.Value.run (F := Ideal) m' ρ')
    · unfold Cert.PreBwdRefIdeal.Value.res_main_v37
      rw [(hagree c).1, (hagree c).2.1, (hagree c).2.2.1, (hagree c).2.2.2, reference_square, reference_scaled, reference_mean]
      exact reference_sum _ _ _ _ _ _
    · rw [(hagree c).1, (hagree c).2.2.1, reference_square]
      exact reference_weight _ _ _ _ _ _ _ _

/-- Nothing was replaced. -/
theorem preserves : Cert.preserves_PreBwd_PreBwdIdeal := by
  trivial

/-- The reference runs and leaves its arguments as they were. -/
theorem reference_frame : Cert.quiescent_PreBwdRefIdeal := fun m ρ _ =>
  (θ_run Cert.PreBwdRefIdeal.defs _ _).mono (fun r h => ⟨fun c => (h c).2.2, sem_eq_zero_of_no_sems (by decide) r.2⟩)
    (Cert.PreBwdRefIdeal.Value.run (F := Ideal) m ρ)

end Cert.Norms.PreBwd

end
-- ==== Proof.lean ====
/- The proof of the certificate's claims: first the facts that the programs state, then the frames, then for each program
   that its ideal reading is the kernel's and that it computes what its reference computes. -/
module

public import proofs.«01_k».proof.Defs
public import proofs.«01_k».proof.Proof.AttnWords.Frame
public import proofs.«01_k».proof.Proof.Attn.Frame
public import proofs.«01_k».proof.Proof.Gen.AttnIn.Frame
public import proofs.«01_k».proof.Proof.Gen.AttnInIdeal.Value
public import proofs.«01_k».proof.Proof.Gen.AttnInRefIdeal.Run
public import proofs.«01_k».proof.Proof.Products.AttnIn
public import proofs.«01_k».proof.Proof.Gen.LruIn.Frame
public import proofs.«01_k».proof.Proof.Gen.LruInIdeal.Value
public import proofs.«01_k».proof.Proof.Gen.LruInRefIdeal.Run
public import proofs.«01_k».proof.Proof.Products.LruIn
public import proofs.«01_k».proof.Proof.Gen.MixOut.Frame
public import proofs.«01_k».proof.Proof.Gen.MixOutIdeal.Value
public import proofs.«01_k».proof.Proof.Gen.MixOutRefIdeal.Run
public import proofs.«01_k».proof.Proof.Products.MixOut
public import proofs.«01_k».proof.Proof.Gen.MixOutDx.Frame
public import proofs.«01_k».proof.Proof.Gen.MixOutDxIdeal.Value
public import proofs.«01_k».proof.Proof.Gen.MixOutDxRefIdeal.Run
public import proofs.«01_k».proof.Proof.Products.MixOutDx
public import proofs.«01_k».proof.Proof.Gen.MixOutDw.Frame
public import proofs.«01_k».proof.Proof.Gen.MixOutDwIdeal.Value
public import proofs.«01_k».proof.Proof.Gen.MixOutDwRefIdeal.Run
public import proofs.«01_k».proof.Proof.Products.MixOutDw
public import proofs.«01_k».proof.Proof.Gen.AttnInDx.Frame
public import proofs.«01_k».proof.Proof.Gen.AttnInDxIdeal.Value
public import proofs.«01_k».proof.Proof.Gen.AttnInDxRefIdeal.Run
public import proofs.«01_k».proof.Proof.Products.AttnInDx
public import proofs.«01_k».proof.Proof.Gen.AttnInDw.Frame
public import proofs.«01_k».proof.Proof.Gen.AttnInDwIdeal.Value
public import proofs.«01_k».proof.Proof.Gen.AttnInDwRefIdeal.Run
public import proofs.«01_k».proof.Proof.Products.AttnInDw
public import proofs.«01_k».proof.Proof.Gen.LruInDx.Frame
public import proofs.«01_k».proof.Proof.Gen.LruInDxIdeal.Value
public import proofs.«01_k».proof.Proof.Gen.LruInDxRefIdeal.Run
public import proofs.«01_k».proof.Proof.Products.LruInDx
public import proofs.«01_k».proof.Proof.Gen.LruInDw.Frame
public import proofs.«01_k».proof.Proof.Gen.LruInDwIdeal.Value
public import proofs.«01_k».proof.Proof.Gen.LruInDwRefIdeal.Run
public import proofs.«01_k».proof.Proof.Products.LruInDw
public import proofs.«01_k».proof.Proof.Gen.AdamIn.Frame
public import proofs.«01_k».proof.Proof.Gen.AdamInIdeal.Value
public import proofs.«01_k».proof.Proof.Gen.AdamInRefIdeal.Run
public import proofs.«01_k».proof.Proof.Optimiser.AdamIn
public import proofs.«01_k».proof.Proof.Gen.AdamOut.Frame
public import proofs.«01_k».proof.Proof.Gen.AdamOutIdeal.Value
public import proofs.«01_k».proof.Proof.Gen.AdamOutRefIdeal.Run
public import proofs.«01_k».proof.Proof.Optimiser.AdamOut
public import proofs.«01_k».proof.Proof.Gen.AdamLruIn.Frame
public import proofs.«01_k».proof.Proof.Gen.AdamLruInIdeal.Value
public import proofs.«01_k».proof.Proof.Gen.AdamLruInRefIdeal.Run
public import proofs.«01_k».proof.Proof.Optimiser.AdamLruIn
public import proofs.«01_k».proof.Proof.Gen.AdamGate.Frame
public import proofs.«01_k».proof.Proof.Gen.AdamGateIdeal.Value
public import proofs.«01_k».proof.Proof.Gen.AdamGateRefIdeal.Run
public import proofs.«01_k».proof.Proof.Optimiser.AdamGate
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Optimiser.AdamSmall
public import proofs.«01_k».proof.Proof.Gen.PreFwd.Frame
public import proofs.«01_k».proof.Proof.Gen.PreFwdIdeal.Value
public import proofs.«01_k».proof.Proof.Gen.PreFwdRefIdeal.Run
public import proofs.«01_k».proof.Proof.Norms.PreFwd
public import proofs.«01_k».proof.Proof.Gen.PostFwd.Frame
public import proofs.«01_k».proof.Proof.Gen.PostFwdIdeal.Value
public import proofs.«01_k».proof.Proof.Gen.PostFwdRefIdeal.Run
public import proofs.«01_k».proof.Proof.Norms.PostFwd
public import proofs.«01_k».proof.Proof.Gen.PostLoss.Frame
public import proofs.«01_k».proof.Proof.Gen.PostLossIdeal.Value
public import proofs.«01_k».proof.Proof.Gen.PostLossRefIdeal.Run
public import proofs.«01_k».proof.Proof.Norms.PostLoss
public import proofs.«01_k».proof.Proof.Gen.PostBwd.Frame
public import proofs.«01_k».proof.Proof.Gen.PostBwdIdeal.Value
public import proofs.«01_k».proof.Proof.Gen.PostBwdRefIdeal.Run
public import proofs.«01_k».proof.Proof.Norms.PostBwd
public import proofs.«01_k».proof.Proof.Gen.PrePostBwd.Frame
public import proofs.«01_k».proof.Proof.Gen.PrePostBwdIdeal.Value
public import proofs.«01_k».proof.Proof.Gen.PrePostBwdRefIdeal.Run
public import proofs.«01_k».proof.Proof.Norms.PrePostBwd
public import proofs.«01_k».proof.Proof.Gen.PreBwd.Frame
public import proofs.«01_k».proof.Proof.Gen.PreBwdIdeal.Value
public import proofs.«01_k».proof.Proof.Gen.PreBwdRefIdeal.Run
public import proofs.«01_k».proof.Proof.Norms.PreBwd
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
   Cert.KernelIdeal.Gen.facts,
   Cert.AttnIn.Gen.facts,
   Cert.AttnInIdeal.Gen.facts,
   Cert.AttnInRefIdeal.Gen.facts,
   Cert.LruIn.Gen.facts,
   Cert.LruInIdeal.Gen.facts,
   Cert.LruInRefIdeal.Gen.facts,
   Cert.MixOut.Gen.facts,
   Cert.MixOutIdeal.Gen.facts,
   Cert.MixOutRefIdeal.Gen.facts,
   Cert.MixOutDx.Gen.facts,
   Cert.MixOutDxIdeal.Gen.facts,
   Cert.MixOutDxRefIdeal.Gen.facts,
   Cert.MixOutDw.Gen.facts,
   Cert.MixOutDwIdeal.Gen.facts,
   Cert.MixOutDwRefIdeal.Gen.facts,
   Cert.AttnInDx.Gen.facts,
   Cert.AttnInDxIdeal.Gen.facts,
   Cert.AttnInDxRefIdeal.Gen.facts,
   Cert.AttnInDw.Gen.facts,
   Cert.AttnInDwIdeal.Gen.facts,
   Cert.AttnInDwRefIdeal.Gen.facts,
   Cert.LruInDx.Gen.facts,
   Cert.LruInDxIdeal.Gen.facts,
   Cert.LruInDxRefIdeal.Gen.facts,
   Cert.LruInDw.Gen.facts,
   Cert.LruInDwIdeal.Gen.facts,
   Cert.LruInDwRefIdeal.Gen.facts,
   Cert.AdamIn.Gen.facts,
   Cert.AdamInIdeal.Gen.facts,
   Cert.AdamInRefIdeal.Gen.facts,
   Cert.AdamOut.Gen.facts,
   Cert.AdamOutIdeal.Gen.facts,
   Cert.AdamOutRefIdeal.Gen.facts,
   Cert.AdamLruIn.Gen.facts,
   Cert.AdamLruInIdeal.Gen.facts,
   Cert.AdamLruInRefIdeal.Gen.facts,
   Cert.AdamGate.Gen.facts,
   Cert.AdamGateIdeal.Gen.facts,
   Cert.AdamGateRefIdeal.Gen.facts,
   Cert.AdamSmall.Gen.facts,
   Cert.AdamSmallIdeal.Gen.facts,
   Cert.AdamSmallRefIdeal.Gen.facts,
   Cert.PreFwd.Gen.facts,
   Cert.PreFwdIdeal.Gen.facts,
   Cert.PreFwdRefIdeal.Gen.facts,
   Cert.PostFwd.Gen.facts,
   Cert.PostFwdIdeal.Gen.facts,
   Cert.PostFwdRefIdeal.Gen.facts,
   Cert.PostLoss.Gen.facts,
   Cert.PostLossIdeal.Gen.facts,
   Cert.PostLossRefIdeal.Gen.facts,
   Cert.PostBwd.Gen.facts,
   Cert.PostBwdIdeal.Gen.facts,
   Cert.PostBwdRefIdeal.Gen.facts,
   Cert.PrePostBwd.Gen.facts,
   Cert.PrePostBwdIdeal.Gen.facts,
   Cert.PrePostBwdRefIdeal.Gen.facts,
   Cert.PreBwd.Gen.facts,
   Cert.PreBwdIdeal.Gen.facts,
   Cert.PreBwdRefIdeal.Gen.facts,
   fun m ρ _ => Cert.AttnBwdWords.frame m ρ,
   fun m ρ _ => Cert.AttnBwd.frame m ρ,
   fun m ρ _ => Cert.AttnIn.Gen.frame m ρ,
   fun m ρ _ => Cert.AttnInIdeal.Gen.frame m ρ,
   Cert.Products.AttnIn.reference_frame,
   fun m ρ _ => Cert.LruIn.Gen.frame m ρ,
   fun m ρ _ => Cert.LruInIdeal.Gen.frame m ρ,
   Cert.Products.LruIn.reference_frame,
   fun m ρ _ => Cert.MixOut.Gen.frame m ρ,
   fun m ρ _ => Cert.MixOutIdeal.Gen.frame m ρ,
   Cert.Products.MixOut.reference_frame,
   fun m ρ _ => Cert.MixOutDx.Gen.frame m ρ,
   fun m ρ _ => Cert.MixOutDxIdeal.Gen.frame m ρ,
   Cert.Products.MixOutDx.reference_frame,
   fun m ρ _ => Cert.MixOutDw.Gen.frame m ρ,
   fun m ρ _ => Cert.MixOutDwIdeal.Gen.frame m ρ,
   Cert.Products.MixOutDw.reference_frame,
   fun m ρ _ => Cert.AttnInDx.Gen.frame m ρ,
   fun m ρ _ => Cert.AttnInDxIdeal.Gen.frame m ρ,
   Cert.Products.AttnInDx.reference_frame,
   fun m ρ _ => Cert.AttnInDw.Gen.frame m ρ,
   fun m ρ _ => Cert.AttnInDwIdeal.Gen.frame m ρ,
   Cert.Products.AttnInDw.reference_frame,
   fun m ρ _ => Cert.LruInDx.Gen.frame m ρ,
   fun m ρ _ => Cert.LruInDxIdeal.Gen.frame m ρ,
   Cert.Products.LruInDx.reference_frame,
   fun m ρ _ => Cert.LruInDw.Gen.frame m ρ,
   fun m ρ _ => Cert.LruInDwIdeal.Gen.frame m ρ,
   Cert.Products.LruInDw.reference_frame,
   fun m ρ _ => Cert.AdamIn.Gen.frame m ρ,
   fun m ρ _ => Cert.AdamInIdeal.Gen.frame m ρ,
   Cert.Optimiser.AdamIn.reference_frame,
   fun m ρ _ => Cert.AdamOut.Gen.frame m ρ,
   fun m ρ _ => Cert.AdamOutIdeal.Gen.frame m ρ,
   Cert.Optimiser.AdamOut.reference_frame,
   fun m ρ _ => Cert.AdamLruIn.Gen.frame m ρ,
   fun m ρ _ => Cert.AdamLruInIdeal.Gen.frame m ρ,
   Cert.Optimiser.AdamLruIn.reference_frame,
   fun m ρ _ => Cert.AdamGate.Gen.frame m ρ,
   fun m ρ _ => Cert.AdamGateIdeal.Gen.frame m ρ,
   Cert.Optimiser.AdamGate.reference_frame,
   fun m ρ _ => Cert.AdamSmall.Gen.frame m ρ,
   fun m ρ _ => Cert.AdamSmallIdeal.Gen.frame m ρ,
   Cert.Optimiser.AdamSmall.reference_frame,
   fun m ρ _ => Cert.PreFwd.Gen.frame m ρ,
   fun m ρ _ => Cert.PreFwdIdeal.Gen.frame m ρ,
   Cert.Norms.PreFwd.reference_frame,
   fun m ρ _ => Cert.PostFwd.Gen.frame m ρ,
   fun m ρ _ => Cert.PostFwdIdeal.Gen.frame m ρ,
   Cert.Norms.PostFwd.reference_frame,
   fun m ρ _ => Cert.PostLoss.Gen.frame m ρ,
   fun m ρ _ => Cert.PostLossIdeal.Gen.frame m ρ,
   Cert.Norms.PostLoss.reference_frame,
   fun m ρ _ => Cert.PostBwd.Gen.frame m ρ,
   fun m ρ _ => Cert.PostBwdIdeal.Gen.frame m ρ,
   Cert.Norms.PostBwd.reference_frame,
   fun m ρ _ => Cert.PrePostBwd.Gen.frame m ρ,
   fun m ρ _ => Cert.PrePostBwdIdeal.Gen.frame m ρ,
   Cert.Norms.PrePostBwd.reference_frame,
   fun m ρ _ => Cert.PreBwd.Gen.frame m ρ,
   fun m ρ _ => Cert.PreBwdIdeal.Gen.frame m ρ,
   Cert.Norms.PreBwd.reference_frame,
   trivial,
   trivial,
   Cert.Products.AttnIn.algebraic,
   trivial,
   Cert.Products.LruIn.algebraic,
   trivial,
   Cert.Products.MixOut.algebraic,
   trivial,
   Cert.Products.MixOutDx.algebraic,
   trivial,
   Cert.Products.MixOutDw.algebraic,
   trivial,
   Cert.Products.AttnInDx.algebraic,
   trivial,
   Cert.Products.AttnInDw.algebraic,
   trivial,
   Cert.Products.LruInDx.algebraic,
   trivial,
   Cert.Products.LruInDw.algebraic,
   Cert.Optimiser.AdamIn.preserves,
   Cert.Optimiser.AdamIn.algebraic,
   Cert.Optimiser.AdamOut.preserves,
   Cert.Optimiser.AdamOut.algebraic,
   Cert.Optimiser.AdamLruIn.preserves,
   Cert.Optimiser.AdamLruIn.algebraic,
   Cert.Optimiser.AdamGate.preserves,
   Cert.Optimiser.AdamGate.algebraic,
   Cert.Optimiser.AdamSmall.preserves,
   Cert.Optimiser.AdamSmall.algebraic,
   Cert.Norms.PreFwd.preserves,
   Cert.Norms.PreFwd.algebraic,
   Cert.Norms.PostFwd.preserves,
   Cert.Norms.PostFwd.algebraic,
   Cert.Norms.PostLoss.preserves,
   Cert.Norms.PostLoss.algebraic,
   Cert.Norms.PostBwd.preserves,
   Cert.Norms.PostBwd.algebraic,
   Cert.Norms.PrePostBwd.preserves,
   Cert.Norms.PrePostBwd.algebraic,
   Cert.Norms.PreBwd.preserves,
   Cert.Norms.PreBwd.algebraic⟩

end Cert.Proof

end
